-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norm_and_router [hPre_finite_norm_and_router : Cert.Pre_finite_norm_and_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norm_and_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_norm_and_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norm_and_router [hPre_finite_norm_and_router : Cert.Pre_finite_norm_and_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norm_and_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_norm_and_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_norm_and_router [hKernelIdeal : Cert.KernelIdeal.Facts] [hPre_finite_norm_and_router : Cert.Pre_finite_norm_and_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norm_and_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_norm_and_router [hReferenceIdeal : Cert.ReferenceIdeal.Facts] [hPre_finite_norm_and_router : Cert.Pre_finite_norm_and_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norm_and_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_norm_and_router [hKernelIdeal : Cert.KernelIdeal.Facts] [hReferenceIdeal : Cert.ReferenceIdeal.Facts] [hPre_finite_norm_and_router : Cert.Pre_finite_norm_and_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norm_and_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)) (v3 : (c : Dev Cert.Kernel3Ideal.nD) → Buf (Elt Ideal) ((c.tc : Thread Cert.Kernel3Ideal.nD Cert.Kernel3Ideal.τ).loc Cert.Kernel3Ideal.main_v28_3)) (v4 : (c : Dev Cert.Kernel3Ideal.nD) → Buf (Elt Ideal) ((c.tc : Thread Cert.Kernel3Ideal.nD Cert.Kernel3Ideal.τ).loc Cert.Kernel3Ideal.main_v28_6)) (v5 : (c : Dev Cert.Kernel3Ideal.nD) → Buf (Elt Ideal) ((c.tc : Thread Cert.Kernel3Ideal.nD Cert.Kernel3Ideal.τ).loc Cert.Kernel3Ideal.main_v28_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_v28_3) = v3 c
          ∧ r.2.mem ((c.tc : Thread Cert.Kernel3Ideal.nD Cert.Kernel3Ideal.τ).loc Cert.Kernel3Ideal.main_v28_6) = v4 c
          ∧ r.2.mem ((c.tc : Thread Cert.Kernel3Ideal.nD Cert.Kernel3Ideal.τ).loc Cert.Kernel3Ideal.main_v28_7) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v68) = v3 c
          ∧ r.2.mem ((c.tc : Thread Cert.Reference3Ideal.nD Cert.Reference3Ideal.τ).loc Cert.Reference3Ideal.main_v72) = v4 c
          ∧ r.2.mem ((c.tc : Thread Cert.Reference3Ideal.nD Cert.Reference3Ideal.τ).loc Cert.Reference3Ideal.main_v75) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_norm_and_router : Cert.Pre_finite_norm_and_router.Facts),
    quiescent_Kernel (hKernel := hKernel)
    ∧ quiescent_KernelIdeal (hKernelIdeal := hKernelIdeal)
    ∧ quiescent_KernelIdeal_pre_finite_norm_and_router (hKernelIdeal := hKernelIdeal) (hPre_finite_norm_and_router := hPre_finite_norm_and_router)
    ∧ quiescent_ReferenceIdeal (hReferenceIdeal := hReferenceIdeal)
    ∧ quiescent_ReferenceIdeal_pre_finite_norm_and_router (hReferenceIdeal := hReferenceIdeal) (hPre_finite_norm_and_router := hPre_finite_norm_and_router)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_norm_and_router (hKernelIdeal := hKernelIdeal) (hReferenceIdeal := hReferenceIdeal) (hPre_finite_norm_and_router := hPre_finite_norm_and_router)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_norm_and_router.lean ====
abbrev S4x8192x1024 : Shape := ⟨3, ![4, 8192, 1024]⟩
abbrev S16x1024 : Shape := ⟨2, ![16, 1024]⟩
abbrev S4x65x512x128 : Shape := ⟨4, ![4, 65, 512, 128]⟩
abbrev S1x512 : Shape := ⟨2, ![1, 512]⟩
abbrev S1x1024x1024 : Shape := ⟨3, ![1, 1024, 1024]⟩
abbrev S1x1024 : Shape := ⟨2, ![1, 1024]⟩
abbrev S1x1024x16 : Shape := ⟨3, ![1, 1024, 16]⟩
abbrev S_ : Shape := ⟨0, ![]⟩

class Facts : Prop where
  bcast_S_S1x1024 : S_.BroadcastsInDim S1x1024 (![] : Fin 0 → Fin S1x1024.rank)
  bcast_S_S1x1024x16 : S_.BroadcastsInDim S1x1024x16 (![] : Fin 0 → Fin S1x1024x16.rank)

variable [Facts]

def fn {F : FTy → Type} [FloatOps F] (main_arg0 : FVec F S4x8192x1024 .f32) (main_arg1 : FVec F S16x1024 .f32) (main_arg2 : FVec F S4x65x512x128 .f32) (main_arg3 : FVec F S4x65x512x128 .f32) (main_arg4 : FVec F S4x65x512x128 .f32) (main_arg5 : FVec F S4x65x512x128 .f32) (main_arg6 : FVec F S4x65x512x128 .f32) (main_arg7 : FVec F S4x65x512x128 .f32) (main_arg8 : FVec F S1x512 .f32) (main_arg9 : FVec F S1x512 .f32) (main_arg10 : FVec F S1x1024x1024 .f32) (main_arg11 : FVec F S1x1024 .f32) (main_arg12 : FVec F S1x1024x16 .f32) : IVec S1x1024 1 × IVec S1x1024x16 1 :=
  let main_v0 : FVec F S1x1024 .f32 := Host.absf main_arg11
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x16 .f32 := Host.absf main_arg12
  let main_cst_0 : FVec F S_ .f32 := constant S_ .f32 0x7F800000#32
  let main_v4 : FVec F S1x1024x16 .f32 := broadcastInDim S1x1024x16 ![] bcast_S_S1x1024x16 main_cst_0
  let main_v5 : IVec S1x1024x16 1 := cmpf .olt main_v3 main_v4
  (main_v2, main_v5)
-- ==== Kernel.lean ====
abbrev S4x8192x1024 : Shape := ⟨3, ![4, 8192, 1024]⟩
abbrev S16x1024 : Shape := ⟨2, ![16, 1024]⟩
abbrev S4x65x512x128 : Shape := ⟨4, ![4, 65, 512, 128]⟩
abbrev S1x512 : Shape := ⟨2, ![1, 512]⟩
abbrev S1x1024x1024 : Shape := ⟨3, ![1, 1024, 1024]⟩
abbrev S1x1024 : Shape := ⟨2, ![1, 1024]⟩
abbrev S1x1024x16 : Shape := ⟨3, ![1, 1024, 16]⟩
abbrev S_ : Shape := ⟨0, ![]⟩
abbrev S112x1024 : Shape := ⟨2, ![112, 1024]⟩
abbrev S128x1024 : Shape := ⟨2, ![128, 1024]⟩
abbrev S1024x16 : Shape := ⟨2, ![1024, 16]⟩
abbrev S1024x112 : Shape := ⟨2, ![1024, 112]⟩
abbrev S1024x128 : Shape := ⟨2, ![1024, 128]⟩
abbrev S3072x128 : Shape := ⟨2, ![3072, 128]⟩
abbrev S512 : Shape := ⟨1, ![512]⟩
abbrev S512x1 : Shape := ⟨2, ![512, 1]⟩
abbrev S512x128 : Shape := ⟨2, ![512, 128]⟩
abbrev S1024x1024 : Shape := ⟨2, ![1024, 1024]⟩
abbrev S4x8320x1024 : Shape := ⟨3, ![4, 8320, 1024]⟩
abbrev S4x8320x1152 : Shape := ⟨3, ![4, 8320, 1152]⟩
abbrev S4x8320x128 : Shape := ⟨3, ![4, 8320, 128]⟩
abbrev S1x640x1024 : Shape := ⟨3, ![1, 640, 1024]⟩
abbrev S1x1x512x128 : Shape := ⟨4, ![1, 1, 512, 128]⟩
abbrev S1x5x512x128 : Shape := ⟨4, ![1, 5, 512, 128]⟩
abbrev S1x640x1152 : Shape := ⟨3, ![1, 640, 1152]⟩
abbrev S1x640x128 : Shape := ⟨3, ![1, 640, 128]⟩
abbrev S640x1024 : Shape := ⟨2, ![640, 1024]⟩
abbrev S512x1024 : Shape := ⟨2, ![512, 1024]⟩
abbrev S640x1 : Shape := ⟨2, ![640, 1]⟩
abbrev S128x128 : Shape := ⟨2, ![128, 128]⟩
abbrev S128 : Shape := ⟨1, ![128]⟩
abbrev S1x128 : Shape := ⟨2, ![1, 128]⟩
abbrev S1024x384 : Shape := ⟨2, ![1024, 384]⟩
abbrev S384x1024 : Shape := ⟨2, ![384, 1024]⟩
abbrev S384x1 : Shape := ⟨2, ![384, 1]⟩
abbrev S1x384x1024 : Shape := ⟨3, ![1, 384, 1024]⟩
abbrev S384 : Shape := ⟨1, ![384]⟩
abbrev S384x3072 : Shape := ⟨2, ![384, 3072]⟩
abbrev S384x128 : Shape := ⟨2, ![384, 128]⟩
abbrev S384x1152 : Shape := ⟨2, ![384, 1152]⟩
abbrev S1x384x1152 : Shape := ⟨3, ![1, 384, 1152]⟩
abbrev S1x384x128 : Shape := ⟨3, ![1, 384, 128]⟩
abbrev S1024x256 : Shape := ⟨2, ![1024, 256]⟩
abbrev S256x1024 : Shape := ⟨2, ![256, 1024]⟩
abbrev S256x1 : Shape := ⟨2, ![256, 1]⟩
abbrev S1x256x1024 : Shape := ⟨3, ![1, 256, 1024]⟩
abbrev S256 : Shape := ⟨1, ![256]⟩
abbrev S256x3072 : Shape := ⟨2, ![256, 3072]⟩
abbrev S256x128 : Shape := ⟨2, ![256, 128]⟩
abbrev S256x1152 : Shape := ⟨2, ![256, 1152]⟩
abbrev S1x256x1152 : Shape := ⟨3, ![1, 256, 1152]⟩
abbrev S1x256x128 : Shape := ⟨3, ![1, 256, 128]⟩

abbrev nBuf : Space → Nat
  | .hbm => 36
  | .vmem => 58
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S4x65x512x128, .f32⟩
  | .hbm, ⟨3, _⟩ => ⟨S4x65x512x128, .f32⟩
  | .hbm, ⟨4, _⟩ => ⟨S4x65x512x128, .f32⟩
  | .hbm, ⟨5, _⟩ => ⟨S4x65x512x128, .f32⟩
  | .hbm, ⟨6, _⟩ => ⟨S4x65x512x128, .f32⟩
  | .hbm, ⟨7, _⟩ => ⟨S4x65x512x128, .f32⟩
  | .hbm, ⟨8, _⟩ => ⟨S1x512, .f32⟩
  | .hbm, ⟨9, _⟩ => ⟨S1x512, .f32⟩
  | .hbm, ⟨10, _⟩ => ⟨S1x1024x1024, .f32⟩
  | .hbm, ⟨11, _⟩ => ⟨S1x1024, .f32⟩
  | .hbm, ⟨12, _⟩ => ⟨S1x1024x16, .f32⟩
  | .hbm, ⟨13, _⟩ => ⟨S_, .f32⟩
  | .hbm, ⟨14, _⟩ => ⟨S112x1024, .f32⟩
  | .hbm, ⟨15, _⟩ => ⟨S128x1024, .f32⟩
  | .hbm, ⟨16, _⟩ => ⟨S1024x16, .f32⟩
  | .hbm, ⟨17, _⟩ => ⟨S_, .f32⟩
  | .hbm, ⟨18, _⟩ => ⟨S1024x112, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S3072x128, .bf16⟩
  | .hbm, ⟨25, _⟩ => ⟨S512, .f32⟩
  | .hbm, ⟨26, _⟩ => ⟨S512x1, .f32⟩
  | .hbm, ⟨27, _⟩ => ⟨S512x128, .f32⟩
  | .hbm, ⟨28, _⟩ => ⟨S512, .f32⟩
  | .hbm, ⟨29, _⟩ => ⟨S512x1, .f32⟩
  | .hbm, ⟨30, _⟩ => ⟨S512x128, .f32⟩
  | .hbm, ⟨31, _⟩ => ⟨S1024x1024, .f32⟩
  | .hbm, ⟨32, _⟩ => ⟨S1024x1024, .bf16⟩
  | .hbm, ⟨33, _⟩ => ⟨S4x8320x1024, .f32⟩
  | .hbm, ⟨34, _⟩ => ⟨S4x8320x1152, .bf16⟩
  | .hbm, ⟨35, _⟩ => ⟨S4x8320x128, .f32⟩
  | .local _ .vmem, ⟨0, _⟩ => ⟨S1x640x1024, .f32⟩
  | .local _ .vmem, ⟨1, _⟩ => ⟨S1x640x1024, .f32⟩
  | .local _ .vmem, ⟨2, _⟩ => ⟨S128x1024, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x512x128, .f32⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x512x128, .f32⟩
  | .local _ .vmem, ⟨13, _⟩ => ⟨S1x1x512x128, .f32⟩
  | .local _ .vmem, ⟨14, _⟩ => ⟨S1x1x512x128, .f32⟩
  | .local _ .vmem, ⟨15, _⟩ => ⟨S1x1x512x128, .f32⟩
  | .local _ .vmem, ⟨16, _⟩ => ⟨S1x1x512x128, .f32⟩
  | .local _ .vmem, ⟨17, _⟩ => ⟨S1x1x512x128, .f32⟩
  | .local _ .vmem, ⟨18, _⟩ => ⟨S1x1x512x128, .f32⟩
  | .local _ .vmem, ⟨19, _⟩ => ⟨S1x1x512x128, .f32⟩
  | .local _ .vmem, ⟨20, _⟩ => ⟨S1x1x512x128, .f32⟩
  | .local _ .vmem, ⟨21, _⟩ => ⟨S1x1x512x128, .f32⟩
  | .local _ .vmem, ⟨22, _⟩ => ⟨S1x1x512x128, .f32⟩
  | .local _ .vmem, ⟨23, _⟩ => ⟨S1x1x512x128, .f32⟩
  | .local _ .vmem, ⟨24, _⟩ => ⟨S1x1x512x128, .f32⟩
  | .local _ .vmem, ⟨25, _⟩ => ⟨S1x1x512x128, .f32⟩
  | .local _ .vmem, ⟨26, _⟩ => ⟨S1x1x512x128, .f32⟩
  | .local _ .vmem, ⟨27, _⟩ => ⟨S1x1x512x128, .f32⟩
  | .local _ .vmem, ⟨28, _⟩ => ⟨S1x1x512x128, .f32⟩
  | .local _ .vmem, ⟨29, _⟩ => ⟨S1x1x512x128, .f32⟩
  | .local _ .vmem, ⟨30, _⟩ => ⟨S1x1x512x128, .f32⟩
  | .local _ .vmem, ⟨31, _⟩ => ⟨S1x1x512x128, .f32⟩
  | .local _ .vmem, ⟨32, _⟩ => ⟨S1x1x512x128, .f32⟩
  | .local _ .vmem, ⟨33, _⟩ => ⟨S1x1x512x128, .f32⟩
  | .local _ .vmem, ⟨34, _⟩ => ⟨S1x1x512x128, .f32⟩
  | .local _ .vmem, ⟨35, _⟩ => ⟨S1x1x512x128, .f32⟩
  | .local _ .vmem, ⟨36, _⟩ => ⟨S1x1x512x128, .f32⟩
  | .local _ .vmem, ⟨37, _⟩ => ⟨S1x1x512x128, .f32⟩
  | .local _ .vmem, ⟨38, _⟩ => ⟨S1x1x512x128, .f32⟩
  | .local _ .vmem, ⟨39, _⟩ => ⟨S1x1x512x128, .f32⟩
  | .local _ .vmem, ⟨40, _⟩ => ⟨S1x1x512x128, .f32⟩
  | .local _ .vmem, ⟨41, _⟩ => ⟨S1x1x512x128, .f32⟩
  | .local _ .vmem, ⟨42, _⟩ => ⟨S1x1x512x128, .f32⟩
  | .local _ .vmem, ⟨43, _⟩ => ⟨S1x5x512x128, .f32⟩
  | .local _ .vmem, ⟨44, _⟩ => ⟨S1x5x512x128, .f32⟩
  | .local _ .vmem, ⟨45, _⟩ => ⟨S1x5x512x128, .f32⟩
  | .local _ .vmem, ⟨46, _⟩ => ⟨S1x5x512x128, .f32⟩
  | .local _ .vmem, ⟨47, _⟩ => ⟨S512x128, .f32⟩
  | .local _ .vmem, ⟨48, _⟩ => ⟨S512x128, .f32⟩
  | .local _ .vmem, ⟨49, _⟩ => ⟨S1024x1024, .bf16⟩
  | .local _ .vmem, ⟨50, _⟩ => ⟨S1x1024, .f32⟩
  | .local _ .vmem, ⟨51, _⟩ => ⟨S3072x128, .bf16⟩
  | .local _ .vmem, ⟨52, _⟩ => ⟨S1x640x1024, .f32⟩
  | .local _ .vmem, ⟨53, _⟩ => ⟨S1x640x1024, .f32⟩
  | .local _ .vmem, ⟨54, _⟩ => ⟨S1x640x1152, .bf16⟩
  | .local _ .vmem, ⟨55, _⟩ => ⟨S1x640x1152, .bf16⟩
  | .local _ .vmem, ⟨56, _⟩ => ⟨S1x640x128, .f32⟩
  | .local _ .vmem, ⟨57, _⟩ => ⟨S1x640x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg25_0 : Ref sig .tc := ⟨.vmem, 48, rfl⟩
abbrev cc0_stg26_0 : Ref sig .tc := ⟨.vmem, 49, rfl⟩
abbrev cc0_stg27_0 : Ref sig .tc := ⟨.vmem, 50, rfl⟩
abbrev cc0_stg28_0 : Ref sig .tc := ⟨.vmem, 51, rfl⟩
abbrev cc0_stg29_0 : Ref sig .tc := ⟨.vmem, 52, rfl⟩
abbrev cc0_stg29_1 : Ref sig .tc := ⟨.vmem, 53, rfl⟩
abbrev cc0_stg30_0 : Ref sig .tc := ⟨.vmem, 54, rfl⟩
abbrev cc0_stg30_1 : Ref sig .tc := ⟨.vmem, 55, rfl⟩
abbrev cc0_stg31_0 : Ref sig .tc := ⟨.vmem, 56, rfl⟩
abbrev cc0_stg31_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem25_0 : DmaSem sig := 48
abbrev cc0_sem26_0 : DmaSem sig := 49
abbrev cc0_sem27_0 : DmaSem sig := 50
abbrev cc0_sem28_0 : DmaSem sig := 51
abbrev cc0_sem29_0 : DmaSem sig := 52
abbrev cc0_sem29_1 : DmaSem sig := 53
abbrev cc0_sem30_0 : DmaSem sig := 54
abbrev cc0_sem30_1 : DmaSem sig := 55
abbrev cc0_sem31_0 : DmaSem sig := 56
abbrev cc0_sem31_1 : DmaSem sig := 57

abbrev nD : Nat := 1
abbrev τ : Topo := Topo.v7x

variable {F : FTy → Type} [FloatOps F]

abbrev grid0 : Pipeline.Grid := ⟨2, ![4, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let c1_i32 : BitVec 32 := 1#32
  let v2 : BitVec 32 := Scalar.addi v1 c1_i32
  let c65_i32 : BitVec 32 := 65#32
  let c0_i32_0 : BitVec 32 := 0#32
  let v3 : BitVec 1 := Scalar.cmpi .eq c65_i32 c0_i32_0
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let c1_i32_0 : BitVec 32 := 1#32
  let v2 : BitVec 32 := Scalar.addi v1 c1_i32_0
  let c65_i32 : BitVec 32 := 65#32
  let c0_i32 : BitVec 32 := 0#32
  let v3 : BitVec 1 := Scalar.cmpi .eq c65_i32 c0_i32
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_6 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let c1_i32 : BitVec 32 := 1#32
  let v2 : BitVec 32 := Scalar.addi v1 c1_i32
  let c65_i32 : BitVec 32 := 65#32
  let c0_i32_0 : BitVec 32 := 0#32
  let v3 : BitVec 1 := Scalar.cmpi .eq c65_i32 c0_i32_0
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_8 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let c1_i32_0 : BitVec 32 := 1#32
  let v2 : BitVec 32 := Scalar.addi v1 c1_i32_0
  let c65_i32 : BitVec 32 := 65#32
  let c0_i32 : BitVec 32 := 0#32
  let v3 : BitVec 1 := Scalar.cmpi .eq c65_i32 c0_i32
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_9 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_10 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_11 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_12 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let c1_i32 : BitVec 32 := 1#32
  let v2 : BitVec 32 := Scalar.addi v1 c1_i32
  let c65_i32 : BitVec 32 := 65#32
  let c0_i32_0 : BitVec 32 := 0#32
  let v3 : BitVec 1 := Scalar.cmpi .eq c65_i32 c0_i32_0
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_13 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let c1_i32_0 : BitVec 32 := 1#32
  let v2 : BitVec 32 := Scalar.addi v1 c1_i32_0
  let c65_i32 : BitVec 32 := 65#32
  let c0_i32 : BitVec 32 := 0#32
  let v3 : BitVec 1 := Scalar.cmpi .eq c65_i32 c0_i32
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_14 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_15 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_16 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_17 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let c1_i32 : BitVec 32 := 1#32
  let v2 : BitVec 32 := Scalar.addi v1 c1_i32
  let c65_i32 : BitVec 32 := 65#32
  let c0_i32_0 : BitVec 32 := 0#32
  let v3 : BitVec 1 := Scalar.cmpi .eq c65_i32 c0_i32_0
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_18 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let c1_i32_0 : BitVec 32 := 1#32
  let v2 : BitVec 32 := Scalar.addi v1 c1_i32_0
  let c65_i32 : BitVec 32 := 65#32
  let c0_i32 : BitVec 32 := 0#32
  let v3 : BitVec 1 := Scalar.cmpi .eq c65_i32 c0_i32
  let c1_i32_1 : BitVec 32 := 1#32
  let v4 : BitVec 32 := Scalar.select v3 c1_i32_1 c65_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  ![arg0.toNat, v12.toNat, c0_i32_5.toNat, c0_i32_6.toNat]

def cc0_transform_19 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_20 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_21 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let c1_i32 : BitVec 32 := 1#32
  let v2 : BitVec 32 := Scalar.addi v1 c1_i32
  let c65_i32 : BitVec 32 := 65#32
  let c0_i32 : BitVec 32 := 0#32
  let v3 : BitVec 1 := Scalar.cmpi .eq c65_i32 c0_i32
  let c1_i32_0 : BitVec 32 := 1#32
  let v4 : BitVec 32 := Scalar.select v3 c1_i32_0 c65_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![arg0.toNat, v12.toNat, c0_i32_4.toNat, c0_i32_5.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x5x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x5x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S512x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1024x1024 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S3072x128 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 2 → Memref sig .tc .vmem S1x640x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x640x1152 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x640x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S16x1024 : Shape := ⟨2, ![16, 1024]⟩
abbrev S4x65x512x128 : Shape := ⟨4, ![4, 65, 512, 128]⟩
abbrev S1x512 : Shape := ⟨2, ![1, 512]⟩
abbrev S1x1024x1024 : Shape := ⟨3, ![1, 1024, 1024]⟩
abbrev S1x1024 : Shape := ⟨2, ![1, 1024]⟩
abbrev S1x1024x16 : Shape := ⟨3, ![1, 1024, 16]⟩
abbrev S1x16x1024 : Shape := ⟨3, ![1, 16, 1024]⟩
abbrev S4x16x1024 : Shape := ⟨3, ![4, 16, 1024]⟩
abbrev S4x8208x1024 : Shape := ⟨3, ![4, 8208, 1024]⟩
abbrev S4x65x128x512 : Shape := ⟨4, ![4, 65, 128, 512]⟩
abbrev S4x8320x512 : Shape := ⟨3, ![4, 8320, 512]⟩
abbrev S4x8208x512 : Shape := ⟨3, ![4, 8208, 512]⟩
abbrev S4x8208x4x128 : Shape := ⟨4, ![4, 8208, 4, 128]⟩
abbrev S512 : Shape := ⟨1, ![512]⟩
abbrev S_ : Shape := ⟨0, ![]⟩
abbrev S4x8208x4 : Shape := ⟨3, ![4, 8208, 4]⟩
abbrev S4x8208x4x1 : Shape := ⟨4, ![4, 8208, 4, 1]⟩
abbrev S1x1x512 : Shape := ⟨3, ![1, 1, 512]⟩
abbrev S4x16x512 : Shape := ⟨3, ![4, 16, 512]⟩
abbrev S4x8192x512 : Shape := ⟨3, ![4, 8192, 512]⟩
abbrev S1024x1024 : Shape := ⟨2, ![1024, 1024]⟩
abbrev S4x112x1024 : Shape := ⟨3, ![4, 112, 1024]⟩
abbrev S4x8320x1024 : Shape := ⟨3, ![4, 8320, 1024]⟩
abbrev S1024 : Shape := ⟨1, ![1024]⟩
abbrev S4x8320 : Shape := ⟨2, ![4, 8320]⟩
abbrev S4x8320x1 : Shape := ⟨3, ![4, 8320, 1]⟩
abbrev S1x1x1024 : Shape := ⟨3, ![1, 1, 1024]⟩
abbrev S1024x16 : Shape := ⟨2, ![1024, 16]⟩
abbrev S4x8320x16 : Shape := ⟨3, ![4, 8320, 16]⟩
abbrev S4x8320x112 : Shape := ⟨3, ![4, 8320, 112]⟩
abbrev S4x8320x1152 : Shape := ⟨3, ![4, 8320, 1152]⟩
abbrev S4x8320x128 : Shape := ⟨3, ![4, 8320, 128]⟩

abbrev nBuf : Space → Nat
  | .hbm => 179
  | .vmem => 0
  | .smem => 0
  | _ => 0

abbrev hbmTy0_0 (i : Nat) : BufTy := match i % 128 with
  | 0 => ⟨S4x8192x1024, .f32⟩
  | 1 => ⟨S16x1024, .f32⟩
  | 2 => ⟨S4x65x512x128, .f32⟩
  | 3 => ⟨S4x65x512x128, .f32⟩
  | 4 => ⟨S4x65x512x128, .f32⟩
  | 5 => ⟨S4x65x512x128, .f32⟩
  | 6 => ⟨S4x65x512x128, .f32⟩
  | 7 => ⟨S4x65x512x128, .f32⟩
  | 8 => ⟨S1x512, .f32⟩
  | 9 => ⟨S1x512, .f32⟩
  | 10 => ⟨S1x1024x1024, .f32⟩
  | 11 => ⟨S1x1024, .f32⟩
  | 12 => ⟨S1x1024x16, .f32⟩
  | 13 => ⟨S1x16x1024, .f32⟩
  | 14 => ⟨S4x16x1024, .f32⟩
  | 15 => ⟨S4x8208x1024, .f32⟩
  | 16 => ⟨S4x65x128x512, .f32⟩
  | 17 => ⟨S4x8320x512, .f32⟩
  | 18 => ⟨S4x8208x512, .f32⟩
  | 19 => ⟨S4x65x128x512, .f32⟩
  | 20 => ⟨S4x8320x512, .f32⟩
  | 21 => ⟨S4x8208x512, .f32⟩
  | 22 => ⟨S4x8208x512, .f32⟩
  | 23 => ⟨S4x8208x4x128, .f32⟩
  | 24 => ⟨S512, .f32⟩
  | 25 => ⟨S_, .f32⟩
  | 26 => ⟨S4x8208x4, .f32⟩
  | 27 => ⟨S4x8208x4x1, .f32⟩
  | 28 => ⟨S_, .f32⟩
  | 29 => ⟨S4x8208x4x1, .f32⟩
  | 30 => ⟨S4x8208x4x1, .f32⟩
  | 31 => ⟨S4x8208x4x128, .f32⟩
  | 32 => ⟨S4x8208x4x128, .f32⟩
  | 33 => ⟨S4x8208x4x128, .f32⟩
  | 34 => ⟨S_, .f32⟩
  | 35 => ⟨S4x8208x4, .f32⟩
  | 36 => ⟨S4x8208x4x1, .f32⟩
  | 37 => ⟨S_, .f32⟩
  | 38 => ⟨S4x8208x4x1, .f32⟩
  | 39 => ⟨S4x8208x4x1, .f32⟩
  | 40 => ⟨S_, .f32⟩
  | 41 => ⟨S4x8208x4x1, .f32⟩
  | 42 => ⟨S4x8208x4x1, .f32⟩
  | 43 => ⟨S4x8208x4x1, .f32⟩
  | 44 => ⟨S4x8208x4x128, .f32⟩
  | 45 => ⟨S4x8208x4x128, .f32⟩
  | 46 => ⟨S4x8208x512, .f32⟩
  | 47 => ⟨S1x1x512, .f32⟩
  | 48 => ⟨S4x8208x512, .f32⟩
  | 49 => ⟨S4x8208x512, .f32⟩
  | 50 => ⟨S4x65x128x512, .f32⟩
  | 51 => ⟨S4x8320x512, .f32⟩
  | 52 => ⟨S4x16x512, .f32⟩
  | 53 => ⟨S4x8192x512, .f32⟩
  | 54 => ⟨S4x8208x512, .f32⟩
  | 55 => ⟨S4x8208x512, .f32⟩
  | 56 => ⟨S4x8208x512, .f32⟩
  | 57 => ⟨S_, .f32⟩
  | 58 => ⟨S4x8208x512, .f32⟩
  | 59 => ⟨S4x8208x512, .f32⟩
  | 60 => ⟨S_, .f32⟩
  | 61 => ⟨S4x8208x512, .f32⟩
  | 62 => ⟨S4x8208x512, .f32⟩
  | 63 => ⟨S4x8208x512, .f32⟩
  | 64 => ⟨S4x8208x512, .f32⟩
  | 65 => ⟨S4x65x128x512, .f32⟩
  | 66 => ⟨S4x8320x512, .f32⟩
  | 67 => ⟨S4x8208x512, .f32⟩
  | 68 => ⟨S4x65x128x512, .f32⟩
  | 69 => ⟨S4x8320x512, .f32⟩
  | 70 => ⟨S4x8208x512, .f32⟩
  | 71 => ⟨S4x8208x512, .f32⟩
  | 72 => ⟨S4x8208x4x128, .f32⟩
  | 73 => ⟨S4x65x128x512, .f32⟩
  | 74 => ⟨S4x8320x512, .f32⟩
  | 75 => ⟨S4x16x512, .f32⟩
  | 76 => ⟨S4x8192x512, .f32⟩
  | 77 => ⟨S4x8208x512, .f32⟩
  | 78 => ⟨S4x8208x512, .f32⟩
  | 79 => ⟨S4x8208x512, .f32⟩
  | 80 => ⟨S_, .f32⟩
  | 81 => ⟨S4x8208x512, .f32⟩
  | 82 => ⟨S4x8208x512, .f32⟩
  | 83 => ⟨S_, .f32⟩
  | 84 => ⟨S4x8208x512, .f32⟩
  | 85 => ⟨S4x8208x512, .f32⟩
  | 86 => ⟨S4x8208x4x128, .f32⟩
  | 87 => ⟨S4x8208x4x128, .f32⟩
  | 88 => ⟨S512, .f32⟩
  | 89 => ⟨S_, .f32⟩
  | 90 => ⟨S4x8208x4, .f32⟩
  | 91 => ⟨S4x8208x4x1, .f32⟩
  | 92 => ⟨S_, .f32⟩
  | 93 => ⟨S4x8208x4x1, .f32⟩
  | 94 => ⟨S4x8208x4x1, .f32⟩
  | 95 => ⟨S4x8208x4x128, .f32⟩
  | 96 => ⟨S4x8208x4x128, .f32⟩
  | 97 => ⟨S4x8208x4x128, .f32⟩
  | 98 => ⟨S_, .f32⟩
  | 99 => ⟨S4x8208x4, .f32⟩
  | 100 => ⟨S4x8208x4x1, .f32⟩
  | 101 => ⟨S_, .f32⟩
  | 102 => ⟨S4x8208x4x1, .f32⟩
  | 103 => ⟨S4x8208x4x1, .f32⟩
  | 104 => ⟨S_, .f32⟩
  | 105 => ⟨S4x8208x4x1, .f32⟩
  | 106 => ⟨S4x8208x4x1, .f32⟩
  | 107 => ⟨S4x8208x4x1, .f32⟩
  | 108 => ⟨S4x8208x4x128, .f32⟩
  | 109 => ⟨S4x8208x4x128, .f32⟩
  | 110 => ⟨S4x8208x512, .f32⟩
  | 111 => ⟨S1x1x512, .f32⟩
  | 112 => ⟨S4x8208x512, .f32⟩
  | 113 => ⟨S4x8208x512, .f32⟩
  | 114 => ⟨S4x8208x1024, .f32⟩
  | 115 => ⟨S1024x1024, .f32⟩
  | 116 => ⟨S4x8208x1024, .f32⟩
  | 117 => ⟨S4x8208x1024, .f32⟩
  | 118 => ⟨S4x8192x1024, .f32⟩
  | 119 => ⟨S_, .f32⟩
  | 120 => ⟨S4x112x1024, .f32⟩
  | 121 => ⟨S4x16x1024, .f32⟩
  | 122 => ⟨S4x8320x1024, .f32⟩
  | 123 => ⟨S1024, .f32⟩
  | 124 => ⟨S4x8320x1024, .f32⟩
  | 125 => ⟨S_, .f32⟩
  | 126 => ⟨S4x8320, .f32⟩
  | 127 => ⟨S4x8320x1, .f32⟩
  | _ => ⟨S4x8192x1024, .f32⟩

abbrev hbmTy0_1 (i : Nat) : BufTy := match i % 128 with
  | 0 => ⟨S_, .f32⟩
  | 1 => ⟨S4x8320x1, .f32⟩
  | 2 => ⟨S4x8320x1, .f32⟩
  | 3 => ⟨S_, .f32⟩
  | 4 => ⟨S4x8320x1, .f32⟩
  | 5 => ⟨S4x8320x1, .f32⟩
  | 6 => ⟨S4x8320x1, .f32⟩
  | 7 => ⟨S4x8320x1024, .f32⟩
  | 8 => ⟨S4x8320x1024, .f32⟩
  | 9 => ⟨S1x1x1024, .f32⟩
  | 10 => ⟨S4x8320x1024, .f32⟩
  | 11 => ⟨S4x8320x1024, .f32⟩
  | 12 => ⟨S1024x16, .f32⟩
  | 13 => ⟨S4x8320x16, .f32⟩
  | 14 => ⟨S_, .f32⟩
  | 15 => ⟨S4x8320, .f32⟩
  | 16 => ⟨S_, .f32⟩
  | 17 => ⟨S4x8320, .f32⟩
  | 18 => ⟨S4x8320, .f32⟩
  | 19 => ⟨S4x8320x1, .f32⟩
  | 20 => ⟨S4x8320x16, .f32⟩
  | 21 => ⟨S4x8320x16, .f32⟩
  | 22 => ⟨S4x8320x16, .f32⟩
  | 23 => ⟨S_, .f32⟩
  | 24 => ⟨S4x8320, .f32⟩
  | 25 => ⟨S4x8320x1, .f32⟩
  | 26 => ⟨S4x8320x16, .f32⟩
  | 27 => ⟨S4x8320x16, .f32⟩
  | 28 => ⟨S_, .f32⟩
  | 29 => ⟨S4x8320x112, .f32⟩
  | 30 => ⟨S4x8320x1152, .f32⟩
  | 31 => ⟨S4x8320x1152, .bf16⟩
  | 32 => ⟨S4x8320x16, .i32⟩
  | 33 => ⟨S_, .i32⟩
  | 34 => ⟨S4x8320x16, .i32⟩
  | 35 => ⟨S4x8320x16, .i1⟩
  | 36 => ⟨S_, .i32⟩
  | 37 => ⟨S4x8320x16, .i32⟩
  | 38 => ⟨S4x8320x16, .i1⟩
  | 39 => ⟨S4x8320x16, .i1⟩
  | 40 => ⟨S4x8320x16, .f32⟩
  | 41 => ⟨S_, .f32⟩
  | 42 => ⟨S4x8320x16, .f32⟩
  | 43 => ⟨S4x8320x16, .f32⟩
  | 44 => ⟨S_, .f32⟩
  | 45 => ⟨S_, .f32⟩
  | 46 => ⟨S4x8320x16, .f32⟩
  | 47 => ⟨S4x8320x16, .f32⟩
  | 48 => ⟨S_, .f32⟩
  | 49 => ⟨S4x8320x112, .f32⟩
  | 50 => ⟨S4x8320x128, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_cst_5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_6 : Ref sig .tc := ⟨.hbm, 89, rfl⟩
abbrev main_v61 : Ref sig .tc := ⟨.hbm, 90, rfl⟩
abbrev main_v62 : Ref sig .tc := ⟨.hbm, 91, rfl⟩
abbrev main_cst_7 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_8 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_11 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_12 : Ref sig .tc := ⟨.hbm, 125, rfl⟩
abbrev main_v91 : Ref sig .tc := ⟨.hbm, 126, rfl⟩
abbrev main_v92 : Ref sig .tc := ⟨.hbm, 127, rfl⟩
abbrev main_cst_13 : Ref sig .tc := ⟨.hbm, 128, rfl⟩
abbrev main_v93 : Ref sig .tc := ⟨.hbm, 129, rfl⟩
abbrev main_v94 : Ref sig .tc := ⟨.hbm, 130, rfl⟩
abbrev main_cst_14 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_15 : Ref sig .tc := ⟨.hbm, 142, rfl⟩
abbrev main_v105 : Ref sig .tc := ⟨.hbm, 143, rfl⟩
abbrev main_cst_16 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_17 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_18 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c : Ref sig .tc := ⟨.hbm, 161, rfl⟩
abbrev main_v120 : Ref sig .tc := ⟨.hbm, 162, rfl⟩
abbrev main_v121 : Ref sig .tc := ⟨.hbm, 163, rfl⟩
abbrev main_c_19 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_20 : Ref sig .tc := ⟨.hbm, 169, rfl⟩
abbrev main_v126 : Ref sig .tc := ⟨.hbm, 170, rfl⟩
abbrev main_v127 : Ref sig .tc := ⟨.hbm, 171, rfl⟩
abbrev main_cst_21 : Ref sig .tc := ⟨.hbm, 172, rfl⟩
abbrev main_call1_v0 : Ref sig .tc := ⟨.hbm, 173, rfl⟩
abbrev main_call1_v1 : Ref sig .tc := ⟨.hbm, 174, rfl⟩
abbrev main_v128 : Ref sig .tc := ⟨.hbm, 175, rfl⟩
abbrev main_cst_22 : Ref sig .tc := ⟨.hbm, 176, rfl⟩
abbrev main_v129 : Ref sig .tc := ⟨.hbm, 177, rfl⟩
abbrev main_v130 : Ref sig .tc := ⟨.hbm, 178, rfl⟩

abbrev nD : Nat := 1
abbrev τ : Topo := Topo.v7x

variable {F : FTy → Type} [FloatOps F]
-- ==== Kernel2.lean ====
abbrev S4x16x1104x1152 : Shape := ⟨4, ![4, 16, 1104, 1152]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x1024 : Shape := ⟨3, ![16, 2816, 1024]⟩
abbrev S4x16x1168x1024 : Shape := ⟨4, ![4, 16, 1168, 1024]⟩
abbrev S2x1x1040x1152 : Shape := ⟨4, ![2, 1, 1040, 1152]⟩
abbrev S1x1024x256 : Shape := ⟨3, ![1, 1024, 256]⟩
abbrev S1x256x1024 : Shape := ⟨3, ![1, 256, 1024]⟩
abbrev S2x1x1168x1024 : Shape := ⟨4, ![2, 1, 1168, 1024]⟩
abbrev S2080x1024 : Shape := ⟨2, ![2080, 1024]⟩
abbrev S2x1x1040x1024 : Shape := ⟨4, ![2, 1, 1040, 1024]⟩
abbrev S1024x256 : Shape := ⟨2, ![1024, 256]⟩
abbrev S2080x256 : Shape := ⟨2, ![2080, 256]⟩
abbrev S256x1024 : Shape := ⟨2, ![256, 1024]⟩
abbrev S2x1x1040x128 : Shape := ⟨4, ![2, 1, 1040, 128]⟩
abbrev S2080x128 : Shape := ⟨2, ![2080, 128]⟩
abbrev S2080 : Shape := ⟨1, ![2080]⟩
abbrev S2080x1 : Shape := ⟨2, ![2080, 1]⟩
abbrev S2x1x128x1024 : Shape := ⟨4, ![2, 1, 128, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x16x1104x1152, .bf16⟩
  | .hbm, ⟨1, _⟩ => ⟨S1x16x1024x2816, .f32⟩
  | .hbm, ⟨2, _⟩ => ⟨S1x16x1024x2816, .f32⟩
  | .hbm, ⟨3, _⟩ => ⟨S1x16x2816x1024, .f32⟩
  | .hbm, ⟨4, _⟩ => ⟨S16x1024x2816, .f32⟩
  | .hbm, ⟨5, _⟩ => ⟨S16x1024x2816, .f32⟩
  | .hbm, ⟨6, _⟩ => ⟨S16x2816x1024, .f32⟩
  | .hbm, ⟨7, _⟩ => ⟨S4x16x1168x1024, .bf16⟩
  | .local _ .vmem, ⟨0, _⟩ => ⟨S2x1x1040x1152, .bf16⟩
  | .local _ .vmem, ⟨1, _⟩ => ⟨S2x1x1040x1152, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S2x1x1168x1024, .bf16⟩
  | .local _ .vmem, ⟨9, _⟩ => ⟨S2x1x1168x1024, .bf16⟩
  | .local _ .vmem, ⟨10, _⟩ => ⟨S2080x1024, .f32⟩
  | _, _ => ⟨S4x16x1104x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v26 : BitVec 1 := Scalar.cmpi .eq arg2 c10_i32
  let v27 : BitVec 32 := Scalar.extui v26
  let c0_i32_19 : BitVec 32 := 0#32
  let v28 : BitVec 1 := Scalar.cmpi .ne v27 c0_i32_19
  v28

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x1040x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2x1x1168x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S4x16x1104x1152 : Shape := ⟨4, ![4, 16, 1104, 1152]⟩
abbrev S1x16x1024x2816 : Shape := ⟨4, ![1, 16, 1024, 2816]⟩
abbrev S1x16x2816x1024 : Shape := ⟨4, ![1, 16, 2816, 1024]⟩
abbrev S4x16x1040x1024 : Shape := ⟨4, ![4, 16, 1040, 1024]⟩
abbrev S4x16x1040x48 : Shape := ⟨4, ![4, 16, 1040, 48]⟩
abbrev S4x16x1040x3x16 : Shape := ⟨5, ![4, 16, 1040, 3, 16]⟩
abbrev S_ : Shape := ⟨0, ![]⟩
abbrev S4x16x1040x16 : Shape := ⟨4, ![4, 16, 1040, 16]⟩
abbrev S16x16 : Shape := ⟨2, ![16, 16]⟩
abbrev S1x16x1x16 : Shape := ⟨4, ![1, 16, 1, 16]⟩
abbrev S4x16x1040 : Shape := ⟨3, ![4, 16, 1040]⟩
abbrev S16x1024x2816 : Shape := ⟨3, ![16, 1024, 2816]⟩
abbrev S16x2816x4x1040 : Shape := ⟨4, ![16, 2816, 4, 1040]⟩
abbrev S4x16x1040x2816 : Shape := ⟨4, ![4, 16, 1040, 2816]⟩
abbrev S16x2816x1024 : Shape := ⟨3, ![16, 2816, 1024]⟩
abbrev S16x1024x4x1040 : Shape := ⟨4, ![16, 1024, 4, 1040]⟩
abbrev S4x16x1040x1 : Shape := ⟨4, ![4, 16, 1040, 1]⟩
abbrev S4x16x128x1024 : Shape := ⟨4, ![4, 16, 128, 1024]⟩
abbrev S4x16x1168x1024 : Shape := ⟨4, ![4, 16, 1168, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x16x1104x1152, .bf16⟩
  | .hbm, ⟨1, _⟩ => ⟨S1x16x1024x2816, .f32⟩
  | .hbm, ⟨2, _⟩ => ⟨S1x16x1024x2816, .f32⟩
  | .hbm, ⟨3, _⟩ => ⟨S1x16x2816x1024, .f32⟩
  | .hbm, ⟨4, _⟩ => ⟨S4x16x1040x1024, .bf16⟩
  | .hbm, ⟨5, _⟩ => ⟨S4x16x1040x1024, .f32⟩
  | .hbm, ⟨6, _⟩ => ⟨S4x16x1040x48, .bf16⟩
  | .hbm, ⟨7, _⟩ => ⟨S4x16x1040x48, .f32⟩
  | .hbm, ⟨8, _⟩ => ⟨S4x16x1040x3x16, .f32⟩
  | .hbm, ⟨9, _⟩ => ⟨S_, .f32⟩
  | .hbm, ⟨10, _⟩ => ⟨S4x16x1040x16, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S1x16x1x16, .f32⟩
  | .hbm, ⟨19, _⟩ => ⟨S_, .f32⟩
  | .hbm, ⟨20, _⟩ => ⟨S1x16x1x16, .f32⟩
  | .hbm, ⟨21, _⟩ => ⟨S1x16x1x16, .i1⟩
  | .hbm, ⟨22, _⟩ => ⟨S_, .f32⟩
  | .hbm, ⟨23, _⟩ => ⟨S_, .f32⟩
  | .hbm, ⟨24, _⟩ => ⟨S4x16x1040x16, .i1⟩
  | .hbm, ⟨25, _⟩ => ⟨S4x16x1040x16, .f32⟩
  | .hbm, ⟨26, _⟩ => ⟨S4x16x1040x16, .f32⟩
  | .hbm, ⟨27, _⟩ => ⟨S_, .f32⟩
  | .hbm, ⟨28, _⟩ => ⟨S4x16x1040, .f32⟩
  | .hbm, ⟨29, _⟩ => ⟨S16x1024x2816, .f32⟩
  | .hbm, ⟨30, _⟩ => ⟨S16x2816x4x1040, .f32⟩
  | .hbm, ⟨31, _⟩ => ⟨S4x16x1040x2816, .f32⟩
  | .hbm, ⟨32, _⟩ => ⟨S4x16x1040x2816, .f32⟩
  | .hbm, ⟨33, _⟩ => ⟨S4x16x1040x2816, .f32⟩
  | .hbm, ⟨34, _⟩ => ⟨S_, .f32⟩
  | .hbm, ⟨35, _⟩ => ⟨S4x16x1040x2816, .f32⟩
  | .hbm, ⟨36, _⟩ => ⟨S4x16x1040x2816, .f32⟩
  | .hbm, ⟨37, _⟩ => ⟨S_, .f32⟩
  | .hbm, ⟨38, _⟩ => ⟨S4x16x1040x2816, .f32⟩
  | .hbm, ⟨39, _⟩ => ⟨S4x16x1040x2816, .f32⟩
  | .hbm, ⟨40, _⟩ => ⟨S4x16x1040x2816, .f32⟩
  | .hbm, ⟨41, _⟩ => ⟨S16x1024x2816, .f32⟩
  | .hbm, ⟨42, _⟩ => ⟨S16x2816x4x1040, .f32⟩
  | .hbm, ⟨43, _⟩ => ⟨S4x16x1040x2816, .f32⟩
  | .hbm, ⟨44, _⟩ => ⟨S4x16x1040x2816, .f32⟩
  | .hbm, ⟨45, _⟩ => ⟨S16x2816x1024, .f32⟩
  | .hbm, ⟨46, _⟩ => ⟨S16x1024x4x1040, .f32⟩
  | .hbm, ⟨47, _⟩ => ⟨S4x16x1040x1024, .f32⟩
  | .hbm, ⟨48, _⟩ => ⟨S4x16x1040x1, .f32⟩
  | .hbm, ⟨49, _⟩ => ⟨S4x16x1040x1024, .f32⟩
  | .hbm, ⟨50, _⟩ => ⟨S4x16x1040x1024, .f32⟩
  | .hbm, ⟨51, _⟩ => ⟨S_, .f32⟩
  | .hbm, ⟨52, _⟩ => ⟨S4x16x128x1024, .f32⟩
  | .hbm, ⟨53, _⟩ => ⟨S4x16x1168x1024, .f32⟩
  | .hbm, ⟨54, _⟩ => ⟨S4x16x1168x1024, .bf16⟩
  | _, _ => ⟨S4x16x1104x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S4x8192x1024 : Shape := ⟨3, ![4, 8192, 1024]⟩
abbrev S16x1024 : Shape := ⟨2, ![16, 1024]⟩
abbrev S1x1024 : Shape := ⟨2, ![1, 1024]⟩
abbrev S1x1024x4112 : Shape := ⟨3, ![1, 1024, 4112]⟩
abbrev S1x16 : Shape := ⟨2, ![1, 16]⟩
abbrev S1x5x1024 : Shape := ⟨3, ![1, 5, 1024]⟩
abbrev S8320x64 : Shape := ⟨2, ![8320, 64]⟩
abbrev S_ : Shape := ⟨0, ![]⟩
abbrev S112x1024 : Shape := ⟨2, ![112, 1024]⟩
abbrev S128x1024 : Shape := ⟨2, ![128, 1024]⟩
abbrev S1024x4112 : Shape := ⟨2, ![1024, 4112]⟩
abbrev S1024x512 : Shape := ⟨2, ![1024, 512]⟩
abbrev S1024x16 : Shape := ⟨2, ![1024, 16]⟩
abbrev S1024x112 : Shape := ⟨2, ![1024, 112]⟩
abbrev S1024x1664 : Shape := ⟨2, ![1024, 1664]⟩
abbrev S1024x2560 : Shape := ⟨2, ![1024, 2560]⟩
abbrev S2560x1024 : Shape := ⟨2, ![2560, 1024]⟩
abbrev S16 : Shape := ⟨1, ![16]⟩
abbrev S112 : Shape := ⟨1, ![112]⟩
abbrev S128 : Shape := ⟨1, ![128]⟩
abbrev S1x128 : Shape := ⟨2, ![1, 128]⟩
abbrev S8320x128 : Shape := ⟨2, ![8320, 128]⟩
abbrev S128x8320 : Shape := ⟨2, ![128, 8320]⟩
abbrev S5x1024 : Shape := ⟨2, ![5, 1024]⟩
abbrev S4x65x512x128 : Shape := ⟨4, ![4, 65, 512, 128]⟩
abbrev S4x8320x512 : Shape := ⟨3, ![4, 8320, 512]⟩
abbrev S4x8320x128 : Shape := ⟨3, ![4, 8320, 128]⟩
abbrev S4x65x16x128 : Shape := ⟨4, ![4, 65, 16, 128]⟩
abbrev S1x640x1024 : Shape := ⟨3, ![1, 640, 1024]⟩
abbrev S1x16x1024 : Shape := ⟨3, ![1, 16, 1024]⟩
abbrev S640x128 : Shape := ⟨2, ![640, 128]⟩
abbrev S128x640 : Shape := ⟨2, ![128, 640]⟩
abbrev S1x5x512x128 : Shape := ⟨4, ![1, 5, 512, 128]⟩
abbrev S1x640x512 : Shape := ⟨3, ![1, 640, 512]⟩
abbrev S1x640x128 : Shape := ⟨3, ![1, 640, 128]⟩
abbrev S1x5x16x128 : Shape := ⟨4, ![1, 5, 16, 128]⟩
abbrev S640x1024 : Shape := ⟨2, ![640, 1024]⟩
abbrev S512x1024 : Shape := ⟨2, ![512, 1024]⟩
abbrev S672x1024 : Shape := ⟨2, ![672, 1024]⟩
abbrev S640x1 : Shape := ⟨2, ![640, 1]⟩
abbrev S416x1024 : Shape := ⟨2, ![416, 1024]⟩
abbrev S416 : Shape := ⟨1, ![416]⟩
abbrev S416x1 : Shape := ⟨2, ![416, 1]⟩
abbrev S384x1024 : Shape := ⟨2, ![384, 1024]⟩
abbrev S384x1 : Shape := ⟨2, ![384, 1]⟩
abbrev S512x384 : Shape := ⟨2, ![512, 384]⟩
abbrev S128x384 : Shape := ⟨2, ![128, 384]⟩
abbrev S64x384 : Shape := ⟨2, ![64, 384]⟩
abbrev S512x128 : Shape := ⟨2, ![512, 128]⟩
abbrev S1x1x512x128 : Shape := ⟨4, ![1, 1, 512, 128]⟩
abbrev S384x512 : Shape := ⟨2, ![384, 512]⟩
abbrev S384x128 : Shape := ⟨2, ![384, 128]⟩
abbrev S1x384x512 : Shape := ⟨3, ![1, 384, 512]⟩
abbrev S1024x1024 : Shape := ⟨2, ![1024, 1024]⟩
abbrev S1024x128 : Shape := ⟨2, ![1024, 128]⟩
abbrev S1x384x128 : Shape := ⟨3, ![1, 384, 128]⟩
abbrev S16x384 : Shape := ⟨2, ![16, 384]⟩
abbrev S16x128 : Shape := ⟨2, ![16, 128]⟩
abbrev S1x1x16x128 : Shape := ⟨4, ![1, 1, 16, 128]⟩
abbrev S288x1024 : Shape := ⟨2, ![288, 1024]⟩
abbrev S288 : Shape := ⟨1, ![288]⟩
abbrev S288x1 : Shape := ⟨2, ![288, 1]⟩
abbrev S256x1024 : Shape := ⟨2, ![256, 1024]⟩
abbrev S256x1 : Shape := ⟨2, ![256, 1]⟩
abbrev S512x256 : Shape := ⟨2, ![512, 256]⟩
abbrev S128x256 : Shape := ⟨2, ![128, 256]⟩
abbrev S64x256 : Shape := ⟨2, ![64, 256]⟩
abbrev S256x512 : Shape := ⟨2, ![256, 512]⟩
abbrev S256x128 : Shape := ⟨2, ![256, 128]⟩
abbrev S1x256x512 : Shape := ⟨3, ![1, 256, 512]⟩
abbrev S1x256x128 : Shape := ⟨3, ![1, 256, 128]⟩
abbrev S16x256 : Shape := ⟨2, ![16, 256]⟩

abbrev nBuf : Space → Nat
  | .hbm => 50
  | .vmem => 41
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S1x1024, .f32⟩
  | .hbm, ⟨3, _⟩ => ⟨S1x1024x4112, .f32⟩
  | .hbm, ⟨4, _⟩ => ⟨S1x16, .f32⟩
  | .hbm, ⟨5, _⟩ => ⟨S1x5x1024, .f32⟩
  | .hbm, ⟨6, _⟩ => ⟨S1x1024, .f32⟩
  | .hbm, ⟨7, _⟩ => ⟨S8320x64, .f32⟩
  | .hbm, ⟨8, _⟩ => ⟨S8320x64, .f32⟩
  | .hbm, ⟨9, _⟩ => ⟨S_, .f32⟩
  | .hbm, ⟨10, _⟩ => ⟨S112x1024, .f32⟩
  | .hbm, ⟨11, _⟩ => ⟨S128x1024, .f32⟩
  | .hbm, ⟨12, _⟩ => ⟨S1024x4112, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x16, .f32⟩
  | .hbm, ⟨17, _⟩ => ⟨S_, .f32⟩
  | .hbm, ⟨18, _⟩ => ⟨S1024x112, .f32⟩
  | .hbm, ⟨19, _⟩ => ⟨S1024x1664, .f32⟩
  | .hbm, ⟨20, _⟩ => ⟨S1024x1664, .bf16⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x2560, .f32⟩
  | .hbm, ⟨27, _⟩ => ⟨S2560x1024, .f32⟩
  | .hbm, ⟨28, _⟩ => ⟨S2560x1024, .bf16⟩
  | .hbm, ⟨29, _⟩ => ⟨S16, .f32⟩
  | .hbm, ⟨30, _⟩ => ⟨S_, .f32⟩
  | .hbm, ⟨31, _⟩ => ⟨S112, .f32⟩
  | .hbm, ⟨32, _⟩ => ⟨S128, .f32⟩
  | .hbm, ⟨33, _⟩ => ⟨S1x128, .f32⟩
  | .hbm, ⟨34, _⟩ => ⟨S8320x128, .f32⟩
  | .hbm, ⟨35, _⟩ => ⟨S8320x64, .f32⟩
  | .hbm, ⟨36, _⟩ => ⟨S8320x128, .f32⟩
  | .hbm, ⟨37, _⟩ => ⟨S128x8320, .f32⟩
  | .hbm, ⟨38, _⟩ => ⟨S128x8320, .f32⟩
  | .hbm, ⟨39, _⟩ => ⟨S5x1024, .f32⟩
  | .hbm, ⟨40, _⟩ => ⟨S4x65x512x128, .bf16⟩
  | .hbm, ⟨41, _⟩ => ⟨S4x8320x512, .bf16⟩
  | .hbm, ⟨42, _⟩ => ⟨S4x65x512x128, .bf16⟩
  | .hbm, ⟨43, _⟩ => ⟨S4x65x512x128, .f32⟩
  | .hbm, ⟨44, _⟩ => ⟨S4x65x512x128, .bf16⟩
  | .hbm, ⟨45, _⟩ => ⟨S4x8320x512, .bf16⟩
  | .hbm, ⟨46, _⟩ => ⟨S4x65x512x128, .bf16⟩
  | .hbm, ⟨47, _⟩ => ⟨S4x65x512x128, .f32⟩
  | .hbm, ⟨48, _⟩ => ⟨S4x8320x128, .f32⟩
  | .hbm, ⟨49, _⟩ => ⟨S4x65x16x128, .f32⟩
  | .local _ .vmem, ⟨0, _⟩ => ⟨S1x640x1024, .f32⟩
  | .local _ .vmem, ⟨1, _⟩ => ⟨S1x640x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S128x1024, .f32⟩
  | .local _ .vmem, ⟨7, _⟩ => ⟨S1x1024, .f32⟩
  | .local _ .vmem, ⟨8, _⟩ => ⟨S1024x1664, .bf16⟩
  | .local _ .vmem, ⟨9, _⟩ => ⟨S2560x1024, .bf16⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S640x128, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | .local _ .vmem, ⟨18, _⟩ => ⟨S5x1024, .f32⟩
  | .local _ .vmem, ⟨19, _⟩ => ⟨S1x1024, .f32⟩
  | .local _ .vmem, ⟨20, _⟩ => ⟨S1x128, .f32⟩
  | .local _ .vmem, ⟨21, _⟩ => ⟨S1x5x512x128, .bf16⟩
  | .local _ .vmem, ⟨22, _⟩ => ⟨S1x5x512x128, .bf16⟩
  | .local _ .vmem, ⟨23, _⟩ => ⟨S1x640x512, .bf16⟩
  | .local _ .vmem, ⟨24, _⟩ => ⟨S1x640x512, .bf16⟩
  | .local _ .vmem, ⟨25, _⟩ => ⟨S1x5x512x128, .bf16⟩
  | .local _ .vmem, ⟨26, _⟩ => ⟨S1x5x512x128, .bf16⟩
  | .local _ .vmem, ⟨27, _⟩ => ⟨S1x5x512x128, .f32⟩
  | .local _ .vmem, ⟨28, _⟩ => ⟨S1x5x512x128, .f32⟩
  | .local _ .vmem, ⟨29, _⟩ => ⟨S1x5x512x128, .bf16⟩
  | .local _ .vmem, ⟨30, _⟩ => ⟨S1x5x512x128, .bf16⟩
  | .local _ .vmem, ⟨31, _⟩ => ⟨S1x640x512, .bf16⟩
  | .local _ .vmem, ⟨32, _⟩ => ⟨S1x640x512, .bf16⟩
  | .local _ .vmem, ⟨33, _⟩ => ⟨S1x5x512x128, .bf16⟩
  | .local _ .vmem, ⟨34, _⟩ => ⟨S1x5x512x128, .bf16⟩
  | .local _ .vmem, ⟨35, _⟩ => ⟨S1x5x512x128, .f32⟩
  | .local _ .vmem, ⟨36, _⟩ => ⟨S1x5x512x128, .f32⟩
  | .local _ .vmem, ⟨37, _⟩ => ⟨S1x640x128, .f32⟩
  | .local _ .vmem, ⟨38, _⟩ => ⟨S1x640x128, .f32⟩
  | .local _ .vmem, ⟨39, _⟩ => ⟨S1x5x16x128, .f32⟩
  | .local _ .vmem, ⟨40, _⟩ => ⟨S1x5x16x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v28_7 : Ref sig .tc := ⟨.hbm, 47, rfl⟩
abbrev main_v28_8 : Ref sig .tc := ⟨.hbm, 48, rfl⟩
abbrev main_v28_9 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨2, ![4, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.muli arg1 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg1 c12_i32
  let c1_i32 : BitVec 32 := 1#32
  let v1 : BitVec 32 := Scalar.addi arg1 c1_i32
  let c40_i32 : BitVec 32 := 40#32
  let v2 : BitVec 32 := Scalar.muli v1 c40_i32
  let c0_i32 : BitVec 32 := 0#32
  let v3 : BitVec 32 := Scalar.select v0 c0_i32 v2
  let c0_i32_0 : BitVec 32 := 0#32
  let c0_i32_1 : BitVec 32 := 0#32
  ![arg0.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S5x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x5x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x640x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x5x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x5x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x5x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x640x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x5x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x5x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x640x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x5x16x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference3Ideal.lean ====
abbrev S4x8192x1024 : Shape := ⟨3, ![4, 8192, 1024]⟩
abbrev S16x1024 : Shape := ⟨2, ![16, 1024]⟩
abbrev S1x1024 : Shape := ⟨2, ![1, 1024]⟩
abbrev S1x1024x4112 : Shape := ⟨3, ![1, 1024, 4112]⟩
abbrev S1x16 : Shape := ⟨2, ![1, 16]⟩
abbrev S1x5x1024 : Shape := ⟨3, ![1, 5, 1024]⟩
abbrev S8320x64 : Shape := ⟨2, ![8320, 64]⟩
abbrev S1x16x1024 : Shape := ⟨3, ![1, 16, 1024]⟩
abbrev S4x16x1024 : Shape := ⟨3, ![4, 16, 1024]⟩
abbrev S_ : Shape := ⟨0, ![]⟩
abbrev S4x112x1024 : Shape := ⟨3, ![4, 112, 1024]⟩
abbrev S4x8320x1024 : Shape := ⟨3, ![4, 8320, 1024]⟩
abbrev S1024 : Shape := ⟨1, ![1024]⟩
abbrev S4x8320 : Shape := ⟨2, ![4, 8320]⟩
abbrev S4x8320x1 : Shape := ⟨3, ![4, 8320, 1]⟩
abbrev S1x1x1024 : Shape := ⟨3, ![1, 1, 1024]⟩
abbrev S1024x4112 : Shape := ⟨2, ![1024, 4112]⟩
abbrev S4x8320x4112 : Shape := ⟨3, ![4, 8320, 4112]⟩
abbrev S4x8320x512 : Shape := ⟨3, ![4, 8320, 512]⟩
abbrev S4x8320x4x128 : Shape := ⟨4, ![4, 8320, 4, 128]⟩
abbrev S4x8320x4x64 : Shape := ⟨4, ![4, 8320, 4, 64]⟩
abbrev S1x8320x1x64 : Shape := ⟨4, ![1, 8320, 1, 64]⟩
abbrev S4x65x128x512 : Shape := ⟨4, ![4, 65, 128, 512]⟩
abbrev S4x65x512x128 : Shape := ⟨4, ![4, 65, 512, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S1x1024, .f32⟩
  | .hbm, ⟨3, _⟩ => ⟨S1x1024x4112, .f32⟩
  | .hbm, ⟨4, _⟩ => ⟨S1x16, .f32⟩
  | .hbm, ⟨5, _⟩ => ⟨S1x5x1024, .f32⟩
  | .hbm, ⟨6, _⟩ => ⟨S1x1024, .f32⟩
  | .hbm, ⟨7, _⟩ => ⟨S8320x64, .f32⟩
  | .hbm, ⟨8, _⟩ => ⟨S8320x64, .f32⟩
  | .hbm, ⟨9, _⟩ => ⟨S1x16x1024, .f32⟩
  | .hbm, ⟨10, _⟩ => ⟨S4x16x1024, .f32⟩
  | .hbm, ⟨11, _⟩ => ⟨S_, .f32⟩
  | .hbm, ⟨12, _⟩ => ⟨S4x112x1024, .f32⟩
  | .hbm, ⟨13, _⟩ => ⟨S4x8320x1024, .f32⟩
  | .hbm, ⟨14, _⟩ => ⟨S1024, .f32⟩
  | .hbm, ⟨15, _⟩ => ⟨S4x8320x1024, .f32⟩
  | .hbm, ⟨16, _⟩ => ⟨S_, .f32⟩
  | .hbm, ⟨17, _⟩ => ⟨S4x8320, .f32⟩
  | .hbm, ⟨18, _⟩ => ⟨S4x8320x1, .f32⟩
  | .hbm, ⟨19, _⟩ => ⟨S_, .f32⟩
  | .hbm, ⟨20, _⟩ => ⟨S4x8320x1, .f32⟩
  | .hbm, ⟨21, _⟩ => ⟨S4x8320x1, .f32⟩
  | .hbm, ⟨22, _⟩ => ⟨S_, .f32⟩
  | .hbm, ⟨23, _⟩ => ⟨S4x8320x1, .f32⟩
  | .hbm, ⟨24, _⟩ => ⟨S4x8320x1, .f32⟩
  | .hbm, ⟨25, _⟩ => ⟨S4x8320x1, .f32⟩
  | .hbm, ⟨26, _⟩ => ⟨S4x8320x1024, .f32⟩
  | .hbm, ⟨27, _⟩ => ⟨S4x8320x1024, .f32⟩
  | .hbm, ⟨28, _⟩ => ⟨S1x1x1024, .f32⟩
  | .hbm, ⟨29, _⟩ => ⟨S4x8320x1024, .f32⟩
  | .hbm, ⟨30, _⟩ => ⟨S4x8320x1024, .f32⟩
  | .hbm, ⟨31, _⟩ => ⟨S1024x4112, .f32⟩
  | .hbm, ⟨32, _⟩ => ⟨S4x8320x4112, .f32⟩
  | .hbm, ⟨33, _⟩ => ⟨S4x8320x512, .f32⟩
  | .hbm, ⟨34, _⟩ => ⟨S4x8320x4x128, .f32⟩
  | .hbm, ⟨35, _⟩ => ⟨S4x8320x4x64, .f32⟩
  | .hbm, ⟨36, _⟩ => ⟨S4x8320x4x64, .f32⟩
  | .hbm, ⟨37, _⟩ => ⟨S1x8320x1x64, .f32⟩
  | .hbm, ⟨38, _⟩ => ⟨S1x8320x1x64, .f32⟩
  | .hbm, ⟨39, _⟩ => ⟨S4x8320x4x64, .f32⟩
  | .hbm, ⟨40, _⟩ => ⟨S4x8320x4x64, .f32⟩
  | .hbm, ⟨41, _⟩ => ⟨S4x8320x4x64, .f32⟩
  | .hbm, ⟨42, _⟩ => ⟨S4x8320x4x64, .f32⟩
  | .hbm, ⟨43, _⟩ => ⟨S4x8320x4x64, .f32⟩
  | .hbm, ⟨44, _⟩ => ⟨S4x8320x4x64, .f32⟩
  | .hbm, ⟨45, _⟩ => ⟨S4x8320x4x64, .f32⟩
  | .hbm, ⟨46, _⟩ => ⟨S4x8320x4x64, .f32⟩
  | .hbm, ⟨47, _⟩ => ⟨S4x8320x4x64, .f32⟩
  | .hbm, ⟨48, _⟩ => ⟨S4x8320x4x64, .f32⟩
  | .hbm, ⟨49, _⟩ => ⟨S4x8320x4x128, .f32⟩
  | .hbm, ⟨50, _⟩ => ⟨S4x8320x512, .f32⟩
  | .hbm, ⟨51, _⟩ => ⟨S_, .f32⟩
  | .hbm, ⟨52, _⟩ => ⟨S4x8320x512, .f32⟩
  | .hbm, ⟨53, _⟩ => ⟨S4x8320x512, .f32⟩
  | .hbm, ⟨54, _⟩ => ⟨S4x8320x512, .f32⟩
  | .hbm, ⟨55, _⟩ => ⟨S4x8320x4x128, .f32⟩
  | .hbm, ⟨56, _⟩ => ⟨S4x8320x4x64, .f32⟩
  | .hbm, ⟨57, _⟩ => ⟨S4x8320x4x64, .f32⟩
  | .hbm, ⟨58, _⟩ => ⟨S1x8320x1x64, .f32⟩
  | .hbm, ⟨59, _⟩ => ⟨S1x8320x1x64, .f32⟩
  | .hbm, ⟨60, _⟩ => ⟨S4x8320x4x64, .f32⟩
  | .hbm, ⟨61, _⟩ => ⟨S4x8320x4x64, .f32⟩
  | .hbm, ⟨62, _⟩ => ⟨S4x8320x4x64, .f32⟩
  | .hbm, ⟨63, _⟩ => ⟨S4x8320x4x64, .f32⟩
  | .hbm, ⟨64, _⟩ => ⟨S4x8320x4x64, .f32⟩
  | .hbm, ⟨65, _⟩ => ⟨S4x8320x4x64, .f32⟩
  | .hbm, ⟨66, _⟩ => ⟨S4x8320x4x64, .f32⟩
  | .hbm, ⟨67, _⟩ => ⟨S4x8320x4x64, .f32⟩
  | .hbm, ⟨68, _⟩ => ⟨S4x8320x4x64, .f32⟩
  | .hbm, ⟨69, _⟩ => ⟨S4x8320x4x64, .f32⟩
  | .hbm, ⟨70, _⟩ => ⟨S4x8320x4x128, .f32⟩
  | .hbm, ⟨71, _⟩ => ⟨S4x8320x512, .f32⟩
  | .hbm, ⟨72, _⟩ => ⟨S4x65x128x512, .f32⟩
  | .hbm, ⟨73, _⟩ => ⟨S4x65x512x128, .f32⟩
  | .hbm, ⟨74, _⟩ => ⟨S4x65x512x128, .bf16⟩
  | .hbm, ⟨75, _⟩ => ⟨S4x8320x512, .bf16⟩
  | .hbm, ⟨76, _⟩ => ⟨S4x8320x512, .f32⟩
  | .hbm, ⟨77, _⟩ => ⟨S4x65x128x512, .f32⟩
  | .hbm, ⟨78, _⟩ => ⟨S4x65x512x128, .f32⟩
  | .hbm, ⟨79, _⟩ => ⟨S4x65x512x128, .bf16⟩
  | .hbm, ⟨80, _⟩ => ⟨S4x8320x512, .f32⟩
  | .hbm, ⟨81, _⟩ => ⟨S4x65x128x512, .f32⟩
  | .hbm, ⟨82, _⟩ => ⟨S4x65x512x128, .f32⟩
  | .hbm, ⟨83, _⟩ => ⟨S4x8320x512, .f32⟩
  | .hbm, ⟨84, _⟩ => ⟨S4x65x128x512, .f32⟩
  | .hbm, ⟨85, _⟩ => ⟨S4x65x512x128, .f32⟩
  | .hbm, ⟨86, _⟩ => ⟨S4x65x512x128, .bf16⟩
  | .hbm, ⟨87, _⟩ => ⟨S4x8320x512, .f32⟩
  | .hbm, ⟨88, _⟩ => ⟨S4x65x128x512, .f32⟩
  | .hbm, ⟨89, _⟩ => ⟨S4x65x512x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩

abbrev nD : Nat := 1
abbrev τ : Topo := Topo.v7x

variable {F : FTy → Type} [FloatOps F]
-- ==== Proof.FfnStep.lean ====
module
public import proofs.«01_k».proof.Proof.Gen.Kernel2Ideal.Value
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen
variable (m : (ℓ : Loc nD τ sig) → Buf (Elt Ideal) ℓ)

/-- The token block of a point: the first 1024 lanes of its rows. -/
def xblk (c : Dev nD) (t : Fin cfg0.N) : Vec Ideal S2x1x1040x1024 .bf16 :=
  View.ld (X0_0 m c t) (Rect.unit (s := S2x1x1040x1152) ![0, 0, 0, 0] S2x1x1040x1024.size inb_S2x1x1040x1152_S2x1x1040x1024_0_0_0_0)

/-- The gate lanes of a point: the last 128 lanes of its rows. -/
def gblk (c : Dev nD) (t : Fin cfg0.N) : Vec Ideal S2x1x1040x128 .bf16 :=
  View.ld (X0_0 m c t) (Rect.unit (s := S2x1x1040x1152) ![0, 0, 0, 1024] S2x1x1040x128.size inb_S2x1x1040x1152_S2x1x1040x128_0_0_0_1024)

/-- At the first point of a run the accumulator is the point's product over zero. -/
theorem acc_reset (c : Dev nD) (t : Fin cfg0.N) (h : t.val % 11 = 0) :
    (outsAt0 m c t.val t.isLt).2 = k0_pay2 (xblk m c t) (iblk m c 1 t) (iblk m c 2 t) (k0_pay1 (F := Ideal)) (iblk m c 3 t) := by
  rw [outsAt0_A m c t h (by omega)]; frame_out
  rfl

/-- At every later point it is the product over what the point before left. -/
theorem acc_step (c : Dev nD) (t : Fin cfg0.N) (h : ¬ t.val % 11 = 0) :
    (outsAt0 m c t.val t.isLt).2 = k0_pay2 (xblk m c t) (iblk m c 1 t) (iblk m c 2 t) (outsAt0 m c (t.val - 1) (Nat.lt_of_le_of_lt (Nat.sub_le _ _) t.isLt)).2 (iblk m c 3 t) := by
  by_cases h1 : t.val % 11 = 10
  · rw [outsAt0_C m c t h h1]; frame_out
    exact congrArg (fun a => k0_pay2 (xblk m c t) (iblk m c 1 t) (iblk m c 2 t) a (iblk m c 3 t)) ((Memref.isWhole_whole _).read_unread _)
  · rw [outsAt0_B m c t h h1]; frame_out
    exact congrArg (fun a => k0_pay2 (xblk m c t) (iblk m c 1 t) (iblk m c 2 t) a (iblk m c 3 t)) ((Memref.isWhole_whole _).read_unread _)

/-- At the last point of a run the output block is the accumulator times the gates, with the rows past the capacity zero. -/
theorem out_last (c : Dev nD) (t : Fin cfg0.N) (h : t.val % 11 = 10) :
    (outsAt0 m c t.val t.isLt).1 = View.canon
      [⟨Rect.unit ![0, 0, 1040, 0] ![2, 1, 128, 1024] inb_S2x1x1168x1024_S2x1x128x1024_0_0_1040_0, k0_pay4 (F := Ideal)⟩,
       ⟨Rect.unit ![0, 0, 0, 0] ![2, 1, 1040, 1024] inb_S2x1x1168x1024_S2x1x1040x1024_0_0_0_0,
          k0_pay3 (grid0.coords t) (gblk m c t) (outsAt0 m c t.val t.isLt).2⟩] := by
  rw [acc_step m c t (by omega), outsAt0_C m c t (by omega) h]; frame_out
  exact congrArg (fun a : Vec Ideal S2080x1024 .f32 => View.canon (Val := Elt Ideal) (s := S2x1x1168x1024) (e := .bf16)
      [⟨Rect.unit ![0, 0, 1040, 0] ![2, 1, 128, 1024] inb_S2x1x1168x1024_S2x1x128x1024_0_0_1040_0, k0_pay4 (F := Ideal)⟩,
       ⟨Rect.unit ![0, 0, 0, 0] ![2, 1, 1040, 1024] inb_S2x1x1168x1024_S2x1x1040x1024_0_0_0_0,
          k0_pay3 (grid0.coords t) (gblk m c t) (k0_pay2 (xblk m c t) (iblk m c 1 t) (iblk m c 2 t) a (iblk m c 3 t))⟩])
    ((Memref.isWhole_whole _).read_unread _)
/-- Where each window's block lies at a point: expert `t / 22`, batch pair `t / 11 % 2`, hidden block `t % 11`. -/
theorem idx : ∀ t : Fin cfg0.N, win0_0.index t = ![t.val / 11 % 2, t.val / 22, 0, 0] ∧ win0_1.index t = ![t.val / 22, 0, t.val % 11]
    ∧ win0_2.index t = ![t.val / 22, 0, t.val % 11] ∧ win0_3.index t = ![t.val / 22, t.val % 11, 0]
    ∧ win0_4.index t = ![t.val / 11 % 2, t.val / 22, 0, 0] ∧ (grid0.coords t 0).val = t.val / 22 ∧ t.val / 22 < 16 :=
  (by decide +kernel : ∀ t : Fin grid0.N, _)

/-- No transfer of the token window is cut, so its buffer is the array's block. -/
theorem X0_at (c : Dev nD) (t : Fin cfg0.N) (x : S2x1x1040x1152.Idx) (j : S4x16x1104x1152.Idx)
    (h0 : (j 0 : ℕ) = t.val / 11 % 2 * 2 + x 0) (h1 : (j 1 : ℕ) = t.val / 22) (h2 : (j 2 : ℕ) = x 2) (h3 : (j 3 : ℕ) = x 3) :
    X0_0 m c t x = m ((c : Thread nD τ).loc main_arg0) j := by
  unfold X0_0 Pipeline.Window.fill; rw [dif_pos (moved0_0 t x)]
  blk_ext [iblk, V, idx t]

/-- The token block at coordinates. -/
theorem xblk_at (c : Dev nD) (t : Fin cfg0.N) (x : S2x1x1040x1024.Idx) (j : S4x16x1104x1152.Idx)
    (h0 : (j 0 : ℕ) = t.val / 11 % 2 * 2 + x 0) (h1 : (j 1 : ℕ) = t.val / 22) (h2 : (j 2 : ℕ) = x 2) (h3 : (j 3 : ℕ) = x 3) :
    xblk m c t x = m ((c : Thread nD τ).loc main_arg0) j := by
  pointwise [xblk]
  refine X0_at m c t _ j ?_ ?_ ?_ ?_ <;> (try simp only [ix4]) <;> assumption

/-- The gate block at coordinates. -/
theorem gblk_at (c : Dev nD) (t : Fin cfg0.N) (x : S2x1x1040x128.Idx) (j : S4x16x1104x1152.Idx)
    (h0 : (j 0 : ℕ) = t.val / 11 % 2 * 2 + x 0) (h1 : (j 1 : ℕ) = t.val / 22) (h2 : (j 2 : ℕ) = x 2) (h3 : (j 3 : ℕ) = 1024 + x 3) :
    gblk m c t x = m ((c : Thread nD τ).loc main_arg0) j := by
  pointwise [gblk]
  refine X0_at m c t _ j ?_ ?_ ?_ ?_ <;> (try simp only [ix4]) <;> assumption

/-- The gate weights' block at coordinates. -/
theorem wg_at (c : Dev nD) (t : Fin cfg0.N) (x : S1x1024x256.Idx) (j : S1x16x1024x2816.Idx)
    (h1 : (j 1 : ℕ) = t.val / 22) (h2 : (j 2 : ℕ) = x 1) (h3 : (j 3 : ℕ) = t.val % 11 * 256 + x 2) :
    iblk m c 1 t x = m ((c : Thread nD τ).loc main_arg1) j := by
  blk_simp [iblk]; entry_read; pointwise; blk_ext [idx t]
/-- The up weights' block at coordinates. -/
theorem wu_at (c : Dev nD) (t : Fin cfg0.N) (x : S1x1024x256.Idx) (j : S1x16x1024x2816.Idx)
    (h1 : (j 1 : ℕ) = t.val / 22) (h2 : (j 2 : ℕ) = x 1) (h3 : (j 3 : ℕ) = t.val % 11 * 256 + x 2) :
    iblk m c 2 t x = m ((c : Thread nD τ).loc main_arg2) j := by
  blk_simp [iblk]; entry_read; pointwise; blk_ext [idx t]
/-- The down weights' block at coordinates. -/
theorem wd_at (c : Dev nD) (t : Fin cfg0.N) (x : S1x256x1024.Idx) (j : S1x16x2816x1024.Idx)
    (h1 : (j 1 : ℕ) = t.val / 22) (h2 : (j 2 : ℕ) = t.val % 11 * 256 + x 1) (h3 : (j 3 : ℕ) = x 2) :
    iblk m c 3 t x = m ((c : Thread nD τ).loc main_arg3) j := by
  blk_simp [iblk]; entry_read; pointwise; blk_ext [idx t]
end Cert.Kernel2Ideal.Ffn
-- ==== Proof.FfnPay.lean ====
module
public import proofs.«01_k».proof.Proof.Gen.Kernel2Ideal.Value
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen
/-- The payload that clears the accumulator is zero. -/
theorem pay1_at (j : S2080x1024.Idx) : k0_pay1 (F := Ideal) j = 0 := by pointwise [k0_pay1]
/-- One hidden lane's contribution: the gated product, weighted. -/
def hid (g u w : EReal) : EReal := g * Ideal.logistic g * u * w

/-- The accumulating payload at an index. -/
theorem pay2_at (x : Vec Ideal S2x1x1040x1024 .bf16) (wg wu : Vec Ideal S1x1024x256 .f32) (acc : Vec Ideal S2080x1024 .f32)
    (wd : Vec Ideal S1x256x1024 .f32) (j : S2080x1024.Idx) : k0_pay2 x wg wu acc wd j = acc j + ∑ f : Fin 256,
      hid (∑ k : Fin 1024, x (ix4 ⟨(j 0 : ℕ) / 1040, by idx_bounds; omega⟩ 0 ⟨(j 0 : ℕ) % 1040, by omega⟩ k) * wg (ix3 0 k f))
        (∑ k : Fin 1024, x (ix4 ⟨(j 0 : ℕ) / 1040, by idx_bounds; omega⟩ 0 ⟨(j 0 : ℕ) % 1040, by omega⟩ k) * wu (ix3 0 k f))
        (wd (ix3 0 f (j 1))) := by
  pointwise [k0_pay2]
  rfl

/-- The lanes an expert's three gate summands lie on. -/
theorem lanes : ∀ (e : Fin 16) (x : Fin 128),
    (IntOp.ori (IntOp.ori (IntOp.cmpi CmpIPredicate.eq (BitVec.ofNat 32 x.val) (BitVec.ofNat 32 e.val))
        (IntOp.cmpi CmpIPredicate.eq (BitVec.ofNat 32 x.val) (Scalar.addi (BitVec.ofNat 32 e.val) 16#32)))
        (IntOp.cmpi CmpIPredicate.eq (BitVec.ofNat 32 x.val) (Scalar.addi (BitVec.ofNat 32 e.val) 32#32)) = 1#1) ↔
      (x.val = 0 * 16 + e.val ∨ x.val = 1 * 16 + e.val ∨ x.val = 2 * 16 + e.val) := by decide +kernel

/-- The stored payload at an index: the accumulator times the sum of the expert's three gate summands. -/
theorem pay3_at (i : grid0.Coords) (g : Vec Ideal S2x1x1040x128 .bf16) (acc : Vec Ideal S2080x1024 .f32) (j : S2x1x1040x1024.Idx) :
    k0_pay3 i g acc j = acc (ix2 ⟨(j 0 : ℕ) * 1040 + (j 2 : ℕ), by idx_bounds; omega⟩ (j 3)) *
      ∑ s : Fin 3, g (ix4 (j 0) 0 (j 2) ⟨s.val * 16 + (i 0).val, by have := (i 0).isLt; have : (i 0).val < 16 := this; omega⟩) := by
  pointwise [k0_pay3]
  have hi : (i 0).val < 16 := (i 0).isLt
  refine congrArg _ ?_
  have e : ∀ x : Fin 128, Scalar.select
          (IntOp.ori
            (IntOp.ori (IntOp.cmpi CmpIPredicate.eq (BitVec.ofNat 32 ↑x) (BitVec.ofNat 32 ↑(i 0)))
              (IntOp.cmpi CmpIPredicate.eq (BitVec.ofNat 32 ↑x) (Scalar.addi (BitVec.ofNat 32 ↑(i 0)) 16#32)))
            (IntOp.cmpi CmpIPredicate.eq (BitVec.ofNat 32 ↑x) (Scalar.addi (BitVec.ofNat 32 ↑(i 0)) 32#32)))
          (g (ix4 (j 0) 0 (j 2) x)) 0 = if x.val = 0 * 16 + (i 0).val ∨ x.val = 1 * 16 + (i 0).val ∨ x.val = 2 * 16 + (i 0).val then g (ix4 (j 0) 0 (j 2) x) else 0 := by
    intro x
    unfold Scalar.select
    exact if_congr (lanes ⟨(i 0).val, hi⟩ x) rfl rfl
  simp only [e]
  rw [← Finset.sum_filter]
  symm
  refine Finset.sum_bij (fun (s : Fin 3) _ => (⟨s.val * 16 + (i 0).val, by omega⟩ : Fin 128)) ?_ ?_ ?_ ?_
  · intro s _
    rw [Finset.mem_filter]
    refine ⟨Finset.mem_univ _, ?_⟩
    have := s.isLt
    have h3 : s.val = 0 ∨ s.val = 1 ∨ s.val = 2 := by omega
    show s.val * 16 + (i 0).val = 0 * 16 + (i 0).val ∨ s.val * 16 + (i 0).val = 1 * 16 + (i 0).val ∨ s.val * 16 + (i 0).val = 2 * 16 + (i 0).val
    rcases h3 with h | h | h <;> rw [h]
    · exact .inl rfl
    · exact .inr (.inl rfl)
    · exact .inr (.inr rfl)
  · intro a _ b _ h
    have := congrArg Fin.val h
    apply Fin.ext
    dsimp only at this
    omega
  · intro x hx
    rw [Finset.mem_filter] at hx
    rcases hx.2 with h | h | h
    · exact ⟨0, Finset.mem_univ _, Fin.ext h.symm⟩
    · exact ⟨1, Finset.mem_univ _, Fin.ext h.symm⟩
    · exact ⟨2, Finset.mem_univ _, Fin.ext h.symm⟩
  · intro s _
    rfl

/-- The payload stored past the capacity is zero. -/
theorem pay4_at (j : S2x1x128x1024.Idx) : k0_pay4 (F := Ideal) j = 0 := by pointwise [k0_pay4]
end Cert.Kernel2Ideal.Ffn
-- ==== Proof.FfnRef.lean ====
module
public import proofs.«01_k».proof.Proof.Gen.Reference2Ideal.Run
public import Idealize.ShloMosaic.Lib.Pipeline.ValueKit
@[expose] public section
set_option maxRecDepth 16384
noncomputable section
open Idealize.ShloMosaic Idealize.ShloMosaic.TcCoe Idealize.SL.Sem
namespace Cert.Reference2Ideal.Ffn
open Cert.Reference2Ideal Cert.Reference2Ideal.Gen

/-- The reference's own term over its four arguments: the routed tokens, and the gate, up and down weights. -/
def REF (a0 : FVec Ideal S4x16x1104x1152 .bf16) (a1 : FVec Ideal S1x16x1024x2816 .f32) (a2 : FVec Ideal S1x16x1024x2816 .f32)
    (a3 : FVec Ideal S1x16x2816x1024 .f32) : FVec Ideal S4x16x1168x1024 .bf16 :=
  truncf .bf16 (concatenate S4x16x1168x1024 2 [⟨S4x16x1040x1024, (mulf (transpose S4x16x1040x1024 [2, 0, 3, 1] (Host.dotGeneral dot_S16x2816x1024_S4x16x1040x2816_S16x1024x4x1040_1_3_2_02_0_1 none (shapeCast _ a3 shapeCasts_S1x16x2816x1024_S16x2816x1024) (mulf (mulf (transpose S4x16x1040x2816 [2, 0, 3, 1] (Host.dotGeneral dot_S16x1024x2816_S4x16x1040x1024_S16x2816x4x1040_1_3_2_02_0_1 none (shapeCast _ a1 shapeCasts_S1x16x1024x2816_S16x1024x2816) (extf .f32 (extractStridedSlice S4x16x1040x1024 ![0, 0, 0, 0] a0 slices_S4x16x1104x1152_S4x16x1040x1024_0_0_0_0) bitsLt_bf16_f32)) transposes_S16x2816x4x1040_S4x16x1040x2816_2_0_3_1) (Host.divf (broadcastInDim S4x16x1040x2816 ![] bcast_S_S4x16x1040x2816 (constant S_ .f32 0x3F800000#32)) (addf (broadcastInDim S4x16x1040x2816 ![] bcast_S_S4x16x1040x2816 (constant S_ .f32 0x3F800000#32)) (Host.exp (Host.negf (transpose S4x16x1040x2816 [2, 0, 3, 1] (Host.dotGeneral dot_S16x1024x2816_S4x16x1040x1024_S16x2816x4x1040_1_3_2_02_0_1 none (shapeCast _ a1 shapeCasts_S1x16x1024x2816_S16x1024x2816) (extf .f32 (extractStridedSlice S4x16x1040x1024 ![0, 0, 0, 0] a0 slices_S4x16x1104x1152_S4x16x1040x1024_0_0_0_0) bitsLt_bf16_f32)) transposes_S16x2816x4x1040_S4x16x1040x2816_2_0_3_1)))))) (transpose S4x16x1040x2816 [2, 0, 3, 1] (Host.dotGeneral dot_S16x1024x2816_S4x16x1040x1024_S16x2816x4x1040_1_3_2_02_0_1 none (shapeCast _ a2 shapeCasts_S1x16x1024x2816_S16x1024x2816) (extf .f32 (extractStridedSlice S4x16x1040x1024 ![0, 0, 0, 0] a0 slices_S4x16x1104x1152_S4x16x1040x1024_0_0_0_0) bitsLt_bf16_f32)) transposes_S16x2816x4x1040_S4x16x1040x2816_2_0_3_1))) transposes_S16x1024x4x1040_S4x16x1040x1024_2_0_3_1) (broadcastInDim S4x16x1040x1024 ![0, 1, 2, 3] bcast_S4x16x1040x1_S4x16x1040x1024_0_1_2_3 (broadcastInDim S4x16x1040x1 ![0, 1, 2] bcast_S4x16x1040_S4x16x1040x1_0_1_2 (Host.reduceAdd (select (broadcastInDim S4x16x1040x16 ![0, 1, 2, 3] bcast_S1x16x1x16_S4x16x1040x16_0_1_2_3 (cmpf .ogt (broadcastInDim S1x16x1x16 ![1, 3] bcast_S16x16_S1x16x1x16_1_3 (uitofp .f32 (cmpi .eq (addi (iotaInDim S16x16 32 0) (broadcastInDim S16x16 ![] bcast_S_S16x16 (constantI S_ 32 0#32))) (iotaInDim S16x16 32 1))) : FVec Ideal S1x16x1x16 .f32) (broadcastInDim S1x16x1x16 ![] bcast_S_S1x16x1x16 (constant S_ .f32 0x00000000#32)))) (Host.reduceAdd (shapeCast _ (extf .f32 (extractStridedSlice S4x16x1040x48 ![0, 0, 0, 1024] a0 slices_S4x16x1104x1152_S4x16x1040x48_0_0_0_1024) bitsLt_bf16_f32) shapeCasts_S4x16x1040x48_S4x16x1040x3x16) (constant S_ .f32 0x00000000#32) reducesTo_S4x16x1040x3x16_S4x16x1040x16_d3 h_S_) (broadcastInDim S4x16x1040x16 ![] bcast_S_S4x16x1040x16 (id (constant S_ .f32 0x00000000#32)))) (constant S_ .f32 0x00000000#32) reducesTo_S4x16x1040x16_S4x16x1040_d3 h_S_))))⟩, ⟨S4x16x128x1024, (broadcastInDim S4x16x128x1024 ![] bcast_S_S4x16x128x1024 (constant S_ .f32 0x00000000#32))⟩] concatenates_S4x16x1040x1024_S4x16x128x1024_S4x16x1168x1024_d2) bitsLt_bf16_f32

/-- The identity's entries, as the comparison with zero reads them. -/
theorem own_iff : ∀ (e x : Fin 16),
    (IntOp.cmpi CmpIPredicate.eq (IntOp.addi (BitVec.ofNat 32 e.val) 0#32) (BitVec.ofNat 32 x.val) = 1#1) ↔ e = x := by decide +kernel

/-- The identity's entries are positive on its diagonal alone. -/
theorem own_pos (e x : Fin 16) :
    (0 < FloatOps.uitofp (F := Ideal) FTy.f32 (IntOp.cmpi CmpIPredicate.eq (IntOp.addi (BitVec.ofNat 32 e.val) 0#32) (BitVec.ofNat 32 x.val))) ↔ e = x := by
  rw [← own_iff e x]
  generalize IntOp.cmpi CmpIPredicate.eq (IntOp.addi (BitVec.ofNat 32 e.val) 0#32) (BitVec.ofNat 32 x.val) = v
  show (0 : EReal) < ((v.toNat : ℝ) : EReal) ↔ _
  have : ∀ v : BitVec 1, v = 0#1 ∨ v = 1#1 := by decide
  rcases this v with h | h <;> subst h <;> simp

/-- The reference at an index: below the capacity the expert's product times the token's own gate, past it zero. -/
theorem ref_at (a0 : FVec Ideal S4x16x1104x1152 .bf16) (a1 : FVec Ideal S1x16x1024x2816 .f32) (a2 : FVec Ideal S1x16x1024x2816 .f32)
    (a3 : FVec Ideal S1x16x2816x1024 .f32) (b : Fin 4) (e : Fin 16) (r : Fin 1168) (d : Fin 1024) : REF a0 a1 a2 a3 (ix4 b e r d) =
      if h : r.val < 1040 then
        (∑ f : Fin 2816, a3 (ix4 0 e f d) *
          ((∑ k : Fin 1024, a1 (ix4 0 e k f) * a0 (ix4 b e ⟨r.val, by omega⟩ ⟨k.val, by omega⟩)) *
            Ideal.logistic (∑ k : Fin 1024, a1 (ix4 0 e k f) * a0 (ix4 b e ⟨r.val, by omega⟩ ⟨k.val, by omega⟩)) *
            ∑ k : Fin 1024, a2 (ix4 0 e k f) * a0 (ix4 b e ⟨r.val, by omega⟩ ⟨k.val, by omega⟩))) *
        ∑ s : Fin 3, a0 (ix4 b e ⟨r.val, by omega⟩ ⟨1024 + (s.val * 16 + e.val), by omega⟩)
      else 0 := by
  pointwise [REF]
  split
  · refine congrArg₂ (fun a b : EReal => a * b) rfl ?_
    have z : id (constant (F := Ideal) S_ FTy.f32 0#32) ix0 = (0 : EReal) := by
      show constant (F := Ideal) S_ FTy.f32 0#32 ix0 = (0 : EReal)
      pointwise
    refine (Finset.sum_congr rfl fun x _ => if_congr (own_pos e x) rfl z).trans ?_
    rw [Finset.sum_ite_eq]
    simp
  · rfl
end Cert.Reference2Ideal.Ffn
-- ==== Proof.FfnFinal.lean ====
module
public import proofs.«01_k».proof.Proof.FfnStep
public import proofs.«01_k».proof.Proof.FfnPay
public import proofs.«01_k».proof.Proof.FfnRef
@[expose] public section
set_option maxRecDepth 16384
noncomputable section
open Idealize.ShloMosaic Idealize.ShloMosaic.TcCoe Idealize.SL.Sem
open Idealize.ShloMosaic.Tactic
open Idealize.ShloMosaic.Pipeline (Dat)
namespace Cert.Kernel2Ideal.Ffn
open Cert.Kernel2Ideal Cert.Kernel2Ideal.Gen
variable (m : (ℓ : Loc nD τ sig) → Buf (Elt Ideal) ℓ)

/-- The arrays of the certificate's four arguments. -/
abbrev A0 (c : Dev nD) : FVec Ideal S4x16x1104x1152 .bf16 := m ((c : Thread nD τ).loc main_arg0)
abbrev A1 (c : Dev nD) : FVec Ideal S1x16x1024x2816 .f32 := m ((c : Thread nD τ).loc main_arg1)
abbrev A2 (c : Dev nD) : FVec Ideal S1x16x1024x2816 .f32 := m ((c : Thread nD τ).loc main_arg2)
abbrev A3 (c : Dev nD) : FVec Ideal S1x16x2816x1024 .f32 := m ((c : Thread nD τ).loc main_arg3)

/-- The accumulator at a run's last point: the sum over all 2816 hidden lanes. -/
theorem acc_at (c : Dev nD) (t : Fin cfg0.N) (h : t.val % 11 = 10) (j : S2080x1024.Idx) (b : Fin 4) (e : Fin 16) (r : Fin 1104)
    (hb : (b : ℕ) = t.val / 11 % 2 * 2 + (j 0 : ℕ) / 1040) (he : (e : ℕ) = t.val / 22) (hr : (r : ℕ) = (j 0 : ℕ) % 1040) :
    (outsAt0 m c t.val t.isLt).2 j = ∑ f : Fin 2816,
      hid (∑ k : Fin 1024, A0 m c (ix4 b e r ⟨k.val, by omega⟩) * A1 m c (ix4 0 e k f))
        (∑ k : Fin 1024, A0 m c (ix4 b e r ⟨k.val, by omega⟩) * A2 m c (ix4 0 e k f))
        (A3 m c (ix4 0 e f (j 1))) := by
  rw [Pipeline.eq_sum_fin_of_reset_step_apply_of_flush (M := EReal) (fun n h => (outsAt0 m c n h).2) 11 (fun _ => 0) _
    (fun t h j => by rw [acc_reset m c t h, pay2_at, pay1_at])
    (fun t h j => by rw [acc_step m c t h, pay2_at])
    t h j, zero_add]
  refine Fin.sum_mul_add_congr fun s k hl => ?_
  have ht : t.val < 352 := lt_of_lt_of_eq t.isLt N_0
  have hs := s.isLt
  have hj := (j 0).isLt
  have hp : 11 * (t.val / 11) + s.val < cfg0.N := Pipeline.run_point_lt_of_flush t h s
  have q1 : (11 * (t.val / 11) + s.val) / 11 = t.val / 11 := by omega
  have q2 : (11 * (t.val / 11) + s.val) / 22 = t.val / 22 := by omega
  have q3 : (11 * (t.val / 11) + s.val) % 11 = s.val := by omega
  have ex : ∀ k', xblk m c ⟨11 * (t.val / 11) + s.val, hp⟩ (ix4 ⟨(j 0 : ℕ) / 1040, by idx_bounds; omega⟩ 0 ⟨(j 0 : ℕ) % 1040, by omega⟩ k')
      = A0 m c (ix4 b e r ⟨k'.val, by omega⟩) := fun k' =>
    xblk_at m c _ _ _ (by show (b : ℕ) = (11 * (t.val / 11) + s.val) / 11 % 2 * 2 + (j 0 : ℕ) / 1040; omega)
      (by show (e : ℕ) = (11 * (t.val / 11) + s.val) / 22; omega) hr rfl
  have eg : ∀ k', (iblk m c 1 ⟨11 * (t.val / 11) + s.val, hp⟩ : Vec Ideal S1x1024x256 .f32) (ix3 0 k' k) = A1 m c (ix4 0 e k' ⟨s.val * 256 + k.val, hl⟩) := fun k' =>
    wg_at m c _ _ _ (by show (e : ℕ) = (11 * (t.val / 11) + s.val) / 22; omega) rfl
      (by show s.val * 256 + k.val = (11 * (t.val / 11) + s.val) % 11 * 256 + k.val; rw [q3])
  have eu : ∀ k', (iblk m c 2 ⟨11 * (t.val / 11) + s.val, hp⟩ : Vec Ideal S1x1024x256 .f32) (ix3 0 k' k) = A2 m c (ix4 0 e k' ⟨s.val * 256 + k.val, hl⟩) := fun k' =>
    wu_at m c _ _ _ (by show (e : ℕ) = (11 * (t.val / 11) + s.val) / 22; omega) rfl
      (by show s.val * 256 + k.val = (11 * (t.val / 11) + s.val) % 11 * 256 + k.val; rw [q3])
  have ed : (iblk m c 3 ⟨11 * (t.val / 11) + s.val, hp⟩ : Vec Ideal S1x256x1024 .f32) (ix3 0 k (j 1)) = A3 m c (ix4 0 e ⟨s.val * 256 + k.val, hl⟩ (j 1)) :=
    wd_at m c _ _ _ (by show (e : ℕ) = (11 * (t.val / 11) + s.val) / 22; omega)
      (by show s.val * 256 + k.val = (11 * (t.val / 11) + s.val) % 11 * 256 + k.val; rw [q3]) rfl
  rw [ed]
  simp only [ex, eg, eu]

/-- What a flushing point leaves at block index `y` is the reference at the array index it sits at. -/
theorem point (c : Dev nD) (t : Fin cfg0.N) (h : t.val % 11 = 10) (y : S2x1x1168x1024.Idx) :
    (outsAt0 m c t.val t.isLt).1 y = Cert.Reference2Ideal.Ffn.REF (A0 m c) (A1 m c) (A2 m c) (A3 m c) (((cfg0.win 4).blk t).view.emb y) := by
  rw [out_last m c t h]
  have ht : t.val < 352 := lt_of_lt_of_eq t.isLt N_0
  obtain ⟨b, hb⟩ : ∃ b : Fin 4, (b : ℕ) = t.val / 11 % 2 * 2 + (y 0 : ℕ) := ⟨⟨_, by idx_bounds; omega⟩, rfl⟩
  obtain ⟨e, he⟩ : ∃ e : Fin 16, (e : ℕ) = t.val / 22 := ⟨⟨_, by omega⟩, rfl⟩
  obtain ⟨r, hr⟩ : ∃ r : Fin 1168, (r : ℕ) = (y 2 : ℕ) := ⟨⟨_, by idx_bounds; omega⟩, rfl⟩
  obtain ⟨d, hd⟩ : ∃ d : Fin 1024, (d : ℕ) = (y 3 : ℕ) := ⟨⟨_, by idx_bounds; omega⟩, rfl⟩
  have ei : (((cfg0.win 4).blk t).view.emb y) = ix4 b e r d := by blk_ext [idx t]
  refine Eq.trans ?_ (congrArg (Cert.Reference2Ideal.Ffn.REF (A0 m c) (A1 m c) (A2 m c) (A3 m c)) ei).symm
  refine Eq.trans ?_ (Cert.Reference2Ideal.Ffn.ref_at ..).symm
  canon_tiles x hx using (View.cover_of_tiledBy _ ![2, 1, 16, 1024] (by sl_kernel_rfl) y)
  · rw [dif_neg (by omega)]
    exact pay4_at x
  · have hlt : r.val < 1040 := by omega
    rw [dif_pos hlt, pay3_at]
    have hc : ((grid0.coords t 0 : Fin _) : ℕ) = t.val / 22 := (idx t).2.2.2.2.2.1
    refine congrArg₂ (fun a b : EReal => a * b) ?_ ?_
    · refine (acc_at m c t h _ b e ⟨r.val, by omega⟩ ?_ he ?_).trans ?_
      · show (b : ℕ) = t.val / 11 % 2 * 2 + ((x 0 : ℕ) * 1040 + (x 2 : ℕ)) / 1040
        omega
      · show (r : ℕ) = ((x 0 : ℕ) * 1040 + (x 2 : ℕ)) % 1040
        omega
      · have exd : (x 3 : Fin 1024) = d := Fin.ext (by omega)
        refine Finset.sum_congr rfl fun f _ => ?_
        show hid _ _ (A3 m c (ix4 0 e f (x 3 : Fin 1024))) = _
        rw [exd]
        unfold hid
        rw [mul_comm]
        simp only [mul_comm (A0 m c _)]
    · refine Finset.sum_congr rfl fun s _ => ?_
      exact gblk_at m c t _ _ (by show (b : ℕ) = t.val / 11 % 2 * 2 + (x 0 : ℕ); omega) he
        (by show (r : ℕ) = (x 2 : ℕ); omega)
        (by show 1024 + (s.val * 16 + e.val) = 1024 + (s.val * 16 + (grid0.coords t 0).val); rw [hc, he])

/-- The result array after the run is the reference's term of the four arguments. -/
theorem final (c : Dev nD) : (dats m 0 c).arrAt 4 (cfgs 0).N = Cert.Reference2Ideal.Ffn.REF (A0 m c) (A1 m c) (A2 m c) (A3 m c) := by
  refine (dats m 0 c).arrAt_eq_of_covers 4 _ (by decide +kernel) fun t hf y => ?_
  blk_simp
  rw [after0_4]
  exact point m c t ((flush0_4 t).mp hf) y
end Cert.Kernel2Ideal.Ffn
-- ==== Proof.FfnClaims.lean ====
module
public import proofs.«01_k».proof.Defs
public import proofs.«01_k».proof.Proof.FfnFinal
public import proofs.«01_k».proof.Proof.Gen.Kernel2
public import proofs.«01_k».proof.Proof.Gen.Kernel2.Frame
public import Idealize.ShloMosaic.Lib.Quiescent
@[expose] public section
set_option maxRecDepth 16384
noncomputable section
open Idealize.ShloMosaic Idealize.ShloMosaic.TcCoe Idealize.SL.Sem
namespace Cert.Proof.Ffn

/-- The expert call runs, leaves its arguments as they were and ends with every counter at zero: the generated frame. -/
theorem frame_kernel : Cert.quiescent_Kernel2 (hKernel2 := Cert.Kernel2.Gen.facts) := fun m ρ _ => Cert.Kernel2.Gen.frame m ρ

/-- The same of the call read over the extended reals. -/
theorem frame_ideal : Cert.quiescent_Kernel2Ideal (hKernel2Ideal := Cert.Kernel2Ideal.Gen.facts) := fun m ρ _ =>
  Cert.Kernel2Ideal.Gen.frame m ρ

/-- The reference runs and leaves its arguments as they were. -/
theorem frame_reference : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The expert call and its reference end with equal result arrays over the extended reals, from equal arguments. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Value.G4 m c, Cert.Kernel2Ideal.Value.run (F := Ideal) m ρ, ?_⟩
  refine (θ_run Cert.Reference2Ideal.defs _ _).mono (fun r h c => ⟨(h c).1.trans ?_, (h c).2⟩)
    (Cert.Reference2Ideal.Value.run (F := Ideal) m' ρ')
  obtain ⟨h0, h1, h2, h3⟩ := hag c
  rw [h0, h1, h2, h3]
  exact (Cert.Kernel2Ideal.Ffn.final m c).symm.trans (Cert.Kernel2Ideal.Value.final4 m c)
end Cert.Proof.Ffn
-- ==== Proof.MixBlocks.lean ====
/-
  The values of one grid point of `mix_out` (the kernel read at the ideal instance): each value the body passes on is a function of the point
  and of the blocks its input windows hold, and the two pieces the body stores into each of its three outputs.
-/
module

public import proofs.«01_k».proof.Proof.Gen.KernelIdeal.Skeleton
public import proofs.«01_k».proof.Proof.Gen.KernelIdeal.Frame

@[expose] public section

set_option maxRecDepth 16384

noncomputable section

namespace Cert.KernelIdeal.Mix

open Cert.KernelIdeal Cert.KernelIdeal.Gen
open Idealize.ShloMosaic Idealize.ShloMosaic.TcCoe

variable {F : FTy → Type} [FloatOps F] [Named F]

/-- What the input windows' buffers hold at a point, window by window. -/
structure Blocks (F : FTy → Type) where
  x0 : Vec F S1x640x1024 .f32
  x1 : Vec F S128x1024 .f32
  x2 : Vec F S1x1x512x128 .f32
  x3 : Vec F S1x1x512x128 .f32
  x4 : Vec F S1x1x512x128 .f32
  x5 : Vec F S1x1x512x128 .f32
  x6 : Vec F S1x1x512x128 .f32
  x7 : Vec F S1x1x512x128 .f32
  x8 : Vec F S1x1x512x128 .f32
  x9 : Vec F S1x1x512x128 .f32
  x10 : Vec F S1x1x512x128 .f32
  x11 : Vec F S1x1x512x128 .f32
  x12 : Vec F S1x1x512x128 .f32
  x13 : Vec F S1x1x512x128 .f32
  x14 : Vec F S1x1x512x128 .f32
  x15 : Vec F S1x1x512x128 .f32
  x16 : Vec F S1x1x512x128 .f32
  x17 : Vec F S1x1x512x128 .f32
  x18 : Vec F S1x1x512x128 .f32
  x19 : Vec F S1x1x512x128 .f32
  x20 : Vec F S1x1x512x128 .f32
  x21 : Vec F S1x1x512x128 .f32
  x22 : Vec F S1x5x512x128 .f32
  x23 : Vec F S1x5x512x128 .f32
  x24 : Vec F S512x128 .f32
  x25 : Vec F S512x128 .f32
  x26 : Vec F S1024x1024 .bf16
  x27 : Vec F S1x1024 .f32
  x28 : Vec F S3072x128 .bf16

def v0 (i : grid0.Coords) (B : Blocks F) : Vec F S1x640x1024 .f32 := View.ld B.x0 (Rect.unit (s := S1x640x1024) ![0, 0, 0] S1x640x1024.size inb_S1x640x1024_S1x640x1024_0_0_0)
def v3 (i : grid0.Coords) (B : Blocks F) : Vec F S128x1024 .f32 := View.ld B.x1 (Rect.unit (s := S128x1024) ![0, 0] S128x1024.size inb_S128x1024_S128x1024_0_0)
def v18 (i : grid0.Coords) (B : Blocks F) : Vec F S1x1x512x128 .f32 := View.ld B.x2 (Rect.unit (s := S1x1x512x128) ![0, 0, 0, 0] S1x1x512x128.size inb_S1x1x512x128_S1x1x512x128_0_0_0_0)
def v20 (i : grid0.Coords) (B : Blocks F) : Vec F S1x1x512x128 .f32 := View.ld B.x7 (Rect.unit (s := S1x1x512x128) ![0, 0, 0, 0] S1x1x512x128.size inb_S1x1x512x128_S1x1x512x128_0_0_0_0)
def v23 (i : grid0.Coords) (B : Blocks F) : Vec F S512x128 .f32 := View.ld B.x24 (Rect.unit (s := S512x128) ![0, 0] S512x128.size inb_S512x128_S512x128_0_0)
def cst_16 (i : grid0.Coords) (B : Blocks F) : F .f32 := Scalar.ofBits .f32 0x43000000#32
def v8 (i : grid0.Coords) (B : Blocks F) : FVec F S640x1024 .f32 := k0_pay2 i (v0 i B) (v3 i B)
def v17 (i : grid0.Coords) (B : Blocks F) : IVec S640x1 1 := k0_pay3 i
def v22 (i : grid0.Coords) (B : Blocks F) : FVec F S512x128 .f32 := k0_pay4 (v18 i B) (v20 i B)
def v24 (i : grid0.Coords) (B : Blocks F) : FVec F S512x128 .f32 := k0_pay5 (v23 i B)
def v31 (i : grid0.Coords) (B : Blocks F) : FVec F S128x128 .f32 := k0_pay6 (v18 i B) (v20 i B)
def v34 (i : grid0.Coords) (B : Blocks F) : FVec F S1x128 .f32 := k0_pay7 (v18 i B) (v20 i B)
def v41 (i : grid0.Coords) (B : Blocks F) : FVec F S128x128 .f32 := k0_pay8 (v31 i B) (v34 i B) (cst_16 i B)
def v58 (i : grid0.Coords) (B : Blocks F) : FVec F S128x128 .f32 := k0_pay9 (v22 i B)
def v75 (i : grid0.Coords) (B : Blocks F) : FVec F S128x128 .f32 := k0_pay10 (v22 i B)
def v76 (i : grid0.Coords) (B : Blocks F) : FVec F S128x128 .f32 := k0_pay11 (v22 i B)
def v81 (i : grid0.Coords) (B : Blocks F) : FVec F S128x128 .f32 := k0_pay12 (v22 i B)
def v95 (i : grid0.Coords) (B : Blocks F) : Vec F S1x1x512x128 .f32 := View.ld B.x22 (Rect.unit (s := S1x5x512x128) ![0, 0, 0, 0] S1x1x512x128.size inb_S1x5x512x128_S1x1x512x128_0_0_0_0)
def v100 (i : grid0.Coords) (B : Blocks F) : Vec F S1x1x512x128 .f32 := View.ld B.x23 (Rect.unit (s := S1x5x512x128) ![0, 0, 0, 0] S1x1x512x128.size inb_S1x5x512x128_S1x1x512x128_0_0_0_0)
def v103 (i : grid0.Coords) (B : Blocks F) : Vec F S1x1x512x128 .f32 := View.ld B.x12 (Rect.unit (s := S1x1x512x128) ![0, 0, 0, 0] S1x1x512x128.size inb_S1x1x512x128_S1x1x512x128_0_0_0_0)
def v105 (i : grid0.Coords) (B : Blocks F) : Vec F S1x1x512x128 .f32 := View.ld B.x17 (Rect.unit (s := S1x1x512x128) ![0, 0, 0, 0] S1x1x512x128.size inb_S1x1x512x128_S1x1x512x128_0_0_0_0)
def v109 (i : grid0.Coords) (B : Blocks F) : Vec F S512x128 .f32 := View.ld B.x25 (Rect.unit (s := S512x128) ![0, 0] S512x128.size inb_S512x128_S512x128_0_0)
def v99 (i : grid0.Coords) (B : Blocks F) : FVec F S512x128 .f32 := k0_pay13 (v24 i B) (v41 i B) (v58 i B) (v75 i B) (v76 i B) (v81 i B) (v95 i B)
def v108 (i : grid0.Coords) (B : Blocks F) : FVec F S512x128 .f32 := k0_pay14 (v100 i B) (v103 i B) (v105 i B)
def v110 (i : grid0.Coords) (B : Blocks F) : FVec F S512x128 .f32 := k0_pay15 (v109 i B)
def v117 (i : grid0.Coords) (B : Blocks F) : FVec F S128x128 .f32 := k0_pay16 (v100 i B) (v103 i B) (v105 i B)
def v118 (i : grid0.Coords) (B : Blocks F) : FVec F S128x128 .f32 := k0_pay17 (v100 i B) (v103 i B) (v105 i B)
def v127 (i : grid0.Coords) (B : Blocks F) : FVec F S128x128 .f32 := k0_pay18 (v117 i B) (v118 i B)
def v144 (i : grid0.Coords) (B : Blocks F) : FVec F S128x128 .f32 := k0_pay19 (v108 i B)
def v161 (i : grid0.Coords) (B : Blocks F) : FVec F S128x128 .f32 := k0_pay20 (v108 i B)
def v162 (i : grid0.Coords) (B : Blocks F) : FVec F S128x128 .f32 := k0_pay21 (v108 i B)
def v164 (i : grid0.Coords) (B : Blocks F) : FVec F S1x128 .f32 := k0_pay22 (v108 i B)
def v183 (i : grid0.Coords) (B : Blocks F) : Vec F S1x1x512x128 .f32 := View.ld B.x3 (Rect.unit (s := S1x1x512x128) ![0, 0, 0, 0] S1x1x512x128.size inb_S1x1x512x128_S1x1x512x128_0_0_0_0)
def v185 (i : grid0.Coords) (B : Blocks F) : Vec F S1x1x512x128 .f32 := View.ld B.x8 (Rect.unit (s := S1x1x512x128) ![0, 0, 0, 0] S1x1x512x128.size inb_S1x1x512x128_S1x1x512x128_0_0_0_0)
def v188 (i : grid0.Coords) (B : Blocks F) : Vec F S512x128 .f32 := View.ld B.x24 (Rect.unit (s := S512x128) ![0, 0] S512x128.size inb_S512x128_S512x128_0_0)
def v182 (i : grid0.Coords) (B : Blocks F) : FVec F S1024x128 .bf16 := k0_pay23 (v99 i B) (v110 i B) (v127 i B) (v144 i B) (v161 i B) (v162 i B) (v164 i B)
def v187 (i : grid0.Coords) (B : Blocks F) : FVec F S512x128 .f32 := k0_pay24 (v183 i B) (v185 i B)
def v189 (i : grid0.Coords) (B : Blocks F) : FVec F S512x128 .f32 := k0_pay25 (v188 i B)
def v196 (i : grid0.Coords) (B : Blocks F) : FVec F S128x128 .f32 := k0_pay26 (v183 i B) (v185 i B)
def v205 (i : grid0.Coords) (B : Blocks F) : FVec F S128x128 .f32 := k0_pay27 (v183 i B) (v185 i B)
def v206 (i : grid0.Coords) (B : Blocks F) : FVec F S128x128 .f32 := k0_pay28 (v196 i B) (v205 i B)
def v223 (i : grid0.Coords) (B : Blocks F) : FVec F S128x128 .f32 := k0_pay29 (v187 i B)
def v240 (i : grid0.Coords) (B : Blocks F) : FVec F S128x128 .f32 := k0_pay30 (v187 i B)
def v247 (i : grid0.Coords) (B : Blocks F) : FVec F S128x128 .f32 := k0_pay31 (v187 i B)
def v250 (i : grid0.Coords) (B : Blocks F) : FVec F S1x128 .f32 := k0_pay32 (v187 i B)
def v251 (i : grid0.Coords) (B : Blocks F) : FVec F S1x128 .f32 := k0_pay33 (F := F)
def v260 (i : grid0.Coords) (B : Blocks F) : Vec F S1x1x512x128 .f32 := View.ld B.x22 (Rect.unit (s := S1x5x512x128) ![0, 1, 0, 0] S1x1x512x128.size inb_S1x5x512x128_S1x1x512x128_0_1_0_0)
def v265 (i : grid0.Coords) (B : Blocks F) : Vec F S1x1x512x128 .f32 := View.ld B.x23 (Rect.unit (s := S1x5x512x128) ![0, 1, 0, 0] S1x1x512x128.size inb_S1x5x512x128_S1x1x512x128_0_1_0_0)
def v268 (i : grid0.Coords) (B : Blocks F) : Vec F S1x1x512x128 .f32 := View.ld B.x13 (Rect.unit (s := S1x1x512x128) ![0, 0, 0, 0] S1x1x512x128.size inb_S1x1x512x128_S1x1x512x128_0_0_0_0)
def v270 (i : grid0.Coords) (B : Blocks F) : Vec F S1x1x512x128 .f32 := View.ld B.x18 (Rect.unit (s := S1x1x512x128) ![0, 0, 0, 0] S1x1x512x128.size inb_S1x1x512x128_S1x1x512x128_0_0_0_0)
def v274 (i : grid0.Coords) (B : Blocks F) : Vec F S512x128 .f32 := View.ld B.x25 (Rect.unit (s := S512x128) ![0, 0] S512x128.size inb_S512x128_S512x128_0_0)
def cst_122 (i : grid0.Coords) (B : Blocks F) : F .f32 := Scalar.ofBits .f32 0x358637BD#32
def v264 (i : grid0.Coords) (B : Blocks F) : FVec F S512x128 .f32 := k0_pay34 (v189 i B) (v206 i B) (v223 i B) (v240 i B) (v247 i B) (v250 i B) (v251 i B) (v260 i B)
def v273 (i : grid0.Coords) (B : Blocks F) : FVec F S512x128 .f32 := k0_pay35 (v265 i B) (v268 i B) (v270 i B)
def v275 (i : grid0.Coords) (B : Blocks F) : FVec F S512x128 .f32 := k0_pay36 (v274 i B)
def v282 (i : grid0.Coords) (B : Blocks F) : FVec F S128x128 .f32 := k0_pay37 (v265 i B) (v268 i B) (v270 i B)
def v287 (i : grid0.Coords) (B : Blocks F) : FVec F S1x128 .f32 := k0_pay38 (v265 i B) (v268 i B) (v270 i B)
def v292 (i : grid0.Coords) (B : Blocks F) : FVec F S128x128 .f32 := k0_pay39 (v282 i B) (v287 i B) (cst_122 i B)
def v309 (i : grid0.Coords) (B : Blocks F) : FVec F S128x128 .f32 := k0_pay40 (v273 i B)
def v326 (i : grid0.Coords) (B : Blocks F) : FVec F S128x128 .f32 := k0_pay41 (v273 i B)
def v333 (i : grid0.Coords) (B : Blocks F) : FVec F S128x128 .f32 := k0_pay42 (v273 i B)
def v334 (i : grid0.Coords) (B : Blocks F) : FVec F S128x128 .f32 := k0_pay43 (v273 i B)
def v348 (i : grid0.Coords) (B : Blocks F) : Vec F S1x1x512x128 .f32 := View.ld B.x4 (Rect.unit (s := S1x1x512x128) ![0, 0, 0, 0] S1x1x512x128.size inb_S1x1x512x128_S1x1x512x128_0_0_0_0)
def v350 (i : grid0.Coords) (B : Blocks F) : Vec F S1x1x512x128 .f32 := View.ld B.x9 (Rect.unit (s := S1x1x512x128) ![0, 0, 0, 0] S1x1x512x128.size inb_S1x1x512x128_S1x1x512x128_0_0_0_0)
def v353 (i : grid0.Coords) (B : Blocks F) : Vec F S512x128 .f32 := View.ld B.x24 (Rect.unit (s := S512x128) ![0, 0] S512x128.size inb_S512x128_S512x128_0_0)
def v347 (i : grid0.Coords) (B : Blocks F) : FVec F S1024x128 .bf16 := k0_pay44 (v264 i B) (v275 i B) (v292 i B) (v309 i B) (v326 i B) (v333 i B) (v334 i B)
def v352 (i : grid0.Coords) (B : Blocks F) : FVec F S512x128 .f32 := k0_pay45 (v348 i B) (v350 i B)
def v354 (i : grid0.Coords) (B : Blocks F) : FVec F S512x128 .f32 := k0_pay46 (v353 i B)
def v371 (i : grid0.Coords) (B : Blocks F) : FVec F S128x128 .f32 := k0_pay47 (v348 i B) (v350 i B)
def v372 (i : grid0.Coords) (B : Blocks F) : FVec F S128x128 .f32 := k0_pay48 (v348 i B) (v350 i B)
def v374 (i : grid0.Coords) (B : Blocks F) : FVec F S1x128 .f32 := k0_pay49 (v348 i B) (v350 i B)
def v375 (i : grid0.Coords) (B : Blocks F) : FVec F S1x128 .f32 := k0_pay50 (F := F)
def v388 (i : grid0.Coords) (B : Blocks F) : FVec F S128x128 .f32 := k0_pay51 (v372 i B) (v374 i B) (v375 i B)
def v405 (i : grid0.Coords) (B : Blocks F) : FVec F S128x128 .f32 := k0_pay52 (v352 i B)
def v422 (i : grid0.Coords) (B : Blocks F) : FVec F S128x128 .f32 := k0_pay53 (v352 i B)
def v425 (i : grid0.Coords) (B : Blocks F) : Vec F S1x1x512x128 .f32 := View.ld B.x22 (Rect.unit (s := S1x5x512x128) ![0, 2, 0, 0] S1x1x512x128.size inb_S1x5x512x128_S1x1x512x128_0_2_0_0)
def v430 (i : grid0.Coords) (B : Blocks F) : Vec F S1x1x512x128 .f32 := View.ld B.x23 (Rect.unit (s := S1x5x512x128) ![0, 2, 0, 0] S1x1x512x128.size inb_S1x5x512x128_S1x1x512x128_0_2_0_0)
def v433 (i : grid0.Coords) (B : Blocks F) : Vec F S1x1x512x128 .f32 := View.ld B.x14 (Rect.unit (s := S1x1x512x128) ![0, 0, 0, 0] S1x1x512x128.size inb_S1x1x512x128_S1x1x512x128_0_0_0_0)
def v435 (i : grid0.Coords) (B : Blocks F) : Vec F S1x1x512x128 .f32 := View.ld B.x19 (Rect.unit (s := S1x1x512x128) ![0, 0, 0, 0] S1x1x512x128.size inb_S1x1x512x128_S1x1x512x128_0_0_0_0)
def v439 (i : grid0.Coords) (B : Blocks F) : Vec F S512x128 .f32 := View.ld B.x25 (Rect.unit (s := S512x128) ![0, 0] S512x128.size inb_S512x128_S512x128_0_0)
def v429 (i : grid0.Coords) (B : Blocks F) : FVec F S512x128 .f32 := k0_pay54 (v354 i B) (v371 i B) (v388 i B) (v405 i B) (v422 i B) (v425 i B)
def v438 (i : grid0.Coords) (B : Blocks F) : FVec F S512x128 .f32 := k0_pay55 (v430 i B) (v433 i B) (v435 i B)
def v440 (i : grid0.Coords) (B : Blocks F) : FVec F S512x128 .f32 := k0_pay56 (v439 i B)
def v457 (i : grid0.Coords) (B : Blocks F) : FVec F S128x128 .f32 := k0_pay57 (v430 i B) (v433 i B) (v435 i B)
def v458 (i : grid0.Coords) (B : Blocks F) : FVec F S128x128 .f32 := k0_pay58 (v430 i B) (v433 i B) (v435 i B)
def v474 (i : grid0.Coords) (B : Blocks F) : FVec F S128x128 .f32 := k0_pay59 (v458 i B)
def v491 (i : grid0.Coords) (B : Blocks F) : FVec F S128x128 .f32 := k0_pay60 (v438 i B)
def v498 (i : grid0.Coords) (B : Blocks F) : FVec F S128x128 .f32 := k0_pay61 (v438 i B)
def v503 (i : grid0.Coords) (B : Blocks F) : FVec F S1x128 .f32 := k0_pay62 (v438 i B)
def v504 (i : grid0.Coords) (B : Blocks F) : FVec F S1x128 .f32 := k0_pay63 (F := F)
def v515 (i : grid0.Coords) (B : Blocks F) : Vec F S1024x1024 .bf16 := View.ld B.x26 (Rect.unit (s := S1024x1024) ![0, 0] S1024x1024.size inb_S1024x1024_S1024x1024_0_0)
def v528 (i : grid0.Coords) (B : Blocks F) : Vec F S1x1024 .f32 := View.ld B.x27 (Rect.unit (s := S1x1024) ![0, 0] S1x1024.size inb_S1x1024_S1x1024_0_0)
def v546 (i : grid0.Coords) (B : Blocks F) : Vec F S3072x128 .bf16 := View.ld B.x28 (Rect.unit (s := S3072x128) ![0, 0] S3072x128.size inb_S3072x128_S3072x128_0_0)
def v518 (i : grid0.Coords) (B : Blocks F) : IVec S384x1 1 := k0_pay64 (v17 i B)
def v541 (i : grid0.Coords) (B : Blocks F) : FVec F S384x1024 .bf16 := k0_pay68 (v8 i B) (v17 i B) (v182 i B) (v347 i B) (v429 i B) (v440 i B) (v457 i B) (v474 i B) (v491 i B) (v498 i B) (v503 i B) (v504 i B) (v515 i B) (v528 i B)
def v548 (i : grid0.Coords) (B : Blocks F) : FVec F S384x128 .f32 := k0_pay69 (v8 i B) (v17 i B) (v182 i B) (v347 i B) (v429 i B) (v440 i B) (v457 i B) (v474 i B) (v491 i B) (v498 i B) (v503 i B) (v504 i B) (v515 i B) (v528 i B) (v546 i B)
def v591 (i : grid0.Coords) (B : Blocks F) : FVec F S384x128 .f32 := k0_pay74 (v518 i B) (v548 i B)
def v595 (i : grid0.Coords) (B : Blocks F) : Vec F S1x1x512x128 .f32 := View.ld B.x5 (Rect.unit (s := S1x1x512x128) ![0, 0, 0, 0] S1x1x512x128.size inb_S1x1x512x128_S1x1x512x128_0_0_0_0)
def v597 (i : grid0.Coords) (B : Blocks F) : Vec F S1x1x512x128 .f32 := View.ld B.x10 (Rect.unit (s := S1x1x512x128) ![0, 0, 0, 0] S1x1x512x128.size inb_S1x1x512x128_S1x1x512x128_0_0_0_0)
def v600 (i : grid0.Coords) (B : Blocks F) : Vec F S512x128 .f32 := View.ld B.x24 (Rect.unit (s := S512x128) ![0, 0] S512x128.size inb_S512x128_S512x128_0_0)
def v599 (i : grid0.Coords) (B : Blocks F) : FVec F S512x128 .f32 := k0_pay76 (v595 i B) (v597 i B)
def v601 (i : grid0.Coords) (B : Blocks F) : FVec F S512x128 .f32 := k0_pay77 (v600 i B)
def v618 (i : grid0.Coords) (B : Blocks F) : FVec F S128x128 .f32 := k0_pay78 (v595 i B) (v597 i B)
def v625 (i : grid0.Coords) (B : Blocks F) : FVec F S128x128 .f32 := k0_pay79 (v595 i B) (v597 i B)
def v630 (i : grid0.Coords) (B : Blocks F) : FVec F S1x128 .f32 := k0_pay80 (v595 i B) (v597 i B)
def v631 (i : grid0.Coords) (B : Blocks F) : FVec F S1x128 .f32 := k0_pay81 (F := F)
def v672 (i : grid0.Coords) (B : Blocks F) : Vec F S1x1x512x128 .f32 := View.ld B.x22 (Rect.unit (s := S1x5x512x128) ![0, 3, 0, 0] S1x1x512x128.size inb_S1x5x512x128_S1x1x512x128_0_3_0_0)
def v676 (i : grid0.Coords) (B : Blocks F) : FVec F S512x128 .f32 := (k0_pay82 (v599 i B) (v601 i B) (v618 i B) (v625 i B) (v630 i B) (v631 i B) (v672 i B))
def v677 (i : grid0.Coords) (B : Blocks F) : Vec F S1x1x512x128 .f32 := View.ld B.x23 (Rect.unit (s := S1x5x512x128) ![0, 3, 0, 0] S1x1x512x128.size inb_S1x5x512x128_S1x1x512x128_0_3_0_0)
def v680 (i : grid0.Coords) (B : Blocks F) : Vec F S1x1x512x128 .f32 := View.ld B.x15 (Rect.unit (s := S1x1x512x128) ![0, 0, 0, 0] S1x1x512x128.size inb_S1x1x512x128_S1x1x512x128_0_0_0_0)
def v682 (i : grid0.Coords) (B : Blocks F) : Vec F S1x1x512x128 .f32 := View.ld B.x20 (Rect.unit (s := S1x1x512x128) ![0, 0, 0, 0] S1x1x512x128.size inb_S1x1x512x128_S1x1x512x128_0_0_0_0)
def v686 (i : grid0.Coords) (B : Blocks F) : Vec F S512x128 .f32 := View.ld B.x25 (Rect.unit (s := S512x128) ![0, 0] S512x128.size inb_S512x128_S512x128_0_0)
def cst_288 (i : grid0.Coords) (B : Blocks F) : F .f32 := Scalar.ofBits .f32 0x43000000#32
def v685 (i : grid0.Coords) (B : Blocks F) : FVec F S512x128 .f32 := k0_pay83 (v677 i B) (v680 i B) (v682 i B)
def v687 (i : grid0.Coords) (B : Blocks F) : FVec F S512x128 .f32 := k0_pay84 (v686 i B)
def v704 (i : grid0.Coords) (B : Blocks F) : FVec F S128x128 .f32 := k0_pay85 (v677 i B) (v680 i B) (v682 i B)
def v711 (i : grid0.Coords) (B : Blocks F) : FVec F S128x128 .f32 := k0_pay86 (v677 i B) (v680 i B) (v682 i B)
def v714 (i : grid0.Coords) (B : Blocks F) : FVec F S1x128 .f32 := k0_pay87 (v677 i B) (v680 i B) (v682 i B)
def v759 (i : grid0.Coords) (B : Blocks F) : FVec F S1024x128 .bf16 := (k0_pay88 (v676 i B) (v685 i B) (v687 i B) (v704 i B) (v711 i B) (v714 i B) (cst_288 i B))
def v760 (i : grid0.Coords) (B : Blocks F) : Vec F S1x1x512x128 .f32 := View.ld B.x6 (Rect.unit (s := S1x1x512x128) ![0, 0, 0, 0] S1x1x512x128.size inb_S1x1x512x128_S1x1x512x128_0_0_0_0)
def v762 (i : grid0.Coords) (B : Blocks F) : Vec F S1x1x512x128 .f32 := View.ld B.x11 (Rect.unit (s := S1x1x512x128) ![0, 0, 0, 0] S1x1x512x128.size inb_S1x1x512x128_S1x1x512x128_0_0_0_0)
def v765 (i : grid0.Coords) (B : Blocks F) : Vec F S512x128 .f32 := View.ld B.x24 (Rect.unit (s := S512x128) ![0, 0] S512x128.size inb_S512x128_S512x128_0_0)
def v764 (i : grid0.Coords) (B : Blocks F) : FVec F S512x128 .f32 := k0_pay89 (v760 i B) (v762 i B)
def v766 (i : grid0.Coords) (B : Blocks F) : FVec F S512x128 .f32 := k0_pay90 (v765 i B)
def v783 (i : grid0.Coords) (B : Blocks F) : FVec F S128x128 .f32 := k0_pay91 (v760 i B) (v762 i B)
def v800 (i : grid0.Coords) (B : Blocks F) : FVec F S128x128 .f32 := k0_pay92 (v760 i B) (v762 i B)
def v801 (i : grid0.Coords) (B : Blocks F) : FVec F S128x128 .f32 := k0_pay93 (v760 i B) (v762 i B)
def v802 (i : grid0.Coords) (B : Blocks F) : FVec F S128 .f32 := k0_pay94 (v760 i B) (v762 i B)
def v837 (i : grid0.Coords) (B : Blocks F) : Vec F S1x1x512x128 .f32 := View.ld B.x22 (Rect.unit (s := S1x5x512x128) ![0, 4, 0, 0] S1x1x512x128.size inb_S1x5x512x128_S1x1x512x128_0_4_0_0)
def v842 (i : grid0.Coords) (B : Blocks F) : Vec F S1x1x512x128 .f32 := View.ld B.x23 (Rect.unit (s := S1x5x512x128) ![0, 4, 0, 0] S1x1x512x128.size inb_S1x5x512x128_S1x1x512x128_0_4_0_0)
def v841 (i : grid0.Coords) (B : Blocks F) : FVec F S512x128 .f32 := k0_pay95 (v764 i B) (v766 i B) (v783 i B) (v800 i B) (v801 i B) (v802 i B) (v837 i B)
def v844 (i : grid0.Coords) (B : Blocks F) : FVec F S512x128 .f32 := k0_pay96 (v842 i B)
def v845 (i : grid0.Coords) (B : Blocks F) : Vec F S1x1x512x128 .f32 := View.ld B.x16 (Rect.unit (s := S1x1x512x128) ![0, 0, 0, 0] S1x1x512x128.size inb_S1x1x512x128_S1x1x512x128_0_0_0_0)
def v847 (i : grid0.Coords) (B : Blocks F) : Vec F S1x1x512x128 .f32 := View.ld B.x21 (Rect.unit (s := S1x1x512x128) ![0, 0, 0, 0] S1x1x512x128.size inb_S1x1x512x128_S1x1x512x128_0_0_0_0)
def v851 (i : grid0.Coords) (B : Blocks F) : Vec F S512x128 .f32 := View.ld B.x25 (Rect.unit (s := S512x128) ![0, 0] S512x128.size inb_S512x128_S512x128_0_0)
def v850 (i : grid0.Coords) (B : Blocks F) : FVec F S512x128 .f32 := k0_pay97 (v844 i B) (v845 i B) (v847 i B)
def v852 (i : grid0.Coords) (B : Blocks F) : FVec F S512x128 .f32 := k0_pay98 (v851 i B)
def v869 (i : grid0.Coords) (B : Blocks F) : FVec F S128x128 .f32 := k0_pay99 (v844 i B) (v845 i B) (v847 i B)
def v876 (i : grid0.Coords) (B : Blocks F) : FVec F S128x128 .f32 := k0_pay100 (v844 i B) (v845 i B) (v847 i B)
def v885 (i : grid0.Coords) (B : Blocks F) : FVec F S128x128 .f32 := k0_pay101 (v844 i B) (v845 i B) (v847 i B)
def v927 (i : grid0.Coords) (B : Blocks F) : Vec F S1024x1024 .bf16 := View.ld B.x26 (Rect.unit (s := S1024x1024) ![0, 0] S1024x1024.size inb_S1024x1024_S1024x1024_0_0)
def v930 (i : grid0.Coords) (B : Blocks F) : IVec S256x1 1 := k0_pay102 (v17 i B)
def v932 (i : grid0.Coords) (B : Blocks F) : FVec F S256x1024 .f32 := k0_pay103 (v8 i B) (v759 i B) (v841 i B) (v850 i B) (v852 i B) (v869 i B) (v876 i B) (v885 i B) (v927 i B)
def v940 (i : grid0.Coords) (B : Blocks F) : Vec F S1x1024 .f32 := View.ld B.x27 (Rect.unit (s := S1x1024) ![0, 0] S1x1024.size inb_S1x1024_S1x1024_0_0)
def v958 (i : grid0.Coords) (B : Blocks F) : Vec F S3072x128 .bf16 := View.ld B.x28 (Rect.unit (s := S3072x128) ![0, 0] S3072x128.size inb_S3072x128_S3072x128_0_0)
def v961 (i : grid0.Coords) (B : Blocks F) : IVec S256x128 32 := iota .tc S256x128 32 [1] iota_S256x128_d1_w32
def v953 (i : grid0.Coords) (B : Blocks F) : FVec F S256x1024 .bf16 := k0_pay107 (v930 i B) (v932 i B) (v940 i B)
def v969 (i : grid0.Coords) (B : Blocks F) : FVec F S256x128 .f32 := k0_pay108 (v930 i B) (v932 i B) (v940 i B) (v958 i B)
def v972 (i : grid0.Coords) (B : Blocks F) : FVec F S256x1 .f32 := k0_pay110 (v930 i B) (v932 i B) (v940 i B) (v958 i B)
def v974 (i : grid0.Coords) (B : Blocks F) : FVec F S256x128 .f32 := k0_pay111 (v930 i B) (v932 i B) (v940 i B) (v958 i B)
def v975 (i : grid0.Coords) (B : Blocks F) : FVec F S256x128 .bf16 := k0_pay112 (v930 i B) (v932 i B) (v940 i B) (v958 i B)
def v1003 (i : grid0.Coords) (B : Blocks F) : FVec F S256x128 .f32 := (k0_pay114 (v930 i B) (v961 i B) (v969 i B) (v972 i B))

/-- What the body stores into its output window 29, the last store first. -/
def pieces29 (i : grid0.Coords) (B : Blocks F) : List (View.Piece (Elt F) S1x640x1024 .f32) :=
  [⟨Rect.unit (s := S1x640x1024) ![0, 384, 0] S1x256x1024.size inb_S1x640x1024_S1x256x1024_0_384_0, k0_pay105 (v930 i B) (v932 i B)⟩,
   ⟨Rect.unit (s := S1x640x1024) ![0, 0, 0] S1x384x1024.size inb_S1x640x1024_S1x384x1024_0_0_0, k0_pay66 (v8 i B) (v17 i B) (v182 i B) (v347 i B) (v429 i B) (v440 i B) (v457 i B) (v474 i B) (v491 i B) (v498 i B) (v503 i B) (v504 i B) (v515 i B)⟩]

/-- What the body stores into its output window 30, the last store first. -/
def pieces30 (i : grid0.Coords) (B : Blocks F) : List (View.Piece (Elt F) S1x640x1152 .bf16) :=
  [⟨Rect.unit (s := S1x640x1152) ![0, 384, 0] S1x256x1152.size inb_S1x640x1152_S1x256x1152_0_384_0, k0_pay113 (v953 i B) (v974 i B) (v975 i B)⟩,
   ⟨Rect.unit (s := S1x640x1152) ![0, 0, 0] S1x384x1152.size inb_S1x640x1152_S1x384x1152_0_0_0, k0_pay73 (v541 i B) (v548 i B)⟩]

/-- What the body stores into its output window 31, the last store first. -/
def pieces31 (i : grid0.Coords) (B : Blocks F) : List (View.Piece (Elt F) S1x640x128 .f32) :=
  [⟨Rect.unit (s := S1x640x128) ![0, 384, 0] S1x256x128.size inb_S1x640x128_S1x256x128_0_384_0, k0_pay1 (v1003 i B)⟩,
   ⟨Rect.unit (s := S1x640x128) ![0, 0, 0] S1x384x128.size inb_S1x640x128_S1x384x128_0_0_0, k0_pay75 (v591 i B)⟩]

end Cert.KernelIdeal.Mix

end
-- ==== Proof.MixRun.lean ====
/-
  The body of `mix_out` run once (the kernel read at the ideal instance): on staging buffers that hold the blocks `B` it stores, into each of the
  three outputs, the two pieces that MixBlocks.lean names, and leaves the inputs as they were.
-/
module

public import proofs.«01_k».proof.Proof.MixBlocks

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The body runs on the blocks `B`: the pieces it stores into its three outputs, with the proof that they are what it
    stores. -/
def bodyRun (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F) :
    Σ' (L29 : List (View.Piece (Elt F) S1x640x1024 .f32)) (L30 : List (View.Piece (Elt F) S1x640x1152 .bf16)) (L31 : List (View.Piece (Elt F) S1x640x128 .f32)),
      ∀ (E : Set ℕ) (K : PUnit → sProp 𝕄),
        iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ owns (c : Thread nD τ) arg16 fullShare B.x14 ∗ owns (c : Thread nD τ) arg17 fullShare B.x15 ∗ owns (c : Thread nD τ) arg18 fullShare B.x16 ∗ owns (c : Thread nD τ) arg19 fullShare B.x17 ∗ owns (c : Thread nD τ) arg20 fullShare B.x18 ∗ owns (c : Thread nD τ) arg21 fullShare B.x19 ∗ owns (c : Thread nD τ) arg22 fullShare B.x20 ∗ owns (c : Thread nD τ) arg23 fullShare B.x21 ∗ owns (c : Thread nD τ) arg24 fullShare B.x22 ∗ owns (c : Thread nD τ) arg25 fullShare B.x23 ∗ owns (c : Thread nD τ) arg26 fullShare B.x24 ∗ owns (c : Thread nD τ) arg27 fullShare B.x25 ∗ owns (c : Thread nD τ) arg28 fullShare B.x26 ∗ owns (c : Thread nD τ) arg29 fullShare B.x27 ∗ owns (c : Thread nD τ) arg30 fullShare B.x28 ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ owns (c : Thread nD τ) arg16 fullShare B.x14 ∗ owns (c : Thread nD τ) arg17 fullShare B.x15 ∗ owns (c : Thread nD τ) arg18 fullShare B.x16 ∗ owns (c : Thread nD τ) arg19 fullShare B.x17 ∗ owns (c : Thread nD τ) arg20 fullShare B.x18 ∗ owns (c : Thread nD τ) arg21 fullShare B.x19 ∗ owns (c : Thread nD τ) arg22 fullShare B.x20 ∗ owns (c : Thread nD τ) arg23 fullShare B.x21 ∗ owns (c : Thread nD τ) arg24 fullShare B.x22 ∗ owns (c : Thread nD τ) arg25 fullShare B.x23 ∗ owns (c : Thread nD τ) arg26 fullShare B.x24 ∗ owns (c : Thread nD τ) arg27 fullShare B.x25 ∗ owns (c : Thread nD τ) arg28 fullShare B.x26 ∗ owns (c : Thread nD τ) arg29 fullShare B.x27 ∗ owns (c : Thread nD τ) arg30 fullShare B.x28 ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31)) -∗ K ⟨⟩))
          ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28
    simp only [cc0_mix_out_eq_skeleton]; unfold cc0_mix_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]; · iexists _; iexact H29
    isplitl [H30]; · iexists _; iexact H30
    iexists _; iexact H31

end Cert.KernelIdeal.Mix

end
-- ==== Proof.MixRunP.lean ====
/-
  What the body of `mix_out` stores into its outputs, as functions of the blocks alone.
-/
module

public import proofs.«01_k».proof.Proof.MixRun

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The blocks, each read back off a buffer that holds it. -/
theorem blocks_read (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F) : (⟨arg2.view.read (Elt F) (harg2.unread B.x0), arg3.view.read (Elt F) (harg3.unread B.x1), arg4.view.read (Elt F) (harg4.unread B.x2), arg5.view.read (Elt F) (harg5.unread B.x3), arg6.view.read (Elt F) (harg6.unread B.x4), arg7.view.read (Elt F) (harg7.unread B.x5), arg8.view.read (Elt F) (harg8.unread B.x6), arg9.view.read (Elt F) (harg9.unread B.x7), arg10.view.read (Elt F) (harg10.unread B.x8), arg11.view.read (Elt F) (harg11.unread B.x9), arg12.view.read (Elt F) (harg12.unread B.x10), arg13.view.read (Elt F) (harg13.unread B.x11), arg14.view.read (Elt F) (harg14.unread B.x12), arg15.view.read (Elt F) (harg15.unread B.x13), arg16.view.read (Elt F) (harg16.unread B.x14), arg17.view.read (Elt F) (harg17.unread B.x15), arg18.view.read (Elt F) (harg18.unread B.x16), arg19.view.read (Elt F) (harg19.unread B.x17), arg20.view.read (Elt F) (harg20.unread B.x18), arg21.view.read (Elt F) (harg21.unread B.x19), arg22.view.read (Elt F) (harg22.unread B.x20), arg23.view.read (Elt F) (harg23.unread B.x21), arg24.view.read (Elt F) (harg24.unread B.x22), arg25.view.read (Elt F) (harg25.unread B.x23), arg26.view.read (Elt F) (harg26.unread B.x24), arg27.view.read (Elt F) (harg27.unread B.x25), arg28.view.read (Elt F) (harg28.unread B.x26), arg29.view.read (Elt F) (harg29.unread B.x27), arg30.view.read (Elt F) (harg30.unread B.x28)⟩ : Blocks F) = B := by
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread]

set_option maxHeartbeats 4000000 in
/-- The pieces of output 29, as functions of the blocks alone. -/
theorem bodyRun_pieces29 (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F) : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B).1 = pieces29 i B := by
  refine Eq.trans ?_ (congrArg (pieces29 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B))
  unfold bodyRun
  rfl

set_option maxHeartbeats 4000000 in
/-- The pieces of output 30, as functions of the blocks alone. -/
theorem bodyRun_pieces30 (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F) : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B).2.1 = pieces30 i B := by
  refine Eq.trans ?_ (congrArg (pieces30 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B))
  unfold bodyRun
  rfl

set_option maxHeartbeats 4000000 in
/-- The pieces of output 31, as functions of the blocks alone. -/
theorem bodyRun_pieces31 (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F) : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B).2.2.1 = pieces31 i B := by
  refine Eq.trans ?_ (congrArg (pieces31 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B))
  unfold bodyRun
  rfl

end Cert.KernelIdeal.Mix

end
-- ==== Proof.MixRunB.lean ====
/-
  The body of `mix_out` run on its blocks: what it needs and what it leaves, with the stored pieces named.
-/
module

public import proofs.«01_k».proof.Proof.MixRunP

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- From buffers that hold the blocks the body stores the pieces `L29`, `L30`, `L31` into its outputs and leaves the
    inputs as they were. -/
def RunsTo (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F)
    (L29 : List (View.Piece (Elt F) S1x640x1024 .f32)) (L30 : List (View.Piece (Elt F) S1x640x1152 .bf16)) (L31 : List (View.Piece (Elt F) S1x640x128 .f32)) : Prop :=
      ∀ (E : Set ℕ) (K : PUnit → sProp 𝕄),
        iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ owns (c : Thread nD τ) arg16 fullShare B.x14 ∗ owns (c : Thread nD τ) arg17 fullShare B.x15 ∗ owns (c : Thread nD τ) arg18 fullShare B.x16 ∗ owns (c : Thread nD τ) arg19 fullShare B.x17 ∗ owns (c : Thread nD τ) arg20 fullShare B.x18 ∗ owns (c : Thread nD τ) arg21 fullShare B.x19 ∗ owns (c : Thread nD τ) arg22 fullShare B.x20 ∗ owns (c : Thread nD τ) arg23 fullShare B.x21 ∗ owns (c : Thread nD τ) arg24 fullShare B.x22 ∗ owns (c : Thread nD τ) arg25 fullShare B.x23 ∗ owns (c : Thread nD τ) arg26 fullShare B.x24 ∗ owns (c : Thread nD τ) arg27 fullShare B.x25 ∗ owns (c : Thread nD τ) arg28 fullShare B.x26 ∗ owns (c : Thread nD τ) arg29 fullShare B.x27 ∗ owns (c : Thread nD τ) arg30 fullShare B.x28 ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ owns (c : Thread nD τ) arg16 fullShare B.x14 ∗ owns (c : Thread nD τ) arg17 fullShare B.x15 ∗ owns (c : Thread nD τ) arg18 fullShare B.x16 ∗ owns (c : Thread nD τ) arg19 fullShare B.x17 ∗ owns (c : Thread nD τ) arg20 fullShare B.x18 ∗ owns (c : Thread nD τ) arg21 fullShare B.x19 ∗ owns (c : Thread nD τ) arg22 fullShare B.x20 ∗ owns (c : Thread nD τ) arg23 fullShare B.x21 ∗ owns (c : Thread nD τ) arg24 fullShare B.x22 ∗ owns (c : Thread nD τ) arg25 fullShare B.x23 ∗ owns (c : Thread nD τ) arg26 fullShare B.x24 ∗ owns (c : Thread nD τ) arg27 fullShare B.x25 ∗ owns (c : Thread nD τ) arg28 fullShare B.x26 ∗ owns (c : Thread nD τ) arg29 fullShare B.x27 ∗ owns (c : Thread nD τ) arg30 fullShare B.x28 ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31)) -∗ K ⟨⟩))
          ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K

/-- The pieces may be replaced by equal ones. -/
theorem RunsTo.congr (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F)
    {L29 M29 : List (View.Piece (Elt F) S1x640x1024 .f32)} {L30 M30 : List (View.Piece (Elt F) S1x640x1152 .bf16)}
    {L31 M31 : List (View.Piece (Elt F) S1x640x128 .f32)} (h29 : L29 = M29) (h30 : L30 = M30) (h31 : L31 = M31)
    (h : RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B L29 L30 L31) : RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B M29 M30 M31 := by
  subst h29; subst h30; subst h31; exact h

/-- The body runs on the blocks: it stores into each output the two pieces named with the blocks. -/
theorem run_body (c : Dev nD) (i : grid0.Coords) (arg2 : Memref sig .tc .vmem S1x640x1024 .f32) (harg2 : arg2.IsWhole) (arg3 : Memref sig .tc .vmem S128x1024 .f32) (harg3 : arg3.IsWhole) (arg4 : Memref sig .tc .vmem S1x1x512x128 .f32) (harg4 : arg4.IsWhole) (arg5 : Memref sig .tc .vmem S1x1x512x128 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x5x512x128 .f32) (harg24 : arg24.IsWhole) (arg25 : Memref sig .tc .vmem S1x5x512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S1024x1024 .bf16) (harg28 : arg28.IsWhole) (arg29 : Memref sig .tc .vmem S1x1024 .f32) (harg29 : arg29.IsWhole) (arg30 : Memref sig .tc .vmem S3072x128 .bf16) (harg30 : arg30.IsWhole) (arg31 : Memref sig .tc .vmem S1x640x1024 .f32) (harg31 : arg31.IsWhole) (arg32 : Memref sig .tc .vmem S1x640x1152 .bf16) (harg32 : arg32.IsWhole) (arg33 : Memref sig .tc .vmem S1x640x128 .f32) (harg33 : arg33.IsWhole) (B : Blocks F) : RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B (pieces29 i B) (pieces30 i B) (pieces31 i B) :=
  RunsTo.congr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B (bodyRun_pieces29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B) (bodyRun_pieces30 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B) (bodyRun_pieces31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B).2.2.2

end Cert.KernelIdeal.Mix

end
-- ==== Proof.MixTail.lean ====
/-
  The token tile of `mix_out` does not depend on what lies past the end of the token array in its staging buffer: at
  the last tile those rows are replaced by the front rows, and every other tile lies inside the array.
-/
module

public import proofs.«01_k».proof.Proof.MixBlocks
public import Idealize.ShloMosaic.Lib.Pipeline.ValueKit

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic

variable {F : FTy → Type} [FloatOps F] [Named F]

/-- How many rows of a token tile the transfer moves: at least 512, and all 640 but in the last tile. -/
theorem tile_sizes : ∀ t : Fin grid0.N, win0_0.xsize (grid0.coords t) (0 : Fin 3) = 1 ∧ 512 ≤ win0_0.xsize (grid0.coords t) (1 : Fin 3)
    ∧ (((grid0.coords t) 1).val ≠ 12 → win0_0.xsize (grid0.coords t) (1 : Fin 3) = 640) ∧ win0_0.xsize (grid0.coords t) (2 : Fin 3) = 1024 := by
  decide +kernel

/-- The first 512 rows of a token tile always lie inside the token array, and all rows do except in the last tile. -/
theorem moved_rows (t : Fin grid0.N) (r : Fin 640) (k : Fin 1024) (h : (r : ℕ) < 512 ∨ ((grid0.coords t) 1).val ≠ 12) :
    win0_0.moved (grid0.coords t) (ix3 (0 : Fin 1) r k) = true := by
  rw [win0_0.moved_iff]
  obtain ⟨h0, h1, h2, h3⟩ := tile_sizes t
  have hr := r.isLt
  have hk := k.isLt
  intro a
  fin_cases a
  · show 0 < win0_0.xsize (grid0.coords t) (0 : Fin 3)
    omega
  · show (r : ℕ) < win0_0.xsize (grid0.coords t) (1 : Fin 3)
    rcases h with h | h
    · omega
    · have := h2 h; omega
  · show (k : ℕ) < win0_0.xsize (grid0.coords t) (2 : Fin 3)
    omega

/-- On the rows inside the token array, what the staging buffer held before does not matter. -/
theorem fill_rows (t : Fin grid0.N) (d d' : Vec F S1x640x1024 .f32) (b) (r : Fin 640) (k : Fin 1024)
    (h : (r : ℕ) < 512 ∨ ((grid0.coords t) 1).val ≠ 12) :
    win0_0.fill (grid0.coords t) d b (ix3 (0 : Fin 1) r k) = win0_0.fill (grid0.coords t) d' b (ix3 (0 : Fin 1) r k) := by
  unfold Pipeline.Window.fill
  rw [dif_pos (moved_rows t r k h), dif_pos (moved_rows t r k h)]

/-- The token tile is the same whatever lay past the end of the token array. -/
theorem tile_filled (t : Fin grid0.N) (d d' : Vec F S1x640x1024 .f32) (b) (fr : Vec F S128x1024 .f32) :
    k0_pay2 (grid0.coords t) (View.ld (win0_0.fill (grid0.coords t) d b) (Rect.unit (s := S1x640x1024) ![0, 0, 0] S1x640x1024.size inb_S1x640x1024_S1x640x1024_0_0_0)) fr
      = k0_pay2 (grid0.coords t) (View.ld (win0_0.fill (grid0.coords t) d' b) (Rect.unit (s := S1x640x1024) ![0, 0, 0] S1x640x1024.size inb_S1x640x1024_S1x640x1024_0_0_0)) fr := by
  funext y
  pointwise [k0_pay2]
  by_cases hy : ((y 0 : Fin 640) : ℕ) < 512
  · rw [dif_pos hy, dif_pos hy]
    exact fill_rows t d d' b _ _ (Or.inl hy)
  · rw [dif_neg hy, dif_neg hy]
    by_cases ht : ((grid0.coords t) 1).val = 12
    · rw [ht]; rfl
    · refine congrArg _ (fill_rows t d d' b _ _ (Or.inr ht))

variable (i : grid0.Coords) (B : Blocks F) (X : Vec F S1x640x1024 .f32)

/-- This value depends on the token block only through the token tile. -/
theorem v932_tile (h : v8 i { B with x0 := X } = v8 i B) : v932 i { B with x0 := X } = v932 i B := by
  unfold v932; rw [h]; rfl

/-- This value depends on the token block only through the token tile. -/
theorem v541_tile (h : v8 i { B with x0 := X } = v8 i B) : v541 i { B with x0 := X } = v541 i B := by
  unfold v541; rw [h]; rfl

/-- This value depends on the token block only through the token tile. -/
theorem v548_tile (h : v8 i { B with x0 := X } = v8 i B) : v548 i { B with x0 := X } = v548 i B := by
  unfold v548; rw [h]; rfl

/-- The pieces of output 29 depend on the token block only through the token tile. -/
theorem pieces29_tile (h : v8 i { B with x0 := X } = v8 i B) : pieces29 i { B with x0 := X } = pieces29 i B := by
  unfold pieces29
  rw [v932_tile i B X h, h]
  rfl

/-- The pieces of output 30 depend on the token block only through the token tile. -/
theorem pieces30_tile (h : v8 i { B with x0 := X } = v8 i B) : pieces30 i { B with x0 := X } = pieces30 i B := by
  unfold pieces30 v953 v974 v975
  rw [v541_tile i B X h, v548_tile i B X h, v932_tile i B X h]
  rfl

/-- The pieces of output 31 depend on the token block only through the token tile. -/
theorem pieces31_tile (h : v8 i { B with x0 := X } = v8 i B) : pieces31 i { B with x0 := X } = pieces31 i B := by
  unfold pieces31 v591 v1003 v969 v972
  rw [v548_tile i B X h, v932_tile i B X h]
  rfl

end Cert.KernelIdeal.Mix

end
-- ==== Proof.MixFrame.lean ====
/-
  The launch of `mix_out` (the kernel read at the ideal instance): what each window's staging buffer holds around the body, the body's obligation at
  every grid point, the run, and the frame. Window 0, the token tile, overhangs the token array in the last tile; what
  lies there is never read.
-/
module

public import proofs.«01_k».proof.Proof.MixRunB
public import proofs.«01_k».proof.Proof.MixTail
public import Idealize.ShloMosaic.Lib.Claim

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The token tile's buffer at a point: the rows the transfer moves, filled out with zeros. -/
def tileBlk (c : Dev nD) (t : Fin cfg0.N) : Vec F S1x640x1024 .f32 :=
  win0_0.fill (grid0.coords t) (fun _ => Scalar.ofBits .f32 0#32) (iblk m c 0 t)

/-- The input blocks at a point. -/
def blks (c : Dev nD) (t : Fin cfg0.N) : Blocks F where
  x0 := tileBlk m c t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t
  x23 := iblk m c 23 t
  x24 := iblk m c 24 t
  x25 := iblk m c 25 t
  x26 := iblk m c 26 t
  x27 := iblk m c 27 t
  x28 := iblk m c 28 t

/-- The two pieces stored into output 29 cover its block. -/
theorem cover29 (i : grid0.Coords) (B : Blocks F) (y : S1x640x1024.Idx) : ∃ pc ∈ pieces29 i B, y ∈ pc.1.set :=
  View.cover_of_tiledBy (pieces29 i B) ![1, 128, 1024] (by sl_kernel_rfl) y

/-- The two pieces stored into output 30 cover its block. -/
theorem cover30 (i : grid0.Coords) (B : Blocks F) (y : S1x640x1152.Idx) : ∃ pc ∈ pieces30 i B, y ∈ pc.1.set :=
  View.cover_of_tiledBy (pieces30 i B) ![1, 128, 1152] (by sl_kernel_rfl) y

/-- The two pieces stored into output 31 cover its block. -/
theorem cover31 (i : grid0.Coords) (B : Blocks F) (y : S1x640x128.Idx) : ∃ pc ∈ pieces31 i B, y ∈ pc.1.set :=
  View.cover_of_tiledBy (pieces31 i B) ![1, 128, 128] (by sl_kernel_rfl) y

/-- The proof data of the pipeline: the arrays as the region finds them; after the body at a point each input's buffer
    at its block, and each output's at what the two pieces leave. -/
def dats (_ : Fin 1) (c : Dev nD) : Dat τ (Elt F) Unit ℕ (UR sig nD τ) ℕ cfg0 c where
  A w := V m c (Pipeline.arrRef spec0 w)
  after w t := match w with
    | ⟨0, _⟩ => tileBlk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => View.canon (pieces29 (grid0.coords t) (blks m c t))
    | ⟨30, _⟩ => View.canon (pieces30 (grid0.coords t) (blks m c t))
    | ⟨31, _⟩ => View.canon (pieces31 (grid0.coords t) (blks m c t))
    | ⟨_ + 32, h⟩ => absurd h (Nat.not_lt.2 (Nat.le_add_left _ _))
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves in each window's buffer, and what it finds in the inputs'. -/

/-- What the body leaves in buffer 0. -/
theorem after_0 (c : Dev nD) (t : Fin cfg0.N) : (dats m 0 c).after 0 t = tileBlk m c t := by dsimp only [dats]
/-- What the body leaves in buffer 1. -/
theorem after_1 (c : Dev nD) (t : Fin cfg0.N) : (dats m 0 c).after 1 t = iblk m c 1 t := by dsimp only [dats]
/-- What the body leaves in buffer 2. -/
theorem after_2 (c : Dev nD) (t : Fin cfg0.N) : (dats m 0 c).after 2 t = iblk m c 2 t := by dsimp only [dats]
/-- What the body leaves in buffer 3. -/
theorem after_3 (c : Dev nD) (t : Fin cfg0.N) : (dats m 0 c).after 3 t = iblk m c 3 t := by dsimp only [dats]
/-- What the body leaves in buffer 4. -/
theorem after_4 (c : Dev nD) (t : Fin cfg0.N) : (dats m 0 c).after 4 t = iblk m c 4 t := by dsimp only [dats]
/-- What the body leaves in buffer 5. -/
theorem after_5 (c : Dev nD) (t : Fin cfg0.N) : (dats m 0 c).after 5 t = iblk m c 5 t := by dsimp only [dats]
/-- What the body leaves in buffer 6. -/
theorem after_6 (c : Dev nD) (t : Fin cfg0.N) : (dats m 0 c).after 6 t = iblk m c 6 t := by dsimp only [dats]
/-- What the body leaves in buffer 7. -/
theorem after_7 (c : Dev nD) (t : Fin cfg0.N) : (dats m 0 c).after 7 t = iblk m c 7 t := by dsimp only [dats]
/-- What the body leaves in buffer 8. -/
theorem after_8 (c : Dev nD) (t : Fin cfg0.N) : (dats m 0 c).after 8 t = iblk m c 8 t := by dsimp only [dats]
/-- What the body leaves in buffer 9. -/
theorem after_9 (c : Dev nD) (t : Fin cfg0.N) : (dats m 0 c).after 9 t = iblk m c 9 t := by dsimp only [dats]
/-- What the body leaves in buffer 10. -/
theorem after_10 (c : Dev nD) (t : Fin cfg0.N) : (dats m 0 c).after 10 t = iblk m c 10 t := by dsimp only [dats]
/-- What the body leaves in buffer 11. -/
theorem after_11 (c : Dev nD) (t : Fin cfg0.N) : (dats m 0 c).after 11 t = iblk m c 11 t := by dsimp only [dats]
/-- What the body leaves in buffer 12. -/
theorem after_12 (c : Dev nD) (t : Fin cfg0.N) : (dats m 0 c).after 12 t = iblk m c 12 t := by dsimp only [dats]
/-- What the body leaves in buffer 13. -/
theorem after_13 (c : Dev nD) (t : Fin cfg0.N) : (dats m 0 c).after 13 t = iblk m c 13 t := by dsimp only [dats]
/-- What the body leaves in buffer 14. -/
theorem after_14 (c : Dev nD) (t : Fin cfg0.N) : (dats m 0 c).after 14 t = iblk m c 14 t := by dsimp only [dats]
/-- What the body leaves in buffer 15. -/
theorem after_15 (c : Dev nD) (t : Fin cfg0.N) : (dats m 0 c).after 15 t = iblk m c 15 t := by dsimp only [dats]
/-- What the body leaves in buffer 16. -/
theorem after_16 (c : Dev nD) (t : Fin cfg0.N) : (dats m 0 c).after 16 t = iblk m c 16 t := by dsimp only [dats]
/-- What the body leaves in buffer 17. -/
theorem after_17 (c : Dev nD) (t : Fin cfg0.N) : (dats m 0 c).after 17 t = iblk m c 17 t := by dsimp only [dats]
/-- What the body leaves in buffer 18. -/
theorem after_18 (c : Dev nD) (t : Fin cfg0.N) : (dats m 0 c).after 18 t = iblk m c 18 t := by dsimp only [dats]
/-- What the body leaves in buffer 19. -/
theorem after_19 (c : Dev nD) (t : Fin cfg0.N) : (dats m 0 c).after 19 t = iblk m c 19 t := by dsimp only [dats]
/-- What the body leaves in buffer 20. -/
theorem after_20 (c : Dev nD) (t : Fin cfg0.N) : (dats m 0 c).after 20 t = iblk m c 20 t := by dsimp only [dats]
/-- What the body leaves in buffer 21. -/
theorem after_21 (c : Dev nD) (t : Fin cfg0.N) : (dats m 0 c).after 21 t = iblk m c 21 t := by dsimp only [dats]
/-- What the body leaves in buffer 22. -/
theorem after_22 (c : Dev nD) (t : Fin cfg0.N) : (dats m 0 c).after 22 t = iblk m c 22 t := by dsimp only [dats]
/-- What the body leaves in buffer 23. -/
theorem after_23 (c : Dev nD) (t : Fin cfg0.N) : (dats m 0 c).after 23 t = iblk m c 23 t := by dsimp only [dats]
/-- What the body leaves in buffer 24. -/
theorem after_24 (c : Dev nD) (t : Fin cfg0.N) : (dats m 0 c).after 24 t = iblk m c 24 t := by dsimp only [dats]
/-- What the body leaves in buffer 25. -/
theorem after_25 (c : Dev nD) (t : Fin cfg0.N) : (dats m 0 c).after 25 t = iblk m c 25 t := by dsimp only [dats]
/-- What the body leaves in buffer 26. -/
theorem after_26 (c : Dev nD) (t : Fin cfg0.N) : (dats m 0 c).after 26 t = iblk m c 26 t := by dsimp only [dats]
/-- What the body leaves in buffer 27. -/
theorem after_27 (c : Dev nD) (t : Fin cfg0.N) : (dats m 0 c).after 27 t = iblk m c 27 t := by dsimp only [dats]
/-- What the body leaves in buffer 28. -/
theorem after_28 (c : Dev nD) (t : Fin cfg0.N) : (dats m 0 c).after 28 t = iblk m c 28 t := by dsimp only [dats]
/-- What the body leaves in buffer 29. -/
theorem after_29 (c : Dev nD) (t : Fin cfg0.N) : (dats m 0 c).after 29 t = View.canon (pieces29 (grid0.coords t) (blks m c t)) := by dsimp only [dats]
/-- What the body leaves in buffer 30. -/
theorem after_30 (c : Dev nD) (t : Fin cfg0.N) : (dats m 0 c).after 30 t = View.canon (pieces30 (grid0.coords t) (blks m c t)) := by dsimp only [dats]
/-- What the body leaves in buffer 31. -/
theorem after_31 (c : Dev nD) (t : Fin cfg0.N) : (dats m 0 c).after 31 t = View.canon (pieces31 (grid0.coords t) (blks m c t)) := by dsimp only [dats]

/-- What the body finds in buffer 0. -/
theorem before_0 (c : Dev nD) (t : Fin cfg0.N) (d) : (dats m 0 c).before 0 t d = win0_0.fill (grid0.coords t) d (iblk m c 0 t) := by
  unfold Dat.before; rw [if_pos (fetch0_0 t)]; unfold Dat.fetched Dat.blockOf iblk; rw [A_eq m c 0]
/-- What the body finds in buffer 1. -/
theorem before_1 (c : Dev nD) (t : Fin cfg0.N) (d) : (dats m 0 c).before 1 t d = iblk m c 1 t :=
  before0_1_of m (dats m 0 c) (A_eq m c 1) (after_1 m c) t d
/-- What the body finds in buffer 2. -/
theorem before_2 (c : Dev nD) (t : Fin cfg0.N) (d) : (dats m 0 c).before 2 t d = iblk m c 2 t :=
  before0_2_of m (dats m 0 c) (A_eq m c 2) (after_2 m c) t d
/-- What the body finds in buffer 3. -/
theorem before_3 (c : Dev nD) (t : Fin cfg0.N) (d) : (dats m 0 c).before 3 t d = iblk m c 3 t :=
  before0_3_of m (dats m 0 c) (A_eq m c 3) (after_3 m c) t d
/-- What the body finds in buffer 4. -/
theorem before_4 (c : Dev nD) (t : Fin cfg0.N) (d) : (dats m 0 c).before 4 t d = iblk m c 4 t :=
  before0_4_of m (dats m 0 c) (A_eq m c 4) (after_4 m c) t d
/-- What the body finds in buffer 5. -/
theorem before_5 (c : Dev nD) (t : Fin cfg0.N) (d) : (dats m 0 c).before 5 t d = iblk m c 5 t :=
  before0_5_of m (dats m 0 c) (A_eq m c 5) (after_5 m c) t d
/-- What the body finds in buffer 6. -/
theorem before_6 (c : Dev nD) (t : Fin cfg0.N) (d) : (dats m 0 c).before 6 t d = iblk m c 6 t :=
  before0_6_of m (dats m 0 c) (A_eq m c 6) (after_6 m c) t d
/-- What the body finds in buffer 7. -/
theorem before_7 (c : Dev nD) (t : Fin cfg0.N) (d) : (dats m 0 c).before 7 t d = iblk m c 7 t :=
  before0_7_of m (dats m 0 c) (A_eq m c 7) (after_7 m c) t d
/-- What the body finds in buffer 8. -/
theorem before_8 (c : Dev nD) (t : Fin cfg0.N) (d) : (dats m 0 c).before 8 t d = iblk m c 8 t :=
  before0_8_of m (dats m 0 c) (A_eq m c 8) (after_8 m c) t d
/-- What the body finds in buffer 9. -/
theorem before_9 (c : Dev nD) (t : Fin cfg0.N) (d) : (dats m 0 c).before 9 t d = iblk m c 9 t :=
  before0_9_of m (dats m 0 c) (A_eq m c 9) (after_9 m c) t d
/-- What the body finds in buffer 10. -/
theorem before_10 (c : Dev nD) (t : Fin cfg0.N) (d) : (dats m 0 c).before 10 t d = iblk m c 10 t :=
  before0_10_of m (dats m 0 c) (A_eq m c 10) (after_10 m c) t d
/-- What the body finds in buffer 11. -/
theorem before_11 (c : Dev nD) (t : Fin cfg0.N) (d) : (dats m 0 c).before 11 t d = iblk m c 11 t :=
  before0_11_of m (dats m 0 c) (A_eq m c 11) (after_11 m c) t d
/-- What the body finds in buffer 12. -/
theorem before_12 (c : Dev nD) (t : Fin cfg0.N) (d) : (dats m 0 c).before 12 t d = iblk m c 12 t :=
  before0_12_of m (dats m 0 c) (A_eq m c 12) (after_12 m c) t d
/-- What the body finds in buffer 13. -/
theorem before_13 (c : Dev nD) (t : Fin cfg0.N) (d) : (dats m 0 c).before 13 t d = iblk m c 13 t :=
  before0_13_of m (dats m 0 c) (A_eq m c 13) (after_13 m c) t d
/-- What the body finds in buffer 14. -/
theorem before_14 (c : Dev nD) (t : Fin cfg0.N) (d) : (dats m 0 c).before 14 t d = iblk m c 14 t :=
  before0_14_of m (dats m 0 c) (A_eq m c 14) (after_14 m c) t d
/-- What the body finds in buffer 15. -/
theorem before_15 (c : Dev nD) (t : Fin cfg0.N) (d) : (dats m 0 c).before 15 t d = iblk m c 15 t :=
  before0_15_of m (dats m 0 c) (A_eq m c 15) (after_15 m c) t d
/-- What the body finds in buffer 16. -/
theorem before_16 (c : Dev nD) (t : Fin cfg0.N) (d) : (dats m 0 c).before 16 t d = iblk m c 16 t :=
  before0_16_of m (dats m 0 c) (A_eq m c 16) (after_16 m c) t d
/-- What the body finds in buffer 17. -/
theorem before_17 (c : Dev nD) (t : Fin cfg0.N) (d) : (dats m 0 c).before 17 t d = iblk m c 17 t :=
  before0_17_of m (dats m 0 c) (A_eq m c 17) (after_17 m c) t d
/-- What the body finds in buffer 18. -/
theorem before_18 (c : Dev nD) (t : Fin cfg0.N) (d) : (dats m 0 c).before 18 t d = iblk m c 18 t :=
  before0_18_of m (dats m 0 c) (A_eq m c 18) (after_18 m c) t d
/-- What the body finds in buffer 19. -/
theorem before_19 (c : Dev nD) (t : Fin cfg0.N) (d) : (dats m 0 c).before 19 t d = iblk m c 19 t :=
  before0_19_of m (dats m 0 c) (A_eq m c 19) (after_19 m c) t d
/-- What the body finds in buffer 20. -/
theorem before_20 (c : Dev nD) (t : Fin cfg0.N) (d) : (dats m 0 c).before 20 t d = iblk m c 20 t :=
  before0_20_of m (dats m 0 c) (A_eq m c 20) (after_20 m c) t d
/-- What the body finds in buffer 21. -/
theorem before_21 (c : Dev nD) (t : Fin cfg0.N) (d) : (dats m 0 c).before 21 t d = iblk m c 21 t :=
  before0_21_of m (dats m 0 c) (A_eq m c 21) (after_21 m c) t d
/-- What the body finds in buffer 22. -/
theorem before_22 (c : Dev nD) (t : Fin cfg0.N) (d) : (dats m 0 c).before 22 t d = iblk m c 22 t :=
  before0_22_of m (dats m 0 c) (A_eq m c 22) (after_22 m c) t d
/-- What the body finds in buffer 23. -/
theorem before_23 (c : Dev nD) (t : Fin cfg0.N) (d) : (dats m 0 c).before 23 t d = iblk m c 23 t :=
  before0_23_of m (dats m 0 c) (A_eq m c 23) (after_23 m c) t d
/-- What the body finds in buffer 24. -/
theorem before_24 (c : Dev nD) (t : Fin cfg0.N) (d) : (dats m 0 c).before 24 t d = iblk m c 24 t :=
  before0_24_of m (dats m 0 c) (A_eq m c 24) (after_24 m c) t d
/-- What the body finds in buffer 25. -/
theorem before_25 (c : Dev nD) (t : Fin cfg0.N) (d) : (dats m 0 c).before 25 t d = iblk m c 25 t :=
  before0_25_of m (dats m 0 c) (A_eq m c 25) (after_25 m c) t d
/-- What the body finds in buffer 26. -/
theorem before_26 (c : Dev nD) (t : Fin cfg0.N) (d) : (dats m 0 c).before 26 t d = iblk m c 26 t :=
  before0_26_of m (dats m 0 c) (A_eq m c 26) (after_26 m c) t d
/-- What the body finds in buffer 27. -/
theorem before_27 (c : Dev nD) (t : Fin cfg0.N) (d) : (dats m 0 c).before 27 t d = iblk m c 27 t :=
  before0_27_of m (dats m 0 c) (A_eq m c 27) (after_27 m c) t d
/-- What the body finds in buffer 28. -/
theorem before_28 (c : Dev nD) (t : Fin cfg0.N) (d) : (dats m 0 c).before 28 t d = iblk m c 28 t :=
  before0_28_of m (dats m 0 c) (A_eq m c 28) (after_28 m c) t d

/-! The body obligation, at a generic point. -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d))
    ∗ (∃ d, owns (c : Thread nD τ) (win0_26.stage (cfg0.slots t 26)) fullShare ((dats m 0 c).before 26 t d))
    ∗ (∃ d, owns (c : Thread nD τ) (win0_27.stage (cfg0.slots t 27)) fullShare ((dats m 0 c).before 27 t d))
    ∗ (∃ d, owns (c : Thread nD τ) (win0_28.stage (cfg0.slots t 28)) fullShare ((dats m 0 c).before 28 t d))
    ∗ (∃ d, owns (c : Thread nD τ) (win0_29.stage (cfg0.slots t 29)) fullShare ((dats m 0 c).before 29 t d))
    ∗ (∃ d, owns (c : Thread nD τ) (win0_30.stage (cfg0.slots t 30)) fullShare ((dats m 0 c).before 30 t d))
    ∗ (∃ d, owns (c : Thread nD τ) (win0_31.stage (cfg0.slots t 31)) fullShare ((dats m 0 c).before 31 t d)))

/-- What it returns: of the token tile only the rows inside the array are stated. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare (win0_0.fill (grid0.coords t) d (win0_0.cut (grid0.coords t) ((dats m 0 c).after 0 t))))
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t)
    ∗ owns (c : Thread nD τ) (win0_26.stage (cfg0.slots t 26)) fullShare ((dats m 0 c).after 26 t)
    ∗ owns (c : Thread nD τ) (win0_27.stage (cfg0.slots t 27)) fullShare ((dats m 0 c).after 27 t)
    ∗ owns (c : Thread nD τ) (win0_28.stage (cfg0.slots t 28)) fullShare ((dats m 0 c).after 28 t)
    ∗ owns (c : Thread nD τ) (win0_29.stage (cfg0.slots t 29)) fullShare ((dats m 0 c).after 29 t)
    ∗ owns (c : Thread nD τ) (win0_30.stage (cfg0.slots t 30)) fullShare ((dats m 0 c).after 30 t)
    ∗ owns (c : Thread nD τ) (win0_31.stage (cfg0.slots t 31)) fullShare ((dats m 0 c).after 31 t))

/-- The blocks with the token tile's buffer filled out with anything: the token tile read from them is the same. -/
theorem tile_any (c : Dev nD) (t : Fin cfg0.N) (d : Vec F S1x640x1024 .f32) :
    v8 (grid0.coords t) { blks m c t with x0 := win0_0.fill (grid0.coords t) d (iblk m c 0 t) } = v8 (grid0.coords t) (blks m c t) :=
  tile_filled t d (fun _ => Scalar.ofBits .f32 0#32) (iblk m c 0 t) (v3 (grid0.coords t) (blks m c t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_1, before_2, before_3, before_4, before_5, before_6, before_7, before_8, before_9, before_10, before_11, before_12, before_13, before_14, before_15, before_16, before_17, before_18, before_19, before_20, before_21, before_22, before_23, before_24, before_25, before_26, before_27, before_28]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  rw [before_0 m c t d0]
  have h29 := pieces29_tile (grid0.coords t) (blks m c t) _ (tile_any m c t d0)
  have h30 := pieces30_tile (grid0.coords t) (blks m c t) _ (tile_any m c t d0)
  have h31 := pieces31_tile (grid0.coords t) (blks m c t) _ (tile_any m c t d0)
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) { blks m c t with x0 := win0_0.fill (grid0.coords t) d0 (iblk m c 0 t) } Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩⟩
  rw [h29, h30, h31]
  isplitl [HΦ]; · iexact HΦ
  isplitl [Ho]; · iexact Ho
  isplitl [H0]
  · iexists d0
    unfold tileBlk
    rw [win0_0.cut_fill]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]
  · unfold owns; iexists _; isplitr; swap; · iexact H29
    ipureintro
    exact View.read_writes_eq_canon _ _ _ (cover29 (grid0.coords t) (blks m c t))
  isplitl [H30]
  · unfold owns; iexists _; isplitr; swap; · iexact H30
    ipureintro
    exact View.read_writes_eq_canon _ _ _ (cover30 (grid0.coords t) (blks m c t))
  · unfold owns; iexists _; isplitr; swap; · iexact H31
    ipureintro
    exact View.read_writes_eq_canon _ _ _ (cover31 (grid0.coords t) (blks m c t))

/-- The body called at a point is the printed body at the point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The library's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unification, which takes unfolding plain definitions in a
-- metavariable's type
set_option backward.isDefEq.respectTransparency.types false in
/-- The run: every window's array ends at what the proof data gives it, every other buffer as the region found it, and
    every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

/-- The frame: the arguments end unchanged and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Mix

end
-- ==== Proof.MixClaims.lean ====
/-
  The claims about `mix_out`'s runs: the frames of the kernel, of the kernel read over the extended reals and of its
  reference, and the one named constant.
-/
module

public import proofs.«01_k».proof.Defs
public import proofs.«01_k».proof.Proof.MixFrame
public import proofs.«01_k».proof.Proof.KMixFrame
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.Proof.Mix

/-- `mix_out` runs, leaves its arguments as they were and ends with every counter at zero. -/
theorem frame_kernel : Cert.quiescent_Kernel (hKernel := Cert.Kernel.Gen.facts) := fun m ρ _ =>
  Cert.Kernel.Mix.frame_main m ρ

/-- The same of the call read over the extended reals. -/
theorem frame_ideal : Cert.quiescent_KernelIdeal (hKernelIdeal := Cert.KernelIdeal.Gen.facts) := fun m ρ _ =>
  Cert.KernelIdeal.Mix.frame_main m ρ

/-- The reference runs, leaves its arguments as they were and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The constant that masks the unused lanes reads as `−∞` over the extended reals. -/
theorem preserves : Cert.preserves_Kernel_KernelIdeal :=
  IdealRules.named_const.statement Cert.KernelIdeal.κ "mask" .f32 0xF149F2CA#32 ⊥ rfl

end Cert.Proof.Mix

end
-- ==== Proof.MixVec.lean ====
/-
  The vectors of `mix_out` as functions of the loaded blocks: the normalised heads of one chunk, its mixed columns, and
  the two row groups' residual rows. The printed values are these functions by unfolding.
-/
module

public import proofs.«01_k».proof.Proof.MixBlocks
public import Idealize.ShloMosaic.Lib.Pipeline.ValueKit

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic

variable {F : FTy → Type} [FloatOps F] [Named F]

/-- One head of one chunk, less its mean over the channels. -/
def centred (s : FVec F S128x128 .f32) : FVec F S128x128 .f32 :=
  subf s (broadcastTo S128x128 (divf (shapeCast S1x128 (multiReduction .add [0] S128 s 0x00000000#32 reduces_S128x128_S128 (.inl rfl) rfl)
    shapeCasts_S128_S1x128) (broadcast S1x128 (Scalar.ofBits .f32 0x43000000#32 : F .f32))) broadcasts_S1x128_S128x128)

/-- One head of one chunk, normalised over the channels. -/
def normed (s : FVec F S128x128 .f32) : FVec F S128x128 .f32 :=
  mulf (centred s) (broadcastTo S128x128 (rsqrt (addf (divf (shapeCast S1x128 (multiReduction .add [0] S128 (mulf (centred s) (centred s)) 0x00000000#32
    reduces_S128x128_S128 (.inl rfl) rfl) shapeCasts_S128_S1x128) (broadcast S1x128 (Scalar.ofBits .f32 0x43000000#32 : F .f32)))
    (broadcast S1x128 (Scalar.ofBits .f32 0x358637BD#32 : F .f32)))) broadcasts_S1x128_S128x128)

/-- The four heads of one chunk, each normalised. -/
def heads (y : FVec F S512x128 .f32) : FVec F S512x128 .f32 :=
  concatenate S512x128 0 [⟨S128x128, normed (extractStridedSlice S128x128 ![0, 0] y slices_S512x128_o0_0_S128x128)⟩,
    ⟨S128x128, normed (extractStridedSlice S128x128 ![128, 0] y slices_S512x128_o128_0_S128x128)⟩,
    ⟨S128x128, normed (extractStridedSlice S128x128 ![256, 0] y slices_S512x128_o256_0_S128x128)⟩,
    ⟨S128x128, normed (extractStridedSlice S128x128 ![384, 0] y slices_S512x128_o384_0_S128x128)⟩]
    concatenates_S128x128_S128x128_S128x128_S128x128_S512x128_d0

/-- One chunk's mixed columns: the retention's heads gated by `silu`, then the matrix memory's gated heads. -/
def chunkY (a b rg mo p q : Vec F S1x1x512x128 .f32) (gr gm : Vec F S512x128 .f32) : FVec F S1024x128 .bf16 :=
  truncf .bf16 (concatenate S1024x128 0 [
    ⟨S512x128, mulf (mulf (heads (addf (shapeCast S512x128 a shapeCasts_S1x1x512x128_S512x128) (shapeCast S512x128 b shapeCasts_S1x1x512x128_S512x128)))
      (shapeCast S512x128 gr shapeCasts_S512x128_S512x128))
      (mulf (shapeCast S512x128 rg shapeCasts_S1x1x512x128_S512x128) (logistic (shapeCast S512x128 rg shapeCasts_S1x1x512x128_S512x128)))⟩,
    ⟨S512x128, mulf (heads (mulf (logistic (shapeCast S512x128 mo shapeCasts_S1x1x512x128_S512x128))
      (addf (shapeCast S512x128 p shapeCasts_S1x1x512x128_S512x128) (shapeCast S512x128 q shapeCasts_S1x1x512x128_S512x128))))
      (shapeCast S512x128 gm shapeCasts_S512x128_S512x128)⟩] concatenates_S512x128_S512x128_S1024x128_d0) bitsLt_bf16_f32

/-- The residual rows of the first three chunks. -/
def rowsA (x : FVec F S640x1024 .f32) (real : IVec S640x1 1) (y0 y1 y2 : FVec F S1024x128 .bf16) (wo : Vec F S1024x1024 .bf16) : FVec F S384x1024 .f32 :=
  select (broadcastTo S384x1024 (shapeCast S384x1 (k0_pay64 real) shapeCasts_S384x1_S384x1) broadcasts_S384x1_S384x1024)
    (addf (extractStridedSlice S384x1024 ![0, 0] x slices_S640x1024_o0_0_S384x1024)
      (matmul dot_S384x1024_S1024x1024_S384x1024_1_0_0_1_n_n none
        (transpose S384x1024 [1, 0] (concatenate S1024x384 1 [⟨S1024x128, y0⟩, ⟨S1024x128, y1⟩, ⟨S1024x128, y2⟩]
          concatenates_S1024x128_S1024x128_S1024x128_S1024x384_d1) transposes_S1024x384_p1_0_S384x1024)
        (shapeCast S1024x1024 wo shapeCasts_S1024x1024_S1024x1024) (constant S384x1024 .f32 0x00000000#32)))
    (broadcast S384x1024 (Scalar.ofBits .f32 0x00000000#32 : F .f32))

/-- The residual rows of the last two chunks. -/
def rowsB (x : FVec F S640x1024 .f32) (real : IVec S640x1 1) (y3 y4 : FVec F S1024x128 .bf16) (wo : Vec F S1024x1024 .bf16) : FVec F S256x1024 .f32 :=
  select (broadcastTo S256x1024 (shapeCast S256x1 (k0_pay102 real) shapeCasts_S256x1_S256x1) broadcasts_S256x1_S256x1024)
    (addf (extractStridedSlice S256x1024 ![384, 0] x slices_S640x1024_o384_0_S256x1024)
      (matmul dot_S256x1024_S1024x1024_S256x1024_1_0_0_1_n_n none
        (transpose S256x1024 [1, 0] (concatenate S1024x256 1 [⟨S1024x128, y3⟩, ⟨S1024x128, y4⟩]
          concatenates_S1024x128_S1024x128_S1024x256_d1) transposes_S1024x256_p1_0_S256x1024)
        (shapeCast S1024x1024 wo shapeCasts_S1024x1024_S1024x1024) (constant S256x1024 .f32 0x00000000#32)))
    (broadcast S256x1024 (Scalar.ofBits .f32 0x00000000#32 : F .f32))

/-- The mixed columns of chunk 0. -/
def Y0 (i : grid0.Coords) (B : Blocks F) : FVec F S1024x128 .bf16 :=
  chunkY (v18 i B) (v20 i B) (v95 i B) (v100 i B) (v103 i B) (v105 i B) (v23 i B) (v109 i B)

/-- The mixed columns of chunk 1. -/
def Y1 (i : grid0.Coords) (B : Blocks F) : FVec F S1024x128 .bf16 :=
  chunkY (v183 i B) (v185 i B) (v260 i B) (v265 i B) (v268 i B) (v270 i B) (v188 i B) (v274 i B)

/-- The mixed columns of chunk 2. -/
def Y2 (i : grid0.Coords) (B : Blocks F) : FVec F S1024x128 .bf16 :=
  chunkY (v348 i B) (v350 i B) (v425 i B) (v430 i B) (v433 i B) (v435 i B) (v353 i B) (v439 i B)

/-- The mixed columns of chunk 3. -/
def Y3 (i : grid0.Coords) (B : Blocks F) : FVec F S1024x128 .bf16 :=
  chunkY (v595 i B) (v597 i B) (v672 i B) (v677 i B) (v680 i B) (v682 i B) (v600 i B) (v686 i B)

/-- The mixed columns of chunk 4. -/
def Y4 (i : grid0.Coords) (B : Blocks F) : FVec F S1024x128 .bf16 :=
  chunkY (v760 i B) (v762 i B) (v837 i B) (v842 i B) (v845 i B) (v847 i B) (v765 i B) (v851 i B)

set_option maxHeartbeats 4000000

/-- The kernel's value for chunk 0 is the mixed columns of chunk 0. -/
theorem Y0_eq (i : grid0.Coords) (B : Blocks F) : v182 i B = Y0 i B := rfl

/-- The kernel's value for chunk 1 is the mixed columns of chunk 1. -/
theorem Y1_eq (i : grid0.Coords) (B : Blocks F) : v347 i B = Y1 i B := rfl

/-- The kernel's value for chunk 3 is the mixed columns of chunk 3. -/
theorem Y3_eq (i : grid0.Coords) (B : Blocks F) : v759 i B = Y3 i B := rfl

/-- The residual rows of the first three chunks, as the body stores them. -/
theorem rowsA_eq (i : grid0.Coords) (B : Blocks F) : k0_pay65 (v8 i B) (v17 i B) (v182 i B) (v347 i B) (v429 i B) (v440 i B) (v457 i B) (v474 i B) (v491 i B) (v498 i B) (v503 i B) (v504 i B) (v515 i B)
    = rowsA (v8 i B) (v17 i B) (Y0 i B) (Y1 i B) (Y2 i B) (v515 i B) := rfl

/-- The residual rows of the last two chunks, as the body stores them. -/
theorem rowsB_eq (i : grid0.Coords) (B : Blocks F) : k0_pay104 (v930 i B) (v932 i B)
    = rowsB (v8 i B) (v17 i B) (Y3 i B) (Y4 i B) (v927 i B) := rfl

end Cert.KernelIdeal.Mix

end
-- ==== Proof.MixSpec.lean ====
/-
  What the mixer's output step computes, as functions of its thirteen arguments over the extended reals: the residual
  rows, their normalised rows, the router's shares and their logarithms. The kernel and the reference are each read
  against these.
-/
module

public import Idealize.ShloMosaic.Lib.Pipeline.ValueKit

@[expose] public section

noncomputable section

open Idealize.ShloMosaic

namespace Cert.Mix

/-- The thirteen arguments, entry by entry. The scans and the gates hold a chunk's 128 tokens along their last axis. -/
structure Args where
  x : Fin 4 → Fin 8192 → Fin 1024 → EReal
  head : Fin 16 → Fin 1024 → EReal
  rf : Fin 4 → Fin 65 → Fin 512 → Fin 128 → EReal
  rb : Fin 4 → Fin 65 → Fin 512 → Fin 128 → EReal
  hf : Fin 4 → Fin 65 → Fin 512 → Fin 128 → EReal
  hb : Fin 4 → Fin 65 → Fin 512 → Fin 128 → EReal
  rg : Fin 4 → Fin 65 → Fin 512 → Fin 128 → EReal
  mo : Fin 4 → Fin 65 → Fin 512 → Fin 128 → EReal
  gr : Fin 512 → EReal
  gm : Fin 512 → EReal
  wo : Fin 1024 → Fin 1024 → EReal
  fg : Fin 1024 → EReal
  wr : Fin 1024 → Fin 16 → EReal

/-- The number of a head's channels. -/
abbrev c128 : EReal := Ideal.ofBits .f32 0x43000000#32
/-- The number of a row's channels. -/
abbrev c1024 : EReal := Ideal.ofBits .f32 0x44800000#32
/-- The norms' small constant. -/
abbrev eps : EReal := Ideal.ofBits .f32 0x358637BD#32
/-- The least logarithm kept. -/
abbrev least : EReal := Ideal.ofBits .f32 0xC5FA0000#32

/-- A head's channel less the head's mean. -/
def ctr (y : Fin 128 → EReal) (d : Fin 128) : EReal := y d - Ideal.div (∑ l, y l) c128

/-- A head's channel, normalised. -/
def nrm (y : Fin 128 → EReal) (d : Fin 128) : EReal :=
  ctr y d * Ideal.rsqrt (Ideal.div (∑ l, ctr y l * ctr y l) c128 + eps)

/-- A row's root-mean-square norm, scaled. -/
def rms (h g : Fin 1024 → EReal) (k : Fin 1024) : EReal :=
  h k * Ideal.rsqrt (Ideal.div (∑ x, h x * h x) c1024 + eps) * g k

/-- The greatest of a row's sixteen. -/
def top (l : Fin 16 → EReal) : EReal := (Finset.univ : Finset (Fin 16)).fold max ⊥ l

/-- A row's share for one expert. -/
def share (l : Fin 16 → EReal) (e : Fin 16) : EReal :=
  Ideal.div (Ideal.exp (l e - top l)) (∑ x, Ideal.exp (l x - top l))

/-- The row a mixed channel's head lies on: channel `d` of the head that holds channel `k`. -/
abbrev headChan (k : ℕ) (h : k < 512) (d : Fin 128) : Fin 512 := ⟨k / 128 * 128 + d.val, by omega⟩

/-- An expert's lane in the router's scores. -/
abbrev lane (e : Fin 16) : Fin 128 := ⟨e.val, by omega⟩
/-- A channel's row among the router's weights. -/
abbrev hiRow (k : Fin 1024) : Fin 3072 := ⟨k.val, by omega⟩
/-- A channel's row among what the weights' rounding left. -/
abbrev loRow (k : Fin 1024) : Fin 3072 := ⟨2048 + k.val, by omega⟩

/-- The channels of one mixed token: the retention's four normalised heads, gated, then the matrix memory's. `cs` is the
    token's chunk in the scans, `ch` in the gates, `l` its place in the chunk. -/
def Args.mixed (A : Args) (b : Fin 4) (cs ch : Fin 65) (l : Fin 128) (k : Fin 1024) : EReal :=
  if h : k.val < 512 then
    nrm (fun d => A.rf b cs (headChan k.val h d) l + A.rb b cs (headChan k.val h d) l) ⟨k.val % 128, by omega⟩
      * A.gr ⟨k.val, h⟩ * (A.rg b ch ⟨k.val, h⟩ l * Ideal.logistic (A.rg b ch ⟨k.val, h⟩ l))
  else
    nrm (fun d => Ideal.logistic (A.mo b ch (headChan (k.val - 512) (by omega) d) l)
        * (A.hf b cs (headChan (k.val - 512) (by omega) d) l + A.hb b cs (headChan (k.val - 512) (by omega) d) l))
      ⟨(k.val - 512) % 128, by omega⟩ * A.gm ⟨k.val - 512, by omega⟩

/-- Whether a row of the results holds a token: the sequence's rows, then 112 rows of padding, then the meta tokens. -/
abbrev holds (r : Fin 8320) : Prop := r.val < 8192 ∨ 8304 ≤ r.val

/-- The words' comparisons say whether a row holds a token. -/
theorem holds_iff (r : Fin 8320) : IntOp.ori (IntOp.cmpi CmpIPredicate.slt (BitVec.ofNat 32 r.val) 8192#32)
    (IntOp.cmpi CmpIPredicate.sge (BitVec.ofNat 32 r.val) 8304#32) = 1#1 ↔ holds r := by
  revert r
  decide +kernel

/-- The residual stream entering the step, row by row of the results. -/
def Args.tok (A : Args) (b : Fin 4) (r : Fin 8320) (n : Fin 1024) : EReal :=
  if h : r.val < 8192 then A.x b ⟨r.val, h⟩ n else if h : r.val < 8304 then 0 else A.head ⟨r.val - 8304, by omega⟩ n

/-- The residual stream leaving the step. -/
def Args.h1 (A : Args) (b : Fin 4) (r : Fin 8320) (n : Fin 1024) : EReal :=
  if holds r then
    A.tok b r n + ∑ k, A.mixed b ⟨(r.val / 128 + 1) % 65, by omega⟩ ⟨r.val / 128, by omega⟩ ⟨r.val % 128, by omega⟩ k * A.wo k n
  else 0

/-- The normalised row that the router and the experts read. -/
def Args.u (A : Args) (b : Fin 4) (r : Fin 8320) : Fin 1024 → EReal := rms (A.h1 b r) A.fg

/-- The router's scores of a row. -/
def Args.logit (A : Args) (b : Fin 4) (r : Fin 8320) (e : Fin 16) : EReal := ∑ k, A.u b r k * A.wr k e

/-- The normalised row, the row's shares beside it, then zeros. -/
def Args.uaff (A : Args) (b : Fin 4) (r : Fin 8320) (n : Fin 1152) : EReal :=
  if h : n.val < 1024 then A.u b r ⟨n.val, h⟩
  else if h : n.val - 1024 < 16 then share (A.logit b r) ⟨n.val - 1024, h⟩ else 0

/-- The logarithms of a row's shares, `−∞` where there is no expert or no token. -/
def Args.laff (A : Args) (b : Fin 4) (r : Fin 8320) (n : Fin 128) : EReal :=
  if h : n.val < 16 then
    if holds r then max (Ideal.log (share (A.logit b r) ⟨n.val, h⟩)) least else ⊥
  else ⊥

/-- The pattern of `−∞`. -/
theorem neg_inf : Ideal.ofBits .f32 0xFF800000#32 = ⊥ := by simp [Ideal.ofBits, Ideal.ieee]

/-- A sum over 1024 in its two halves. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

end Cert.Mix

end
-- ==== Proof.MixMath.lean ====
/-
  The arithmetic of the extended reals behind the output step's router: a normalised row is finite; a difference of a
  finite number with itself is zero, so the second terms of a value split in two parts vanish; and sixteen of 128 lanes
  carry a row's shares.
-/
module

public import proofs.«01_k».proof.Proof.MixSpec

@[expose] public section

noncomputable section

open Idealize.ShloMosaic

namespace Cert.Mix

/-- An extended real that is a real. -/
abbrev Real' (x : EReal) : Prop := ∃ r : ℝ, x = (r : EReal)

/-- A real less itself is zero. -/
theorem sub_self_real {x : EReal} (h : Real' x) : x - x = 0 := by
  obtain ⟨r, rfl⟩ := h
  rw [← EReal.coe_sub, sub_self, EReal.coe_zero]

/-- The product of two reals is a real. -/
theorem mul_real {x y : EReal} (hx : Real' x) (hy : Real' y) : Real' (x * y) := by
  obtain ⟨r, rfl⟩ := hx
  obtain ⟨s, rfl⟩ := hy
  exact ⟨r * s, (EReal.coe_mul r s).symm⟩

/-- The sum of reals, in the extended reals. -/
theorem coe_sum_real {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A finite sum of reals is a real. -/
theorem sum_real {ι : Type} (s : Finset ι) (f : ι → EReal) (h : ∀ i, Real' (f i)) : Real' (∑ i ∈ s, f i) := by
  choose g hg using h
  exact ⟨∑ i ∈ s, g i, by rw [← coe_sum_real]; exact Finset.sum_congr rfl fun i _ => hg i⟩

/-- The square of an extended real is not negative. -/
theorem mul_self_nonneg (x : EReal) : 0 ≤ x * x := by
  induction x using EReal.rec with
  | bot => simp
  | top => simp
  | coe r => exact_mod_cast _root_.mul_self_nonneg r

/-- The constant that the mean of a row divides by is 1024. -/
theorem c1024_eq : c1024 = ((1024 : ℝ) : EReal) := by
  simp [c1024, Ideal.ofBits, Ideal.ieee, -EReal.coe_mul]; norm_num

/-- The constant added under the root is a positive real. -/
theorem eps_eq : ∃ e : ℝ, 0 < e ∧ eps = (e : EReal) := by
  refine ⟨8796093 * 2 ^ (-43 : ℤ), by positivity, ?_⟩
  simp [eps, Ideal.ofBits, Ideal.ieee, -EReal.coe_mul]

/-- A normalised row is finite where the norm's gain is. -/
theorem rms_real (h g : Fin 1024 → EReal) (hg : ∀ k, Real' (g k)) (k : Fin 1024) : Real' (rms h g k) := by
  unfold rms
  refine mul_real ?_ (hg k)
  obtain ⟨e, he, hee⟩ := eps_eq
  by_cases hall : ∀ x, Real' (h x)
  · choose f hf using hall
    have hs : ∑ x, h x * h x = ((∑ x, f x * f x : ℝ) : EReal) := by
      rw [← coe_sum_real]; exact Finset.sum_congr rfl fun x _ => by rw [hf, EReal.coe_mul]
    have h0 : 0 ≤ ∑ x, f x * f x := Finset.sum_nonneg fun x _ => _root_.mul_self_nonneg _
    rw [hs, c1024_eq, Ideal.div_coe (by norm_num), hee, ← EReal.coe_mul, ← EReal.coe_add, hf]
    have hp : 0 < (∑ x, f x * f x) * (1 / 1024) + e := by positivity
    refine mul_real ⟨_, rfl⟩ ?_
    show Real' (if _ then _ else _)
    rw [if_neg (not_lt.mpr hp.le), if_neg hp.ne']
    exact ⟨_, rfl⟩
  · push Not at hall
    obtain ⟨x0, hx0⟩ := hall
    have ht : h x0 * h x0 = ⊤ := by
      generalize h x0 = z at hx0
      induction z using EReal.rec with
      | bot => simp
      | top => simp
      | coe r => exact absurd rfl (hx0 r)
    have hs : ∑ x, h x * h x = ⊤ := by
      refine top_le_iff.mp ?_
      rw [← ht]
      exact Finset.single_le_sum (f := fun x => h x * h x) (fun x _ => mul_self_nonneg _) (Finset.mem_univ x0)
    rw [hs, c1024_eq, Ideal.div_coe (by norm_num), hee, EReal.top_mul_coe_of_pos (by norm_num), EReal.top_add_coe]
    show Real' (h k * 0)
    rw [mul_zero]
    exact ⟨0, rfl⟩

/-- A row of scores less its greatest over the sixteen experts' lanes. -/
def lessTop (l : Fin 128 → EReal) (n : Fin 128) : EReal :=
  (if n.val < 16 then l n else ⊥) - (Finset.univ : Finset (Fin 128)).fold max ⊥ (fun x => if x.val < 16 then l x else ⊥)

/-- The greatest over 128 lanes, sixteen of them finite. -/
theorem fold_lanes (l : Fin 128 → EReal) :
    (Finset.univ : Finset (Fin 128)).fold max ⊥ (fun x => if x.val < 16 then l x else ⊥) = top (fun e => l ⟨e.val, by omega⟩) := by
  unfold top
  apply le_antisymm
  · rw [Finset.fold_max_le]
    refine ⟨bot_le, fun x _ => ?_⟩
    split
    · next h => exact (Finset.le_fold_max _).mpr (Or.inr ⟨⟨x.val, h⟩, Finset.mem_univ _, le_rfl⟩)
    · exact bot_le
  · rw [Finset.fold_max_le]
    refine ⟨bot_le, fun e _ => (Finset.le_fold_max _).mpr (Or.inr ⟨⟨e.val, by omega⟩, Finset.mem_univ _, ?_⟩)⟩
    show _ ≤ if e.val < 16 then _ else _
    rw [if_pos e.isLt]

/-- The greatest of sixteen reals is a real. -/
theorem top_real (l : Fin 16 → EReal) (h : ∀ e, Real' (l e)) : Real' (top l) := by
  have hne : top l ≠ ⊤ := by
    have : top l < ⊤ := by
      unfold top
      rw [Finset.fold_max_lt]
      exact ⟨bot_lt_top, fun e _ => by obtain ⟨r, hr⟩ := h e; rw [hr]; exact EReal.coe_lt_top r⟩
    exact this.ne
  have hnb : top l ≠ ⊥ := by
    have : ⊥ < top l := by
      obtain ⟨r, hr⟩ := h 0
      refine lt_of_lt_of_le (EReal.bot_lt_coe r) ?_
      exact (Finset.le_fold_max _).mpr (Or.inr ⟨0, Finset.mem_univ _, hr.ge⟩)
    exact this.ne'
  exact ⟨(top l).toReal, (EReal.coe_toReal hne hnb).symm⟩

/-- An expert's lane. -/
theorem lessTop_lt (l : Fin 128 → EReal) (n : Fin 128) (h : n.val < 16) :
    lessTop l n = l n - top (fun e => l ⟨e.val, by omega⟩) := by
  unfold lessTop; rw [fold_lanes, if_pos h]

/-- A lane beyond the experts'. -/
theorem lessTop_ge (l : Fin 128 → EReal) (h : ∀ e : Fin 16, Real' (l ⟨e.val, by omega⟩)) (n : Fin 128) (hn : ¬ n.val < 16) :
    lessTop l n = ⊥ := by
  unfold lessTop; rw [fold_lanes, if_neg hn]
  obtain ⟨r, hr⟩ := top_real _ h
  rw [hr]; rfl

/-- The exponentials of 128 lanes sum as the sixteen experts' do. -/
theorem sum_exp (l : Fin 128 → EReal) (h : ∀ e : Fin 16, Real' (l ⟨e.val, by omega⟩)) :
    ∑ x, Ideal.exp (lessTop l x) = ∑ e : Fin 16, Ideal.exp (l ⟨e.val, by omega⟩ - top (fun e => l ⟨e.val, by omega⟩)) := by
  rw [show (∑ x, Ideal.exp (lessTop l x)) = (∑ e : Fin 16, Ideal.exp (lessTop l ⟨e.val, by omega⟩)) + ∑ e : Fin 112, Ideal.exp (lessTop l ⟨16 + e.val, by omega⟩)
    from Fin.sum_univ_add (a := 16) (b := 112) fun x => Ideal.exp (lessTop l x)]
  have z : ∑ e : Fin 112, Ideal.exp (lessTop l ⟨16 + e.val, by omega⟩) = 0 := Finset.sum_eq_zero fun e _ => by
    rw [lessTop_ge l h _ (by simp)]; rfl
  rw [z, add_zero]
  exact Finset.sum_congr rfl fun e _ => by rw [lessTop_lt l _ e.isLt]

/-- The exponentials of sixteen reals sum to a positive real. -/
theorem sum_exp_pos (l : Fin 16 → EReal) (h : ∀ e, Real' (l e)) :
    ∃ t : ℝ, 0 < t ∧ ∑ e, Ideal.exp (l e - top l) = (t : EReal) := by
  obtain ⟨m, hm⟩ := top_real l h
  choose f hf using h
  refine ⟨∑ e, Real.exp (f e - m), Finset.sum_pos (fun e _ => Real.exp_pos _) ⟨0, Finset.mem_univ _⟩, ?_⟩
  rw [← coe_sum_real]
  exact Finset.sum_congr rfl fun e _ => by rw [hf, hm, ← EReal.coe_sub]; rfl

/-- A lane's share of a row: the expert's, or zero. -/
theorem lane_share (l : Fin 128 → EReal) (h : ∀ e : Fin 16, Real' (l ⟨e.val, by omega⟩)) (n : Fin 128) :
    Ideal.div (Ideal.exp (lessTop l n)) (∑ x, Ideal.exp (lessTop l x))
      = if hn : n.val < 16 then share (fun e => l ⟨e.val, by omega⟩) ⟨n.val, hn⟩ else 0 := by
  rw [sum_exp l h]
  split
  · next hn => rw [lessTop_lt l n hn]; rfl
  · next hn =>
    rw [lessTop_ge l h n hn]
    obtain ⟨t, ht, hs⟩ := sum_exp_pos _ h
    refine Ideal.zero_div ?_
    rw [hs]; exact_mod_cast ht.ne'

/-- A share is a real. -/
theorem share_real (l : Fin 16 → EReal) (h : ∀ e, Real' (l e)) (e : Fin 16) : Real' (share l e) := by
  obtain ⟨t, ht, hs⟩ := sum_exp_pos l h
  obtain ⟨m, hm⟩ := top_real l h
  obtain ⟨f, hf⟩ := h e
  unfold share
  rw [hs, Ideal.div_coe ht.ne', hf, hm, ← EReal.coe_sub]
  exact mul_real ⟨Real.exp (f - m), rfl⟩ ⟨_, rfl⟩

/-- The logarithm of a share is the difference the kernel takes. -/
theorem log_share (l : Fin 16 → EReal) (h : ∀ e, Real' (l e)) (e : Fin 16) :
    l e - top l - Ideal.log (∑ x, Ideal.exp (l x - top l)) = Ideal.log (share l e) := by
  obtain ⟨t, ht, hs⟩ := sum_exp_pos l h
  obtain ⟨m, hm⟩ := top_real l h
  obtain ⟨f, hf⟩ := h e
  unfold share
  rw [hs, Ideal.div_coe ht.ne', hf, hm, ← EReal.coe_sub]
  have hp : 0 < Real.exp (f - m) * (1 / t) := by positivity
  show ((f - m : ℝ) : EReal) - (if t ≤ 0 then ⊥ else (Real.log t : EReal)) = Ideal.log ((Real.exp (f - m) : EReal) * ((1 / t : ℝ) : EReal))
  rw [if_neg (not_le.mpr ht), ← EReal.coe_mul]
  show _ = (if Real.exp (f - m) * (1 / t) ≤ 0 then ⊥ else (Real.log (Real.exp (f - m) * (1 / t)) : EReal))
  rw [if_neg (not_le.mpr hp), ← EReal.coe_sub, Real.log_mul (Real.exp_pos _).ne' (by positivity), Real.log_exp, one_div, Real.log_inv]
  rfl

/-- A lane's shares with the vanishing corrections of its two parts. -/
theorem parts_vanish (a b c : EReal) (hb : Real' b) (hc : Real' c) : a + (b - b) + (c - c - (c - c)) = a := by
  rw [sub_self_real hb, sub_self_real hc]; simp

/-- A product in three parts, the left and the right factor each split in two: the parts beyond the first vanish. -/
theorem sum_parts (u w : Fin 1024 → EReal) (hu : ∀ k, Real' (u k)) (hw : ∀ k, Real' (w k)) (U W : Fin 3072 → EReal)
    (h0 : ∀ k : Fin 1024, U ⟨k.val, by omega⟩ = u k) (h1 : ∀ k : Fin 1024, U ⟨1024 + k.val, by omega⟩ = u k - u k)
    (h2 : ∀ k : Fin 1024, U ⟨2048 + k.val, by omega⟩ = u k) (w0 : ∀ k : Fin 1024, W ⟨k.val, by omega⟩ = w k)
    (w2 : ∀ k : Fin 1024, W ⟨2048 + k.val, by omega⟩ = w k - w k) :
    ∑ k, U k * W k = ∑ k, u k * w k := by
  rw [show (∑ k, U k * W k) = (∑ k : Fin 2048, U ⟨k.val, by omega⟩ * W ⟨k.val, by omega⟩) + ∑ k : Fin 1024, U ⟨2048 + k.val, by omega⟩ * W ⟨2048 + k.val, by omega⟩
    from Fin.sum_univ_add (a := 2048) (b := 1024) fun k => U k * W k]
  rw [show (∑ k : Fin 2048, U ⟨k.val, by omega⟩ * W ⟨k.val, by omega⟩) = (∑ k : Fin 1024, U ⟨k.val, by omega⟩ * W ⟨k.val, by omega⟩) + ∑ k : Fin 1024, U ⟨1024 + k.val, by omega⟩ * W ⟨1024 + k.val, by omega⟩
    from Fin.sum_univ_add (a := 1024) (b := 1024) fun k : Fin 2048 => U ⟨k.val, by omega⟩ * W ⟨k.val, by omega⟩]
  simp only [h0, h1, h2, w0, w2, sub_self_real (hu _), sub_self_real (hw _), zero_mul, mul_zero, Finset.sum_const_zero, add_zero]

/-- The norm's gain and the router's weights are finite. -/
def Args.Finite (A : Args) : Prop := (∀ k, Real' (A.fg k)) ∧ ∀ k e, Real' (A.wr k e)

/-- With a finite gain, the normalised row's entries are reals. -/
theorem Args.u_real (A : Args) (fin : A.Finite) (b : Fin 4) (r : Fin 8320) (k : Fin 1024) : Real' (A.u b r k) :=
  rms_real _ _ fin.1 k

/-- With a finite gain and finite router weights, the router's scores are reals. -/
theorem Args.logit_real (A : Args) (fin : A.Finite) (b : Fin 4) (r : Fin 8320) (e : Fin 16) : Real' (A.logit b r e) :=
  sum_real _ _ fun k => mul_real (A.u_real fin b r k) (fin.2 k e)

end Cert.Mix

end
-- ==== Proof.MixRows.lean ====
module

public import proofs.«01_k».proof.Proof.MixVec
public import proofs.«01_k».proof.Proof.MixMath

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic

/-- The normalised rows of the first three chunks. -/
def rmsA (h : FVec Ideal S384x1024 .f32) (g : Vec Ideal S1x1024 .f32) : FVec Ideal S384x1024 .f32 :=
  mulf (mulf h (broadcastTo S384x1024 (rsqrt (addf (divf (shapeCast S384x1 (multiReduction .add [1] S384 (mulf h h) 0x00000000#32
    reduces_S384x1024_S384 (.inl rfl) rfl) shapeCasts_S384_S384x1) (broadcast S384x1 (Scalar.ofBits .f32 0x44800000#32 : Ideal .f32)))
    (broadcast S384x1 (Scalar.ofBits .f32 0x358637BD#32 : Ideal .f32)))) broadcasts_S384x1_S384x1024))
    (broadcastTo S384x1024 g broadcasts_S1x1024_S384x1024)

/-- The normalised rows of the last two chunks. -/
def rmsB (h : FVec Ideal S256x1024 .f32) (g : Vec Ideal S1x1024 .f32) : FVec Ideal S256x1024 .f32 :=
  mulf (mulf h (broadcastTo S256x1024 (rsqrt (addf (divf (shapeCast S256x1 (multiReduction .add [1] S256 (mulf h h) 0x00000000#32
    reduces_S256x1024_S256 (.inl rfl) rfl) shapeCasts_S256_S256x1) (broadcast S256x1 (Scalar.ofBits .f32 0x44800000#32 : Ideal .f32)))
    (broadcast S256x1 (Scalar.ofBits .f32 0x358637BD#32 : Ideal .f32)))) broadcasts_S256x1_S256x1024))
    (broadcastTo S256x1024 g broadcasts_S1x1024_S256x1024)

/-- The router's scores of the first three chunks' rows. -/
def scoresA (u : FVec Ideal S384x1024 .f32) (w : FVec Ideal S3072x128 .bf16) : FVec Ideal S384x128 .f32 :=
  matmul dot_S384x3072_S3072x128_S384x128_1_0_0_1_n_n none
    (concatenate S384x3072 1 [⟨S384x1024, (truncf .bf16 u bitsLt_bf16_f32 : FVec Ideal S384x1024 .bf16)⟩,
      ⟨S384x1024, (truncf .bf16 (subf u (extf .f32 (truncf .bf16 u bitsLt_bf16_f32 : FVec Ideal S384x1024 .bf16) bitsLt_bf16_f32)) bitsLt_bf16_f32 : FVec Ideal S384x1024 .bf16)⟩,
      ⟨S384x1024, (truncf .bf16 u bitsLt_bf16_f32 : FVec Ideal S384x1024 .bf16)⟩] concatenates_S384x1024_S384x1024_S384x1024_S384x3072_d1)
    (shapeCast S3072x128 w shapeCasts_S3072x128_S3072x128) (constant S384x128 .f32 0x00000000#32)

/-- The router's scores of the last two chunks' rows. -/
def scoresB (u : FVec Ideal S256x1024 .f32) (w : FVec Ideal S3072x128 .bf16) : FVec Ideal S256x128 .f32 :=
  matmul dot_S256x3072_S3072x128_S256x128_1_0_0_1_n_n none
    (concatenate S256x3072 1 [⟨S256x1024, (truncf .bf16 u bitsLt_bf16_f32 : FVec Ideal S256x1024 .bf16)⟩,
      ⟨S256x1024, (truncf .bf16 (subf u (extf .f32 (truncf .bf16 u bitsLt_bf16_f32 : FVec Ideal S256x1024 .bf16) bitsLt_bf16_f32)) bitsLt_bf16_f32 : FVec Ideal S256x1024 .bf16)⟩,
      ⟨S256x1024, (truncf .bf16 u bitsLt_bf16_f32 : FVec Ideal S256x1024 .bf16)⟩] concatenates_S256x1024_S256x1024_S256x1024_S256x3072_d1)
    (shapeCast S3072x128 w shapeCasts_S3072x128_S3072x128) (constant S256x128 .f32 0x00000000#32)

/-- The scores of the first three chunks' rows over the sixteen experts' lanes, less each row's greatest. -/
def lessTopA (l : FVec Ideal S384x128 .f32) : FVec Ideal S384x128 .f32 :=
  subf (select (cmpi .slt (iota .tc S384x128 32 [1] iota_S384x128_d1_w32) (broadcast S384x128 16#32)) l
      (broadcast S384x128 (Named.named κ "mask" 0xF149F2CA#32 : Ideal .f32)))
    (broadcastTo S384x128 (shapeCast S384x1 (multiReduction .maximumf [1] S384
      (select (cmpi .slt (iota .tc S384x128 32 [1] iota_S384x128_d1_w32) (broadcast S384x128 16#32)) l
        (broadcast S384x128 (Named.named κ "mask" 0xF149F2CA#32 : Ideal .f32)))
      0xFF800000#32 reduces_S384x128_S384 (.inl rfl) rfl) shapeCasts_S384_S384x1) broadcasts_S384x1_S384x128)

/-- The sums of the exponentials of the first three chunks' rows. -/
def totalA (s : FVec Ideal S384x128 .f32) : FVec Ideal S384x1 .f32 :=
  shapeCast S384x1 (multiReduction .add [1] S384 (exp s) 0x00000000#32 reduces_S384x128_S384 (.inl rfl) rfl) shapeCasts_S384_S384x1

/-- The shares of the first three chunks' rows. -/
def sharesA (s : FVec Ideal S384x128 .f32) : FVec Ideal S384x128 .f32 :=
  divf (exp s) (broadcastTo S384x128 (totalA s) broadcasts_S384x1_S384x128)

/-- The scores of the last two chunks' rows over the sixteen experts' lanes, less each row's greatest. -/
def lessTopB (l : FVec Ideal S256x128 .f32) : FVec Ideal S256x128 .f32 :=
  subf (select (cmpi .slt (iota .tc S256x128 32 [1] iota_S256x128_d1_w32) (broadcast S256x128 16#32)) l
      (broadcast S256x128 (Named.named κ "mask" 0xF149F2CA#32 : Ideal .f32)))
    (broadcastTo S256x128 (shapeCast S256x1 (multiReduction .maximumf [1] S256
      (select (cmpi .slt (iota .tc S256x128 32 [1] iota_S256x128_d1_w32) (broadcast S256x128 16#32)) l
        (broadcast S256x128 (Named.named κ "mask" 0xF149F2CA#32 : Ideal .f32)))
      0xFF800000#32 reduces_S256x128_S256 (.inl rfl) rfl) shapeCasts_S256_S256x1) broadcasts_S256x1_S256x128)

/-- The sums of the exponentials of the last two chunks' rows. -/
def totalB (s : FVec Ideal S256x128 .f32) : FVec Ideal S256x1 .f32 :=
  shapeCast S256x1 (multiReduction .add [1] S256 (exp s) 0x00000000#32 reduces_S256x128_S256 (.inl rfl) rfl) shapeCasts_S256_S256x1

/-- The shares of the last two chunks' rows. -/
def sharesB (s : FVec Ideal S256x128 .f32) : FVec Ideal S256x128 .f32 :=
  divf (exp s) (broadcastTo S256x128 (totalB s) broadcasts_S256x1_S256x128)

/-- The first three chunks' rows with their shares beside them. -/
def tailA (u : FVec Ideal S384x1024 .bf16) (v562 : FVec Ideal S384x128 .f32) : FVec Ideal S1x384x1152 .bf16 :=
  have v563 := truncf .bf16 v562 bitsLt_bf16_f32
  have v564 := extf .f32 v563 bitsLt_bf16_f32
  have v565 := subf v562 v564
  have v566 := truncf .bf16 v565 bitsLt_bf16_f32
  have v567 := extf .f32 v566 bitsLt_bf16_f32
  have v568 := subf v562 v564
  have v569 := subf v568 v567
  have v570 := truncf .bf16 v569 bitsLt_bf16_f32
  have v571 := extf .f32 v570 bitsLt_bf16_f32
  have v572 := dynamicRotate 1 16#32 none v567 rotates_S384x128_d1
  have v573 := addf v564 v572
  have v574 := dynamicRotate 1 32#32 none v571 rotates_S384x128_d1
  have v575 := addf v573 v574
  have v576 := truncf .bf16 v575 bitsLt_bf16_f32
  have v577 := concatenate S384x1152 1 [⟨S384x1024, u⟩, ⟨S384x128, v576⟩] concatenates_S384x1024_S384x128_S384x1152_d1
  shapeCast S1x384x1152 v577 shapeCasts_S384x1152_S1x384x1152

/-- The named mask is `−∞`. -/
theorem mask_bot : (Named.named κ "mask" 0xF149F2CA#32 : Ideal .f32) = (⊥ : EReal) := rfl

/-- A word comparison says whether a lane is an expert's. -/
theorem lane_lt (n : Fin 128) : IntOp.cmpi CmpIPredicate.slt (BitVec.ofNat 32 n.val) 16#32 = 1#1 ↔ n.val < 16 := by
  revert n
  decide +kernel

/-- A choice by two bits. -/
theorem select_and (c d : BitVec 1) (x y : EReal) :
    Scalar.select (IntOp.andi c d) x y = if d = 1#1 then (if c = 1#1 then x else y) else y := by
  rcases (by decide +revert : c = 0#1 ∨ c = 1#1) with rfl | rfl <;> rcases (by decide +revert : d = 0#1 ∨ d = 1#1) with rfl | rfl <;> rfl

/-- A normalised row. -/
theorem rmsA_at (h : FVec Ideal S384x1024 .f32) (g : Vec Ideal S1x1024 .f32) (r : Fin 384) (k : Fin 1024) :
    rmsA h g (ix2 r k) = Cert.Mix.rms (fun x => h (ix2 r x)) (fun x => g (ix2 0 x)) k := by
  pointwise [rmsA]
  rfl

/-- A row's score: the product over the three parts. -/
theorem scoresA_at (u : FVec Ideal S384x1024 .f32) (w : FVec Ideal S3072x128 .bf16) (r : Fin 384) (n : Fin 128) :
    scoresA u w (ix2 r n) = ∑ k : Fin 3072, (if h : k.val < 1024 then u (ix2 r ⟨k.val, h⟩)
      else if h : k.val - 1024 < 1024 then u (ix2 r ⟨k.val - 1024, h⟩) - u (ix2 r ⟨k.val - 1024, h⟩)
      else u (ix2 r ⟨k.val - 1024 - 1024, by omega⟩)) * w (ix2 k n) := by
  pointwise [scoresA]

/-- A row's score less the row's greatest. -/
theorem lessTopA_at (l : FVec Ideal S384x128 .f32) (r : Fin 384) (n : Fin 128) :
    lessTopA l (ix2 r n) = Cert.Mix.lessTop (fun x => l (ix2 r x)) n := by
  pointwise [lessTopA]
  have e : ∀ (n : Fin 128), Scalar.select (IntOp.cmpi CmpIPredicate.slt (BitVec.ofNat 32 n.val) 16#32) (l (ix2 r n)) (Named.named κ "mask" 0xF149F2CA#32 : Ideal .f32)
      = if n.val < 16 then l (ix2 r n) else (⊥ : EReal) := fun n => if_congr (lane_lt n) rfl rfl
  unfold Cert.Mix.lessTop
  refine congrArg₂ (fun a b : EReal => a - b) (e n) ?_
  rw [Cert.Mix.neg_inf]
  exact congrArg (fun f => Finset.fold max ⊥ f Finset.univ) (funext e)

/-- A row's sum of exponentials. -/
theorem totalA_at (s : FVec Ideal S384x128 .f32) (r : Fin 384) (n : Fin 1) :
    totalA s (ix2 r n) = ∑ x, Ideal.exp (s (ix2 r x)) := by
  pointwise [totalA]

/-- A row's shares. -/
theorem sharesA_at (s : FVec Ideal S384x128 .f32) (r : Fin 384) (n : Fin 128) :
    sharesA s (ix2 r n) = Ideal.div (Ideal.exp (s (ix2 r n))) (∑ x, Ideal.exp (s (ix2 r x))) := by
  pointwise [sharesA, totalA]

/-- What the body stores beside a row: the row, then its shares with the corrections of their parts. -/
theorem pay73_at (u : FVec Ideal S384x1024 .bf16) (l : FVec Ideal S384x128 .f32) (r : Fin 384) (n : Fin 1152) :
    k0_pay73 u l (ix3 0 r n) = (if h : n.val < 1024 then u (ix2 r ⟨n.val, h⟩)
      else sharesA (lessTopA l) (ix2 r ⟨n.val - 1024, by omega⟩)
        + (sharesA (lessTopA l) (ix2 r ⟨(n.val - 1024 + 128 - 16) % 128, by omega⟩) - sharesA (lessTopA l) (ix2 r ⟨(n.val - 1024 + 128 - 16) % 128, by omega⟩))
        + (sharesA (lessTopA l) (ix2 r ⟨(n.val - 1024 + 128 - 32) % 128, by omega⟩) - sharesA (lessTopA l) (ix2 r ⟨(n.val - 1024 + 128 - 32) % 128, by omega⟩)
          - (sharesA (lessTopA l) (ix2 r ⟨(n.val - 1024 + 128 - 32) % 128, by omega⟩) - sharesA (lessTopA l) (ix2 r ⟨(n.val - 1024 + 128 - 32) % 128, by omega⟩)))) := by
  have e : k0_pay73 u l = tailA u (sharesA (lessTopA l)) := rfl
  rw [e]
  generalize sharesA (lessTopA l) = a
  pointwise [tailA]

/-- The logarithm the body stores at a lane. -/
theorem pay75_at (real : IVec S384x1 1) (l : FVec Ideal S384x128 .f32) (r : Fin 384) (n : Fin 128) :
    k0_pay75 (k0_pay74 real l) (ix3 0 r n) = if n.val < 16 then
        (if real (ix2 r 0) = 1#1 then max (lessTopA l (ix2 r n) - Ideal.log (∑ x, Ideal.exp (lessTopA l (ix2 r x)))) Cert.Mix.least else ⊥)
      else ⊥ := by
  show k0_pay75 (select (andi (broadcastTo S384x128 real broadcasts_S384x1_S384x128) (cmpi .slt (iota .tc S384x128 32 [1] iota_S384x128_d1_w32) (broadcast S384x128 16#32))) (maximumf (subf (lessTopA l) (broadcastTo S384x128 (log (totalA (lessTopA l))) broadcasts_S384x1_S384x128)) (broadcast S384x128 (Scalar.ofBits .f32 0xC5FA0000#32 : Ideal .f32))) (broadcast S384x128 (Named.named κ "mask" 0xF149F2CA#32 : Ideal .f32))) (ix3 0 r n) = _
  refine Eq.trans (b := Scalar.select (IntOp.andi (real (ix2 r 0)) (IntOp.cmpi CmpIPredicate.slt (BitVec.ofNat 32 n.val) 16#32))
    (max (lessTopA l (ix2 r n) - Ideal.log (totalA (lessTopA l) (ix2 r 0))) (Ideal.ofBits .f32 0xC5FA0000#32)) (Named.named κ "mask" 0xF149F2CA#32 : Ideal .f32)) ?_ ?_
  · pointwise [k0_pay75]
  · rw [totalA_at, select_and, mask_bot]
    exact if_congr (lane_lt n) rfl rfl

section
variable (A : Cert.Mix.Args) (fin : A.Finite) (b : Fin 4) (R : Fin 8320)
  (h : FVec Ideal S384x1024 .f32) (g : Vec Ideal S1x1024 .f32) (w : FVec Ideal S3072x128 .bf16) (r : Fin 384)
  (hh : ∀ x, h (ix2 r x) = A.h1 b R x) (hg : ∀ x, g (ix2 0 x) = A.fg x)
  (w0 : ∀ (k : Fin 1024) (e : Fin 16), w (ix2 (Cert.Mix.hiRow k) (Cert.Mix.lane e)) = A.wr k e)
  (w2 : ∀ (k : Fin 1024) (e : Fin 16), w (ix2 (Cert.Mix.loRow k) (Cert.Mix.lane e)) = A.wr k e - A.wr k e)
include hh hg

/-- The normalised row is the step's. -/
theorem uA (k : Fin 1024) : rmsA h g (ix2 r k) = A.u b R k := by
  rw [rmsA_at]
  unfold Cert.Mix.Args.u
  exact congrArg₂ (fun f g => Cert.Mix.rms f g k) (funext hh) (funext hg)

include fin w0 w2

/-- An expert's score is the step's. -/
theorem logitA (e : Fin 16) : scoresA (rmsA h g) w (ix2 r ⟨e.val, by omega⟩) = A.logit b R e := by
  rw [scoresA_at]
  unfold Cert.Mix.Args.logit
  have hu := uA A b R h g r hh hg
  refine Cert.Mix.sum_parts (A.u b R) (fun k => A.wr k e) (A.u_real fin b R) (fun k => fin.2 k e) _ _ ?_ ?_ ?_ (fun k => w0 k e) (fun k => w2 k e)
  · intro k
    dsimp only
    rw [dif_pos k.isLt]; exact hu k
  · intro k
    dsimp only
    have e1 : 1024 + k.val - 1024 = k.val := by omega
    rw [dif_neg (by omega), dif_pos (by omega)]
    simp only [e1, hu]
  · intro k
    dsimp only
    have e1 : 2048 + k.val - 1024 - 1024 = k.val := by omega
    rw [dif_neg (by omega), dif_neg (by omega)]
    simp only [e1, hu]

/-- The lane of the row's share. -/
theorem laneA (n : Fin 128) : sharesA (lessTopA (scoresA (rmsA h g) w)) (ix2 r n)
    = if hn : n.val < 16 then Cert.Mix.share (A.logit b R) ⟨n.val, hn⟩ else 0 := by
  have hl := logitA A fin b R h g w r hh hg w0 w2
  rw [sharesA_at]
  simp only [lessTopA_at]
  rw [Cert.Mix.lane_share _ (fun e => by rw [hl e]; exact A.logit_real fin b R e)]
  simp only [hl]

/-- What the body stores beside the row. -/
theorem uaffA (n : Fin 1152) : k0_pay73 (truncf .bf16 (rmsA h g) bitsLt_bf16_f32) (scoresA (rmsA h g) w) (ix3 0 r n) = A.uaff b R n := by
  have hu := uA A b R h g r hh hg
  have hs := laneA A fin b R h g w r hh hg w0 w2
  have hr : ∀ n, Cert.Mix.Real' (sharesA (lessTopA (scoresA (rmsA h g) w)) (ix2 r n)) := fun n => by
    rw [hs n]
    split
    · exact Cert.Mix.share_real _ (A.logit_real fin b R) _
    · exact ⟨0, rfl⟩
  refine (pay73_at _ _ r n).trans ?_
  unfold Cert.Mix.Args.uaff
  by_cases hn : n.val < 1024
  · rw [dif_pos hn, dif_pos hn]; exact hu _
  · rw [dif_neg hn, dif_neg hn]
    refine (Cert.Mix.parts_vanish _ _ _ (hr _) (hr _)).trans ?_
    exact hs _

/-- The logarithms the body stores. -/
theorem laffA (real : IVec S384x1 1) (hR : real (ix2 r 0) = 1#1 ↔ Cert.Mix.holds R) (n : Fin 128) :
    k0_pay75 (k0_pay74 real (scoresA (rmsA h g) w)) (ix3 0 r n) = A.laff b R n := by
  have hl := logitA A fin b R h g w r hh hg w0 w2
  refine (pay75_at _ _ r n).trans ?_
  unfold Cert.Mix.Args.laff
  by_cases hn : n.val < 16
  · rw [if_pos hn, dif_pos hn]
    refine if_congr hR ?_ rfl
    refine congrArg₂ (fun a b : EReal => max a b) ?_ rfl
    simp only [lessTopA_at]
    rw [Cert.Mix.lessTop_lt _ n hn, Cert.Mix.sum_exp _ (fun e => by rw [hl e]; exact A.logit_real fin b R e)]
    simp only [hl]
    refine Eq.trans ?_ (Cert.Mix.log_share _ (A.logit_real fin b R) ⟨n.val, hn⟩)
    rw [← hl ⟨n.val, hn⟩]
  · rw [if_neg hn, dif_neg hn]

end

/-- A normalised row. -/
theorem rmsB_at (h : FVec Ideal S256x1024 .f32) (g : Vec Ideal S1x1024 .f32) (r : Fin 256) (k : Fin 1024) :
    rmsB h g (ix2 r k) = Cert.Mix.rms (fun x => h (ix2 r x)) (fun x => g (ix2 0 x)) k := by
  pointwise [rmsB]
  rfl

/-- A row's score: the product over the three parts. -/
theorem scoresB_at (u : FVec Ideal S256x1024 .f32) (w : FVec Ideal S3072x128 .bf16) (r : Fin 256) (n : Fin 128) :
    scoresB u w (ix2 r n) = ∑ k : Fin 3072, (if h : k.val < 1024 then u (ix2 r ⟨k.val, h⟩)
      else if h : k.val - 1024 < 1024 then u (ix2 r ⟨k.val - 1024, h⟩) - u (ix2 r ⟨k.val - 1024, h⟩)
      else u (ix2 r ⟨k.val - 1024 - 1024, by omega⟩)) * w (ix2 k n) := by
  pointwise [scoresB]

/-- A row's score less the row's greatest. -/
theorem lessTopB_at (l : FVec Ideal S256x128 .f32) (r : Fin 256) (n : Fin 128) :
    lessTopB l (ix2 r n) = Cert.Mix.lessTop (fun x => l (ix2 r x)) n := by
  pointwise [lessTopB]
  have e : ∀ (n : Fin 128), Scalar.select (IntOp.cmpi CmpIPredicate.slt (BitVec.ofNat 32 n.val) 16#32) (l (ix2 r n)) (Named.named κ "mask" 0xF149F2CA#32 : Ideal .f32)
      = if n.val < 16 then l (ix2 r n) else (⊥ : EReal) := fun n => if_congr (lane_lt n) rfl rfl
  unfold Cert.Mix.lessTop
  refine congrArg₂ (fun a b : EReal => a - b) (e n) ?_
  rw [Cert.Mix.neg_inf]
  exact congrArg (fun f => Finset.fold max ⊥ f Finset.univ) (funext e)

/-- A row's sum of exponentials. -/
theorem totalB_at (s : FVec Ideal S256x128 .f32) (r : Fin 256) (n : Fin 1) :
    totalB s (ix2 r n) = ∑ x, Ideal.exp (s (ix2 r x)) := by
  pointwise [totalB]

/-- A row's shares. -/
theorem sharesB_at (s : FVec Ideal S256x128 .f32) (r : Fin 256) (n : Fin 128) :
    sharesB s (ix2 r n) = Ideal.div (Ideal.exp (s (ix2 r n))) (∑ x, Ideal.exp (s (ix2 r x))) := by
  pointwise [sharesB, totalB]

/-- What the body stores beside a row: the row, then its shares with the corrections of their parts. -/
theorem pay113_at (u : FVec Ideal S256x1024 .bf16) (l : FVec Ideal S256x128 .f32) (r : Fin 256) (n : Fin 1152) :
    k0_pay113 u (sharesB (lessTopB l)) (sharesB (lessTopB l)) (ix3 0 r n) = (if h : n.val < 1024 then u (ix2 r ⟨n.val, h⟩)
      else sharesB (lessTopB l) (ix2 r ⟨n.val - 1024, by omega⟩)
        + (sharesB (lessTopB l) (ix2 r ⟨(n.val - 1024 + 128 - 16) % 128, by omega⟩) - sharesB (lessTopB l) (ix2 r ⟨(n.val - 1024 + 128 - 16) % 128, by omega⟩))
        + (sharesB (lessTopB l) (ix2 r ⟨(n.val - 1024 + 128 - 32) % 128, by omega⟩) - sharesB (lessTopB l) (ix2 r ⟨(n.val - 1024 + 128 - 32) % 128, by omega⟩)
          - (sharesB (lessTopB l) (ix2 r ⟨(n.val - 1024 + 128 - 32) % 128, by omega⟩) - sharesB (lessTopB l) (ix2 r ⟨(n.val - 1024 + 128 - 32) % 128, by omega⟩)))) := by
  generalize sharesB (lessTopB l) = a
  pointwise [k0_pay113]

/-- The logarithm the body stores at a lane. -/
theorem pay114_at (real : IVec S256x1 1) (l : FVec Ideal S256x128 .f32) (r : Fin 256) (n : Fin 128) :
    k0_pay1 (k0_pay114 real (iota .tc S256x128 32 [1] iota_S256x128_d1_w32) (lessTopB l) (totalB (lessTopB l))) (ix3 0 r n) = if n.val < 16 then
        (if real (ix2 r 0) = 1#1 then max (lessTopB l (ix2 r n) - Ideal.log (∑ x, Ideal.exp (lessTopB l (ix2 r x)))) Cert.Mix.least else ⊥)
      else ⊥ := by
  refine Eq.trans (b := Scalar.select (IntOp.andi (real (ix2 r 0)) (IntOp.cmpi CmpIPredicate.slt (BitVec.ofNat 32 n.val) 16#32))
    (max (lessTopB l (ix2 r n) - Ideal.log (totalB (lessTopB l) (ix2 r 0))) (Ideal.ofBits .f32 0xC5FA0000#32)) (Named.named κ "mask" 0xF149F2CA#32 : Ideal .f32)) ?_ ?_
  · pointwise [k0_pay1, k0_pay114]
  · rw [totalB_at, select_and, mask_bot]
    exact if_congr (lane_lt n) rfl rfl

section
variable (A : Cert.Mix.Args) (fin : A.Finite) (b : Fin 4) (R : Fin 8320)
  (h : FVec Ideal S256x1024 .f32) (g : Vec Ideal S1x1024 .f32) (w : FVec Ideal S3072x128 .bf16) (r : Fin 256)
  (hh : ∀ x, h (ix2 r x) = A.h1 b R x) (hg : ∀ x, g (ix2 0 x) = A.fg x)
  (w0 : ∀ (k : Fin 1024) (e : Fin 16), w (ix2 (Cert.Mix.hiRow k) (Cert.Mix.lane e)) = A.wr k e)
  (w2 : ∀ (k : Fin 1024) (e : Fin 16), w (ix2 (Cert.Mix.loRow k) (Cert.Mix.lane e)) = A.wr k e - A.wr k e)
include hh hg

/-- The normalised row is the step's. -/
theorem uB (k : Fin 1024) : rmsB h g (ix2 r k) = A.u b R k := by
  rw [rmsB_at]
  unfold Cert.Mix.Args.u
  exact congrArg₂ (fun f g => Cert.Mix.rms f g k) (funext hh) (funext hg)

include fin w0 w2

/-- An expert's score is the step's. -/
theorem logitB (e : Fin 16) : scoresB (rmsB h g) w (ix2 r ⟨e.val, by omega⟩) = A.logit b R e := by
  rw [scoresB_at]
  unfold Cert.Mix.Args.logit
  have hu := uB A b R h g r hh hg
  refine Cert.Mix.sum_parts (A.u b R) (fun k => A.wr k e) (A.u_real fin b R) (fun k => fin.2 k e) _ _ ?_ ?_ ?_ (fun k => w0 k e) (fun k => w2 k e)
  · intro k
    dsimp only
    rw [dif_pos k.isLt]; exact hu k
  · intro k
    dsimp only
    have e1 : 1024 + k.val - 1024 = k.val := by omega
    rw [dif_neg (by omega), dif_pos (by omega)]
    simp only [e1, hu]
  · intro k
    dsimp only
    have e1 : 2048 + k.val - 1024 - 1024 = k.val := by omega
    rw [dif_neg (by omega), dif_neg (by omega)]
    simp only [e1, hu]

/-- The lane of the row's share. -/
theorem laneB (n : Fin 128) : sharesB (lessTopB (scoresB (rmsB h g) w)) (ix2 r n)
    = if hn : n.val < 16 then Cert.Mix.share (A.logit b R) ⟨n.val, hn⟩ else 0 := by
  have hl := logitB A fin b R h g w r hh hg w0 w2
  rw [sharesB_at]
  simp only [lessTopB_at]
  rw [Cert.Mix.lane_share _ (fun e => by rw [hl e]; exact A.logit_real fin b R e)]
  simp only [hl]

/-- What the body stores beside the row. -/
theorem uaffB (n : Fin 1152) : k0_pay113 (truncf .bf16 (rmsB h g) bitsLt_bf16_f32) (sharesB (lessTopB (scoresB (rmsB h g) w))) (truncf .bf16 (sharesB (lessTopB (scoresB (rmsB h g) w))) bitsLt_bf16_f32) (ix3 0 r n) = A.uaff b R n := by
  have hu := uB A b R h g r hh hg
  have hs := laneB A fin b R h g w r hh hg w0 w2
  have hr : ∀ n, Cert.Mix.Real' (sharesB (lessTopB (scoresB (rmsB h g) w)) (ix2 r n)) := fun n => by
    rw [hs n]
    split
    · exact Cert.Mix.share_real _ (A.logit_real fin b R) _
    · exact ⟨0, rfl⟩
  refine (pay113_at _ _ r n).trans ?_
  unfold Cert.Mix.Args.uaff
  by_cases hn : n.val < 1024
  · rw [dif_pos hn, dif_pos hn]; exact hu _
  · rw [dif_neg hn, dif_neg hn]
    refine (Cert.Mix.parts_vanish _ _ _ (hr _) (hr _)).trans ?_
    exact hs _

/-- The logarithms the body stores. -/
theorem laffB (real : IVec S256x1 1) (hR : real (ix2 r 0) = 1#1 ↔ Cert.Mix.holds R) (n : Fin 128) :
    k0_pay1 (k0_pay114 real (iota .tc S256x128 32 [1] iota_S256x128_d1_w32) (lessTopB (scoresB (rmsB h g) w)) (totalB (lessTopB (scoresB (rmsB h g) w)))) (ix3 0 r n) = A.laff b R n := by
  have hl := logitB A fin b R h g w r hh hg w0 w2
  refine (pay114_at _ _ r n).trans ?_
  unfold Cert.Mix.Args.laff
  by_cases hn : n.val < 16
  · rw [if_pos hn, dif_pos hn]
    refine if_congr hR ?_ rfl
    refine congrArg₂ (fun a b : EReal => max a b) ?_ rfl
    simp only [lessTopB_at]
    rw [Cert.Mix.lessTop_lt _ n hn, Cert.Mix.sum_exp _ (fun e => by rw [hl e]; exact A.logit_real fin b R e)]
    simp only [hl]
    refine Eq.trans ?_ (Cert.Mix.log_share _ (A.logit_real fin b R) ⟨n.val, hn⟩)
    rw [← hl ⟨n.val, hn⟩]
  · rw [if_neg hn, dif_neg hn]

end

end Cert.KernelIdeal.Mix

end
-- ==== Proof.MixCols.lean ====
/-
  One chunk's mixed columns and the residual rows, entry by entry.
-/
module

public import proofs.«01_k».proof.Proof.MixVec
public import proofs.«01_k».proof.Proof.MixSpec

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic

/-- A normalised head. -/
theorem normed_at (s : FVec Ideal S128x128 .f32) (d l : Fin 128) :
    normed s (ix2 d l) = Cert.Mix.nrm (fun x => s (ix2 x l)) d := by
  pointwise [normed, centred]
  rfl

/-- The four heads, channel by channel. -/
theorem heads_at (y : FVec Ideal S512x128 .f32) (k : Fin 512) (l : Fin 128) :
    heads y (ix2 k l) = Cert.Mix.nrm (fun d => y (ix2 (Cert.Mix.headChan k.val k.isLt d) l)) ⟨k.val % 128, by omega⟩ := by
  pointwise [heads]
  simp only [normed_at]
  have ho : ∀ (o : ℕ) (hs : Shape.Slices S512x128 ![o, 0] S128x128) (z : Fin 128), o + 128 ≤ 512 → k.val / 128 * 128 = o → k.val - o = z.val →
      Cert.Mix.nrm (fun x => extractStridedSlice S128x128 ![o, 0] y hs (ix2 x l)) z
        = Cert.Mix.nrm (fun d => y (ix2 (Cert.Mix.headChan k.val k.isLt d) l)) ⟨k.val % 128, by omega⟩ := by
    intro o hs z h1 h2 h3
    refine congrArg₂ Cert.Mix.nrm (funext fun d => ?_) (Fin.ext (by show z.val = k.val % 128; omega))
    have hd : o + d.val < 512 := by omega
    refine (show extractStridedSlice S128x128 ![o, 0] y hs (ix2 d l) = y (ix2 ⟨o + d.val, hd⟩ l) from ?_).trans ?_
    · refine congrArg y (funext fun a => ?_)
      refine Fin.ext ?_
      match a with
      | 0 => rfl
      | 1 => exact Nat.zero_add _
    · exact congrArg (fun z => y (ix2 z l)) (Fin.ext (by show o + d.val = k.val / 128 * 128 + d.val; omega))
  by_cases h0 : k.val < 128
  · rw [dif_pos h0]; exact ho 0 _ _ (by omega) (by omega) rfl
  rw [dif_neg h0]
  by_cases h1 : k.val - 128 < 128
  · rw [dif_pos h1]; exact ho 128 _ _ (by omega) (by omega) rfl
  rw [dif_neg h1]
  by_cases h2 : k.val - 128 - 128 < 128
  · rw [dif_pos h2]; exact ho 256 _ _ (by omega) (by omega) (by show k.val - 256 = k.val - 128 - 128; omega)
  rw [dif_neg h2]
  exact ho 384 _ _ (by omega) (by omega) (by show k.val - 384 = k.val - 128 - 128 - 128; omega)

/-- A chunk's blocks, read as the token's columns, hold the step's arguments at a batch entry and a chunk. -/
structure Holds (A : Cert.Mix.Args) (B : Fin 4) (cs ch : Fin 65) (a b rg mo p q : Vec Ideal S1x1x512x128 .f32) (gr gm : Vec Ideal S512x128 .f32) : Prop where
  a : ∀ k l, a (ix4 0 0 k l) = A.rf B cs k l
  b : ∀ k l, b (ix4 0 0 k l) = A.rb B cs k l
  p : ∀ k l, p (ix4 0 0 k l) = A.hf B cs k l
  q : ∀ k l, q (ix4 0 0 k l) = A.hb B cs k l
  rg : ∀ k l, rg (ix4 0 0 k l) = A.rg B ch k l
  mo : ∀ k l, mo (ix4 0 0 k l) = A.mo B ch k l
  gr : ∀ k l, gr (ix2 k l) = A.gr k
  gm : ∀ k l, gm (ix2 k l) = A.gm k

/-- The retention's sums as a matrix. -/
theorem sum_at (a b : FVec Ideal S1x1x512x128 .f32) (k : Fin 512) (l : Fin 128) :
    addf (shapeCast S512x128 a shapeCasts_S1x1x512x128_S512x128) (shapeCast S512x128 b shapeCasts_S1x1x512x128_S512x128) (ix2 k l)
      = (a (ix4 0 0 k l) + b (ix4 0 0 k l) : EReal) := by
  pointwise []

/-- The gated sums as a matrix. -/
theorem gated_at (mo p q : FVec Ideal S1x1x512x128 .f32) (k : Fin 512) (l : Fin 128) :
    mulf (logistic (shapeCast S512x128 mo shapeCasts_S1x1x512x128_S512x128))
      (addf (shapeCast S512x128 p shapeCasts_S1x1x512x128_S512x128) (shapeCast S512x128 q shapeCasts_S1x1x512x128_S512x128)) (ix2 k l)
      = (Ideal.logistic (mo (ix4 0 0 k l)) * (p (ix4 0 0 k l) + q (ix4 0 0 k l)) : EReal) := by
  pointwise []

/-- A chunk's mixed columns are the step's mixed tokens. -/
theorem chunkY_at (A : Cert.Mix.Args) (B : Fin 4) (cs ch : Fin 65) (a b rg mo p q : Vec Ideal S1x1x512x128 .f32) (gr gm : Vec Ideal S512x128 .f32)
    (H : Holds A B cs ch a b rg mo p q gr gm) (k : Fin 1024) (l : Fin 128) :
    chunkY a b rg mo p q gr gm (ix2 k l) = A.mixed B cs ch l k := by
  pointwise [chunkY]
  unfold Cert.Mix.Args.mixed
  by_cases h : k.val < 512
  · rw [dif_pos h, dif_pos h, heads_at]
    simp only [sum_at, H.a, H.b, H.rg, H.gr]
  · rw [dif_neg h, dif_neg h, heads_at]
    simp only [gated_at, H.p, H.q, H.mo, H.gm]

/-- A residual row of the first three chunks. -/
theorem rowsA_at (x : FVec Ideal S640x1024 .f32) (real : IVec S640x1 1) (y0 y1 y2 : FVec Ideal S1024x128 .bf16) (wo : Vec Ideal S1024x1024 .bf16) (r : Fin 384) (n : Fin 1024) :
    rowsA x real y0 y1 y2 wo (ix2 r n) = if real (ix2 ⟨r.val, by omega⟩ 0) = 1#1 then
      x (ix2 ⟨r.val, by omega⟩ n) + ∑ k, (if h : r.val < 128 then y0 (ix2 k ⟨r.val, h⟩)
        else if h : r.val - 128 < 128 then y1 (ix2 k ⟨r.val - 128, h⟩) else y2 (ix2 k ⟨r.val - 128 - 128, by omega⟩)) * wo (ix2 k n)
      else 0 := by
  pointwise [rowsA, k0_pay64]
  rfl

/-- A residual row of the last two chunks. -/
theorem rowsB_at (x : FVec Ideal S640x1024 .f32) (real : IVec S640x1 1) (y3 y4 : FVec Ideal S1024x128 .bf16) (wo : Vec Ideal S1024x1024 .bf16) (r : Fin 256) (n : Fin 1024) :
    rowsB x real y3 y4 wo (ix2 r n) = if real (ix2 ⟨384 + r.val, by omega⟩ 0) = 1#1 then
      x (ix2 ⟨384 + r.val, by omega⟩ n) + ∑ k, (if h : r.val < 128 then y3 (ix2 k ⟨r.val, h⟩) else y4 (ix2 k ⟨r.val - 128, by omega⟩)) * wo (ix2 k n)
      else 0 := by
  pointwise [rowsB, k0_pay102]
  rfl

/-- The tile's rows: the tokens, and the front's at the last tile's end. -/
theorem pay2_at (i : grid0.Coords) (v0 : Vec Ideal S1x640x1024 .f32) (v3 : Vec Ideal S128x1024 .f32) (r : Fin 640) (n : Fin 1024) :
    k0_pay2 i v0 v3 (ix2 r n) = if h : (i 1).val = 12 ∧ 512 ≤ r.val then v3 (ix2 ⟨r.val - 512, by omega⟩ n) else v0 (ix3 0 r n) := by
  pointwise [k0_pay2]
  have e : Scalar.cmpi CmpIPredicate.eq (BitVec.ofNat 32 (i 1).val) 12#32 = 1#1 ↔ (i 1).val = 12 := by
    have : ∀ z : Fin 13, Scalar.cmpi CmpIPredicate.eq (BitVec.ofNat 32 z.val) 12#32 = 1#1 ↔ z.val = 12 := by decide +kernel
    exact this (i 1)
  by_cases h : r.val < 512
  · rw [dif_pos h, dif_neg (by omega)]
  · rw [dif_neg h]
    by_cases h' : (i 1).val = 12
    · refine (if_pos (e.mpr h')).trans ?_
      rw [dif_pos ⟨h', by omega⟩]
    · refine (if_neg (fun q => h' (e.mp q))).trans ?_
      rw [dif_neg (by omega)]
      exact congrArg (fun z => v0 (ix3 0 z n)) (Fin.ext (by show 512 + (r.val - 512) = r.val; omega))

/-- The tile's rows that hold tokens. -/
theorem pay3_at (i : grid0.Coords) (r : Fin 640) (R : Fin 8320) (hR : R.val = (i 1).val * 640 + r.val) :
    k0_pay3 i (ix2 r 0) = 1#1 ↔ Cert.Mix.holds R := by
  rw [← Cert.Mix.holds_iff R]
  have h13 : (i 1).val < 13 := (i 1).isLt
  have e : IntOp.addi (Scalar.muli (BitVec.ofNat 32 (i 1).val) 640#32) (BitVec.ofNat 32 r.val) = BitVec.ofNat 32 R.val := by
    rw [hR]
    apply BitVec.eq_of_toNat_eq
    show (BitVec.ofNat 32 (i 1).val * 640#32 + BitVec.ofNat 32 r.val).toNat = _
    simp
  rw [← e]
  pointwise [k0_pay3]

/-- The residual rows of the last two chunks, as stored. -/
theorem pay105_at (i : grid0.Coords) (B : Blocks Ideal) (r : Fin 256) (n : Fin 1024) :
    k0_pay105 (v930 i B) (v932 i B) (ix3 0 r n) = rowsB (v8 i B) (v17 i B) (Y3 i B) (Y4 i B) (v927 i B) (ix2 r n) := by
  have : k0_pay105 (v930 i B) (v932 i B) = shapeCast S1x256x1024 (rowsB (v8 i B) (v17 i B) (Y3 i B) (Y4 i B) (v927 i B)) shapeCasts_S256x1024_S1x256x1024 := rfl
  rw [this]
  generalize rowsB (v8 i B) (v17 i B) (Y3 i B) (Y4 i B) (v927 i B) = h
  pointwise []

/-- The residual rows of the first three chunks, as stored. -/
theorem pay66_at (i : grid0.Coords) (B : Blocks Ideal) (r : Fin 384) (n : Fin 1024) :
    k0_pay66 (v8 i B) (v17 i B) (v182 i B) (v347 i B) (v429 i B) (v440 i B) (v457 i B) (v474 i B) (v491 i B) (v498 i B) (v503 i B) (v504 i B) (v515 i B) (ix3 0 r n)
      = rowsA (v8 i B) (v17 i B) (Y0 i B) (Y1 i B) (Y2 i B) (v515 i B) (ix2 r n) := by
  have : k0_pay66 (v8 i B) (v17 i B) (v182 i B) (v347 i B) (v429 i B) (v440 i B) (v457 i B) (v474 i B) (v491 i B) (v498 i B) (v503 i B) (v504 i B) (v515 i B)
      = shapeCast S1x384x1024 (rowsA (v8 i B) (v17 i B) (Y0 i B) (Y1 i B) (Y2 i B) (v515 i B)) shapeCasts_S384x1024_S1x384x1024 := rfl
  rw [this]
  generalize rowsA (v8 i B) (v17 i B) (Y0 i B) (Y1 i B) (Y2 i B) (v515 i B) = h
  pointwise []

end Cert.KernelIdeal.Mix

end
-- ==== Proof.MixIn.lean ====
/-
  What each input window of `mix_out` holds at a grid point, entry by entry, of the thirteen arguments.
-/
module

public import proofs.«01_k».proof.Proof.MixFrame
public import proofs.«01_k».proof.Proof.MixRows
public import proofs.«01_k».proof.Proof.MixCols

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The thirteen argument arrays. -/
abbrev A0 : FVec Ideal S4x8192x1024 .f32 := m ((c : Thread nD τ).loc main_arg0)
abbrev A1 : FVec Ideal S16x1024 .f32 := m ((c : Thread nD τ).loc main_arg1)
abbrev A2 : FVec Ideal S4x65x512x128 .f32 := m ((c : Thread nD τ).loc main_arg2)
abbrev A3 : FVec Ideal S4x65x512x128 .f32 := m ((c : Thread nD τ).loc main_arg3)
abbrev A4 : FVec Ideal S4x65x512x128 .f32 := m ((c : Thread nD τ).loc main_arg4)
abbrev A5 : FVec Ideal S4x65x512x128 .f32 := m ((c : Thread nD τ).loc main_arg5)
abbrev A6 : FVec Ideal S4x65x512x128 .f32 := m ((c : Thread nD τ).loc main_arg6)
abbrev A7 : FVec Ideal S4x65x512x128 .f32 := m ((c : Thread nD τ).loc main_arg7)
abbrev A8 : FVec Ideal S1x512 .f32 := m ((c : Thread nD τ).loc main_arg8)
abbrev A9 : FVec Ideal S1x512 .f32 := m ((c : Thread nD τ).loc main_arg9)
abbrev A10 : FVec Ideal S1x1024x1024 .f32 := m ((c : Thread nD τ).loc main_arg10)
abbrev A11 : FVec Ideal S1x1024 .f32 := m ((c : Thread nD τ).loc main_arg11)
abbrev A12 : FVec Ideal S1x1024x16 .f32 := m ((c : Thread nD τ).loc main_arg12)

/-- The arguments, entry by entry. -/
def args : Cert.Mix.Args where
  x b n k := A0 m c (ix3 b n k)
  head n k := A1 m c (ix2 n k)
  rf b s k l := A2 m c (ix4 b s k l)
  rb b s k l := A3 m c (ix4 b s k l)
  hf b s k l := A4 m c (ix4 b s k l)
  hb b s k l := A5 m c (ix4 b s k l)
  rg b s k l := A6 m c (ix4 b s k l)
  mo b s k l := A7 m c (ix4 b s k l)
  gr k := A8 m c (ix2 0 k)
  gm k := A9 m c (ix2 0 k)
  wo k n := A10 m c (ix3 0 k n)
  fg k := A11 m c (ix2 0 k)
  wr k e := A12 m c (ix3 0 k e)

/-- Where the token window's block and the gates' blocks lie at a point: batch entry `t / 13`, tile `t % 13`. -/
theorem idx : ∀ t : Fin cfg0.N, win0_0.index t = ![t.val / 13, t.val % 13, 0] ∧ win0_1.index t = ![0, 0]
    ∧ win0_22.index t = ![t.val / 13, t.val % 13, 0, 0] ∧ win0_23.index t = ![t.val / 13, t.val % 13, 0, 0]
    ∧ win0_24.index t = ![0, 0] ∧ win0_25.index t = ![0, 0] ∧ win0_26.index t = ![0, 0] ∧ win0_27.index t = ![0, 0] ∧ win0_28.index t = ![0, 0]
    ∧ win0_29.index t = ![t.val / 13, t.val % 13, 0] ∧ win0_30.index t = ![t.val / 13, t.val % 13, 0] ∧ win0_31.index t = ![t.val / 13, t.val % 13, 0]
    ∧ (grid0.coords t 1).val = t.val % 13 :=
  (by decide +kernel : ∀ t : Fin grid0.N, _)

/-- Where the scans' blocks lie: the five chunks after the tile's first, around the end. -/
theorem idxS : ∀ t : Fin cfg0.N,
    win0_2.index t = ![t.val / 13, (t.val % 13 * 5 + 0 + 1) % 65, 0, 0] ∧ win0_3.index t = ![t.val / 13, (t.val % 13 * 5 + 1 + 1) % 65, 0, 0]
    ∧ win0_4.index t = ![t.val / 13, (t.val % 13 * 5 + 2 + 1) % 65, 0, 0] ∧ win0_5.index t = ![t.val / 13, (t.val % 13 * 5 + 3 + 1) % 65, 0, 0]
    ∧ win0_6.index t = ![t.val / 13, (t.val % 13 * 5 + 4 + 1) % 65, 0, 0]
    ∧ win0_7.index t = win0_2.index t ∧ win0_8.index t = win0_3.index t ∧ win0_9.index t = win0_4.index t ∧ win0_10.index t = win0_5.index t ∧ win0_11.index t = win0_6.index t
    ∧ win0_12.index t = win0_2.index t ∧ win0_13.index t = win0_3.index t ∧ win0_14.index t = win0_4.index t ∧ win0_15.index t = win0_5.index t ∧ win0_16.index t = win0_6.index t
    ∧ win0_17.index t = win0_2.index t ∧ win0_18.index t = win0_3.index t ∧ win0_19.index t = win0_4.index t ∧ win0_20.index t = win0_5.index t ∧ win0_21.index t = win0_6.index t :=
  (by decide +kernel : ∀ t : Fin grid0.N, _)

/-- Scan window 2 at coordinates. -/
theorem b2_at (t : Fin cfg0.N) (k : Fin 512) (l : Fin 128) (b : Fin 4) (s : Fin 65) (hb : b.val = t.val / 13) (hs : s.val = (t.val % 13 * 5 + 0 + 1) % 65) :
    (iblk m c 2 t : Vec Ideal S1x1x512x128 .f32) (ix4 0 0 k l) = (args m c).rf b s k l := by
  blk_ext [iblk, V, idxS t]

/-- Scan window 3 at coordinates. -/
theorem b3_at (t : Fin cfg0.N) (k : Fin 512) (l : Fin 128) (b : Fin 4) (s : Fin 65) (hb : b.val = t.val / 13) (hs : s.val = (t.val % 13 * 5 + 1 + 1) % 65) :
    (iblk m c 3 t : Vec Ideal S1x1x512x128 .f32) (ix4 0 0 k l) = (args m c).rf b s k l := by
  blk_ext [iblk, V, idxS t]

/-- Scan window 4 at coordinates. -/
theorem b4_at (t : Fin cfg0.N) (k : Fin 512) (l : Fin 128) (b : Fin 4) (s : Fin 65) (hb : b.val = t.val / 13) (hs : s.val = (t.val % 13 * 5 + 2 + 1) % 65) :
    (iblk m c 4 t : Vec Ideal S1x1x512x128 .f32) (ix4 0 0 k l) = (args m c).rf b s k l := by
  blk_ext [iblk, V, idxS t]

/-- Scan window 5 at coordinates. -/
theorem b5_at (t : Fin cfg0.N) (k : Fin 512) (l : Fin 128) (b : Fin 4) (s : Fin 65) (hb : b.val = t.val / 13) (hs : s.val = (t.val % 13 * 5 + 3 + 1) % 65) :
    (iblk m c 5 t : Vec Ideal S1x1x512x128 .f32) (ix4 0 0 k l) = (args m c).rf b s k l := by
  blk_ext [iblk, V, idxS t]

/-- Scan window 6 at coordinates. -/
theorem b6_at (t : Fin cfg0.N) (k : Fin 512) (l : Fin 128) (b : Fin 4) (s : Fin 65) (hb : b.val = t.val / 13) (hs : s.val = (t.val % 13 * 5 + 4 + 1) % 65) :
    (iblk m c 6 t : Vec Ideal S1x1x512x128 .f32) (ix4 0 0 k l) = (args m c).rf b s k l := by
  blk_ext [iblk, V, idxS t]

/-- Scan window 7 at coordinates. -/
theorem b7_at (t : Fin cfg0.N) (k : Fin 512) (l : Fin 128) (b : Fin 4) (s : Fin 65) (hb : b.val = t.val / 13) (hs : s.val = (t.val % 13 * 5 + 0 + 1) % 65) :
    (iblk m c 7 t : Vec Ideal S1x1x512x128 .f32) (ix4 0 0 k l) = (args m c).rb b s k l := by
  blk_ext [iblk, V, idxS t]

/-- Scan window 8 at coordinates. -/
theorem b8_at (t : Fin cfg0.N) (k : Fin 512) (l : Fin 128) (b : Fin 4) (s : Fin 65) (hb : b.val = t.val / 13) (hs : s.val = (t.val % 13 * 5 + 1 + 1) % 65) :
    (iblk m c 8 t : Vec Ideal S1x1x512x128 .f32) (ix4 0 0 k l) = (args m c).rb b s k l := by
  blk_ext [iblk, V, idxS t]

/-- Scan window 9 at coordinates. -/
theorem b9_at (t : Fin cfg0.N) (k : Fin 512) (l : Fin 128) (b : Fin 4) (s : Fin 65) (hb : b.val = t.val / 13) (hs : s.val = (t.val % 13 * 5 + 2 + 1) % 65) :
    (iblk m c 9 t : Vec Ideal S1x1x512x128 .f32) (ix4 0 0 k l) = (args m c).rb b s k l := by
  blk_ext [iblk, V, idxS t]

/-- Scan window 10 at coordinates. -/
theorem b10_at (t : Fin cfg0.N) (k : Fin 512) (l : Fin 128) (b : Fin 4) (s : Fin 65) (hb : b.val = t.val / 13) (hs : s.val = (t.val % 13 * 5 + 3 + 1) % 65) :
    (iblk m c 10 t : Vec Ideal S1x1x512x128 .f32) (ix4 0 0 k l) = (args m c).rb b s k l := by
  blk_ext [iblk, V, idxS t]

/-- Scan window 11 at coordinates. -/
theorem b11_at (t : Fin cfg0.N) (k : Fin 512) (l : Fin 128) (b : Fin 4) (s : Fin 65) (hb : b.val = t.val / 13) (hs : s.val = (t.val % 13 * 5 + 4 + 1) % 65) :
    (iblk m c 11 t : Vec Ideal S1x1x512x128 .f32) (ix4 0 0 k l) = (args m c).rb b s k l := by
  blk_ext [iblk, V, idxS t]

/-- Scan window 12 at coordinates. -/
theorem b12_at (t : Fin cfg0.N) (k : Fin 512) (l : Fin 128) (b : Fin 4) (s : Fin 65) (hb : b.val = t.val / 13) (hs : s.val = (t.val % 13 * 5 + 0 + 1) % 65) :
    (iblk m c 12 t : Vec Ideal S1x1x512x128 .f32) (ix4 0 0 k l) = (args m c).hf b s k l := by
  blk_ext [iblk, V, idxS t]

/-- Scan window 13 at coordinates. -/
theorem b13_at (t : Fin cfg0.N) (k : Fin 512) (l : Fin 128) (b : Fin 4) (s : Fin 65) (hb : b.val = t.val / 13) (hs : s.val = (t.val % 13 * 5 + 1 + 1) % 65) :
    (iblk m c 13 t : Vec Ideal S1x1x512x128 .f32) (ix4 0 0 k l) = (args m c).hf b s k l := by
  blk_ext [iblk, V, idxS t]

/-- Scan window 14 at coordinates. -/
theorem b14_at (t : Fin cfg0.N) (k : Fin 512) (l : Fin 128) (b : Fin 4) (s : Fin 65) (hb : b.val = t.val / 13) (hs : s.val = (t.val % 13 * 5 + 2 + 1) % 65) :
    (iblk m c 14 t : Vec Ideal S1x1x512x128 .f32) (ix4 0 0 k l) = (args m c).hf b s k l := by
  blk_ext [iblk, V, idxS t]

/-- Scan window 15 at coordinates. -/
theorem b15_at (t : Fin cfg0.N) (k : Fin 512) (l : Fin 128) (b : Fin 4) (s : Fin 65) (hb : b.val = t.val / 13) (hs : s.val = (t.val % 13 * 5 + 3 + 1) % 65) :
    (iblk m c 15 t : Vec Ideal S1x1x512x128 .f32) (ix4 0 0 k l) = (args m c).hf b s k l := by
  blk_ext [iblk, V, idxS t]

/-- Scan window 16 at coordinates. -/
theorem b16_at (t : Fin cfg0.N) (k : Fin 512) (l : Fin 128) (b : Fin 4) (s : Fin 65) (hb : b.val = t.val / 13) (hs : s.val = (t.val % 13 * 5 + 4 + 1) % 65) :
    (iblk m c 16 t : Vec Ideal S1x1x512x128 .f32) (ix4 0 0 k l) = (args m c).hf b s k l := by
  blk_ext [iblk, V, idxS t]

/-- Scan window 17 at coordinates. -/
theorem b17_at (t : Fin cfg0.N) (k : Fin 512) (l : Fin 128) (b : Fin 4) (s : Fin 65) (hb : b.val = t.val / 13) (hs : s.val = (t.val % 13 * 5 + 0 + 1) % 65) :
    (iblk m c 17 t : Vec Ideal S1x1x512x128 .f32) (ix4 0 0 k l) = (args m c).hb b s k l := by
  blk_ext [iblk, V, idxS t]

/-- Scan window 18 at coordinates. -/
theorem b18_at (t : Fin cfg0.N) (k : Fin 512) (l : Fin 128) (b : Fin 4) (s : Fin 65) (hb : b.val = t.val / 13) (hs : s.val = (t.val % 13 * 5 + 1 + 1) % 65) :
    (iblk m c 18 t : Vec Ideal S1x1x512x128 .f32) (ix4 0 0 k l) = (args m c).hb b s k l := by
  blk_ext [iblk, V, idxS t]

/-- Scan window 19 at coordinates. -/
theorem b19_at (t : Fin cfg0.N) (k : Fin 512) (l : Fin 128) (b : Fin 4) (s : Fin 65) (hb : b.val = t.val / 13) (hs : s.val = (t.val % 13 * 5 + 2 + 1) % 65) :
    (iblk m c 19 t : Vec Ideal S1x1x512x128 .f32) (ix4 0 0 k l) = (args m c).hb b s k l := by
  blk_ext [iblk, V, idxS t]

/-- Scan window 20 at coordinates. -/
theorem b20_at (t : Fin cfg0.N) (k : Fin 512) (l : Fin 128) (b : Fin 4) (s : Fin 65) (hb : b.val = t.val / 13) (hs : s.val = (t.val % 13 * 5 + 3 + 1) % 65) :
    (iblk m c 20 t : Vec Ideal S1x1x512x128 .f32) (ix4 0 0 k l) = (args m c).hb b s k l := by
  blk_ext [iblk, V, idxS t]

/-- Scan window 21 at coordinates. -/
theorem b21_at (t : Fin cfg0.N) (k : Fin 512) (l : Fin 128) (b : Fin 4) (s : Fin 65) (hb : b.val = t.val / 13) (hs : s.val = (t.val % 13 * 5 + 4 + 1) % 65) :
    (iblk m c 21 t : Vec Ideal S1x1x512x128 .f32) (ix4 0 0 k l) = (args m c).hb b s k l := by
  blk_ext [iblk, V, idxS t]

/-- Gate window 22 at coordinates. -/
theorem b22_at (t : Fin cfg0.N) (j : Fin 5) (k : Fin 512) (l : Fin 128) (b : Fin 4) (s : Fin 65) (hb : b.val = t.val / 13) (hs : s.val = t.val % 13 * 5 + j.val) :
    (iblk m c 22 t : Vec Ideal S1x5x512x128 .f32) (ix4 0 j k l) = (args m c).rg b s k l := by
  blk_ext [iblk, V, idx t]

/-- Gate window 23 at coordinates. -/
theorem b23_at (t : Fin cfg0.N) (j : Fin 5) (k : Fin 512) (l : Fin 128) (b : Fin 4) (s : Fin 65) (hb : b.val = t.val / 13) (hs : s.val = t.val % 13 * 5 + j.val) :
    (iblk m c 23 t : Vec Ideal S1x5x512x128 .f32) (ix4 0 j k l) = (args m c).mo b s k l := by
  blk_ext [iblk, V, idx t]

/-- Gain window 24 at coordinates. -/
theorem b24_at (t : Fin cfg0.N) (k : Fin 512) (l : Fin 128) :
    (iblk m c 24 t : Vec Ideal S512x128 .f32) (ix2 k l) = (args m c).gr k := by
  blk_simp [iblk]; entry_read; pointwise; blk_ext [idx t]

/-- Gain window 25 at coordinates. -/
theorem b25_at (t : Fin cfg0.N) (k : Fin 512) (l : Fin 128) :
    (iblk m c 25 t : Vec Ideal S512x128 .f32) (ix2 k l) = (args m c).gm k := by
  blk_simp [iblk]; entry_read; pointwise; blk_ext [idx t]

/-- The output weights at coordinates. -/
theorem b26_at (t : Fin cfg0.N) (k n : Fin 1024) :
    (iblk m c 26 t : Vec Ideal S1024x1024 .bf16) (ix2 k n) = (args m c).wo k n := by
  blk_simp [iblk]; entry_read; pointwise; blk_ext [idx t]

/-- The second norm's gain at coordinates. -/
theorem b27_at (t : Fin cfg0.N) (k : Fin 1024) :
    (iblk m c 27 t : Vec Ideal S1x1024 .f32) (ix2 0 k) = (args m c).fg k := by
  blk_ext [iblk, V, idx t]

/-- The front rows: 112 of zeros, then the meta tokens. -/
theorem b1_at (t : Fin cfg0.N) (r : Fin 128) (k : Fin 1024) :
    (iblk m c 1 t : Vec Ideal S128x1024 .f32) (ix2 r k) = if h : r.val < 112 then 0 else (args m c).head ⟨r.val - 112, by omega⟩ k := by
  have he : ((View.whole main_v1).slice (win0_1.rect t)).emb (ix2 r k) = ix2 r k := by blk_ext [idx t]
  blk_simp [iblk]; entry_read; pointwise
  simp only [he]
  rfl

/-- The router's weights as the call is given them: the rounded weights twice, then what the rounding left; the lanes past
    the sixteenth zero. -/
def routerRows (w : FVec Ideal S1x1024x16 .f32) : FVec Ideal S3072x128 .bf16 :=
  have v4 : FVec Ideal S1024x128 .f32 := concatenate S1024x128 1 [⟨S1024x16, shapeCast _ w shapeCasts_S1x1024x16_S1024x16⟩,
    ⟨S1024x112, broadcastInDim S1024x112 ![] bcast_S_S1024x112 (constant (F := Ideal) S_ .f32 0x00000000#32)⟩] concatenates_S1024x16_S1024x112_S1024x128_d1
  have v5 : FVec Ideal S1024x128 .bf16 := truncf .bf16 v4 bitsLt_bf16_f32
  have v8 : FVec Ideal S1024x128 .bf16 := truncf .bf16 (subf v4 (extf .f32 v5 bitsLt_bf16_f32)) bitsLt_bf16_f32
  concatenate S3072x128 0 [⟨S1024x128, v5⟩, ⟨S1024x128, v5⟩, ⟨S1024x128, v8⟩] concatenates_S1024x128_S1024x128_S1024x128_S3072x128_d0

/-- A rounded weight. -/
theorem routerRows_at (w : FVec Ideal S1x1024x16 .f32) (r : Fin 3072) (e : Fin 16) :
    routerRows w (ix2 r ⟨e.val, by omega⟩) = if h : r.val < 1024 then w (ix3 0 ⟨r.val, h⟩ e)
      else if h : r.val - 1024 < 1024 then w (ix3 0 ⟨r.val - 1024, h⟩ e)
      else w (ix3 0 ⟨r.val - 1024 - 1024, by omega⟩ e) - w (ix3 0 ⟨r.val - 1024 - 1024, by omega⟩ e) := by
  pointwise [routerRows]

set_option maxHeartbeats 1000000 in
set_option maxRecDepth 100000 in
/-- The router's weights as launched. -/
theorem v9_eq : (V m c main_v9 : FVec Ideal S3072x128 .bf16) = routerRows (A12 m c) := by
  show StableHlo.after hostOps0 _ _ = _
  simp only [Idealize.ShloMosaic.StableHlo.after_cons, Idealize.ShloMosaic.StableHlo.after_nil]
  after_results_steps
  rfl

/-- The router's rows are the whole array's. -/
theorem b28_eq (t : Fin cfg0.N) : (iblk m c 28 t : FVec Ideal S3072x128 .bf16) = routerRows (A12 m c) := by
  rw [← v9_eq]
  funext j
  blk_ext [iblk, idx t]

/-- What the transfer of the token window moves. -/
theorem xsize0 : ∀ t : Fin cfg0.N, win0_0.xsize (grid0.coords t) = ![1, if t.val % 13 = 12 then 512 else 640, 1024] :=
  (by decide +kernel : ∀ t : Fin grid0.N, _)

/-- A token row of the tile. -/
theorem b0_at (t : Fin cfg0.N) (r : Fin 640) (k : Fin 1024) (b : Fin 4) (n : Fin 8192) (hb : b.val = t.val / 13) (hn : n.val = t.val % 13 * 640 + r.val) :
    tileBlk m c t (ix3 0 r k) = (args m c).x b n k := by
  unfold tileBlk Pipeline.Window.fill
  have hm : win0_0.moved (grid0.coords t) (ix3 0 r k) = true := by
    refine (win0_0.moved_iff _ _).mpr fun a => ?_
    rw [xsize0 t]
    match a with
    | 0 => exact Nat.one_pos
    | 1 =>
      show r.val < if t.val % 13 = 12 then 512 else 640
      split <;> omega
    | 2 => exact k.isLt
  rw [dif_pos hm]
  blk_ext [iblk, V, idx t]

end Cert.KernelIdeal.Mix

end
-- ==== Proof.MixLd.lean ====
/-
  One grid point of `mix_out`, of any blocks: the loads at coordinates, the mixed columns of blocks that hold the
  arguments' chunks, and the printed rows as the rows' functions.
-/
module

public import proofs.«01_k».proof.Proof.MixRows
public import proofs.«01_k».proof.Proof.MixCols

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic Idealize.SL.Sem
open Idealize.ShloMosaic.Pipeline (Dat)

/-- The load `v18` at coordinates. -/
theorem v18_at (i : grid0.Coords) (B : Blocks Ideal) (k : Fin 512) (l : Fin 128) : v18 i B (ix4 0 0 k l) = B.x2 (ix4 0 0 k l) := by
  pointwise [v18]
/-- The load `v20` at coordinates. -/
theorem v20_at (i : grid0.Coords) (B : Blocks Ideal) (k : Fin 512) (l : Fin 128) : v20 i B (ix4 0 0 k l) = B.x7 (ix4 0 0 k l) := by
  pointwise [v20]
/-- The load `v103` at coordinates. -/
theorem v103_at (i : grid0.Coords) (B : Blocks Ideal) (k : Fin 512) (l : Fin 128) : v103 i B (ix4 0 0 k l) = B.x12 (ix4 0 0 k l) := by
  pointwise [v103]
/-- The load `v105` at coordinates. -/
theorem v105_at (i : grid0.Coords) (B : Blocks Ideal) (k : Fin 512) (l : Fin 128) : v105 i B (ix4 0 0 k l) = B.x17 (ix4 0 0 k l) := by
  pointwise [v105]
/-- The load `v95` at coordinates. -/
theorem v95_at (i : grid0.Coords) (B : Blocks Ideal) (k : Fin 512) (l : Fin 128) : v95 i B (ix4 0 0 k l) = B.x22 (ix4 0 0 k l) := by
  pointwise [v95]
/-- The load `v100` at coordinates. -/
theorem v100_at (i : grid0.Coords) (B : Blocks Ideal) (k : Fin 512) (l : Fin 128) : v100 i B (ix4 0 0 k l) = B.x23 (ix4 0 0 k l) := by
  pointwise [v100]
/-- The load `v23` at coordinates. -/
theorem v23_at (i : grid0.Coords) (B : Blocks Ideal) (k : Fin 512) (l : Fin 128) : v23 i B (ix2 k l) = B.x24 (ix2 k l) := by
  pointwise [v23]
/-- The load `v109` at coordinates. -/
theorem v109_at (i : grid0.Coords) (B : Blocks Ideal) (k : Fin 512) (l : Fin 128) : v109 i B (ix2 k l) = B.x25 (ix2 k l) := by
  pointwise [v109]
/-- The load `v183` at coordinates. -/
theorem v183_at (i : grid0.Coords) (B : Blocks Ideal) (k : Fin 512) (l : Fin 128) : v183 i B (ix4 0 0 k l) = B.x3 (ix4 0 0 k l) := by
  pointwise [v183]
/-- The load `v185` at coordinates. -/
theorem v185_at (i : grid0.Coords) (B : Blocks Ideal) (k : Fin 512) (l : Fin 128) : v185 i B (ix4 0 0 k l) = B.x8 (ix4 0 0 k l) := by
  pointwise [v185]
/-- The load `v268` at coordinates. -/
theorem v268_at (i : grid0.Coords) (B : Blocks Ideal) (k : Fin 512) (l : Fin 128) : v268 i B (ix4 0 0 k l) = B.x13 (ix4 0 0 k l) := by
  pointwise [v268]
/-- The load `v270` at coordinates. -/
theorem v270_at (i : grid0.Coords) (B : Blocks Ideal) (k : Fin 512) (l : Fin 128) : v270 i B (ix4 0 0 k l) = B.x18 (ix4 0 0 k l) := by
  pointwise [v270]
/-- The load `v260` at coordinates. -/
theorem v260_at (i : grid0.Coords) (B : Blocks Ideal) (k : Fin 512) (l : Fin 128) : v260 i B (ix4 0 0 k l) = B.x22 (ix4 0 1 k l) := by
  pointwise [v260]
/-- The load `v265` at coordinates. -/
theorem v265_at (i : grid0.Coords) (B : Blocks Ideal) (k : Fin 512) (l : Fin 128) : v265 i B (ix4 0 0 k l) = B.x23 (ix4 0 1 k l) := by
  pointwise [v265]
/-- The load `v188` at coordinates. -/
theorem v188_at (i : grid0.Coords) (B : Blocks Ideal) (k : Fin 512) (l : Fin 128) : v188 i B (ix2 k l) = B.x24 (ix2 k l) := by
  pointwise [v188]
/-- The load `v274` at coordinates. -/
theorem v274_at (i : grid0.Coords) (B : Blocks Ideal) (k : Fin 512) (l : Fin 128) : v274 i B (ix2 k l) = B.x25 (ix2 k l) := by
  pointwise [v274]
/-- The load `v348` at coordinates. -/
theorem v348_at (i : grid0.Coords) (B : Blocks Ideal) (k : Fin 512) (l : Fin 128) : v348 i B (ix4 0 0 k l) = B.x4 (ix4 0 0 k l) := by
  pointwise [v348]
/-- The load `v350` at coordinates. -/
theorem v350_at (i : grid0.Coords) (B : Blocks Ideal) (k : Fin 512) (l : Fin 128) : v350 i B (ix4 0 0 k l) = B.x9 (ix4 0 0 k l) := by
  pointwise [v350]
/-- The load `v433` at coordinates. -/
theorem v433_at (i : grid0.Coords) (B : Blocks Ideal) (k : Fin 512) (l : Fin 128) : v433 i B (ix4 0 0 k l) = B.x14 (ix4 0 0 k l) := by
  pointwise [v433]
/-- The load `v435` at coordinates. -/
theorem v435_at (i : grid0.Coords) (B : Blocks Ideal) (k : Fin 512) (l : Fin 128) : v435 i B (ix4 0 0 k l) = B.x19 (ix4 0 0 k l) := by
  pointwise [v435]
/-- The load `v425` at coordinates. -/
theorem v425_at (i : grid0.Coords) (B : Blocks Ideal) (k : Fin 512) (l : Fin 128) : v425 i B (ix4 0 0 k l) = B.x22 (ix4 0 2 k l) := by
  pointwise [v425]
/-- The load `v430` at coordinates. -/
theorem v430_at (i : grid0.Coords) (B : Blocks Ideal) (k : Fin 512) (l : Fin 128) : v430 i B (ix4 0 0 k l) = B.x23 (ix4 0 2 k l) := by
  pointwise [v430]
/-- The load `v353` at coordinates. -/
theorem v353_at (i : grid0.Coords) (B : Blocks Ideal) (k : Fin 512) (l : Fin 128) : v353 i B (ix2 k l) = B.x24 (ix2 k l) := by
  pointwise [v353]
/-- The load `v439` at coordinates. -/
theorem v439_at (i : grid0.Coords) (B : Blocks Ideal) (k : Fin 512) (l : Fin 128) : v439 i B (ix2 k l) = B.x25 (ix2 k l) := by
  pointwise [v439]
/-- The load `v595` at coordinates. -/
theorem v595_at (i : grid0.Coords) (B : Blocks Ideal) (k : Fin 512) (l : Fin 128) : v595 i B (ix4 0 0 k l) = B.x5 (ix4 0 0 k l) := by
  pointwise [v595]
/-- The load `v597` at coordinates. -/
theorem v597_at (i : grid0.Coords) (B : Blocks Ideal) (k : Fin 512) (l : Fin 128) : v597 i B (ix4 0 0 k l) = B.x10 (ix4 0 0 k l) := by
  pointwise [v597]
/-- The load `v680` at coordinates. -/
theorem v680_at (i : grid0.Coords) (B : Blocks Ideal) (k : Fin 512) (l : Fin 128) : v680 i B (ix4 0 0 k l) = B.x15 (ix4 0 0 k l) := by
  pointwise [v680]
/-- The load `v682` at coordinates. -/
theorem v682_at (i : grid0.Coords) (B : Blocks Ideal) (k : Fin 512) (l : Fin 128) : v682 i B (ix4 0 0 k l) = B.x20 (ix4 0 0 k l) := by
  pointwise [v682]
/-- The load `v672` at coordinates. -/
theorem v672_at (i : grid0.Coords) (B : Blocks Ideal) (k : Fin 512) (l : Fin 128) : v672 i B (ix4 0 0 k l) = B.x22 (ix4 0 3 k l) := by
  pointwise [v672]
/-- The load `v677` at coordinates. -/
theorem v677_at (i : grid0.Coords) (B : Blocks Ideal) (k : Fin 512) (l : Fin 128) : v677 i B (ix4 0 0 k l) = B.x23 (ix4 0 3 k l) := by
  pointwise [v677]
/-- The load `v600` at coordinates. -/
theorem v600_at (i : grid0.Coords) (B : Blocks Ideal) (k : Fin 512) (l : Fin 128) : v600 i B (ix2 k l) = B.x24 (ix2 k l) := by
  pointwise [v600]
/-- The load `v686` at coordinates. -/
theorem v686_at (i : grid0.Coords) (B : Blocks Ideal) (k : Fin 512) (l : Fin 128) : v686 i B (ix2 k l) = B.x25 (ix2 k l) := by
  pointwise [v686]
/-- The load `v760` at coordinates. -/
theorem v760_at (i : grid0.Coords) (B : Blocks Ideal) (k : Fin 512) (l : Fin 128) : v760 i B (ix4 0 0 k l) = B.x6 (ix4 0 0 k l) := by
  pointwise [v760]
/-- The load `v762` at coordinates. -/
theorem v762_at (i : grid0.Coords) (B : Blocks Ideal) (k : Fin 512) (l : Fin 128) : v762 i B (ix4 0 0 k l) = B.x11 (ix4 0 0 k l) := by
  pointwise [v762]
/-- The load `v845` at coordinates. -/
theorem v845_at (i : grid0.Coords) (B : Blocks Ideal) (k : Fin 512) (l : Fin 128) : v845 i B (ix4 0 0 k l) = B.x16 (ix4 0 0 k l) := by
  pointwise [v845]
/-- The load `v847` at coordinates. -/
theorem v847_at (i : grid0.Coords) (B : Blocks Ideal) (k : Fin 512) (l : Fin 128) : v847 i B (ix4 0 0 k l) = B.x21 (ix4 0 0 k l) := by
  pointwise [v847]
/-- The load `v837` at coordinates. -/
theorem v837_at (i : grid0.Coords) (B : Blocks Ideal) (k : Fin 512) (l : Fin 128) : v837 i B (ix4 0 0 k l) = B.x22 (ix4 0 4 k l) := by
  pointwise [v837]
/-- The load `v842` at coordinates. -/
theorem v842_at (i : grid0.Coords) (B : Blocks Ideal) (k : Fin 512) (l : Fin 128) : v842 i B (ix4 0 0 k l) = B.x23 (ix4 0 4 k l) := by
  pointwise [v842]
/-- The load `v765` at coordinates. -/
theorem v765_at (i : grid0.Coords) (B : Blocks Ideal) (k : Fin 512) (l : Fin 128) : v765 i B (ix2 k l) = B.x24 (ix2 k l) := by
  pointwise [v765]
/-- The load `v851` at coordinates. -/
theorem v851_at (i : grid0.Coords) (B : Blocks Ideal) (k : Fin 512) (l : Fin 128) : v851 i B (ix2 k l) = B.x25 (ix2 k l) := by
  pointwise [v851]
/-- The load `v515` at coordinates. -/
theorem v515_at (i : grid0.Coords) (B : Blocks Ideal) (k : Fin 1024) (l : Fin 1024) : v515 i B (ix2 k l) = B.x26 (ix2 k l) := by
  pointwise [v515]
/-- The load `v927` at coordinates. -/
theorem v927_at (i : grid0.Coords) (B : Blocks Ideal) (k : Fin 1024) (l : Fin 1024) : v927 i B (ix2 k l) = B.x26 (ix2 k l) := by
  pointwise [v927]
/-- The load `v546` at coordinates. -/
theorem v546_at (i : grid0.Coords) (B : Blocks Ideal) (k : Fin 3072) (l : Fin 128) : v546 i B (ix2 k l) = B.x28 (ix2 k l) := by
  pointwise [v546]
/-- The load `v958` at coordinates. -/
theorem v958_at (i : grid0.Coords) (B : Blocks Ideal) (k : Fin 3072) (l : Fin 128) : v958 i B (ix2 k l) = B.x28 (ix2 k l) := by
  pointwise [v958]
/-- The load `v528` at coordinates. -/
theorem v528_at (i : grid0.Coords) (B : Blocks Ideal) (k : Fin 1) (l : Fin 1024) : v528 i B (ix2 k l) = B.x27 (ix2 k l) := by
  obtain rfl := Subsingleton.elim 0 k
  pointwise [v528]
/-- The load `v940` at coordinates. -/
theorem v940_at (i : grid0.Coords) (B : Blocks Ideal) (k : Fin 1) (l : Fin 1024) : v940 i B (ix2 k l) = B.x27 (ix2 k l) := by
  obtain rfl := Subsingleton.elim 0 k
  pointwise [v940]
/-- The load `v3` at coordinates. -/
theorem v3_at (i : grid0.Coords) (B : Blocks Ideal) (k : Fin 128) (l : Fin 1024) : v3 i B (ix2 k l) = B.x1 (ix2 k l) := by
  pointwise [v3]
/-- The load `v0` at coordinates. -/
theorem v0_at (i : grid0.Coords) (B : Blocks Ideal) (k : Fin 640) (l : Fin 1024) : v0 i B (ix3 0 k l) = B.x0 (ix3 0 k l) := by
  pointwise [v0]

/-- Chunk 0 of a tile, of blocks that hold the arguments' chunks: its mixed columns. -/
theorem Y0_of (i : grid0.Coords) (B : Blocks Ideal) (A : Cert.Mix.Args) (b : Fin 4) (cs ch : Fin 65)
    (ha : ∀ (k : Fin 512) (l : Fin 128), B.x2 (ix4 0 0 k l) = A.rf b cs k l) (hb : ∀ (k : Fin 512) (l : Fin 128), B.x7 (ix4 0 0 k l) = A.rb b cs k l)
    (hp : ∀ (k : Fin 512) (l : Fin 128), B.x12 (ix4 0 0 k l) = A.hf b cs k l) (hq : ∀ (k : Fin 512) (l : Fin 128), B.x17 (ix4 0 0 k l) = A.hb b cs k l)
    (hr : ∀ (k : Fin 512) (l : Fin 128), B.x22 (ix4 0 0 k l) = A.rg b ch k l) (hm : ∀ (k : Fin 512) (l : Fin 128), B.x23 (ix4 0 0 k l) = A.mo b ch k l)
    (hgr : ∀ (k : Fin 512) (l : Fin 128), B.x24 (ix2 k l) = A.gr k) (hgm : ∀ (k : Fin 512) (l : Fin 128), B.x25 (ix2 k l) = A.gm k)
    (k : Fin 1024) (l : Fin 128) : Y0 i B (ix2 k l) = A.mixed b cs ch l k :=
  chunkY_at A b cs ch _ _ _ _ _ _ _ _
    { a := fun k l => (v18_at i B k l).trans (ha k l), b := fun k l => (v20_at i B k l).trans (hb k l),
      p := fun k l => (v103_at i B k l).trans (hp k l), q := fun k l => (v105_at i B k l).trans (hq k l),
      rg := fun k l => (v95_at i B k l).trans (hr k l), mo := fun k l => (v100_at i B k l).trans (hm k l),
      gr := fun k l => (v23_at i B k l).trans (hgr k l), gm := fun k l => (v109_at i B k l).trans (hgm k l) } k l

/-- Chunk 1 of a tile, of blocks that hold the arguments' chunks: its mixed columns. -/
theorem Y1_of (i : grid0.Coords) (B : Blocks Ideal) (A : Cert.Mix.Args) (b : Fin 4) (cs ch : Fin 65)
    (ha : ∀ (k : Fin 512) (l : Fin 128), B.x3 (ix4 0 0 k l) = A.rf b cs k l) (hb : ∀ (k : Fin 512) (l : Fin 128), B.x8 (ix4 0 0 k l) = A.rb b cs k l)
    (hp : ∀ (k : Fin 512) (l : Fin 128), B.x13 (ix4 0 0 k l) = A.hf b cs k l) (hq : ∀ (k : Fin 512) (l : Fin 128), B.x18 (ix4 0 0 k l) = A.hb b cs k l)
    (hr : ∀ (k : Fin 512) (l : Fin 128), B.x22 (ix4 0 1 k l) = A.rg b ch k l) (hm : ∀ (k : Fin 512) (l : Fin 128), B.x23 (ix4 0 1 k l) = A.mo b ch k l)
    (hgr : ∀ (k : Fin 512) (l : Fin 128), B.x24 (ix2 k l) = A.gr k) (hgm : ∀ (k : Fin 512) (l : Fin 128), B.x25 (ix2 k l) = A.gm k)
    (k : Fin 1024) (l : Fin 128) : Y1 i B (ix2 k l) = A.mixed b cs ch l k :=
  chunkY_at A b cs ch _ _ _ _ _ _ _ _
    { a := fun k l => (v183_at i B k l).trans (ha k l), b := fun k l => (v185_at i B k l).trans (hb k l),
      p := fun k l => (v268_at i B k l).trans (hp k l), q := fun k l => (v270_at i B k l).trans (hq k l),
      rg := fun k l => (v260_at i B k l).trans (hr k l), mo := fun k l => (v265_at i B k l).trans (hm k l),
      gr := fun k l => (v188_at i B k l).trans (hgr k l), gm := fun k l => (v274_at i B k l).trans (hgm k l) } k l

/-- Chunk 2 of a tile, of blocks that hold the arguments' chunks: its mixed columns. -/
theorem Y2_of (i : grid0.Coords) (B : Blocks Ideal) (A : Cert.Mix.Args) (b : Fin 4) (cs ch : Fin 65)
    (ha : ∀ (k : Fin 512) (l : Fin 128), B.x4 (ix4 0 0 k l) = A.rf b cs k l) (hb : ∀ (k : Fin 512) (l : Fin 128), B.x9 (ix4 0 0 k l) = A.rb b cs k l)
    (hp : ∀ (k : Fin 512) (l : Fin 128), B.x14 (ix4 0 0 k l) = A.hf b cs k l) (hq : ∀ (k : Fin 512) (l : Fin 128), B.x19 (ix4 0 0 k l) = A.hb b cs k l)
    (hr : ∀ (k : Fin 512) (l : Fin 128), B.x22 (ix4 0 2 k l) = A.rg b ch k l) (hm : ∀ (k : Fin 512) (l : Fin 128), B.x23 (ix4 0 2 k l) = A.mo b ch k l)
    (hgr : ∀ (k : Fin 512) (l : Fin 128), B.x24 (ix2 k l) = A.gr k) (hgm : ∀ (k : Fin 512) (l : Fin 128), B.x25 (ix2 k l) = A.gm k)
    (k : Fin 1024) (l : Fin 128) : Y2 i B (ix2 k l) = A.mixed b cs ch l k :=
  chunkY_at A b cs ch _ _ _ _ _ _ _ _
    { a := fun k l => (v348_at i B k l).trans (ha k l), b := fun k l => (v350_at i B k l).trans (hb k l),
      p := fun k l => (v433_at i B k l).trans (hp k l), q := fun k l => (v435_at i B k l).trans (hq k l),
      rg := fun k l => (v425_at i B k l).trans (hr k l), mo := fun k l => (v430_at i B k l).trans (hm k l),
      gr := fun k l => (v353_at i B k l).trans (hgr k l), gm := fun k l => (v439_at i B k l).trans (hgm k l) } k l

/-- Chunk 3 of a tile, of blocks that hold the arguments' chunks: its mixed columns. -/
theorem Y3_of (i : grid0.Coords) (B : Blocks Ideal) (A : Cert.Mix.Args) (b : Fin 4) (cs ch : Fin 65)
    (ha : ∀ (k : Fin 512) (l : Fin 128), B.x5 (ix4 0 0 k l) = A.rf b cs k l) (hb : ∀ (k : Fin 512) (l : Fin 128), B.x10 (ix4 0 0 k l) = A.rb b cs k l)
    (hp : ∀ (k : Fin 512) (l : Fin 128), B.x15 (ix4 0 0 k l) = A.hf b cs k l) (hq : ∀ (k : Fin 512) (l : Fin 128), B.x20 (ix4 0 0 k l) = A.hb b cs k l)
    (hr : ∀ (k : Fin 512) (l : Fin 128), B.x22 (ix4 0 3 k l) = A.rg b ch k l) (hm : ∀ (k : Fin 512) (l : Fin 128), B.x23 (ix4 0 3 k l) = A.mo b ch k l)
    (hgr : ∀ (k : Fin 512) (l : Fin 128), B.x24 (ix2 k l) = A.gr k) (hgm : ∀ (k : Fin 512) (l : Fin 128), B.x25 (ix2 k l) = A.gm k)
    (k : Fin 1024) (l : Fin 128) : Y3 i B (ix2 k l) = A.mixed b cs ch l k :=
  chunkY_at A b cs ch _ _ _ _ _ _ _ _
    { a := fun k l => (v595_at i B k l).trans (ha k l), b := fun k l => (v597_at i B k l).trans (hb k l),
      p := fun k l => (v680_at i B k l).trans (hp k l), q := fun k l => (v682_at i B k l).trans (hq k l),
      rg := fun k l => (v672_at i B k l).trans (hr k l), mo := fun k l => (v677_at i B k l).trans (hm k l),
      gr := fun k l => (v600_at i B k l).trans (hgr k l), gm := fun k l => (v686_at i B k l).trans (hgm k l) } k l

/-- Chunk 4 of a tile, of blocks that hold the arguments' chunks: its mixed columns. -/
theorem Y4_of (i : grid0.Coords) (B : Blocks Ideal) (A : Cert.Mix.Args) (b : Fin 4) (cs ch : Fin 65)
    (ha : ∀ (k : Fin 512) (l : Fin 128), B.x6 (ix4 0 0 k l) = A.rf b cs k l) (hb : ∀ (k : Fin 512) (l : Fin 128), B.x11 (ix4 0 0 k l) = A.rb b cs k l)
    (hp : ∀ (k : Fin 512) (l : Fin 128), B.x16 (ix4 0 0 k l) = A.hf b cs k l) (hq : ∀ (k : Fin 512) (l : Fin 128), B.x21 (ix4 0 0 k l) = A.hb b cs k l)
    (hr : ∀ (k : Fin 512) (l : Fin 128), B.x22 (ix4 0 4 k l) = A.rg b ch k l) (hm : ∀ (k : Fin 512) (l : Fin 128), B.x23 (ix4 0 4 k l) = A.mo b ch k l)
    (hgr : ∀ (k : Fin 512) (l : Fin 128), B.x24 (ix2 k l) = A.gr k) (hgm : ∀ (k : Fin 512) (l : Fin 128), B.x25 (ix2 k l) = A.gm k)
    (k : Fin 1024) (l : Fin 128) : Y4 i B (ix2 k l) = A.mixed b cs ch l k :=
  chunkY_at A b cs ch _ _ _ _ _ _ _ _
    { a := fun k l => (v760_at i B k l).trans (ha k l), b := fun k l => (v762_at i B k l).trans (hb k l),
      p := fun k l => (v845_at i B k l).trans (hp k l), q := fun k l => (v847_at i B k l).trans (hq k l),
      rg := fun k l => (v837_at i B k l).trans (hr k l), mo := fun k l => (v842_at i B k l).trans (hm k l),
      gr := fun k l => (v765_at i B k l).trans (hgr k l), gm := fun k l => (v851_at i B k l).trans (hgm k l) } k l

/-- The normalised rows of the first three chunks, as computed. -/
theorem v541_eq (i : grid0.Coords) (B : Blocks Ideal) : v541 i B
    = truncf .bf16 (rmsA (rowsA (v8 i B) (v17 i B) (Y0 i B) (Y1 i B) (Y2 i B) (v515 i B)) (v528 i B)) bitsLt_bf16_f32 := rfl
/-- The scores of the first three chunks, as computed. -/
theorem v548_eq (i : grid0.Coords) (B : Blocks Ideal) : v548 i B
    = scoresA (rmsA (rowsA (v8 i B) (v17 i B) (Y0 i B) (Y1 i B) (Y2 i B) (v515 i B)) (v528 i B)) (v546 i B) := rfl
/-- The normalised rows of the last two chunks, as computed. -/
theorem v953_eq (i : grid0.Coords) (B : Blocks Ideal) : v953 i B
    = truncf .bf16 (rmsB (rowsB (v8 i B) (v17 i B) (Y3 i B) (Y4 i B) (v927 i B)) (v940 i B)) bitsLt_bf16_f32 := rfl
/-- The scores less their greatest, of the last two chunks, as computed. -/
theorem v969_eq (i : grid0.Coords) (B : Blocks Ideal) : v969 i B
    = lessTopB (scoresB (rmsB (rowsB (v8 i B) (v17 i B) (Y3 i B) (Y4 i B) (v927 i B)) (v940 i B)) (v958 i B)) := rfl
/-- The sums of the exponentials, of the last two chunks, as computed. -/
theorem v972_eq (i : grid0.Coords) (B : Blocks Ideal) : v972 i B
    = totalB (lessTopB (scoresB (rmsB (rowsB (v8 i B) (v17 i B) (Y3 i B) (Y4 i B) (v927 i B)) (v940 i B)) (v958 i B))) := rfl
/-- The shares of the last two chunks, as computed. -/
theorem v974_eq (i : grid0.Coords) (B : Blocks Ideal) : v974 i B
    = sharesB (lessTopB (scoresB (rmsB (rowsB (v8 i B) (v17 i B) (Y3 i B) (Y4 i B) (v927 i B)) (v940 i B)) (v958 i B))) := rfl
/-- The shares of the last two chunks, rounded, as computed. -/
theorem v975_eq (i : grid0.Coords) (B : Blocks Ideal) : v975 i B
    = truncf .bf16 (sharesB (lessTopB (scoresB (rmsB (rowsB (v8 i B) (v17 i B) (Y3 i B) (Y4 i B) (v927 i B)) (v940 i B)) (v958 i B)))) bitsLt_bf16_f32 := rfl
/-- The last two chunks' words. -/
theorem v930_at (i : grid0.Coords) (B : Blocks Ideal) (r : Fin 256) : v930 i B (ix2 r 0) = v17 i B (ix2 ⟨384 + r.val, by omega⟩ 0) := by
  show k0_pay102 (v17 i B) _ = _
  generalize v17 i B = z
  pointwise [k0_pay102]
/-- The first three chunks' words. -/
theorem v518_at (i : grid0.Coords) (B : Blocks Ideal) (r : Fin 384) : v518 i B (ix2 r 0) = v17 i B (ix2 ⟨r.val, by omega⟩ 0) := by
  show k0_pay64 (v17 i B) _ = _
  generalize v17 i B = z
  pointwise [k0_pay64]

end Cert.KernelIdeal.Mix

end
-- ==== Proof.MixPt.lean ====
/-
  One grid point of `mix_out`, row by row: what the body leaves in its three outputs is the step's function of the
  arguments.
-/
module

public import proofs.«01_k».proof.Proof.MixIn
public import proofs.«01_k».proof.Proof.MixLd

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The block 0 of a point. -/
theorem bx0 (t : Fin cfg0.N) : (blks m c t).x0 = tileBlk m c t := rfl
/-- The block 1 of a point. -/
theorem bx1 (t : Fin cfg0.N) : (blks m c t).x1 = (iblk m c 1 t : Vec Ideal S128x1024 .f32) := rfl
/-- The block 2 of a point. -/
theorem bx2 (t : Fin cfg0.N) : (blks m c t).x2 = (iblk m c 2 t : Vec Ideal S1x1x512x128 .f32) := rfl
/-- The block 3 of a point. -/
theorem bx3 (t : Fin cfg0.N) : (blks m c t).x3 = (iblk m c 3 t : Vec Ideal S1x1x512x128 .f32) := rfl
/-- The block 4 of a point. -/
theorem bx4 (t : Fin cfg0.N) : (blks m c t).x4 = (iblk m c 4 t : Vec Ideal S1x1x512x128 .f32) := rfl
/-- The block 5 of a point. -/
theorem bx5 (t : Fin cfg0.N) : (blks m c t).x5 = (iblk m c 5 t : Vec Ideal S1x1x512x128 .f32) := rfl
/-- The block 6 of a point. -/
theorem bx6 (t : Fin cfg0.N) : (blks m c t).x6 = (iblk m c 6 t : Vec Ideal S1x1x512x128 .f32) := rfl
/-- The block 7 of a point. -/
theorem bx7 (t : Fin cfg0.N) : (blks m c t).x7 = (iblk m c 7 t : Vec Ideal S1x1x512x128 .f32) := rfl
/-- The block 8 of a point. -/
theorem bx8 (t : Fin cfg0.N) : (blks m c t).x8 = (iblk m c 8 t : Vec Ideal S1x1x512x128 .f32) := rfl
/-- The block 9 of a point. -/
theorem bx9 (t : Fin cfg0.N) : (blks m c t).x9 = (iblk m c 9 t : Vec Ideal S1x1x512x128 .f32) := rfl
/-- The block 10 of a point. -/
theorem bx10 (t : Fin cfg0.N) : (blks m c t).x10 = (iblk m c 10 t : Vec Ideal S1x1x512x128 .f32) := rfl
/-- The block 11 of a point. -/
theorem bx11 (t : Fin cfg0.N) : (blks m c t).x11 = (iblk m c 11 t : Vec Ideal S1x1x512x128 .f32) := rfl
/-- The block 12 of a point. -/
theorem bx12 (t : Fin cfg0.N) : (blks m c t).x12 = (iblk m c 12 t : Vec Ideal S1x1x512x128 .f32) := rfl
/-- The block 13 of a point. -/
theorem bx13 (t : Fin cfg0.N) : (blks m c t).x13 = (iblk m c 13 t : Vec Ideal S1x1x512x128 .f32) := rfl
/-- The block 14 of a point. -/
theorem bx14 (t : Fin cfg0.N) : (blks m c t).x14 = (iblk m c 14 t : Vec Ideal S1x1x512x128 .f32) := rfl
/-- The block 15 of a point. -/
theorem bx15 (t : Fin cfg0.N) : (blks m c t).x15 = (iblk m c 15 t : Vec Ideal S1x1x512x128 .f32) := rfl
/-- The block 16 of a point. -/
theorem bx16 (t : Fin cfg0.N) : (blks m c t).x16 = (iblk m c 16 t : Vec Ideal S1x1x512x128 .f32) := rfl
/-- The block 17 of a point. -/
theorem bx17 (t : Fin cfg0.N) : (blks m c t).x17 = (iblk m c 17 t : Vec Ideal S1x1x512x128 .f32) := rfl
/-- The block 18 of a point. -/
theorem bx18 (t : Fin cfg0.N) : (blks m c t).x18 = (iblk m c 18 t : Vec Ideal S1x1x512x128 .f32) := rfl
/-- The block 19 of a point. -/
theorem bx19 (t : Fin cfg0.N) : (blks m c t).x19 = (iblk m c 19 t : Vec Ideal S1x1x512x128 .f32) := rfl
/-- The block 20 of a point. -/
theorem bx20 (t : Fin cfg0.N) : (blks m c t).x20 = (iblk m c 20 t : Vec Ideal S1x1x512x128 .f32) := rfl
/-- The block 21 of a point. -/
theorem bx21 (t : Fin cfg0.N) : (blks m c t).x21 = (iblk m c 21 t : Vec Ideal S1x1x512x128 .f32) := rfl
/-- The block 22 of a point. -/
theorem bx22 (t : Fin cfg0.N) : (blks m c t).x22 = (iblk m c 22 t : Vec Ideal S1x5x512x128 .f32) := rfl
/-- The block 23 of a point. -/
theorem bx23 (t : Fin cfg0.N) : (blks m c t).x23 = (iblk m c 23 t : Vec Ideal S1x5x512x128 .f32) := rfl
/-- The block 24 of a point. -/
theorem bx24 (t : Fin cfg0.N) : (blks m c t).x24 = (iblk m c 24 t : Vec Ideal S512x128 .f32) := rfl
/-- The block 25 of a point. -/
theorem bx25 (t : Fin cfg0.N) : (blks m c t).x25 = (iblk m c 25 t : Vec Ideal S512x128 .f32) := rfl
/-- The block 26 of a point. -/
theorem bx26 (t : Fin cfg0.N) : (blks m c t).x26 = (iblk m c 26 t : Vec Ideal S1024x1024 .bf16) := rfl
/-- The block 27 of a point. -/
theorem bx27 (t : Fin cfg0.N) : (blks m c t).x27 = (iblk m c 27 t : Vec Ideal S1x1024 .f32) := rfl
/-- The block 28 of a point. -/
theorem bx28 (t : Fin cfg0.N) : (blks m c t).x28 = (iblk m c 28 t : Vec Ideal S3072x128 .bf16) := rfl

/-- Chunk 0 of a tile: its mixed columns. -/
theorem Y0_at (t : Fin cfg0.N) (b : Fin 4) (cs ch : Fin 65) (hb : b.val = t.val / 13) (hs : cs.val = (t.val % 13 * 5 + 0 + 1) % 65)
    (hc : ch.val = t.val % 13 * 5 + 0) (k : Fin 1024) (l : Fin 128) :
    Y0 (grid0.coords t) (blks m c t) (ix2 k l) = (args m c).mixed b cs ch l k :=
  Y0_of (grid0.coords t) (blks m c t) (args m c) b cs ch (fun k l => (congrFun (bx2 m c t) _).trans (b2_at m c t k l b cs hb hs)) (fun k l => (congrFun (bx7 m c t) _).trans (b7_at m c t k l b cs hb hs))
    (fun k l => (congrFun (bx12 m c t) _).trans (b12_at m c t k l b cs hb hs)) (fun k l => (congrFun (bx17 m c t) _).trans (b17_at m c t k l b cs hb hs)) (fun k l => (congrFun (bx22 m c t) _).trans (b22_at m c t 0 k l b ch hb hc))
    (fun k l => (congrFun (bx23 m c t) _).trans (b23_at m c t 0 k l b ch hb hc)) (fun k l => (congrFun (bx24 m c t) _).trans (b24_at m c t k l)) (fun k l => (congrFun (bx25 m c t) _).trans (b25_at m c t k l)) k l

/-- Chunk 1 of a tile: its mixed columns. -/
theorem Y1_at (t : Fin cfg0.N) (b : Fin 4) (cs ch : Fin 65) (hb : b.val = t.val / 13) (hs : cs.val = (t.val % 13 * 5 + 1 + 1) % 65)
    (hc : ch.val = t.val % 13 * 5 + 1) (k : Fin 1024) (l : Fin 128) :
    Y1 (grid0.coords t) (blks m c t) (ix2 k l) = (args m c).mixed b cs ch l k :=
  Y1_of (grid0.coords t) (blks m c t) (args m c) b cs ch (fun k l => (congrFun (bx3 m c t) _).trans (b3_at m c t k l b cs hb hs)) (fun k l => (congrFun (bx8 m c t) _).trans (b8_at m c t k l b cs hb hs))
    (fun k l => (congrFun (bx13 m c t) _).trans (b13_at m c t k l b cs hb hs)) (fun k l => (congrFun (bx18 m c t) _).trans (b18_at m c t k l b cs hb hs)) (fun k l => (congrFun (bx22 m c t) _).trans (b22_at m c t 1 k l b ch hb hc))
    (fun k l => (congrFun (bx23 m c t) _).trans (b23_at m c t 1 k l b ch hb hc)) (fun k l => (congrFun (bx24 m c t) _).trans (b24_at m c t k l)) (fun k l => (congrFun (bx25 m c t) _).trans (b25_at m c t k l)) k l

/-- Chunk 2 of a tile: its mixed columns. -/
theorem Y2_at (t : Fin cfg0.N) (b : Fin 4) (cs ch : Fin 65) (hb : b.val = t.val / 13) (hs : cs.val = (t.val % 13 * 5 + 2 + 1) % 65)
    (hc : ch.val = t.val % 13 * 5 + 2) (k : Fin 1024) (l : Fin 128) :
    Y2 (grid0.coords t) (blks m c t) (ix2 k l) = (args m c).mixed b cs ch l k :=
  Y2_of (grid0.coords t) (blks m c t) (args m c) b cs ch (fun k l => (congrFun (bx4 m c t) _).trans (b4_at m c t k l b cs hb hs)) (fun k l => (congrFun (bx9 m c t) _).trans (b9_at m c t k l b cs hb hs))
    (fun k l => (congrFun (bx14 m c t) _).trans (b14_at m c t k l b cs hb hs)) (fun k l => (congrFun (bx19 m c t) _).trans (b19_at m c t k l b cs hb hs)) (fun k l => (congrFun (bx22 m c t) _).trans (b22_at m c t 2 k l b ch hb hc))
    (fun k l => (congrFun (bx23 m c t) _).trans (b23_at m c t 2 k l b ch hb hc)) (fun k l => (congrFun (bx24 m c t) _).trans (b24_at m c t k l)) (fun k l => (congrFun (bx25 m c t) _).trans (b25_at m c t k l)) k l

/-- Chunk 3 of a tile: its mixed columns. -/
theorem Y3_at (t : Fin cfg0.N) (b : Fin 4) (cs ch : Fin 65) (hb : b.val = t.val / 13) (hs : cs.val = (t.val % 13 * 5 + 3 + 1) % 65)
    (hc : ch.val = t.val % 13 * 5 + 3) (k : Fin 1024) (l : Fin 128) :
    Y3 (grid0.coords t) (blks m c t) (ix2 k l) = (args m c).mixed b cs ch l k :=
  Y3_of (grid0.coords t) (blks m c t) (args m c) b cs ch (fun k l => (congrFun (bx5 m c t) _).trans (b5_at m c t k l b cs hb hs)) (fun k l => (congrFun (bx10 m c t) _).trans (b10_at m c t k l b cs hb hs))
    (fun k l => (congrFun (bx15 m c t) _).trans (b15_at m c t k l b cs hb hs)) (fun k l => (congrFun (bx20 m c t) _).trans (b20_at m c t k l b cs hb hs)) (fun k l => (congrFun (bx22 m c t) _).trans (b22_at m c t 3 k l b ch hb hc))
    (fun k l => (congrFun (bx23 m c t) _).trans (b23_at m c t 3 k l b ch hb hc)) (fun k l => (congrFun (bx24 m c t) _).trans (b24_at m c t k l)) (fun k l => (congrFun (bx25 m c t) _).trans (b25_at m c t k l)) k l

/-- Chunk 4 of a tile: its mixed columns. -/
theorem Y4_at (t : Fin cfg0.N) (b : Fin 4) (cs ch : Fin 65) (hb : b.val = t.val / 13) (hs : cs.val = (t.val % 13 * 5 + 4 + 1) % 65)
    (hc : ch.val = t.val % 13 * 5 + 4) (k : Fin 1024) (l : Fin 128) :
    Y4 (grid0.coords t) (blks m c t) (ix2 k l) = (args m c).mixed b cs ch l k :=
  Y4_of (grid0.coords t) (blks m c t) (args m c) b cs ch (fun k l => (congrFun (bx6 m c t) _).trans (b6_at m c t k l b cs hb hs)) (fun k l => (congrFun (bx11 m c t) _).trans (b11_at m c t k l b cs hb hs))
    (fun k l => (congrFun (bx16 m c t) _).trans (b16_at m c t k l b cs hb hs)) (fun k l => (congrFun (bx21 m c t) _).trans (b21_at m c t k l b cs hb hs)) (fun k l => (congrFun (bx22 m c t) _).trans (b22_at m c t 4 k l b ch hb hc))
    (fun k l => (congrFun (bx23 m c t) _).trans (b23_at m c t 4 k l b ch hb hc)) (fun k l => (congrFun (bx24 m c t) _).trans (b24_at m c t k l)) (fun k l => (congrFun (bx25 m c t) _).trans (b25_at m c t k l)) k l

/-- The tile's rows are the residual stream's where they hold tokens. -/
theorem v8_at (t : Fin cfg0.N) (b : Fin 4) (R : Fin 8320) (r : Fin 640) (n : Fin 1024) (hb : b.val = t.val / 13)
    (hR : R.val = t.val % 13 * 640 + r.val) (h : Cert.Mix.holds R) :
    v8 (grid0.coords t) (blks m c t) (ix2 r n) = (args m c).tok b R n := by
  have hi : (grid0.coords t 1).val = t.val % 13 := (idx t).2.2.2.2.2.2.2.2.2.2.2.2
  refine (pay2_at _ _ _ r n).trans ?_
  unfold Cert.Mix.Args.tok
  by_cases hc : (grid0.coords t 1).val = 12 ∧ 512 ≤ r.val
  · rw [dif_pos hc, dif_neg (by omega), dif_neg (by omega)]
    refine (v3_at _ _ _ n).trans ?_
    refine (congrFun (bx1 m c t) _).trans ((b1_at m c t _ n).trans ?_)
    rw [dif_neg (by show ¬ r.val - 512 < 112; omega)]
    exact congrArg (fun z => (args m c).head z n) (Fin.ext (by show r.val - 512 - 112 = R.val - 8304; omega))
  · have hlt : R.val < 8192 := by omega
    rw [dif_neg hc, dif_pos hlt]
    exact (v0_at _ _ r n).trans ((congrFun (bx0 m c t) _).trans (b0_at m c t r n b ⟨R.val, hlt⟩ hb hR))

/-- The words that say which rows of the tile hold tokens. -/
theorem v17_at (t : Fin cfg0.N) (R : Fin 8320) (r : Fin 640) (hR : R.val = t.val % 13 * 640 + r.val) :
    v17 (F := Ideal) (grid0.coords t) (blks m c t) (ix2 r 0) = 1#1 ↔ Cert.Mix.holds R := by
  have hi : (grid0.coords t 1).val = t.val % 13 := (idx t).2.2.2.2.2.2.2.2.2.2.2.2
  exact pay3_at _ r R (by rw [hi]; exact hR)

/-- The residual rows of the first three chunks. -/
theorem hA (t : Fin cfg0.N) (b : Fin 4) (R : Fin 8320) (r : Fin 384) (n : Fin 1024) (hb : b.val = t.val / 13)
    (hR : R.val = t.val % 13 * 640 + r.val) :
    rowsA (v8 (grid0.coords t) (blks m c t)) (v17 (F := Ideal) (grid0.coords t) (blks m c t)) (Y0 (grid0.coords t) (blks m c t)) (Y1 (grid0.coords t) (blks m c t))
      (Y2 (grid0.coords t) (blks m c t)) (v515 (grid0.coords t) (blks m c t)) (ix2 r n) = (args m c).h1 b R n := by
  rw [rowsA_at]
  unfold Cert.Mix.Args.h1
  by_cases h : Cert.Mix.holds R
  · rw [if_pos ((v17_at m c t R _ hR).mpr h), if_pos h]
    refine congrArg₂ (fun a b : EReal => a + b) (v8_at m c t b R _ n hb hR h) (Finset.sum_congr rfl fun k _ => ?_)
    refine congrArg₂ (fun a b : EReal => a * b) ?_ ((v515_at _ _ k n).trans ((congrFun (bx26 m c t) _).trans (b26_at m c t k n)))
    by_cases h0 : r.val < 128
    · rw [dif_pos h0, Y0_at m c t b ⟨(R.val / 128 + 1) % 65, by omega⟩ ⟨R.val / 128, by omega⟩ hb (by dsimp only; omega) (by dsimp only; omega)]
      exact congrArg (fun l => (args m c).mixed b _ _ l k) (Fin.ext (by dsimp only; omega))
    rw [dif_neg h0]
    by_cases h1 : r.val - 128 < 128
    · rw [dif_pos h1, Y1_at m c t b ⟨(R.val / 128 + 1) % 65, by omega⟩ ⟨R.val / 128, by omega⟩ hb (by dsimp only; omega) (by dsimp only; omega)]
      exact congrArg (fun l => (args m c).mixed b _ _ l k) (Fin.ext (by dsimp only; omega))
    rw [dif_neg h1, Y2_at m c t b ⟨(R.val / 128 + 1) % 65, by omega⟩ ⟨R.val / 128, by omega⟩ hb (by dsimp only; omega) (by dsimp only; omega)]
    exact congrArg (fun l => (args m c).mixed b _ _ l k) (Fin.ext (by dsimp only; omega))
  · rw [if_neg (fun q => h ((v17_at m c t R _ hR).mp q)), if_neg h]

/-- The residual rows of the last two chunks. -/
theorem hB (t : Fin cfg0.N) (b : Fin 4) (R : Fin 8320) (r : Fin 256) (n : Fin 1024) (hb : b.val = t.val / 13)
    (hR : R.val = t.val % 13 * 640 + (384 + r.val)) :
    rowsB (v8 (grid0.coords t) (blks m c t)) (v17 (F := Ideal) (grid0.coords t) (blks m c t)) (Y3 (grid0.coords t) (blks m c t)) (Y4 (grid0.coords t) (blks m c t))
      (v927 (grid0.coords t) (blks m c t)) (ix2 r n) = (args m c).h1 b R n := by
  rw [rowsB_at]
  unfold Cert.Mix.Args.h1
  by_cases h : Cert.Mix.holds R
  · rw [if_pos ((v17_at m c t R _ hR).mpr h), if_pos h]
    refine congrArg₂ (fun a b : EReal => a + b) (v8_at m c t b R _ n hb hR h) (Finset.sum_congr rfl fun k _ => ?_)
    refine congrArg₂ (fun a b : EReal => a * b) ?_ ((v927_at _ _ k n).trans ((congrFun (bx26 m c t) _).trans (b26_at m c t k n)))
    by_cases h0 : r.val < 128
    · rw [dif_pos h0, Y3_at m c t b ⟨(R.val / 128 + 1) % 65, by omega⟩ ⟨R.val / 128, by omega⟩ hb (by dsimp only; omega) (by dsimp only; omega)]
      exact congrArg (fun l => (args m c).mixed b _ _ l k) (Fin.ext (by dsimp only; omega))
    rw [dif_neg h0, Y4_at m c t b ⟨(R.val / 128 + 1) % 65, by omega⟩ ⟨R.val / 128, by omega⟩ hb (by dsimp only; omega) (by dsimp only; omega)]
    exact congrArg (fun l => (args m c).mixed b _ _ l k) (Fin.ext (by dsimp only; omega))
  · rw [if_neg (fun q => h ((v17_at m c t R _ hR).mp q)), if_neg h]

/-- The router's rows: the weights. -/
theorem w0_at (w : FVec Ideal S3072x128 .bf16) (t : Fin cfg0.N) (hw : ∀ k l, w (ix2 k l) = (blks m c t).x28 (ix2 k l)) (k : Fin 1024) (e : Fin 16) :
    w (ix2 (Cert.Mix.hiRow k) (Cert.Mix.lane e)) = (args m c).wr k e := by
  rw [hw]
  refine (congrFun ((bx28 m c t).trans (b28_eq m c t)) _).trans ?_
  refine (routerRows_at _ _ e).trans ?_
  rw [dif_pos k.isLt]
  rfl

/-- The router's rows: what the rounding left. -/
theorem w2_at (w : FVec Ideal S3072x128 .bf16) (t : Fin cfg0.N) (hw : ∀ k l, w (ix2 k l) = (blks m c t).x28 (ix2 k l)) (k : Fin 1024) (e : Fin 16) :
    w (ix2 (Cert.Mix.loRow k) (Cert.Mix.lane e)) = (args m c).wr k e - (args m c).wr k e := by
  rw [hw]
  refine (congrFun ((bx28 m c t).trans (b28_eq m c t)) _).trans ?_
  refine (routerRows_at _ _ e).trans ?_
  rw [dif_neg (by dsimp only; omega), dif_neg (by dsimp only; omega)]
  have : (⟨2048 + k.val - 1024 - 1024, by omega⟩ : Fin 1024) = k := Fin.ext (by dsimp only; omega)
  exact congrArg (fun z : Fin 1024 => A12 m c (ix3 0 z e) - A12 m c (ix3 0 z e)) this

/-- The residual stream's array. -/
def G29 (A : Cert.Mix.Args) : FVec Ideal S4x8320x1024 .f32 := fun i => A.h1 (i 0) (i 1) (i 2)
/-- The normalised rows' and the shares' array. -/
def G30 (A : Cert.Mix.Args) : FVec Ideal S4x8320x1152 .bf16 := fun i => A.uaff (i 0) (i 1) (i 2)
/-- The logarithms' array. -/
def G31 (A : Cert.Mix.Args) : FVec Ideal S4x8320x128 .f32 := fun i => A.laff (i 0) (i 1) (i 2)

/-- What a point leaves in output 29. -/
theorem point29 (t : Fin cfg0.N) (y : S1x640x1024.Idx) :
    View.canon (pieces29 (grid0.coords t) (blks m c t)) y = G29 (args m c) (((cfg0.win 29).blk t).view.emb y) := by
  have ht : t.val < 52 := lt_of_lt_of_eq t.isLt N_0
  have hy : (y 1).val < 640 := (y 1).isLt
  obtain ⟨b, hb⟩ : ∃ b : Fin 4, (b : ℕ) = t.val / 13 := ⟨⟨_, by omega⟩, rfl⟩
  obtain ⟨R, hR⟩ : ∃ R : Fin 8320, (R : ℕ) = t.val % 13 * 640 + (y 1 : ℕ) := ⟨⟨_, by omega⟩, rfl⟩
  obtain ⟨d, hd⟩ : ∃ d : Fin 1024, (d : ℕ) = (y 2 : ℕ) := ⟨⟨_, by idx_bounds; omega⟩, rfl⟩
  have ei : (((cfg0.win 29).blk t).view.emb y) = ix3 b R d := by blk_ext [idx t]
  refine Eq.trans ?_ (congrArg (G29 (args m c)) ei).symm
  show _ = (args m c).h1 b R d
  have hc := cover29 (grid0.coords t) (blks m c t) y
  unfold pieces29 at hc ⊢
  canon_tiles x hx using hc
  · obtain ⟨r, hr⟩ : ∃ r : Fin 256, r.val = (x 1).val := ⟨⟨_, x1_lt⟩, rfl⟩
    have ex : x = ix3 0 r d := by
      funext a
      match a with
      | 0 => exact Fin.ext (by show (x 0).val = 0; omega)
      | 1 => exact Fin.ext hr.symm
      | 2 => exact Fin.ext (hx2.symm.trans hd.symm)
    rw [ex]
    exact (pay105_at _ _ r d).trans (hB m c t b R r d hb (by omega))
  · obtain ⟨r, hr⟩ : ∃ r : Fin 384, r.val = (x 1).val := ⟨⟨_, x1_lt⟩, rfl⟩
    have ex : x = ix3 0 r d := by
      funext a
      match a with
      | 0 => exact Fin.ext (by show (x 0).val = 0; omega)
      | 1 => exact Fin.ext hr.symm
      | 2 => exact Fin.ext (hx2.symm.trans hd.symm)
    rw [ex]
    exact (pay66_at _ _ r d).trans (hA m c t b R r d hb (by omega))

/-- What a point leaves in output 30. -/
theorem point30 (fin : (args m c).Finite) (t : Fin cfg0.N) (y : S1x640x1152.Idx) :
    View.canon (pieces30 (grid0.coords t) (blks m c t)) y = G30 (args m c) (((cfg0.win 30).blk t).view.emb y) := by
  have ht : t.val < 52 := lt_of_lt_of_eq t.isLt N_0
  have hy : (y 1).val < 640 := (y 1).isLt
  obtain ⟨b, hb⟩ : ∃ b : Fin 4, (b : ℕ) = t.val / 13 := ⟨⟨_, by omega⟩, rfl⟩
  obtain ⟨R, hR⟩ : ∃ R : Fin 8320, (R : ℕ) = t.val % 13 * 640 + (y 1 : ℕ) := ⟨⟨_, by omega⟩, rfl⟩
  obtain ⟨d, hd⟩ : ∃ d : Fin 1152, (d : ℕ) = (y 2 : ℕ) := ⟨⟨_, by idx_bounds; omega⟩, rfl⟩
  have ei : (((cfg0.win 30).blk t).view.emb y) = ix3 b R d := by blk_ext [idx t]
  refine Eq.trans ?_ (congrArg (G30 (args m c)) ei).symm
  show _ = (args m c).uaff b R d
  have hc := cover30 (grid0.coords t) (blks m c t) y
  unfold pieces30 at hc ⊢
  canon_tiles x hx using hc
  · obtain ⟨r, hr⟩ : ∃ r : Fin 256, r.val = (x 1).val := ⟨⟨_, x1_lt⟩, rfl⟩
    have ex : x = ix3 0 r d := by
      funext a
      match a with
      | 0 => exact Fin.ext (by show (x 0).val = 0; omega)
      | 1 => exact Fin.ext hr.symm
      | 2 => exact Fin.ext (hx2.symm.trans hd.symm)
    rw [ex]
    rw [v953_eq, v974_eq, v975_eq]
    exact uaffB (args m c) fin b R _ _ _ r (fun z => hB m c t b R r z hb (by omega)) (fun z => (v940_at _ _ 0 z).trans ((congrFun (bx27 m c t) _).trans (b27_at m c t z))) (w0_at m c _ t (v958_at _ _)) (w2_at m c _ t (v958_at _ _)) d
  · obtain ⟨r, hr⟩ : ∃ r : Fin 384, r.val = (x 1).val := ⟨⟨_, x1_lt⟩, rfl⟩
    have ex : x = ix3 0 r d := by
      funext a
      match a with
      | 0 => exact Fin.ext (by show (x 0).val = 0; omega)
      | 1 => exact Fin.ext hr.symm
      | 2 => exact Fin.ext (hx2.symm.trans hd.symm)
    rw [ex]
    rw [v541_eq, v548_eq]
    exact uaffA (args m c) fin b R _ _ _ r (fun z => hA m c t b R r z hb (by omega)) (fun z => (v528_at _ _ 0 z).trans ((congrFun (bx27 m c t) _).trans (b27_at m c t z))) (w0_at m c _ t (v546_at _ _)) (w2_at m c _ t (v546_at _ _)) d

/-- What a point leaves in output 31. -/
theorem point31 (fin : (args m c).Finite) (t : Fin cfg0.N) (y : S1x640x128.Idx) :
    View.canon (pieces31 (grid0.coords t) (blks m c t)) y = G31 (args m c) (((cfg0.win 31).blk t).view.emb y) := by
  have ht : t.val < 52 := lt_of_lt_of_eq t.isLt N_0
  have hy : (y 1).val < 640 := (y 1).isLt
  obtain ⟨b, hb⟩ : ∃ b : Fin 4, (b : ℕ) = t.val / 13 := ⟨⟨_, by omega⟩, rfl⟩
  obtain ⟨R, hR⟩ : ∃ R : Fin 8320, (R : ℕ) = t.val % 13 * 640 + (y 1 : ℕ) := ⟨⟨_, by omega⟩, rfl⟩
  obtain ⟨d, hd⟩ : ∃ d : Fin 128, (d : ℕ) = (y 2 : ℕ) := ⟨⟨_, by idx_bounds; omega⟩, rfl⟩
  have ei : (((cfg0.win 31).blk t).view.emb y) = ix3 b R d := by blk_ext [idx t]
  refine Eq.trans ?_ (congrArg (G31 (args m c)) ei).symm
  show _ = (args m c).laff b R d
  have hc := cover31 (grid0.coords t) (blks m c t) y
  unfold pieces31 at hc ⊢
  canon_tiles x hx using hc
  · obtain ⟨r, hr⟩ : ∃ r : Fin 256, r.val = (x 1).val := ⟨⟨_, x1_lt⟩, rfl⟩
    have ex : x = ix3 0 r d := by
      funext a
      match a with
      | 0 => exact Fin.ext (by show (x 0).val = 0; omega)
      | 1 => exact Fin.ext hr.symm
      | 2 => exact Fin.ext (hx2.symm.trans hd.symm)
    rw [ex]
    unfold v1003
    rw [v969_eq, v972_eq]
    refine laffB (args m c) fin b R _ _ _ r (fun z => hB m c t b R r z hb (by omega)) (fun z => (v940_at _ _ 0 z).trans ((congrFun (bx27 m c t) _).trans (b27_at m c t z))) (w0_at m c _ t (v958_at _ _)) (w2_at m c _ t (v958_at _ _)) _ ?_ d
    rw [v930_at]
    exact v17_at m c t R _ (by dsimp only; omega)
  · obtain ⟨r, hr⟩ : ∃ r : Fin 384, r.val = (x 1).val := ⟨⟨_, x1_lt⟩, rfl⟩
    have ex : x = ix3 0 r d := by
      funext a
      match a with
      | 0 => exact Fin.ext (by show (x 0).val = 0; omega)
      | 1 => exact Fin.ext hr.symm
      | 2 => exact Fin.ext (hx2.symm.trans hd.symm)
    rw [ex]
    unfold v591
    rw [v548_eq]
    refine laffA (args m c) fin b R _ _ _ r (fun z => hA m c t b R r z hb (by omega)) (fun z => (v528_at _ _ 0 z).trans ((congrFun (bx27 m c t) _).trans (b27_at m c t z))) (w0_at m c _ t (v546_at _ _)) (w2_at m c _ t (v546_at _ _)) _ ?_ d
    rw [v518_at]
    exact v17_at m c t R _ (by dsimp only; omega)

end Cert.KernelIdeal.Mix

end
-- ==== Proof.MixFinal.lean ====
/-
  The output arrays of `mix_out` at the end of its run, of finite gains and router weights.
-/
module

public import proofs.«01_k».proof.Defs
public import proofs.«01_k».proof.Proof.Gen.Pre_finite_norm_and_router
public import proofs.«01_k».proof.Proof.MixClaims
public import proofs.«01_k».proof.Proof.MixPt

@[expose] public section

set_option maxRecDepth 16384

noncomputable section

open Idealize.ShloMosaic Idealize.ShloMosaic.TcCoe Idealize.ShloMosaic.Tactic Idealize.SL.Sem

namespace Cert.KernelIdeal.Mix

open Cert.KernelIdeal Cert.KernelIdeal.Gen

variable (m : (ℓ : Loc nD τ sig) → Buf (Elt Ideal) ℓ) (c : Dev nD)

/-- The first output array at the end: the residual stream. -/
theorem final29 : (dats m 0 c).arrAt 29 (cfgs 0).N = G29 (args m c) := by
  refine (dats m 0 c).arrAt_eq_of_covers 29 _ (by decide +kernel) fun t hf y => ?_
  blk_simp
  rw [after_29]
  exact point29 m c t y

/-- The second output array at the end: the normalised rows with their shares. -/
theorem final30 (fin : (args m c).Finite) : (dats m 0 c).arrAt 30 (cfgs 0).N = G30 (args m c) := by
  refine (dats m 0 c).arrAt_eq_of_covers 30 _ (by decide +kernel) fun t hf y => ?_
  blk_simp
  rw [after_30]
  exact point30 m c fin t y

/-- The third output array at the end: the logarithms of the shares. -/
theorem final31 (fin : (args m c).Finite) : (dats m 0 c).arrAt 31 (cfgs 0).N = G31 (args m c) := by
  refine (dats m 0 c).arrAt_eq_of_covers 31 _ (by decide +kernel) fun t hf y => ?_
  blk_simp
  rw [after_31]
  exact point31 m c fin t y

/-- An extended real whose absolute value compares below `+∞` is a real. -/
theorem real_of_lt (x : EReal) (h : Ideal.cmp CmpFPredicate.olt (max x (-x)) (Ideal.ofBits .f32 0x7F800000#32) = 1#1) : Cert.Mix.Real' x := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

/-- The precondition says that the norm's gain and the router's weights are finite. -/
theorem finite_of_pre (h : Cert.Pre_KernelIdeal_finite_norm_and_router (hPre_finite_norm_and_router := Cert.Pre_finite_norm_and_router.Gen.facts) m) :
    (args m c).Finite := by
  obtain ⟨h1, h2⟩ := h c
  refine ⟨fun k => real_of_lt _ ?_, fun k e => real_of_lt _ ?_⟩
  · exact congrFun h1 (ix2 0 k)
  · exact congrFun h2 (ix3 0 k e)

end Cert.KernelIdeal.Mix

end
-- ==== Proof.MixRef.lean ====
/-
  The reference's three results, entry by entry, are the step's functions of the arguments. Each definition is a part of the
  reference's own term, over plain arrays.
-/
module

public import proofs.«01_k».proof.Proof.Gen.ReferenceIdeal.Run
public import proofs.«01_k».proof.Proof.MixSpec
public import Idealize.ShloMosaic.Lib.Pipeline.ValueKit

@[expose] public section

set_option maxRecDepth 16384

noncomputable section

open Idealize.ShloMosaic Idealize.ShloMosaic.TcCoe Idealize.SL.Sem

namespace Cert.ReferenceIdeal.Mix

open Cert.ReferenceIdeal Cert.ReferenceIdeal.Gen

/-- The reference's term for the retention's output, token by token. -/
def f10 (a2 : FVec Ideal S4x65x512x128 .f32) (a3 : FVec Ideal S4x65x512x128 .f32) : FVec Ideal S4x8208x4x128 .f32 :=
  shapeCast _ (addf (extractStridedSlice S4x8208x512 ![0, 112, 0] (shapeCast _ (transpose S4x65x128x512 [0, 1, 3, 2] a2 transposes_S4x65x512x128_S4x65x128x512_0_1_3_2) shapeCasts_S4x65x128x512_S4x8320x512) slices_S4x8320x512_S4x8208x512_0_112_0) (extractStridedSlice S4x8208x512 ![0, 112, 0] (shapeCast _ (transpose S4x65x128x512 [0, 1, 3, 2] a3 transposes_S4x65x512x128_S4x65x128x512_0_1_3_2) shapeCasts_S4x65x128x512_S4x8320x512) slices_S4x8320x512_S4x8208x512_0_112_0)) shapeCasts_S4x8208x512_S4x8208x4x128

/-- The reference's term for the retention's output less each head's mean. -/
def f17 (w10 : FVec Ideal S4x8208x4x128 .f32) : FVec Ideal S4x8208x4x128 .f32 :=
  subf w10 (broadcastInDim S4x8208x4x128 ![0, 1, 2, 3] bcast_S4x8208x4x1_S4x8208x4x128_0_1_2_3 (Host.divf (broadcastInDim S4x8208x4x1 ![0, 1, 2] bcast_S4x8208x4_S4x8208x4x1_0_1_2 (Host.reduceAdd w10 (constant S_ .f32 0x00000000#32) reducesTo_S4x8208x4x128_S4x8208x4_d3 h_S_)) (broadcastInDim S4x8208x4x1 ![] bcast_S_S4x8208x4x1 (constant S_ .f32 0x43000000#32))))

/-- The reference's term for the retention's gates, row by row. -/
def f33 (a6 : FVec Ideal S4x65x512x128 .f32) : FVec Ideal S4x8320x512 .f32 :=
  shapeCast _ (transpose S4x65x128x512 [0, 1, 3, 2] a6 transposes_S4x65x512x128_S4x65x128x512_0_1_3_2) shapeCasts_S4x65x128x512_S4x8320x512

/-- The reference's term for the retention's gates, token by token. -/
def f36 (w33 : FVec Ideal S4x8320x512 .f32) : FVec Ideal S4x8208x512 .f32 :=
  concatenate S4x8208x512 1 [⟨S4x16x512, (extractStridedSlice S4x16x512 ![0, 8304, 0] w33 slices_S4x8320x512_S4x16x512_0_8304_0)⟩, ⟨S4x8192x512, (extractStridedSlice S4x8192x512 ![0, 0, 0] w33 slices_S4x8320x512_S4x8192x512_0_0_0)⟩] concatenates_S4x16x512_S4x8192x512_S4x8208x512_d1

/-- The reference's term for the matrix memory's gates, row by row. -/
def f48 (a7 : FVec Ideal S4x65x512x128 .f32) : FVec Ideal S4x8320x512 .f32 :=
  shapeCast _ (transpose S4x65x128x512 [0, 1, 3, 2] a7 transposes_S4x65x512x128_S4x65x128x512_0_1_3_2) shapeCasts_S4x65x128x512_S4x8320x512

/-- The logistic of the gates, token by token. -/
def f58 (w48 : FVec Ideal S4x8320x512 .f32) : FVec Ideal S4x8208x512 .f32 :=
  Host.divf (broadcastInDim S4x8208x512 ![] bcast_S_S4x8208x512 (constant S_ .f32 0x3F800000#32)) (addf (broadcastInDim S4x8208x512 ![] bcast_S_S4x8208x512 (constant S_ .f32 0x3F800000#32)) (Host.exp (Host.negf (concatenate S4x8208x512 1 [⟨S4x16x512, (extractStridedSlice S4x16x512 ![0, 8304, 0] w48 slices_S4x8320x512_S4x16x512_0_8304_0)⟩, ⟨S4x8192x512, (extractStridedSlice S4x8192x512 ![0, 0, 0] w48 slices_S4x8320x512_S4x8192x512_0_0_0)⟩] concatenates_S4x16x512_S4x8192x512_S4x8208x512_d1))))

/-- The sum of both directions, token by token. -/
def f57 (a4 a5 : FVec Ideal S4x65x512x128 .f32) : FVec Ideal S4x8208x512 .f32 :=
  addf (extractStridedSlice S4x8208x512 ![0, 112, 0] (shapeCast _ (transpose S4x65x128x512 [0, 1, 3, 2] a4 transposes_S4x65x512x128_S4x65x128x512_0_1_3_2) shapeCasts_S4x65x128x512_S4x8320x512) slices_S4x8320x512_S4x8208x512_0_112_0) (extractStridedSlice S4x8208x512 ![0, 112, 0] (shapeCast _ (transpose S4x65x128x512 [0, 1, 3, 2] a5 transposes_S4x65x512x128_S4x65x128x512_0_1_3_2) shapeCasts_S4x65x128x512_S4x8320x512) slices_S4x8320x512_S4x8208x512_0_112_0)

/-- The channels as four heads of 128. -/
def byHead (v : FVec Ideal S4x8208x512 .f32) : FVec Ideal S4x8208x4x128 .f32 :=
  shapeCast _ v shapeCasts_S4x8208x512_S4x8208x4x128

/-- The reference's term for the matrix memory's gated output, token by token. -/
def f59 (a4 : FVec Ideal S4x65x512x128 .f32) (a5 : FVec Ideal S4x65x512x128 .f32) (w48 : FVec Ideal S4x8320x512 .f32) : FVec Ideal S4x8208x4x128 .f32 :=
  mulf (byHead (f58 w48)) (byHead (f57 a4 a5))

/-- The reference's term for the gated output less each head's mean. -/
def f66 (w59 : FVec Ideal S4x8208x4x128 .f32) : FVec Ideal S4x8208x4x128 .f32 :=
  subf w59 (broadcastInDim S4x8208x4x128 ![0, 1, 2, 3] bcast_S4x8208x4x1_S4x8208x4x128_0_1_2_3 (Host.divf (broadcastInDim S4x8208x4x1 ![0, 1, 2] bcast_S4x8208x4_S4x8208x4x1_0_1_2 (Host.reduceAdd w59 (constant S_ .f32 0x00000000#32) reducesTo_S4x8208x4x128_S4x8208x4_d3 h_S_)) (broadcastInDim S4x8208x4x1 ![] bcast_S_S4x8208x4x1 (constant S_ .f32 0x43000000#32))))

/-- The reference's term for the residual stream, token by token. -/
def f84 (a0 : FVec Ideal S4x8192x1024 .f32) (a1 : FVec Ideal S16x1024 .f32) (a8 : FVec Ideal S1x512 .f32) (a9 : FVec Ideal S1x512 .f32) (a10 : FVec Ideal S1x1024x1024 .f32) (w17 : FVec Ideal S4x8208x4x128 .f32) (w36 : FVec Ideal S4x8208x512 .f32) (w66 : FVec Ideal S4x8208x4x128 .f32) : FVec Ideal S4x8208x1024 .f32 :=
  addf (concatenate S4x8208x1024 1 [⟨S4x16x1024, (broadcastInDim S4x16x1024 ![0, 1, 2] bcast_S1x16x1024_S4x16x1024_0_1_2 (broadcastInDim S1x16x1024 ![1, 2] bcast_S16x1024_S1x16x1024_1_2 a1))⟩, ⟨S4x8192x1024, a0⟩] concatenates_S4x16x1024_S4x8192x1024_S4x8208x1024_d1) (Host.dotGeneral dot_S4x8208x1024_S1024x1024_S4x8208x1024_2_0_01_1_n_n none (concatenate S4x8208x1024 2 [⟨S4x8208x512, (mulf (mulf (shapeCast _ (mulf w17 (broadcastInDim S4x8208x4x128 ![0, 1, 2, 3] bcast_S4x8208x4x1_S4x8208x4x128_0_1_2_3 (Host.rsqrt (addf (Host.divf (broadcastInDim S4x8208x4x1 ![0, 1, 2] bcast_S4x8208x4_S4x8208x4x1_0_1_2 (Host.reduceAdd (mulf w17 w17) (constant S_ .f32 0x00000000#32) reducesTo_S4x8208x4x128_S4x8208x4_d3 h_S_)) (broadcastInDim S4x8208x4x1 ![] bcast_S_S4x8208x4x1 (constant S_ .f32 0x43000000#32))) (broadcastInDim S4x8208x4x1 ![] bcast_S_S4x8208x4x1 (constant S_ .f32 0x358637BD#32)))))) shapeCasts_S4x8208x4x128_S4x8208x512) (broadcastInDim S4x8208x512 ![0, 1, 2] bcast_S1x1x512_S4x8208x512_0_1_2 (broadcastInDim S1x1x512 ![2] bcast_S512_S1x1x512_2 (shapeCast _ a8 shapeCasts_S1x512_S512)))) (mulf w36 (Host.divf (broadcastInDim S4x8208x512 ![] bcast_S_S4x8208x512 (constant S_ .f32 0x3F800000#32)) (addf (broadcastInDim S4x8208x512 ![] bcast_S_S4x8208x512 (constant S_ .f32 0x3F800000#32)) (Host.exp (Host.negf w36))))))⟩, ⟨S4x8208x512, (mulf (shapeCast _ (mulf w66 (broadcastInDim S4x8208x4x128 ![0, 1, 2, 3] bcast_S4x8208x4x1_S4x8208x4x128_0_1_2_3 (Host.rsqrt (addf (Host.divf (broadcastInDim S4x8208x4x1 ![0, 1, 2] bcast_S4x8208x4_S4x8208x4x1_0_1_2 (Host.reduceAdd (mulf w66 w66) (constant S_ .f32 0x00000000#32) reducesTo_S4x8208x4x128_S4x8208x4_d3 h_S_)) (broadcastInDim S4x8208x4x1 ![] bcast_S_S4x8208x4x1 (constant S_ .f32 0x43000000#32))) (broadcastInDim S4x8208x4x1 ![] bcast_S_S4x8208x4x1 (constant S_ .f32 0x358637BD#32)))))) shapeCasts_S4x8208x4x128_S4x8208x512) (broadcastInDim S4x8208x512 ![0, 1, 2] bcast_S1x1x512_S4x8208x512_0_1_2 (broadcastInDim S1x1x512 ![2] bcast_S512_S1x1x512_2 (shapeCast _ a9 shapeCasts_S1x512_S512))))⟩] concatenates_S4x8208x512_S4x8208x512_S4x8208x1024_d2) (shapeCast _ a10 shapeCasts_S1x1024x1024_S1024x1024))

/-- The reference's term for the residual stream, row by row of the results. -/
def f88 (w84 : FVec Ideal S4x8208x1024 .f32) : FVec Ideal S4x8320x1024 .f32 :=
  (concatenate S4x8320x1024 1 [⟨S4x8192x1024, ((extractStridedSlice S4x8192x1024 ![0, 16, 0] w84 slices_S4x8208x1024_S4x8192x1024_0_16_0) : (⟨S4x8192x1024, .f32⟩ : BufTy).Contents (Elt Ideal))⟩, ⟨S4x112x1024, ((broadcastInDim S4x112x1024 ![] bcast_S_S4x112x1024 (constant (F := Ideal) S_ .f32 0x00000000#32)) : (⟨S4x112x1024, .f32⟩ : BufTy).Contents (Elt Ideal))⟩, ⟨S4x16x1024, ((extractStridedSlice S4x16x1024 ![0, 0, 0] w84 slices_S4x8208x1024_S4x16x1024_0_0_0) : (⟨S4x16x1024, .f32⟩ : BufTy).Contents (Elt Ideal))⟩] concatenates_S4x8192x1024_S4x112x1024_S4x16x1024_S4x8320x1024_d1 : (⟨S4x8320x1024, .f32⟩ : BufTy).Contents (Elt Ideal))

/-- The reference's term for the normalised rows. -/
def f102 (a11 : FVec Ideal S1x1024 .f32) (w88 : FVec Ideal S4x8320x1024 .f32) : FVec Ideal S4x8320x1024 .f32 :=
  mulf (mulf w88 (broadcastInDim S4x8320x1024 ![0, 1, 2] bcast_S4x8320x1_S4x8320x1024_0_1_2 (Host.rsqrt (addf (Host.divf (broadcastInDim S4x8320x1 ![0, 1] bcast_S4x8320_S4x8320x1_0_1 (Host.reduceAdd (mulf w88 w88) (constant S_ .f32 0x00000000#32) reducesTo_S4x8320x1024_S4x8320_d2 h_S_)) (broadcastInDim S4x8320x1 ![] bcast_S_S4x8320x1 (constant S_ .f32 0x44800000#32))) (broadcastInDim S4x8320x1 ![] bcast_S_S4x8320x1 (constant S_ .f32 0x358637BD#32)))))) (broadcastInDim S4x8320x1024 ![0, 1, 2] bcast_S1x1x1024_S4x8320x1024_0_1_2 (broadcastInDim S1x1x1024 ![2] bcast_S1024_S1x1x1024_2 (shapeCast _ a11 shapeCasts_S1x1024_S1024)))

/-- The reference's term for the router's scores. -/
def f104 (a12 : FVec Ideal S1x1024x16 .f32) (w102 : FVec Ideal S4x8320x1024 .f32) : FVec Ideal S4x8320x16 .f32 :=
  Host.dotGeneral dot_S4x8320x1024_S1024x16_S4x8320x16_2_0_01_1_n_n none w102 (shapeCast _ a12 shapeCasts_S1x1024x16_S1024x16)

/-- The reference's term for the exponentials of the scores less their greatest. -/
def f111 (w104 : FVec Ideal S4x8320x16 .f32) : FVec Ideal S4x8320x16 .f32 :=
  Host.exp (subf w104 (broadcastInDim S4x8320x16 ![0, 1, 2] bcast_S4x8320x1_S4x8320x16_0_1_2 (broadcastInDim S4x8320x1 ![0, 1] bcast_S4x8320_S4x8320x1_0_1 (maximumf (broadcastInDim S4x8320 ![] bcast_S_S4x8320 (constant S_ .f32 0xFF800000#32)) (Host.reduce FloatOps.maximumf w104 (constant S_ .f32 0xFF800000#32) reducesTo_S4x8320x16_S4x8320_d2 h_S_)))))

/-- The reference's term for the router's shares. -/
def f115 (w111 : FVec Ideal S4x8320x16 .f32) : FVec Ideal S4x8320x16 .f32 :=
  Host.divf w111 (broadcastInDim S4x8320x16 ![0, 1, 2] bcast_S4x8320x1_S4x8320x16_0_1_2 (broadcastInDim S4x8320x1 ![0, 1] bcast_S4x8320_S4x8320x1_0_1 (Host.reduceAdd w111 (constant S_ .f32 0x00000000#32) reducesTo_S4x8320x16_S4x8320_d2 h_S_)))

/-- The reference's term for the rows with their shares beside them. -/
def f118 (w102 : FVec Ideal S4x8320x1024 .f32) (w115 : FVec Ideal S4x8320x16 .f32) : FVec Ideal S4x8320x1152 .bf16 :=
  truncf .bf16 ((concatenate S4x8320x1152 2 [⟨S4x8320x1024, (w102 : (⟨S4x8320x1024, .f32⟩ : BufTy).Contents (Elt Ideal))⟩, ⟨S4x8320x16, (w115 : (⟨S4x8320x16, .f32⟩ : BufTy).Contents (Elt Ideal))⟩, ⟨S4x8320x112, ((broadcastInDim S4x8320x112 ![] bcast_S_S4x8320x112 (constant (F := Ideal) S_ .f32 0x00000000#32)) : (⟨S4x8320x112, .f32⟩ : BufTy).Contents (Elt Ideal))⟩] concatenates_S4x8320x1024_S4x8320x16_S4x8320x112_S4x8320x1152_d2 : (⟨S4x8320x1152, .f32⟩ : BufTy).Contents (Elt Ideal))) bitsLt_bf16_f32

/-- The reference's term for the shares' logarithms. -/
def f131 (w115 : FVec Ideal S4x8320x16 .f32) : FVec Ideal S4x8320x128 .f32 :=
  concatenate S4x8320x128 2 [⟨S4x8320x16, (select (ori (cmpi .slt (iotaInDim S4x8320x16 32 1) (broadcastInDim S4x8320x16 ![] bcast_S_S4x8320x16 (constantI S_ 32 8192#32))) (cmpi .sge (iotaInDim S4x8320x16 32 1) (broadcastInDim S4x8320x16 ![] bcast_S_S4x8320x16 (constantI S_ 32 8304#32)))) (maximumf (Host.log w115) (broadcastInDim S4x8320x16 ![] bcast_S_S4x8320x16 (constant S_ .f32 0xC5FA0000#32))) (broadcastInDim S4x8320x16 ![] bcast_S_S4x8320x16 (id (constant S_ .f32 0xFF800000#32))))⟩, ⟨S4x8320x112, (broadcastInDim S4x8320x112 ![] bcast_S_S4x8320x112 (constant S_ .f32 0xFF800000#32))⟩] concatenates_S4x8320x16_S4x8320x112_S4x8320x128_d2

/-- The retention's output at a token. -/
theorem f10_at (a2 a3 : FVec Ideal S4x65x512x128 .f32) (b : Fin 4) (n : Fin 8208) (h : Fin 4) (d : Fin 128) :
    f10 a2 a3 (ix4 b n h d)
      = a2 (ix4 b ⟨(112 + n.val) / 128, by omega⟩ ⟨h.val * 128 + d.val, by omega⟩ ⟨(112 + n.val) % 128, by omega⟩)
        + a3 (ix4 b ⟨(112 + n.val) / 128, by omega⟩ ⟨h.val * 128 + d.val, by omega⟩ ⟨(112 + n.val) % 128, by omega⟩) := by
  pointwise [f10]

/-- Less the head's mean. -/
theorem f17_at (w10 : FVec Ideal S4x8208x4x128 .f32) (b : Fin 4) (n : Fin 8208) (h : Fin 4) (d : Fin 128) :
    f17 w10 (ix4 b n h d) = Cert.Mix.ctr (fun x => w10 (ix4 b n h x)) d := by
  pointwise [f17]
  rfl

/-- The retention's gates at a row. -/
theorem f33_at (a6 : FVec Ideal S4x65x512x128 .f32) (b : Fin 4) (r : Fin 8320) (k : Fin 512) :
    f33 a6 (ix3 b r k) = a6 (ix4 b ⟨r.val / 128, by omega⟩ k ⟨r.val % 128, by omega⟩) := by
  pointwise [f33]

/-- The retention's gates at a token. -/
theorem f36_at (w33 : FVec Ideal S4x8320x512 .f32) (b : Fin 4) (n : Fin 8208) (k : Fin 512) :
    f36 w33 (ix3 b n k)
      = if h : n.val < 16 then w33 (ix3 b ⟨8304 + n.val, by omega⟩ k) else w33 (ix3 b ⟨n.val - 16, by omega⟩ k) := by
  pointwise [f36]

/-- The matrix memory's gates at a row. -/
theorem f48_at (a7 : FVec Ideal S4x65x512x128 .f32) (b : Fin 4) (r : Fin 8320) (k : Fin 512) :
    f48 a7 (ix3 b r k) = a7 (ix4 b ⟨r.val / 128, by omega⟩ k ⟨r.val % 128, by omega⟩) := by
  pointwise [f48]

/-- The logistic of the gates at a token. -/
theorem f58_at (w48 : FVec Ideal S4x8320x512 .f32) (b : Fin 4) (n : Fin 8208) (k : Fin 512) :
    f58 w48 (ix3 b n k)
      = Ideal.div 1 (1 + Ideal.exp (-(if h : n.val < 16 then w48 (ix3 b ⟨8304 + n.val, by omega⟩ k) else w48 (ix3 b ⟨n.val - 16, by omega⟩ k)))) := by
  pointwise [f58]

/-- The sum of both directions at a token. -/
theorem f57_at (a4 a5 : FVec Ideal S4x65x512x128 .f32) (b : Fin 4) (n : Fin 8208) (k : Fin 512) :
    f57 a4 a5 (ix3 b n k)
      = a4 (ix4 b ⟨(112 + n.val) / 128, by omega⟩ k ⟨(112 + n.val) % 128, by omega⟩)
        + a5 (ix4 b ⟨(112 + n.val) / 128, by omega⟩ k ⟨(112 + n.val) % 128, by omega⟩) := by
  pointwise [f57]

/-- A head's channel among all channels. -/
theorem byHead_at (v : FVec Ideal S4x8208x512 .f32) (b : Fin 4) (n : Fin 8208) (h : Fin 4) (d : Fin 128) :
    byHead v (ix4 b n h d) = v (ix3 b n ⟨h.val * 128 + d.val, by omega⟩) := by
  refine shapeCast_apply v _ _ _ ?_
  rw [Shape.rowMajor_val_three, Shape.rowMajor_val_four]
  show (b.val * 8208 + n.val) * 512 + (h.val * 128 + d.val) = ((b.val * 8208 + n.val) * 4 + h.val) * 128 + d.val
  omega

/-- A product, entry by entry. -/
theorem mul_at (x y : FVec Ideal S4x8208x4x128 .f32) (i : S4x8208x4x128.Idx) : mulf x y i = (x i * y i : EReal) := rfl

/-- The matrix memory's gated output at a token. -/
theorem f59_at (a4 a5 : FVec Ideal S4x65x512x128 .f32) (w48 : FVec Ideal S4x8320x512 .f32) (b : Fin 4) (n : Fin 8208) (h : Fin 4) (d : Fin 128) :
    f59 a4 a5 w48 (ix4 b n h d)
      = f58 w48 (ix3 b n ⟨h.val * 128 + d.val, by omega⟩) * f57 a4 a5 (ix3 b n ⟨h.val * 128 + d.val, by omega⟩) :=
  (mul_at _ _ _).trans (congrArg₂ (fun x y : EReal => x * y) (byHead_at (f58 w48) b n h d) (byHead_at (f57 a4 a5) b n h d))

/-- Less the head's mean. -/
theorem f66_at (w59 : FVec Ideal S4x8208x4x128 .f32) (b : Fin 4) (n : Fin 8208) (h : Fin 4) (d : Fin 128) :
    f66 w59 (ix4 b n h d) = Cert.Mix.ctr (fun x => w59 (ix4 b n h x)) d := by
  pointwise [f66]
  rfl

/-- The residual stream at a token. -/
theorem f84_at (a0 : FVec Ideal S4x8192x1024 .f32) (a1 : FVec Ideal S16x1024 .f32) (a8 a9 : FVec Ideal S1x512 .f32)
    (a10 : FVec Ideal S1x1024x1024 .f32) (w17 : FVec Ideal S4x8208x4x128 .f32) (w36 : FVec Ideal S4x8208x512 .f32) (w66 : FVec Ideal S4x8208x4x128 .f32)
    (b : Fin 4) (n : Fin 8208) (d : Fin 1024) :
    f84 a0 a1 a8 a9 a10 w17 w36 w66 (ix3 b n d)
      = (if h : n.val < 16 then a1 (ix2 ⟨n.val, h⟩ d) else a0 (ix3 b ⟨n.val - 16, by omega⟩ d)) +
        ((∑ x : Fin 512, w17 (ix4 b n ⟨x.val / 128, by omega⟩ ⟨x.val % 128, by omega⟩)
            * Ideal.rsqrt (Ideal.div (∑ y : Fin 128, w17 (ix4 b n ⟨x.val / 128, by omega⟩ y) * w17 (ix4 b n ⟨x.val / 128, by omega⟩ y)) Cert.Mix.c128 + Cert.Mix.eps)
            * a8 (ix2 0 x) * (w36 (ix3 b n x) * Ideal.div 1 (1 + Ideal.exp (-w36 (ix3 b n x)))) * a10 (ix3 0 ⟨x.val, by omega⟩ d))
          + ∑ x : Fin 512, w66 (ix4 b n ⟨x.val / 128, by omega⟩ ⟨x.val % 128, by omega⟩)
            * Ideal.rsqrt (Ideal.div (∑ y : Fin 128, w66 (ix4 b n ⟨x.val / 128, by omega⟩ y) * w66 (ix4 b n ⟨x.val / 128, by omega⟩ y)) Cert.Mix.c128 + Cert.Mix.eps)
            * a9 (ix2 0 x) * a10 (ix3 0 ⟨512 + x.val, by omega⟩ d)) := by
  pointwise [f84]

/-- The residual stream at a row of the results. -/
theorem f88_at (w84 : FVec Ideal S4x8208x1024 .f32) (b : Fin 4) (r : Fin 8320) (d : Fin 1024) :
    f88 w84 (ix3 b r d)
      = if h : r.val < 8192 then w84 (ix3 b ⟨16 + r.val, by omega⟩ d)
        else if h' : r.val - 8192 < 112 then 0 else w84 (ix3 b ⟨r.val - 8192 - 112, by omega⟩ d) := by
  pointwise [f88]

/-- The normalised row. -/
theorem f102_at (a11 : FVec Ideal S1x1024 .f32) (w88 : FVec Ideal S4x8320x1024 .f32) (b : Fin 4) (r : Fin 8320) (d : Fin 1024) :
    f102 a11 w88 (ix3 b r d) = Cert.Mix.rms (fun k => w88 (ix3 b r k)) (fun k => a11 (ix2 0 k)) d := by
  pointwise [f102]
  rfl

/-- The router's scores. -/
theorem f104_at (a12 : FVec Ideal S1x1024x16 .f32) (w102 : FVec Ideal S4x8320x1024 .f32) (b : Fin 4) (r : Fin 8320) (e : Fin 16) :
    f104 a12 w102 (ix3 b r e) = ∑ k : Fin 1024, w102 (ix3 b r k) * a12 (ix3 0 k e) := by
  pointwise [f104]

/-- The exponentials of the scores less their greatest. -/
theorem f111_at (w104 : FVec Ideal S4x8320x16 .f32) (b : Fin 4) (r : Fin 8320) (e : Fin 16) :
    f111 w104 (ix3 b r e) = Ideal.exp (w104 (ix3 b r e) - Cert.Mix.top (fun x => w104 (ix3 b r x))) := by
  pointwise [f111]
  refine congrArg (fun t => Ideal.exp (w104 (ix3 b r e) - t)) ?_
  rw [Cert.Mix.neg_inf, max_eq_right bot_le]
  rfl

/-- The router's shares. -/
theorem f115_at (w111 : FVec Ideal S4x8320x16 .f32) (b : Fin 4) (r : Fin 8320) (e : Fin 16) :
    f115 w111 (ix3 b r e) = Ideal.div (w111 (ix3 b r e)) (∑ x : Fin 16, w111 (ix3 b r x)) := by
  pointwise [f115]

/-- The second result. -/
theorem f118_at (w102 : FVec Ideal S4x8320x1024 .f32) (w115 : FVec Ideal S4x8320x16 .f32) (b : Fin 4) (r : Fin 8320) (n : Fin 1152) :
    f118 w102 w115 (ix3 b r n)
      = if h : n.val < 1024 then w102 (ix3 b r ⟨n.val, h⟩)
        else if h : n.val - 1024 < 16 then w115 (ix3 b r ⟨n.val - 1024, h⟩) else 0 := by
  pointwise [f118]

/-- The third result. -/
theorem f131_at (w115 : FVec Ideal S4x8320x16 .f32) (b : Fin 4) (r : Fin 8320) (n : Fin 128) :
    f131 w115 (ix3 b r n)
      = if h : n.val < 16 then (if Cert.Mix.holds r then max (Ideal.log (w115 (ix3 b r ⟨n.val, h⟩))) Cert.Mix.least else ⊥) else ⊥ := by
  pointwise [f131]
  have z : id (constant (F := Ideal) S_ FTy.f32 0xFF800000#32) ix0 = (⊥ : EReal) := Cert.Mix.neg_inf
  rw [z, Cert.Mix.neg_inf]
  split
  · refine if_congr ?_ rfl rfl
    exact Cert.Mix.holds_iff r
  · rfl

end Cert.ReferenceIdeal.Mix

end
-- ==== Proof.MixSame.lean ====
/-
  The reference's three results are the step's functions of the arguments.
-/
module

public import proofs.«01_k».proof.Proof.MixRef

@[expose] public section

noncomputable section

open Idealize.ShloMosaic Idealize.ShloMosaic.TcCoe Idealize.SL.Sem

namespace Cert.ReferenceIdeal.Mix

open Cert.ReferenceIdeal Cert.ReferenceIdeal.Gen

variable (a0 : FVec Ideal S4x8192x1024 .f32) (a1 : FVec Ideal S16x1024 .f32) (a2 a3 a4 a5 a6 a7 : FVec Ideal S4x65x512x128 .f32)
  (a8 a9 : FVec Ideal S1x512 .f32) (a10 : FVec Ideal S1x1024x1024 .f32) (a11 : FVec Ideal S1x1024 .f32) (a12 : FVec Ideal S1x1024x16 .f32)

/-- The arguments, entry by entry. -/
def spec : Cert.Mix.Args where
  x b n k := a0 (ix3 b n k)
  head n k := a1 (ix2 n k)
  rf b s k l := a2 (ix4 b s k l)
  rb b s k l := a3 (ix4 b s k l)
  hf b s k l := a4 (ix4 b s k l)
  hb b s k l := a5 (ix4 b s k l)
  rg b s k l := a6 (ix4 b s k l)
  mo b s k l := a7 (ix4 b s k l)
  gr k := a8 (ix2 0 k)
  gm k := a9 (ix2 0 k)
  wo k n := a10 (ix3 0 k n)
  fg k := a11 (ix2 0 k)
  wr k e := a12 (ix3 0 k e)

/-- The logistic as the reference spells it. -/
theorem logistic_eq (x : EReal) : Ideal.div 1 (1 + Ideal.exp (-x)) = Ideal.logistic x := rfl

/-- Token `n` lies on row `R` of the results. -/
abbrev OnRow (n : Fin 8208) (R : Fin 8320) : Prop := n.val = R.val + 16 ∨ R.val = 8304 + n.val

/-- A scan's entry at a token is its entry at the token's row. -/
theorem scan_at (a : FVec Ideal S4x65x512x128 .f32) (b : Fin 4) (n : Fin 8208) (R : Fin 8320) (h : OnRow n R) (k k' : Fin 512) (hk : k.val = k'.val) :
    a (ix4 b ⟨(112 + n.val) / 128, by omega⟩ k ⟨(112 + n.val) % 128, by omega⟩)
      = a (ix4 b ⟨(R.val / 128 + 1) % 65, by omega⟩ k' ⟨R.val % 128, by omega⟩) := by
  obtain rfl : k = k' := Fin.ext hk
  have e1 : (⟨(112 + n.val) / 128, by omega⟩ : Fin 65) = ⟨(R.val / 128 + 1) % 65, by omega⟩ := Fin.ext (by dsimp only; omega)
  have e2 : (⟨(112 + n.val) % 128, by omega⟩ : Fin 128) = ⟨R.val % 128, by omega⟩ := Fin.ext (by dsimp only; omega)
  rw [e1, e2]

/-- A gate's entry at a token is its entry at the token's row. -/
theorem gate_at (w : FVec Ideal S4x8320x512 .f32) (b : Fin 4) (n : Fin 8208) (R : Fin 8320) (h : OnRow n R) (k : Fin 512) :
    (if h : n.val < 16 then w (ix3 b ⟨8304 + n.val, by omega⟩ k) else w (ix3 b ⟨n.val - 16, by omega⟩ k)) = w (ix3 b R k) := by
  by_cases hn : n.val < 16
  · rw [dif_pos hn]
    exact congrArg (fun z => w (ix3 b z k)) (Fin.ext (by dsimp only; omega))
  · rw [dif_neg hn]
    exact congrArg (fun z => w (ix3 b z k)) (Fin.ext (by dsimp only; omega))

/-- The retention's half of a mixed token. -/
theorem ret_at (b : Fin 4) (n : Fin 8208) (R : Fin 8320) (h : OnRow n R) (x : Fin 512) :
    f17 (f10 a2 a3) (ix4 b n ⟨x.val / 128, by omega⟩ ⟨x.val % 128, by omega⟩)
        * Ideal.rsqrt (Ideal.div (∑ y : Fin 128, f17 (f10 a2 a3) (ix4 b n ⟨x.val / 128, by omega⟩ y) * f17 (f10 a2 a3) (ix4 b n ⟨x.val / 128, by omega⟩ y)) Cert.Mix.c128 + Cert.Mix.eps)
        * a8 (ix2 0 x) * (f36 (f33 a6) (ix3 b n x) * Ideal.div 1 (1 + Ideal.exp (-f36 (f33 a6) (ix3 b n x))))
      = (spec a0 a1 a2 a3 a4 a5 a6 a7 a8 a9 a10 a11 a12).mixed b ⟨(R.val / 128 + 1) % 65, by omega⟩ ⟨R.val / 128, by omega⟩ ⟨R.val % 128, by omega⟩ ⟨x.val, by omega⟩ := by
  have e36 : f36 (f33 a6) (ix3 b n x) = a6 (ix4 b ⟨R.val / 128, by omega⟩ x ⟨R.val % 128, by omega⟩) :=
    (f36_at _ b n x).trans ((gate_at _ b n R h x).trans (f33_at a6 b R x))
  rw [e36, logistic_eq]
  simp only [f17_at]
  unfold Cert.Mix.Args.mixed
  rw [dif_pos x.isLt]
  have e : (fun d => f10 a2 a3 (ix4 b n ⟨x.val / 128, by omega⟩ d)) = fun d => (spec a0 a1 a2 a3 a4 a5 a6 a7 a8 a9 a10 a11 a12).rf b ⟨(R.val / 128 + 1) % 65, by omega⟩ (Cert.Mix.headChan x.val x.isLt d) ⟨R.val % 128, by omega⟩
      + (spec a0 a1 a2 a3 a4 a5 a6 a7 a8 a9 a10 a11 a12).rb b ⟨(R.val / 128 + 1) % 65, by omega⟩ (Cert.Mix.headChan x.val x.isLt d) ⟨R.val % 128, by omega⟩ := by
    funext d
    rw [f10_at]
    exact congrArg₂ (fun a b : EReal => a + b) (scan_at a2 b n R h _ _ rfl) (scan_at a3 b n R h _ _ rfl)
  rw [e]
  rfl

/-- The matrix memory's half of a mixed token. -/
theorem mem_at (b : Fin 4) (n : Fin 8208) (R : Fin 8320) (h : OnRow n R) (x : Fin 512) :
    f66 (f59 a4 a5 (f48 a7)) (ix4 b n ⟨x.val / 128, by omega⟩ ⟨x.val % 128, by omega⟩)
        * Ideal.rsqrt (Ideal.div (∑ y : Fin 128, f66 (f59 a4 a5 (f48 a7)) (ix4 b n ⟨x.val / 128, by omega⟩ y) * f66 (f59 a4 a5 (f48 a7)) (ix4 b n ⟨x.val / 128, by omega⟩ y)) Cert.Mix.c128 + Cert.Mix.eps)
        * a9 (ix2 0 x)
      = (spec a0 a1 a2 a3 a4 a5 a6 a7 a8 a9 a10 a11 a12).mixed b ⟨(R.val / 128 + 1) % 65, by omega⟩ ⟨R.val / 128, by omega⟩ ⟨R.val % 128, by omega⟩ ⟨512 + x.val, by omega⟩ := by
  simp only [f66_at]
  unfold Cert.Mix.Args.mixed
  rw [dif_neg (by dsimp only; omega)]
  have ex : (⟨512 + x.val - 512, by omega⟩ : Fin 512) = x := Fin.ext (by dsimp only; omega)
  have e : (fun d => f59 a4 a5 (f48 a7) (ix4 b n ⟨x.val / 128, by omega⟩ d)) = fun d =>
      Ideal.logistic ((spec a0 a1 a2 a3 a4 a5 a6 a7 a8 a9 a10 a11 a12).mo b ⟨R.val / 128, by omega⟩ (Cert.Mix.headChan (512 + x.val - 512) (by omega) d) ⟨R.val % 128, by omega⟩)
        * ((spec a0 a1 a2 a3 a4 a5 a6 a7 a8 a9 a10 a11 a12).hf b ⟨(R.val / 128 + 1) % 65, by omega⟩ (Cert.Mix.headChan (512 + x.val - 512) (by omega) d) ⟨R.val % 128, by omega⟩
          + (spec a0 a1 a2 a3 a4 a5 a6 a7 a8 a9 a10 a11 a12).hb b ⟨(R.val / 128 + 1) % 65, by omega⟩ (Cert.Mix.headChan (512 + x.val - 512) (by omega) d) ⟨R.val % 128, by omega⟩) := by
    funext d
    have ed : (⟨x.val / 128 * 128 + d.val, by omega⟩ : Fin 512) = Cert.Mix.headChan (512 + x.val - 512) (by omega) d := Fin.ext (by dsimp only; omega)
    rw [f59_at, f58_at, f57_at, gate_at _ b n R h, f48_at, logistic_eq]
    refine congrArg₂ (fun a b : EReal => a * b) ?_ ?_
    · exact congrArg (fun z => Ideal.logistic (a7 (ix4 b _ z _))) ed
    · exact congrArg₂ (fun a b : EReal => a + b) (scan_at a4 b n R h _ _ (congrArg Fin.val ed)) (scan_at a5 b n R h _ _ (congrArg Fin.val ed))
  rw [e]
  refine congrArg₂ (fun a b : EReal => a * b) (congrArg (Cert.Mix.nrm _) (Fin.ext (by dsimp only; omega))) ?_
  exact congrArg (fun z => a9 (ix2 0 z)) ex.symm

/-- The residual stream at a token is the step's at the token's row. -/
theorem stream_at (b : Fin 4) (n : Fin 8208) (R : Fin 8320) (h : OnRow n R) (d : Fin 1024) :
    f84 a0 a1 a8 a9 a10 (f17 (f10 a2 a3)) (f36 (f33 a6)) (f66 (f59 a4 a5 (f48 a7))) (ix3 b n d)
      = (spec a0 a1 a2 a3 a4 a5 a6 a7 a8 a9 a10 a11 a12).h1 b R d := by
  rw [f84_at]
  unfold Cert.Mix.Args.h1
  rw [if_pos (by omega), Cert.Mix.sum_halves]
  refine congrArg₂ (fun a b : EReal => a + b) ?_ (congrArg₂ (fun a b : EReal => a + b) (Finset.sum_congr rfl fun x _ => ?_) (Finset.sum_congr rfl fun x _ => ?_))
  · unfold Cert.Mix.Args.tok
    by_cases hn : n.val < 16
    · rw [dif_pos hn, dif_neg (by omega), dif_neg (by omega)]
      exact congrArg (fun z => a1 (ix2 z d)) (Fin.ext (by dsimp only; omega))
    · rw [dif_neg hn, dif_pos (by omega)]
      exact congrArg (fun z => a0 (ix3 b z d)) (Fin.ext (by dsimp only; omega))
  · exact congrArg (fun z : EReal => z * a10 (ix3 0 ⟨x.val, by omega⟩ d)) (ret_at a0 a1 a2 a3 a4 a5 a6 a7 a8 a9 a10 a11 a12 b n R h x)
  · exact congrArg (fun z : EReal => z * a10 (ix3 0 ⟨512 + x.val, by omega⟩ d)) (mem_at a0 a1 a2 a3 a4 a5 a6 a7 a8 a9 a10 a11 a12 b n R h x)

/-- The reference's first result, of its arguments. -/
def ref88 : FVec Ideal S4x8320x1024 .f32 :=
  f88 (f84 a0 a1 a8 a9 a10 (f17 (f10 a2 a3)) (f36 (f33 a6)) (f66 (f59 a4 a5 (f48 a7))))

/-- The reference's first result is the step's residual stream. -/
theorem ref88_at (b : Fin 4) (R : Fin 8320) (d : Fin 1024) :
    ref88 a0 a1 a2 a3 a4 a5 a6 a7 a8 a9 a10 (ix3 b R d) = (spec a0 a1 a2 a3 a4 a5 a6 a7 a8 a9 a10 a11 a12).h1 b R d := by
  unfold ref88
  rw [f88_at]
  by_cases h : R.val < 8192
  · rw [dif_pos h]
    exact stream_at a0 a1 a2 a3 a4 a5 a6 a7 a8 a9 a10 a11 a12 b _ R (by dsimp only [OnRow]; omega) d
  · rw [dif_neg h]
    by_cases h' : R.val - 8192 < 112
    · rw [dif_pos h']
      exact (if_neg (by omega)).symm
    · rw [dif_neg h']
      exact stream_at a0 a1 a2 a3 a4 a5 a6 a7 a8 a9 a10 a11 a12 b _ R (by dsimp only [OnRow]; omega) d

/-- The reference's normalised rows, of its arguments. -/
def ref102 : FVec Ideal S4x8320x1024 .f32 := f102 a11 (ref88 a0 a1 a2 a3 a4 a5 a6 a7 a8 a9 a10)

/-- The reference's normalised rows are the step's. -/
theorem ref102_at (b : Fin 4) (R : Fin 8320) (d : Fin 1024) :
    ref102 a0 a1 a2 a3 a4 a5 a6 a7 a8 a9 a10 a11 (ix3 b R d) = (spec a0 a1 a2 a3 a4 a5 a6 a7 a8 a9 a10 a11 a12).u b R d := by
  unfold ref102
  rw [f102_at]
  simp only [ref88_at a0 a1 a2 a3 a4 a5 a6 a7 a8 a9 a10 a11 a12]
  rfl

/-- The reference's shares, of its arguments. -/
def ref115 : FVec Ideal S4x8320x16 .f32 := f115 (f111 (f104 a12 (ref102 a0 a1 a2 a3 a4 a5 a6 a7 a8 a9 a10 a11)))

/-- The reference's shares are the step's. -/
theorem ref115_at (b : Fin 4) (R : Fin 8320) (e : Fin 16) :
    ref115 a0 a1 a2 a3 a4 a5 a6 a7 a8 a9 a10 a11 a12 (ix3 b R e) = Cert.Mix.share ((spec a0 a1 a2 a3 a4 a5 a6 a7 a8 a9 a10 a11 a12).logit b R) e := by
  have hl : ∀ e, f104 a12 (ref102 a0 a1 a2 a3 a4 a5 a6 a7 a8 a9 a10 a11) (ix3 b R e) = (spec a0 a1 a2 a3 a4 a5 a6 a7 a8 a9 a10 a11 a12).logit b R e := fun e => by
    rw [f104_at]
    simp only [ref102_at a0 a1 a2 a3 a4 a5 a6 a7 a8 a9 a10 a11 a12]
    rfl
  unfold ref115
  rw [f115_at]
  simp only [f111_at, hl]
  rfl

/-- The reference's second result is the step's. -/
theorem ref118_at (b : Fin 4) (R : Fin 8320) (n : Fin 1152) :
    f118 (ref102 a0 a1 a2 a3 a4 a5 a6 a7 a8 a9 a10 a11) (ref115 a0 a1 a2 a3 a4 a5 a6 a7 a8 a9 a10 a11 a12) (ix3 b R n)
      = (spec a0 a1 a2 a3 a4 a5 a6 a7 a8 a9 a10 a11 a12).uaff b R n := by
  rw [f118_at]
  simp only [ref102_at a0 a1 a2 a3 a4 a5 a6 a7 a8 a9 a10 a11 a12, ref115_at]
  rfl

/-- The reference's third result is the step's. -/
theorem ref131_at (b : Fin 4) (R : Fin 8320) (n : Fin 128) :
    f131 (ref115 a0 a1 a2 a3 a4 a5 a6 a7 a8 a9 a10 a11 a12) (ix3 b R n)
      = (spec a0 a1 a2 a3 a4 a5 a6 a7 a8 a9 a10 a11 a12).laff b R n := by
  rw [f131_at]
  simp only [ref115_at]
  rfl

end Cert.ReferenceIdeal.Mix

end
-- ==== Proof.MixPrinted.lean ====
/-
  The reference's printed results are the terms that `MixSame` reads, part by part, of any launch contents.
-/
module

public import proofs.«01_k».proof.Proof.MixSame

@[expose] public section

set_option maxRecDepth 16384

noncomputable section

open Idealize.ShloMosaic Idealize.ShloMosaic.TcCoe Idealize.SL.Sem Idealize.ShloMosaic.StableHlo

namespace Cert.ReferenceIdeal.Mix

open Cert.ReferenceIdeal Cert.ReferenceIdeal.Gen

variable (V0 : Valuation τ sig (Elt Ideal))

/-- The printed retention's output. -/
theorem v10_eq : Value.res_main_v10 V0 = f10 (V0 (Proc.devRef .tc main_arg2)) (V0 (Proc.devRef .tc main_arg3)) := rfl
/-- The printed centred retention's output. -/
theorem v17_eq : Value.res_main_v17 V0 = f17 (f10 (V0 (Proc.devRef .tc main_arg2)) (V0 (Proc.devRef .tc main_arg3))) := congrArg f17 (v10_eq V0)
/-- The printed retention's gates. -/
theorem v33_eq : Value.res_main_v33 V0 = f33 (V0 (Proc.devRef .tc main_arg6)) := rfl
/-- The printed retention's gates, token by token. -/
theorem v36_eq : Value.res_main_v36 V0 = f36 (f33 (V0 (Proc.devRef .tc main_arg6))) := congrArg f36 (v33_eq V0)
/-- The printed matrix memory's gates. -/
theorem v48_eq : Value.res_main_v48 V0 = f48 (V0 (Proc.devRef .tc main_arg7)) := rfl
/-- The printed matrix memory's gated output. -/
theorem v59_eq : Value.res_main_v59 V0 = f59 (V0 (Proc.devRef .tc main_arg4)) (V0 (Proc.devRef .tc main_arg5)) (f48 (V0 (Proc.devRef .tc main_arg7))) := congrArg (f59 (V0 (Proc.devRef .tc main_arg4)) (V0 (Proc.devRef .tc main_arg5))) (v48_eq V0)
/-- The printed centred gated output. -/
theorem v66_eq : Value.res_main_v66 V0 = f66 (f59 (V0 (Proc.devRef .tc main_arg4)) (V0 (Proc.devRef .tc main_arg5)) (f48 (V0 (Proc.devRef .tc main_arg7)))) := congrArg f66 (v59_eq V0)
/-- The printed residual stream, token by token. -/
theorem v84_eq : Value.res_main_v84 V0 = f84 (V0 (Proc.devRef .tc main_arg0)) (V0 (Proc.devRef .tc main_arg1)) (V0 (Proc.devRef .tc main_arg8)) (V0 (Proc.devRef .tc main_arg9)) (V0 (Proc.devRef .tc main_arg10)) (f17 (f10 (V0 (Proc.devRef .tc main_arg2)) (V0 (Proc.devRef .tc main_arg3)))) (f36 (f33 (V0 (Proc.devRef .tc main_arg6)))) (f66 (f59 (V0 (Proc.devRef .tc main_arg4)) (V0 (Proc.devRef .tc main_arg5)) (f48 (V0 (Proc.devRef .tc main_arg7))))) := by
  have e : Value.res_main_v84 V0 = f84 (V0 (Proc.devRef .tc main_arg0)) (V0 (Proc.devRef .tc main_arg1)) (V0 (Proc.devRef .tc main_arg8)) (V0 (Proc.devRef .tc main_arg9)) (V0 (Proc.devRef .tc main_arg10)) (Value.res_main_v17 V0) (Value.res_main_v36 V0) (Value.res_main_v66 V0) := rfl
  rw [e, v17_eq, v36_eq, v66_eq]
/-- The printed first result. -/
theorem v88_eq : Value.res_main_v88 V0 = ref88 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := congrArg f88 (v84_eq V0)
/-- The printed normalised rows. -/
theorem v102_eq : Value.res_main_v102 V0 = ref102 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := congrArg (f102 (V0 (Proc.devRef .tc main_arg11))) (v88_eq V0)
/-- The printed scores. -/
theorem v104_eq : Value.res_main_v104 V0 = f104 (V0 (Proc.devRef .tc main_arg12)) (ref102 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) := congrArg (f104 (V0 (Proc.devRef .tc main_arg12))) (v102_eq V0)
/-- The printed exponentials. -/
theorem v111_eq : Value.res_main_v111 V0 = f111 (f104 (V0 (Proc.devRef .tc main_arg12)) (ref102 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)))) := congrArg f111 (v104_eq V0)
/-- The printed shares. -/
theorem v115_eq : Value.res_main_v115 V0 = ref115 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := congrArg f115 (v111_eq V0)

end Cert.ReferenceIdeal.Mix

end
-- ==== Proof.MixValue.lean ====
/-
  The value claim about `mix_out`: over the extended reals, of finite gains and router weights, the call and its reference
  leave equal arrays.
-/
module

public import proofs.«01_k».proof.Defs
public import proofs.«01_k».proof.Proof.MixClaims
public import proofs.«01_k».proof.Proof.MixFinal
public import proofs.«01_k».proof.Proof.MixPrinted

@[expose] public section

set_option maxRecDepth 16384

noncomputable section

open Idealize.ShloMosaic Idealize.ShloMosaic.TcCoe Idealize.ShloMosaic.StableHlo Idealize.SL.Sem

namespace Cert.ReferenceIdeal.Mix

open Cert.ReferenceIdeal Cert.ReferenceIdeal.Gen

variable (V0 : Valuation τ sig (Elt Ideal))

/-- The reference's arguments, entry by entry. -/
def args : Cert.Mix.Args := spec (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))

/-- The reference's first printed result, entry by entry. -/
theorem res88 : Value.res_main_v88 V0 = fun i : S4x8320x1024.Idx => (args V0).h1 (i 0) (i 1) (i 2) := by
  rw [v88_eq]
  funext i
  refine (congrArg _ (eq_ix3 i)).trans ?_
  exact ref88_at (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) _ _ _

/-- The reference's second printed result, entry by entry. -/
theorem res118 : f118 (Value.res_main_v102 V0) (Value.res_main_v115 V0) = fun i : S4x8320x1152.Idx => (args V0).uaff (i 0) (i 1) (i 2) := by
  rw [v102_eq, v115_eq]
  funext i
  refine (congrArg _ (eq_ix3 i)).trans ?_
  exact ref118_at (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) _ _ _

/-- The reference's third printed result, entry by entry. -/
theorem res131 : f131 (Value.res_main_v115 V0) = fun i : S4x8320x128.Idx => (args V0).laff (i 0) (i 1) (i 2) := by
  rw [v115_eq]
  funext i
  refine (congrArg _ (eq_ix3 i)).trans ?_
  exact ref131_at (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) _ _ _

end Cert.ReferenceIdeal.Mix

namespace Cert.Proof.Mix

/-- Of equal arguments the two programs' entries are equal. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Mix.args (launchContents m' c) = Cert.KernelIdeal.Mix.args m c := by
  have e : Cert.ReferenceIdeal.Mix.args (launchContents m' c) = Cert.ReferenceIdeal.Mix.spec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) := rfl
  rw [e, h0, h1, h2, h3, h4, h5, h6, h7, h8, h9, h10, h11, h12]
  rfl

/-- The frame of the call read over the extended reals, under the precondition: it holds of every memory. -/
theorem frame_ideal_pre : Cert.quiescent_KernelIdeal_pre_finite_norm_and_router (hKernelIdeal := Cert.KernelIdeal.Gen.facts)
    (hPre_finite_norm_and_router := Cert.Pre_finite_norm_and_router.Gen.facts) := fun m ρ _ => Cert.KernelIdeal.Mix.frame_main m ρ

/-- The reference's frame, under the precondition: it holds of every memory. -/
theorem frame_reference_pre : Cert.quiescent_ReferenceIdeal_pre_finite_norm_and_router (hReferenceIdeal := Cert.ReferenceIdeal.Gen.facts)
    (hPre_finite_norm_and_router := Cert.Pre_finite_norm_and_router.Gen.facts) := fun m ρ _ => frame_reference m ρ trivial

/-- `mix_out` and its reference end with equal result arrays over the extended reals, from equal arguments of which the
    norm's gain and the router's weights are finite. -/
theorem algebraic : Cert.algebraic_KernelIdeal_ReferenceIdeal_pre_finite_norm_and_router (hKernelIdeal := Cert.KernelIdeal.Gen.facts)
    (hReferenceIdeal := Cert.ReferenceIdeal.Gen.facts) (hPre_finite_norm_and_router := Cert.Pre_finite_norm_and_router.Gen.facts) := by
  intro m ρ m' ρ' hpre hag
  have fin := fun c => Cert.KernelIdeal.Mix.finite_of_pre m c hpre
  refine ⟨fun c => Cert.KernelIdeal.Mix.G29 (Cert.KernelIdeal.Mix.args m c), fun c => Cert.KernelIdeal.Mix.G30 (Cert.KernelIdeal.Mix.args m c),
    fun c => Cert.KernelIdeal.Mix.G31 (Cert.KernelIdeal.Mix.args m c), ?_, ?_⟩
  · exact (θ_run Cert.KernelIdeal.defs _ _).mono (fun r h c => ⟨((h.1.1 c).1 29).trans (Cert.KernelIdeal.Mix.final29 m c),
        ((h.1.1 c).1 30).trans (Cert.KernelIdeal.Mix.final30 m c (fin c)), ((h.1.1 c).1 31).trans (Cert.KernelIdeal.Mix.final31 m c (fin c)), h.2.1 c⟩)
      (θ_run_and (Cert.KernelIdeal.Mix.run_main m ρ) (Cert.KernelIdeal.Mix.frame_main m ρ))
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    all_goals
      obtain ⟨h0, h1, h2, h3, h4, h5, h6, h7, h8, h9, h10, h11, h12⟩ := hag c
      have e := args_eq m m' c h0 h1 h2 h3 h4 h5 h6 h7 h8 h9 h10 h11 h12
    · refine (Cert.ReferenceIdeal.Mix.res88 (launchContents m' c)).trans ?_
      rw [e]
      rfl
    · refine (Cert.ReferenceIdeal.Mix.res118 (launchContents m' c)).trans ?_
      rw [e]
      rfl
    · refine (Cert.ReferenceIdeal.Mix.res131 (launchContents m' c)).trans ?_
      rw [e]
      rfl

end Cert.Proof.Mix

end
-- ==== Proof.ProjBlocks.lean ====
/-
  The values of one grid point of `proj` (over any float values): each value the body passes on is a function of the point
  and of the blocks its input windows hold, and the pieces the body stores into each of its ten outputs.
-/
module

public import proofs.«01_k».proof.Proof.Gen.Kernel3Ideal.Skeleton
public import proofs.«01_k».proof.Proof.Gen.Kernel3Ideal.Frame

@[expose] public section

set_option maxRecDepth 16384

noncomputable section

namespace Cert.Kernel3Ideal.Proj

open Cert.Kernel3Ideal Cert.Kernel3Ideal.Gen
open Idealize.ShloMosaic Idealize.ShloMosaic.TcCoe

variable {F : FTy → Type} [FloatOps F]

/-- What the input windows' buffers hold at a point, window by window. -/
structure Blocks (F : FTy → Type) where
  x0 : Vec F S1x640x1024 .f32
  x1 : Vec F S1x16x1024 .f32
  x2 : Vec F S1x16x1024 .f32
  x3 : Vec F S128x1024 .f32
  x4 : Vec F S1x1024 .f32
  x5 : Vec F S1024x1664 .bf16
  x6 : Vec F S2560x1024 .bf16
  x7 : Vec F S640x128 .f32
  x8 : Vec F S640x128 .f32
  x9 : Vec F S128x640 .f32
  x10 : Vec F S128x640 .f32
  x11 : Vec F S5x1024 .f32
  x12 : Vec F S1x1024 .f32
  x13 : Vec F S1x128 .f32

def v1 (i : grid0.Coords) (B : Blocks F) : Vec F S16x1024 .f32 := View.ld B.x3 (Rect.unit (s := S128x1024) ![112, 0] S16x1024.size inb_S128x1024_S16x1024_112_0)
def v3 (i : grid0.Coords) (B : Blocks F) : Vec F S1x16x1024 .f32 := View.ld B.x1 (Rect.unit (s := S1x16x1024) ![0, 0, 0] S1x16x1024.size inb_S1x16x1024_S1x16x1024_0_0_0)
def v6 (i : grid0.Coords) (B : Blocks F) : Vec F S1x640x1024 .f32 := View.ld B.x0 (Rect.unit (s := S1x640x1024) ![0, 0, 0] S1x640x1024.size inb_S1x640x1024_S1x640x1024_0_0_0)
def v9 (i : grid0.Coords) (B : Blocks F) : Vec F S128x1024 .f32 := View.ld B.x3 (Rect.unit (s := S128x1024) ![0, 0] S128x1024.size inb_S128x1024_S128x1024_0_0)
def v15 (i : grid0.Coords) (B : Blocks F) : Vec F S1x16x1024 .f32 := View.ld B.x2 (Rect.unit (s := S1x16x1024) ![0, 0, 0] S1x16x1024.size inb_S1x16x1024_S1x16x1024_0_0_0)
def v28 (i : grid0.Coords) (B : Blocks F) : Vec F S1x1024 .f32 := View.ld B.x4 (Rect.unit (s := S1x1024) ![0, 0] S1x1024.size inb_S1x1024_S1x1024_0_0)
def v17 (i : grid0.Coords) (B : Blocks F) : FVec F S672x1024 .f32 := k0_pay2 i (v1 i B) (v3 i B) (v6 i B) (v9 i B) (v15 i B)
def v26 (i : grid0.Coords) (B : Blocks F) : IVec S640x1 1 := k0_pay3 i
def v27 (i : grid0.Coords) (B : Blocks F) : FVec F S416x1024 .f32 := k0_pay4 i (v1 i B) (v3 i B) (v6 i B) (v9 i B) (v15 i B)
def v33 (i : grid0.Coords) (B : Blocks F) : FVec F S416x1 .f32 := k0_pay5 i (v1 i B) (v3 i B) (v6 i B) (v9 i B) (v15 i B)
def v34 (i : grid0.Coords) (B : Blocks F) : FVec F S416x1 .f32 := k0_pay6 (F := F)
def v44 (i : grid0.Coords) (B : Blocks F) : Vec F S512x1024 .bf16 := View.ld B.x6 (Rect.unit (s := S2560x1024) ![0, 0] S512x1024.size inb_S2560x1024_S512x1024_0_0)
def v47 (i : grid0.Coords) (B : Blocks F) : Vec F S128x384 .f32 := View.ld B.x9 (Rect.unit (s := S128x640) ![0, 0] S128x384.size inb_S128x640_S128x384_0_0)
def v49 (i : grid0.Coords) (B : Blocks F) : Vec F S128x384 .f32 := View.ld B.x10 (Rect.unit (s := S128x640) ![0, 0] S128x384.size inb_S128x640_S128x384_0_0)
def v41 (i : grid0.Coords) (B : Blocks F) : FVec F S416x1024 .bf16 := k0_pay7 (v27 i B) (v28 i B) (v33 i B) (v34 i B)
def v42 (i : grid0.Coords) (B : Blocks F) : FVec F S384x1024 .bf16 := k0_pay8 (v27 i B) (v28 i B) (v33 i B) (v34 i B)
def v43 (i : grid0.Coords) (B : Blocks F) : IVec S384x1 1 := k0_pay9 (v26 i B)
def v59 (i : grid0.Coords) (B : Blocks F) : FVec F S128x384 .f32 := k0_pay13 (v27 i B) (v28 i B) (v33 i B) (v34 i B) (v44 i B) (v47 i B) (v49 i B)
def v68 (i : grid0.Coords) (B : Blocks F) : FVec F S128x384 .f32 := k0_pay14 (v27 i B) (v28 i B) (v33 i B) (v34 i B) (v44 i B) (v47 i B) (v49 i B)
def v77 (i : grid0.Coords) (B : Blocks F) : FVec F S128x384 .f32 := k0_pay15 (v27 i B) (v28 i B) (v33 i B) (v34 i B) (v44 i B) (v47 i B) (v49 i B)
def v84 (i : grid0.Coords) (B : Blocks F) : FVec F S128x384 .f32 := k0_pay16 (v27 i B) (v28 i B) (v33 i B) (v34 i B) (v44 i B) (v47 i B) (v49 i B)
def v103 (i : grid0.Coords) (B : Blocks F) : Vec F S512x1024 .bf16 := View.ld B.x6 (Rect.unit (s := S2560x1024) ![512, 0] S512x1024.size inb_S2560x1024_S512x1024_512_0)
def v105 (i : grid0.Coords) (B : Blocks F) : FVec F S512x384 .f32 := (k0_pay21 (v42 i B) (v103 i B))
def v121 (i : grid0.Coords) (B : Blocks F) : Vec F S512x1024 .bf16 := View.ld B.x6 (Rect.unit (s := S2560x1024) ![1024, 0] S512x1024.size inb_S2560x1024_S512x1024_1024_0)
def v136 (i : grid0.Coords) (B : Blocks F) : Vec F S512x1024 .bf16 := View.ld B.x6 (Rect.unit (s := S2560x1024) ![1536, 0] S512x1024.size inb_S2560x1024_S512x1024_1536_0)
def v138 (i : grid0.Coords) (B : Blocks F) : FVec F S512x384 .f32 := k0_pay29 (v42 i B) (v136 i B)
def v144 (i : grid0.Coords) (B : Blocks F) : FVec F S512x128 .f32 := k0_pay31 (v42 i B) (v136 i B)
def v154 (i : grid0.Coords) (B : Blocks F) : Vec F S512x1024 .bf16 := View.ld B.x6 (Rect.unit (s := S2560x1024) ![2048, 0] S512x1024.size inb_S2560x1024_S512x1024_2048_0)
def v169 (i : grid0.Coords) (B : Blocks F) : Vec F S1024x512 .bf16 := View.ld B.x5 (Rect.unit (s := S1024x1664) ![0, 0] S1024x512.size inb_S1024x1664_S1024x512_0_0)
def v171 (i : grid0.Coords) (B : Blocks F) : FVec F S384x512 .f32 := (k0_pay38 (v42 i B) (v169 i B))
def v172 (i : grid0.Coords) (B : Blocks F) : Vec F S384x128 .f32 := View.ld B.x7 (Rect.unit (s := S640x128) ![0, 0] S384x128.size inb_S640x128_S384x128_0_0)
def v174 (i : grid0.Coords) (B : Blocks F) : Vec F S384x128 .f32 := View.ld B.x8 (Rect.unit (s := S640x128) ![0, 0] S384x128.size inb_S640x128_S384x128_0_0)
def v201 (i : grid0.Coords) (B : Blocks F) : Vec F S1024x1024 .bf16 := View.ld B.x5 (Rect.unit (s := S1024x1664) ![0, 512] S1024x1024.size inb_S1024x1664_S1024x1024_0_512)
def v205 (i : grid0.Coords) (B : Blocks F) : Vec F S1x1024 .f32 := View.ld B.x12 (Rect.unit (s := S1x1024) ![0, 0] S1x1024.size inb_S1x1024_S1x1024_0_0)
def v210 (i : grid0.Coords) (B : Blocks F) : Vec F S1x1024 .f32 := View.ld B.x11 (Rect.unit (s := S5x1024) ![0, 0] S1x1024.size inb_S5x1024_S1x1024_0_0)
def v203 (i : grid0.Coords) (B : Blocks F) : FVec F S416x1024 .f32 := k0_pay40 (v41 i B) (v201 i B)
def v207 (i : grid0.Coords) (B : Blocks F) : FVec F S384x1024 .f32 := k0_pay41 (v205 i B)
def v209 (i : grid0.Coords) (B : Blocks F) : FVec F S384x1024 .f32 := k0_pay42 (v41 i B) (v201 i B)
def v212 (i : grid0.Coords) (B : Blocks F) : FVec F S384x1024 .f32 := k0_pay43 (v210 i B)
def v217 (i : grid0.Coords) (B : Blocks F) : Vec F S1x1024 .f32 := View.ld B.x11 (Rect.unit (s := S5x1024) ![1, 0] S1x1024.size inb_S5x1024_S1x1024_1_0)
def v223 (i : grid0.Coords) (B : Blocks F) : Vec F S1x1024 .f32 := View.ld B.x11 (Rect.unit (s := S5x1024) ![2, 0] S1x1024.size inb_S5x1024_S1x1024_2_0)
def v230 (i : grid0.Coords) (B : Blocks F) : Vec F S1x1024 .f32 := View.ld B.x11 (Rect.unit (s := S5x1024) ![3, 0] S1x1024.size inb_S5x1024_S1x1024_3_0)
def v237 (i : grid0.Coords) (B : Blocks F) : Vec F S1x1024 .f32 := View.ld B.x11 (Rect.unit (s := S5x1024) ![4, 0] S1x1024.size inb_S5x1024_S1x1024_4_0)
def v247 (i : grid0.Coords) (B : Blocks F) : FVec F S384x1024 .f32 := k0_pay44 (v43 i B) (v203 i B) (v207 i B) (v209 i B) (v212 i B) (v217 i B) (v223 i B) (v230 i B) (v237 i B)
def v251 (i : grid0.Coords) (B : Blocks F) : FVec F S512x384 .f32 := k0_pay45 (v43 i B) (v203 i B) (v207 i B) (v209 i B) (v212 i B) (v217 i B) (v223 i B) (v230 i B) (v237 i B)
def v253 (i : grid0.Coords) (B : Blocks F) : FVec F S512x128 .bf16 := k0_pay46 (v43 i B) (v203 i B) (v207 i B) (v209 i B) (v212 i B) (v217 i B) (v223 i B) (v230 i B) (v237 i B)
def v272 (i : grid0.Coords) (B : Blocks F) : Vec F S1024x128 .bf16 := View.ld B.x5 (Rect.unit (s := S1024x1664) ![0, 1536] S1024x128.size inb_S1024x1664_S1024x128_0_1536)
def v275 (i : grid0.Coords) (B : Blocks F) : Vec F S1x128 .f32 := View.ld B.x13 (Rect.unit (s := S1x128) ![0, 0] S1x128.size inb_S1x128_S1x128_0_0)
def v279 (i : grid0.Coords) (B : Blocks F) : IVec S384x128 32 := iota .tc S384x128 32 [1] iota_S384x128_d1_w32
def v278 (i : grid0.Coords) (B : Blocks F) : FVec F S384x128 .f32 := k0_pay51 (v42 i B) (v272 i B) (v275 i B)
def v281 (i : grid0.Coords) (B : Blocks F) : IVec S384x128 1 := k0_pay52
def v291 (i : grid0.Coords) (B : Blocks F) : FVec F S384x128 .f32 := k0_pay53 (v42 i B) (v272 i B) (v275 i B)
def v321 (i : grid0.Coords) (B : Blocks F) : Vec F S1x1024 .f32 := View.ld B.x4 (Rect.unit (s := S1x1024) ![0, 0] S1x1024.size inb_S1x1024_S1x1024_0_0)
def cst_165 (i : grid0.Coords) (B : Blocks F) : F .f32 := Scalar.ofBits .f32 0x44800000#32
def v320 (i : grid0.Coords) (B : Blocks F) : FVec F S288x1024 .f32 := k0_pay60 (v17 i B)
def v324 (i : grid0.Coords) (B : Blocks F) : FVec F S288x1 .f32 := k0_pay61 (v17 i B)
def v337 (i : grid0.Coords) (B : Blocks F) : Vec F S512x1024 .bf16 := View.ld B.x6 (Rect.unit (s := S2560x1024) ![0, 0] S512x1024.size inb_S2560x1024_S512x1024_0_0)
def v340 (i : grid0.Coords) (B : Blocks F) : Vec F S128x256 .f32 := View.ld B.x9 (Rect.unit (s := S128x640) ![0, 384] S128x256.size inb_S128x640_S128x256_0_384)
def v342 (i : grid0.Coords) (B : Blocks F) : Vec F S128x256 .f32 := View.ld B.x10 (Rect.unit (s := S128x640) ![0, 384] S128x256.size inb_S128x640_S128x256_0_384)
def v334 (i : grid0.Coords) (B : Blocks F) : FVec F S288x1024 .bf16 := k0_pay62 (v320 i B) (v321 i B) (v324 i B) (cst_165 i B)
def v335 (i : grid0.Coords) (B : Blocks F) : FVec F S256x1024 .bf16 := k0_pay63 (v320 i B) (v321 i B) (v324 i B) (cst_165 i B)
def v336 (i : grid0.Coords) (B : Blocks F) : IVec S256x1 1 := k0_pay64 (v26 i B)
def v341 (i : grid0.Coords) (B : Blocks F) : FVec F S128x256 .f32 := k0_pay66 (v340 i B)
def v343 (i : grid0.Coords) (B : Blocks F) : FVec F S128x256 .f32 := k0_pay67 (v342 i B)
def v352 (i : grid0.Coords) (B : Blocks F) : FVec F S128x256 .f32 := k0_pay68 (v320 i B) (v321 i B) (v324 i B) (cst_165 i B) (v337 i B) (v340 i B) (v342 i B)
def v361 (i : grid0.Coords) (B : Blocks F) : FVec F S128x256 .f32 := k0_pay69 (v320 i B) (v321 i B) (v324 i B) (cst_165 i B) (v337 i B) (v340 i B) (v342 i B)
def v370 (i : grid0.Coords) (B : Blocks F) : FVec F S128x256 .f32 := k0_pay70 (v320 i B) (v321 i B) (v324 i B) (cst_165 i B) (v337 i B) (v340 i B) (v342 i B)
def v371 (i : grid0.Coords) (B : Blocks F) : FVec F S128x256 .f32 := k0_pay71 (v320 i B) (v321 i B) (v324 i B) (cst_165 i B) (v337 i B)
def v372 (i : grid0.Coords) (B : Blocks F) : FVec F S64x256 .f32 := k0_pay72 (v320 i B) (v321 i B) (v324 i B) (cst_165 i B) (v337 i B)
def v373 (i : grid0.Coords) (B : Blocks F) : FVec F S64x256 .f32 := k0_pay73 (v320 i B) (v321 i B) (v324 i B) (cst_165 i B) (v337 i B)
def v391 (i : grid0.Coords) (B : Blocks F) : Vec F S512x1024 .bf16 := View.ld B.x6 (Rect.unit (s := S2560x1024) ![512, 0] S512x1024.size inb_S2560x1024_S512x1024_512_0)
def v404 (i : grid0.Coords) (B : Blocks F) : Vec F S512x1024 .bf16 := View.ld B.x6 (Rect.unit (s := S2560x1024) ![1024, 0] S512x1024.size inb_S2560x1024_S512x1024_1024_0)
def v406 (i : grid0.Coords) (B : Blocks F) : FVec F S512x256 .f32 := (k0_pay80 (v335 i B) (v404 i B))
def v415 (i : grid0.Coords) (B : Blocks F) : Vec F S512x1024 .bf16 := View.ld B.x6 (Rect.unit (s := S2560x1024) ![1536, 0] S512x1024.size inb_S2560x1024_S512x1024_1536_0)
def v428 (i : grid0.Coords) (B : Blocks F) : Vec F S512x1024 .bf16 := View.ld B.x6 (Rect.unit (s := S2560x1024) ![2048, 0] S512x1024.size inb_S2560x1024_S512x1024_2048_0)
def v435 (i : grid0.Coords) (B : Blocks F) : FVec F S512x128 .f32 := (k0_pay88 (v335 i B) (v428 i B))
def v439 (i : grid0.Coords) (B : Blocks F) : Vec F S1024x512 .bf16 := View.ld B.x5 (Rect.unit (s := S1024x1664) ![0, 0] S1024x512.size inb_S1024x1664_S1024x512_0_0)
def v442 (i : grid0.Coords) (B : Blocks F) : Vec F S256x128 .f32 := View.ld B.x7 (Rect.unit (s := S640x128) ![384, 0] S256x128.size inb_S640x128_S256x128_384_0)
def v444 (i : grid0.Coords) (B : Blocks F) : Vec F S256x128 .f32 := View.ld B.x8 (Rect.unit (s := S640x128) ![384, 0] S256x128.size inb_S640x128_S256x128_384_0)
def v471 (i : grid0.Coords) (B : Blocks F) : Vec F S1024x1024 .bf16 := View.ld B.x5 (Rect.unit (s := S1024x1664) ![0, 512] S1024x1024.size inb_S1024x1664_S1024x1024_0_512)
def cst_245 (i : grid0.Coords) (B : Blocks F) : FVec F S288x1024 .f32 := constant S288x1024 .f32 0x00000000#32
def v472 (i : grid0.Coords) (B : Blocks F) : FVec F S1024x1024 .bf16 := k0_pay91 (v471 i B)
def v475 (i : grid0.Coords) (B : Blocks F) : Vec F S1x1024 .f32 := View.ld B.x12 (Rect.unit (s := S1x1024) ![0, 0] S1x1024.size inb_S1x1024_S1x1024_0_0)
def v480 (i : grid0.Coords) (B : Blocks F) : Vec F S1x1024 .f32 := View.ld B.x11 (Rect.unit (s := S5x1024) ![0, 0] S1x1024.size inb_S5x1024_S1x1024_0_0)
def v487 (i : grid0.Coords) (B : Blocks F) : Vec F S1x1024 .f32 := View.ld B.x11 (Rect.unit (s := S5x1024) ![1, 0] S1x1024.size inb_S5x1024_S1x1024_1_0)
def v493 (i : grid0.Coords) (B : Blocks F) : Vec F S1x1024 .f32 := View.ld B.x11 (Rect.unit (s := S5x1024) ![2, 0] S1x1024.size inb_S5x1024_S1x1024_2_0)
def v500 (i : grid0.Coords) (B : Blocks F) : Vec F S1x1024 .f32 := View.ld B.x11 (Rect.unit (s := S5x1024) ![3, 0] S1x1024.size inb_S5x1024_S1x1024_3_0)
def v507 (i : grid0.Coords) (B : Blocks F) : Vec F S1x1024 .f32 := View.ld B.x11 (Rect.unit (s := S5x1024) ![4, 0] S1x1024.size inb_S5x1024_S1x1024_4_0)
def cst_261 (i : grid0.Coords) (B : Blocks F) : F .f32 := Scalar.ofBits .f32 0x00000000#32
def v513 (i : grid0.Coords) (B : Blocks F) : FVec F S256x1024 .f32 := k0_pay92 (v334 i B) (v472 i B) (cst_245 i B) (v475 i B) (v480 i B) (v487 i B) (v493 i B) (v500 i B) (v507 i B)
def v514 (i : grid0.Coords) (B : Blocks F) : IVec S256x1 1 := k0_pay93 (v336 i B)
def v537 (i : grid0.Coords) (B : Blocks F) : Vec F S1024x128 .bf16 := View.ld B.x5 (Rect.unit (s := S1024x1664) ![0, 1536] S1024x128.size inb_S1024x1664_S1024x128_0_1536)
def v540 (i : grid0.Coords) (B : Blocks F) : Vec F S1x128 .f32 := View.ld B.x13 (Rect.unit (s := S1x128) ![0, 0] S1x128.size inb_S1x128_S1x128_0_0)
def v544 (i : grid0.Coords) (B : Blocks F) : IVec S256x128 32 := iota .tc S256x128 32 [1] iota_S256x128_d1_w32
def v543 (i : grid0.Coords) (B : Blocks F) : FVec F S256x128 .f32 := k0_pay99 (v335 i B) (v537 i B) (v540 i B)
def v546 (i : grid0.Coords) (B : Blocks F) : IVec S256x128 1 := k0_pay100
def v548 (i : grid0.Coords) (B : Blocks F) : FVec F S256x128 .f32 := k0_pay101 (v335 i B) (v537 i B) (v540 i B)
def v551 (i : grid0.Coords) (B : Blocks F) : FVec F S256x128 .f32 := k0_pay102 (v335 i B) (v537 i B) (v540 i B)
def v577 (i : grid0.Coords) (B : Blocks F) : FVec F S16x128 .f32 := k0_pay107 (v336 i B) (v543 i B) (v544 i B) (v546 i B) (v548 i B) (v551 i B)

/-- What the body stores into its output window 14, the last store first. -/
def pieces14 (i : grid0.Coords) (B : Blocks F) : List (View.Piece (Elt F) S1x5x512x128 .bf16) :=
  [⟨Rect.unit (s := S1x5x512x128) ![0, 4, 0, 0] S1x1x512x128.size inb_S1x5x512x128_S1x1x512x128_0_4_0_0, k0_pay76 (v341 i B) (v343 i B) (v352 i B) (v361 i B) (v370 i B) (v371 i B) (v372 i B) (v373 i B)⟩,
   ⟨Rect.unit (s := S1x5x512x128) ![0, 3, 0, 0] S1x1x512x128.size inb_S1x5x512x128_S1x1x512x128_0_3_0_0, k0_pay75 (v341 i B) (v343 i B) (v352 i B) (v361 i B) (v370 i B) (v371 i B) (v372 i B) (v373 i B)⟩,
   ⟨Rect.unit (s := S1x5x512x128) ![0, 2, 0, 0] S1x1x512x128.size inb_S1x5x512x128_S1x1x512x128_0_2_0_0, k0_pay20 (v59 i B) (v68 i B) (v77 i B) (v84 i B)⟩,
   ⟨Rect.unit (s := S1x5x512x128) ![0, 1, 0, 0] S1x1x512x128.size inb_S1x5x512x128_S1x1x512x128_0_1_0_0, k0_pay19 (v59 i B) (v68 i B) (v77 i B) (v84 i B)⟩,
   ⟨Rect.unit (s := S1x5x512x128) ![0, 0, 0, 0] S1x1x512x128.size inb_S1x5x512x128_S1x1x512x128_0_0_0_0, k0_pay18 (v59 i B) (v68 i B) (v77 i B) (v84 i B)⟩]

/-- What the body stores into its output window 15, the last store first. -/
def pieces15 (i : grid0.Coords) (B : Blocks F) : List (View.Piece (Elt F) S1x640x512 .bf16) :=
  [⟨Rect.unit (s := S1x640x512) ![0, 384, 0] S1x256x512.size inb_S1x640x512_S1x256x512_0_384_0, k0_pay90 (v335 i B) (v439 i B) (v442 i B) (v444 i B)⟩,
   ⟨Rect.unit (s := S1x640x512) ![0, 0, 0] S1x384x512.size inb_S1x640x512_S1x384x512_0_0_0, k0_pay39 (v171 i B) (v172 i B) (v174 i B)⟩]

/-- What the body stores into its output window 16, the last store first. -/
def pieces16 (i : grid0.Coords) (B : Blocks F) : List (View.Piece (Elt F) S1x5x512x128 .bf16) :=
  [⟨Rect.unit (s := S1x5x512x128) ![0, 4, 0, 0] S1x1x512x128.size inb_S1x5x512x128_S1x1x512x128_0_4_0_0, k0_pay79 (v335 i B) (v391 i B)⟩,
   ⟨Rect.unit (s := S1x5x512x128) ![0, 3, 0, 0] S1x1x512x128.size inb_S1x5x512x128_S1x1x512x128_0_3_0_0, k0_pay78 (v335 i B) (v391 i B)⟩,
   ⟨Rect.unit (s := S1x5x512x128) ![0, 2, 0, 0] S1x1x512x128.size inb_S1x5x512x128_S1x1x512x128_0_2_0_0, k0_pay24 (v105 i B)⟩,
   ⟨Rect.unit (s := S1x5x512x128) ![0, 1, 0, 0] S1x1x512x128.size inb_S1x5x512x128_S1x1x512x128_0_1_0_0, k0_pay23 (v42 i B) (v103 i B)⟩,
   ⟨Rect.unit (s := S1x5x512x128) ![0, 0, 0, 0] S1x1x512x128.size inb_S1x5x512x128_S1x1x512x128_0_0_0_0, k0_pay22 (v42 i B) (v103 i B)⟩]

/-- What the body stores into its output window 17, the last store first. -/
def pieces17 (i : grid0.Coords) (B : Blocks F) : List (View.Piece (Elt F) S1x5x512x128 .f32) :=
  [⟨Rect.unit (s := S1x5x512x128) ![0, 4, 0, 0] S1x1x512x128.size inb_S1x5x512x128_S1x1x512x128_0_4_0_0, k0_pay82 (v406 i B)⟩,
   ⟨Rect.unit (s := S1x5x512x128) ![0, 3, 0, 0] S1x1x512x128.size inb_S1x5x512x128_S1x1x512x128_0_3_0_0, k0_pay81 (v406 i B)⟩,
   ⟨Rect.unit (s := S1x5x512x128) ![0, 2, 0, 0] S1x1x512x128.size inb_S1x5x512x128_S1x1x512x128_0_2_0_0, k0_pay28 (v42 i B) (v121 i B)⟩,
   ⟨Rect.unit (s := S1x5x512x128) ![0, 1, 0, 0] S1x1x512x128.size inb_S1x5x512x128_S1x1x512x128_0_1_0_0, k0_pay27 (v42 i B) (v121 i B)⟩,
   ⟨Rect.unit (s := S1x5x512x128) ![0, 0, 0, 0] S1x1x512x128.size inb_S1x5x512x128_S1x1x512x128_0_0_0_0, k0_pay26 (v42 i B) (v121 i B)⟩]

/-- What the body stores into its output window 18, the last store first. -/
def pieces18 (i : grid0.Coords) (B : Blocks F) : List (View.Piece (Elt F) S1x5x512x128 .bf16) :=
  [⟨Rect.unit (s := S1x5x512x128) ![0, 4, 0, 0] S1x1x512x128.size inb_S1x5x512x128_S1x1x512x128_0_4_0_0, k0_pay97 (v513 i B) (cst_261 i B) (v514 i B)⟩,
   ⟨Rect.unit (s := S1x5x512x128) ![0, 3, 0, 0] S1x1x512x128.size inb_S1x5x512x128_S1x1x512x128_0_3_0_0, k0_pay96 (v513 i B) (cst_261 i B) (v514 i B)⟩,
   ⟨Rect.unit (s := S1x5x512x128) ![0, 2, 0, 0] S1x1x512x128.size inb_S1x5x512x128_S1x1x512x128_0_2_0_0, k0_pay49 (v251 i B)⟩,
   ⟨Rect.unit (s := S1x5x512x128) ![0, 1, 0, 0] S1x1x512x128.size inb_S1x5x512x128_S1x1x512x128_0_1_0_0, k0_pay48 (v251 i B)⟩,
   ⟨Rect.unit (s := S1x5x512x128) ![0, 0, 0, 0] S1x1x512x128.size inb_S1x5x512x128_S1x1x512x128_0_0_0_0, k0_pay47 (v253 i B)⟩]

/-- What the body stores into its output window 19, the last store first. -/
def pieces19 (i : grid0.Coords) (B : Blocks F) : List (View.Piece (Elt F) S1x640x512 .bf16) :=
  [⟨Rect.unit (s := S1x640x512) ![0, 384, 0] S1x256x512.size inb_S1x640x512_S1x256x512_0_384_0, k0_pay98 (v513 i B) (cst_261 i B) (v514 i B)⟩,
   ⟨Rect.unit (s := S1x640x512) ![0, 0, 0] S1x384x512.size inb_S1x640x512_S1x384x512_0_0_0, k0_pay50 (v247 i B)⟩]

/-- What the body stores into its output window 20, the last store first. -/
def pieces20 (i : grid0.Coords) (B : Blocks F) : List (View.Piece (Elt F) S1x5x512x128 .bf16) :=
  [⟨Rect.unit (s := S1x5x512x128) ![0, 4, 0, 0] S1x1x512x128.size inb_S1x5x512x128_S1x1x512x128_0_4_0_0, k0_pay85 (v335 i B) (v415 i B)⟩,
   ⟨Rect.unit (s := S1x5x512x128) ![0, 3, 0, 0] S1x1x512x128.size inb_S1x5x512x128_S1x1x512x128_0_3_0_0, k0_pay84 (v335 i B) (v415 i B)⟩,
   ⟨Rect.unit (s := S1x5x512x128) ![0, 2, 0, 0] S1x1x512x128.size inb_S1x5x512x128_S1x1x512x128_0_2_0_0, k0_pay33 (v138 i B)⟩,
   ⟨Rect.unit (s := S1x5x512x128) ![0, 1, 0, 0] S1x1x512x128.size inb_S1x5x512x128_S1x1x512x128_0_1_0_0, k0_pay32 (v144 i B)⟩,
   ⟨Rect.unit (s := S1x5x512x128) ![0, 0, 0, 0] S1x1x512x128.size inb_S1x5x512x128_S1x1x512x128_0_0_0_0, k0_pay30 (v42 i B) (v136 i B)⟩]

/-- What the body stores into its output window 21, the last store first. -/
def pieces21 (i : grid0.Coords) (B : Blocks F) : List (View.Piece (Elt F) S1x5x512x128 .f32) :=
  [⟨Rect.unit (s := S1x5x512x128) ![0, 4, 0, 0] S1x1x512x128.size inb_S1x5x512x128_S1x1x512x128_0_4_0_0, k0_pay89 (v435 i B)⟩,
   ⟨Rect.unit (s := S1x5x512x128) ![0, 3, 0, 0] S1x1x512x128.size inb_S1x5x512x128_S1x1x512x128_0_3_0_0, k0_pay87 (v335 i B) (v428 i B)⟩,
   ⟨Rect.unit (s := S1x5x512x128) ![0, 2, 0, 0] S1x1x512x128.size inb_S1x5x512x128_S1x1x512x128_0_2_0_0, k0_pay37 (v42 i B) (v154 i B)⟩,
   ⟨Rect.unit (s := S1x5x512x128) ![0, 1, 0, 0] S1x1x512x128.size inb_S1x5x512x128_S1x1x512x128_0_1_0_0, k0_pay36 (v42 i B) (v154 i B)⟩,
   ⟨Rect.unit (s := S1x5x512x128) ![0, 0, 0, 0] S1x1x512x128.size inb_S1x5x512x128_S1x1x512x128_0_0_0_0, k0_pay35 (v42 i B) (v154 i B)⟩]

/-- What the body stores into its output window 22, the last store first. -/
def pieces22 (i : grid0.Coords) (B : Blocks F) : List (View.Piece (Elt F) S1x640x128 .f32) :=
  [⟨Rect.unit (s := S1x640x128) ![0, 384, 0] S1x256x128.size inb_S1x640x128_S1x256x128_0_384_0, k0_pay104 (v336 i B) (v543 i B) (v544 i B) (v546 i B) (v548 i B) (v551 i B)⟩,
   ⟨Rect.unit (s := S1x640x128) ![0, 0, 0] S1x384x128.size inb_S1x640x128_S1x384x128_0_0_0, k0_pay55 (v43 i B) (v278 i B) (v279 i B) (v281 i B) (v291 i B)⟩]

/-- What the body stores into its output window 23, the last store first. -/
def pieces23 (i : grid0.Coords) (B : Blocks F) : List (View.Piece (Elt F) S1x5x16x128 .f32) :=
  [⟨Rect.unit (s := S1x5x16x128) ![0, 4, 0, 0] S1x1x16x128.size inb_S1x5x16x128_S1x1x16x128_0_4_0_0, k0_pay1 (v577 i B)⟩,
   ⟨Rect.unit (s := S1x5x16x128) ![0, 3, 0, 0] S1x1x16x128.size inb_S1x5x16x128_S1x1x16x128_0_3_0_0, k0_pay106 (v336 i B) (v543 i B) (v544 i B) (v546 i B) (v548 i B) (v551 i B)⟩,
   ⟨Rect.unit (s := S1x5x16x128) ![0, 2, 0, 0] S1x1x16x128.size inb_S1x5x16x128_S1x1x16x128_0_2_0_0, k0_pay59 (v43 i B) (v278 i B) (v279 i B) (v281 i B) (v291 i B)⟩,
   ⟨Rect.unit (s := S1x5x16x128) ![0, 1, 0, 0] S1x1x16x128.size inb_S1x5x16x128_S1x1x16x128_0_1_0_0, k0_pay58 (v43 i B) (v278 i B) (v279 i B) (v281 i B) (v291 i B)⟩,
   ⟨Rect.unit (s := S1x5x16x128) ![0, 0, 0, 0] S1x1x16x128.size inb_S1x5x16x128_S1x1x16x128_0_0_0_0, k0_pay57 (v43 i B) (v278 i B) (v279 i B) (v281 i B) (v291 i B)⟩]

end Cert.Kernel3Ideal.Proj

end
-- ==== Proof.ProjRun.lean ====
/-
  The body of `proj` run once, over any float values: on staging buffers that hold the blocks `B` it stores, into
  each of the ten outputs, the pieces that ProjBlocks.lean names, and leaves the inputs as they were.
-/
module

public import proofs.«01_k».proof.Proof.ProjBlocks

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body runs on the blocks `B`: the pieces it stores into its ten outputs, with the proof that they are what it
    stores. -/
def bodyRun (c : Dev nD) (i : grid0.Coords) (arg2 : Memref sig .tc .vmem S1x640x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S1024x1664 .bf16) (harg7 : arg7.IsWhole) (arg8 : Memref sig .tc .vmem S2560x1024 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S128x640 .f32) (harg11 : arg11.IsWhole) (arg12 : Memref sig .tc .vmem S128x640 .f32) (harg12 : arg12.IsWhole) (arg13 : Memref sig .tc .vmem S5x1024 .f32) (harg13 : arg13.IsWhole) (arg14 : Memref sig .tc .vmem S1x1024 .f32) (harg14 : arg14.IsWhole) (arg15 : Memref sig .tc .vmem S1x128 .f32) (harg15 : arg15.IsWhole) (arg16 : Memref sig .tc .vmem S1x5x512x128 .bf16) (harg16 : arg16.IsWhole) (arg17 : Memref sig .tc .vmem S1x640x512 .bf16) (harg17 : arg17.IsWhole) (arg18 : Memref sig .tc .vmem S1x5x512x128 .bf16) (harg18 : arg18.IsWhole) (arg19 : Memref sig .tc .vmem S1x5x512x128 .f32) (harg19 : arg19.IsWhole) (arg20 : Memref sig .tc .vmem S1x5x512x128 .bf16) (harg20 : arg20.IsWhole) (arg21 : Memref sig .tc .vmem S1x640x512 .bf16) (harg21 : arg21.IsWhole) (arg22 : Memref sig .tc .vmem S1x5x512x128 .bf16) (harg22 : arg22.IsWhole) (arg23 : Memref sig .tc .vmem S1x5x512x128 .f32) (harg23 : arg23.IsWhole) (arg24 : Memref sig .tc .vmem S1x640x128 .f32) (harg24 : arg24.IsWhole) (arg25 : Memref sig .tc .vmem S1x5x16x128 .f32) (harg25 : arg25.IsWhole) (B : Blocks F) :
    Σ' (L14 : List (View.Piece (Elt F) S1x5x512x128 .bf16)) (L15 : List (View.Piece (Elt F) S1x640x512 .bf16)) (L16 : List (View.Piece (Elt F) S1x5x512x128 .bf16)) (L17 : List (View.Piece (Elt F) S1x5x512x128 .f32)) (L18 : List (View.Piece (Elt F) S1x5x512x128 .bf16)) (L19 : List (View.Piece (Elt F) S1x640x512 .bf16)) (L20 : List (View.Piece (Elt F) S1x5x512x128 .bf16)) (L21 : List (View.Piece (Elt F) S1x5x512x128 .f32)) (L22 : List (View.Piece (Elt F) S1x640x128 .f32)) (L23 : List (View.Piece (Elt F) S1x5x16x128 .f32)),
      ∀ (E : Set ℕ) (K : PUnit → sProp 𝕄),
        iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  refine ⟨?_, ?_, ?_, ?_, ?_, ?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.Kernel3Ideal.Proj

end
-- ==== Proof.ProjRunB.lean ====
/-
  The pieces that the body of `proj` stores, as functions of the blocks alone, and the run of the body with them.
-/
module

public import proofs.«01_k».proof.Proof.ProjRun

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The blocks, each read back off a buffer that holds it. -/
theorem blocks_read (c : Dev nD) (i : grid0.Coords) (arg2 : Memref sig .tc .vmem S1x640x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S1024x1664 .bf16) (harg7 : arg7.IsWhole) (arg8 : Memref sig .tc .vmem S2560x1024 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S128x640 .f32) (harg11 : arg11.IsWhole) (arg12 : Memref sig .tc .vmem S128x640 .f32) (harg12 : arg12.IsWhole) (arg13 : Memref sig .tc .vmem S5x1024 .f32) (harg13 : arg13.IsWhole) (arg14 : Memref sig .tc .vmem S1x1024 .f32) (harg14 : arg14.IsWhole) (arg15 : Memref sig .tc .vmem S1x128 .f32) (harg15 : arg15.IsWhole) (arg16 : Memref sig .tc .vmem S1x5x512x128 .bf16) (harg16 : arg16.IsWhole) (arg17 : Memref sig .tc .vmem S1x640x512 .bf16) (harg17 : arg17.IsWhole) (arg18 : Memref sig .tc .vmem S1x5x512x128 .bf16) (harg18 : arg18.IsWhole) (arg19 : Memref sig .tc .vmem S1x5x512x128 .f32) (harg19 : arg19.IsWhole) (arg20 : Memref sig .tc .vmem S1x5x512x128 .bf16) (harg20 : arg20.IsWhole) (arg21 : Memref sig .tc .vmem S1x640x512 .bf16) (harg21 : arg21.IsWhole) (arg22 : Memref sig .tc .vmem S1x5x512x128 .bf16) (harg22 : arg22.IsWhole) (arg23 : Memref sig .tc .vmem S1x5x512x128 .f32) (harg23 : arg23.IsWhole) (arg24 : Memref sig .tc .vmem S1x640x128 .f32) (harg24 : arg24.IsWhole) (arg25 : Memref sig .tc .vmem S1x5x16x128 .f32) (harg25 : arg25.IsWhole) (B : Blocks F) : (⟨arg2.view.read (Elt F) (harg2.unread B.x0), arg3.view.read (Elt F) (harg3.unread B.x1), arg4.view.read (Elt F) (harg4.unread B.x2), arg5.view.read (Elt F) (harg5.unread B.x3), arg6.view.read (Elt F) (harg6.unread B.x4), arg7.view.read (Elt F) (harg7.unread B.x5), arg8.view.read (Elt F) (harg8.unread B.x6), arg9.view.read (Elt F) (harg9.unread B.x7), arg10.view.read (Elt F) (harg10.unread B.x8), arg11.view.read (Elt F) (harg11.unread B.x9), arg12.view.read (Elt F) (harg12.unread B.x10), arg13.view.read (Elt F) (harg13.unread B.x11), arg14.view.read (Elt F) (harg14.unread B.x12), arg15.view.read (Elt F) (harg15.unread B.x13)⟩ : Blocks F) = B := by
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]

variable (c : Dev nD) (i : grid0.Coords) (arg2 : Memref sig .tc .vmem S1x640x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S1024x1664 .bf16) (harg7 : arg7.IsWhole) (arg8 : Memref sig .tc .vmem S2560x1024 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S128x640 .f32) (harg11 : arg11.IsWhole) (arg12 : Memref sig .tc .vmem S128x640 .f32) (harg12 : arg12.IsWhole) (arg13 : Memref sig .tc .vmem S5x1024 .f32) (harg13 : arg13.IsWhole) (arg14 : Memref sig .tc .vmem S1x1024 .f32) (harg14 : arg14.IsWhole) (arg15 : Memref sig .tc .vmem S1x128 .f32) (harg15 : arg15.IsWhole) (arg16 : Memref sig .tc .vmem S1x5x512x128 .bf16) (harg16 : arg16.IsWhole) (arg17 : Memref sig .tc .vmem S1x640x512 .bf16) (harg17 : arg17.IsWhole) (arg18 : Memref sig .tc .vmem S1x5x512x128 .bf16) (harg18 : arg18.IsWhole) (arg19 : Memref sig .tc .vmem S1x5x512x128 .f32) (harg19 : arg19.IsWhole) (arg20 : Memref sig .tc .vmem S1x5x512x128 .bf16) (harg20 : arg20.IsWhole) (arg21 : Memref sig .tc .vmem S1x640x512 .bf16) (harg21 : arg21.IsWhole) (arg22 : Memref sig .tc .vmem S1x5x512x128 .bf16) (harg22 : arg22.IsWhole) (arg23 : Memref sig .tc .vmem S1x5x512x128 .f32) (harg23 : arg23.IsWhole) (arg24 : Memref sig .tc .vmem S1x640x128 .f32) (harg24 : arg24.IsWhole) (arg25 : Memref sig .tc .vmem S1x5x16x128 .f32) (harg25 : arg25.IsWhole) (B : Blocks F)

/-- From buffers that hold the blocks the body stores the given pieces into its outputs and leaves the inputs as they
    were. -/
def RunsTo
    (L14 : List (View.Piece (Elt F) S1x5x512x128 .bf16)) (L15 : List (View.Piece (Elt F) S1x640x512 .bf16)) (L16 : List (View.Piece (Elt F) S1x5x512x128 .bf16)) (L17 : List (View.Piece (Elt F) S1x5x512x128 .f32)) (L18 : List (View.Piece (Elt F) S1x5x512x128 .bf16)) (L19 : List (View.Piece (Elt F) S1x640x512 .bf16)) (L20 : List (View.Piece (Elt F) S1x5x512x128 .bf16)) (L21 : List (View.Piece (Elt F) S1x5x512x128 .f32)) (L22 : List (View.Piece (Elt F) S1x640x128 .f32)) (L23 : List (View.Piece (Elt F) S1x5x16x128 .f32)) : Prop :=
      ∀ (E : Set ℕ) (K : PUnit → sProp 𝕄),
        iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare B.x0 ∗ owns (c : Thread nD τ) arg3 fullShare B.x1 ∗ owns (c : Thread nD τ) arg4 fullShare B.x2 ∗ owns (c : Thread nD τ) arg5 fullShare B.x3 ∗ owns (c : Thread nD τ) arg6 fullShare B.x4 ∗ owns (c : Thread nD τ) arg7 fullShare B.x5 ∗ owns (c : Thread nD τ) arg8 fullShare B.x6 ∗ owns (c : Thread nD τ) arg9 fullShare B.x7 ∗ owns (c : Thread nD τ) arg10 fullShare B.x8 ∗ owns (c : Thread nD τ) arg11 fullShare B.x9 ∗ owns (c : Thread nD τ) arg12 fullShare B.x10 ∗ owns (c : Thread nD τ) arg13 fullShare B.x11 ∗ owns (c : Thread nD τ) arg14 fullShare B.x12 ∗ owns (c : Thread nD τ) arg15 fullShare B.x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K

/-- The pieces may be replaced by equal ones. -/
theorem RunsTo.congr
    {L14 M14 : List (View.Piece (Elt F) S1x5x512x128 .bf16)} {L15 M15 : List (View.Piece (Elt F) S1x640x512 .bf16)} {L16 M16 : List (View.Piece (Elt F) S1x5x512x128 .bf16)} {L17 M17 : List (View.Piece (Elt F) S1x5x512x128 .f32)} {L18 M18 : List (View.Piece (Elt F) S1x5x512x128 .bf16)} {L19 M19 : List (View.Piece (Elt F) S1x640x512 .bf16)} {L20 M20 : List (View.Piece (Elt F) S1x5x512x128 .bf16)} {L21 M21 : List (View.Piece (Elt F) S1x5x512x128 .f32)} {L22 M22 : List (View.Piece (Elt F) S1x640x128 .f32)} {L23 M23 : List (View.Piece (Elt F) S1x5x16x128 .f32)}
    (h14 : L14 = M14) (h15 : L15 = M15) (h16 : L16 = M16) (h17 : L17 = M17) (h18 : L18 = M18) (h19 : L19 = M19) (h20 : L20 = M20) (h21 : L21 = M21) (h22 : L22 = M22) (h23 : L23 = M23)
    (h : RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B L14 L15 L16 L17 L18 L19 L20 L21 L22 L23) : RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B M14 M15 M16 M17 M18 M19 M20 M21 M22 M23 := by
  subst h14; subst h15; subst h16; subst h17; subst h18; subst h19; subst h20; subst h21; subst h22; subst h23; exact h

set_option maxHeartbeats 4000000 in
/-- The pieces of output 14, as functions of the blocks alone. -/
theorem bodyRun_pieces14 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).1 = pieces14 i B := by
  refine Eq.trans ?_ (congrArg (pieces14 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 15, as functions of the blocks alone. -/
theorem bodyRun_pieces15 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.1 = pieces15 i B := by
  refine Eq.trans ?_ (congrArg (pieces15 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 16, as functions of the blocks alone. -/
theorem bodyRun_pieces16 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.1 = pieces16 i B := by
  refine Eq.trans ?_ (congrArg (pieces16 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 17, as functions of the blocks alone. -/
theorem bodyRun_pieces17 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.1 = pieces17 i B := by
  refine Eq.trans ?_ (congrArg (pieces17 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 18, as functions of the blocks alone. -/
theorem bodyRun_pieces18 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.2.1 = pieces18 i B := by
  refine Eq.trans ?_ (congrArg (pieces18 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 19, as functions of the blocks alone. -/
theorem bodyRun_pieces19 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.2.2.1 = pieces19 i B := by
  refine Eq.trans ?_ (congrArg (pieces19 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 20, as functions of the blocks alone. -/
theorem bodyRun_pieces20 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.2.2.2.1 = pieces20 i B := by
  refine Eq.trans ?_ (congrArg (pieces20 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 21, as functions of the blocks alone. -/
theorem bodyRun_pieces21 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.2.2.2.2.1 = pieces21 i B := by
  refine Eq.trans ?_ (congrArg (pieces21 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 22, as functions of the blocks alone. -/
theorem bodyRun_pieces22 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.2.2.2.2.2.1 = pieces22 i B := by
  refine Eq.trans ?_ (congrArg (pieces22 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

set_option maxHeartbeats 4000000 in
/-- The pieces of output 23, as functions of the blocks alone. -/
theorem bodyRun_pieces23 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.2.2.2.2.2.2.1 = pieces23 i B := by
  refine Eq.trans ?_ (congrArg (pieces23 i) (blocks_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B))
  unfold bodyRun
  rfl

/-- The body runs on the blocks: it stores into each output the pieces named with the blocks. -/
theorem run_body : RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B (pieces14 i B) (pieces15 i B) (pieces16 i B) (pieces17 i B) (pieces18 i B) (pieces19 i B) (pieces20 i B) (pieces21 i B) (pieces22 i B) (pieces23 i B) :=
  RunsTo.congr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B (bodyRun_pieces14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun_pieces23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 B).2.2.2.2.2.2.2.2.2.2

end Cert.Kernel3Ideal.Proj

end
-- ==== Proof.ProjTail.lean ====
/-
  The extended token tile (16 rows before it, 16 after) of `proj` does not depend on what lies past the end of the token array in its staging buffer: at
  the last tile those rows are replaced by the front rows, and every other tile lies inside the array.
-/
module

public import proofs.«01_k».proof.Proof.ProjBlocks
public import Idealize.ShloMosaic.Lib.Pipeline.ValueKit

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

variable {F : FTy → Type} [FloatOps F]

/-- How many rows of a token tile the transfer moves: at least 512, and all 640 but in the last tile. -/
theorem tile_sizes : ∀ t : Fin grid0.N, win0_0.xsize (grid0.coords t) (0 : Fin 3) = 1 ∧ 512 ≤ win0_0.xsize (grid0.coords t) (1 : Fin 3)
    ∧ (((grid0.coords t) 1).val ≠ 12 → win0_0.xsize (grid0.coords t) (1 : Fin 3) = 640) ∧ win0_0.xsize (grid0.coords t) (2 : Fin 3) = 1024 := by
  decide +kernel

/-- The first 512 rows of a token tile always lie inside the token array, and all rows do except in the last tile. -/
theorem moved_rows (t : Fin grid0.N) (r : Fin 640) (k : Fin 1024) (h : (r : ℕ) < 512 ∨ ((grid0.coords t) 1).val ≠ 12) :
    win0_0.moved (grid0.coords t) (ix3 (0 : Fin 1) r k) = true := by
  rw [win0_0.moved_iff]
  obtain ⟨h0, h1, h2, h3⟩ := tile_sizes t
  have hr := r.isLt
  have hk := k.isLt
  intro a
  fin_cases a
  · show 0 < win0_0.xsize (grid0.coords t) (0 : Fin 3)
    omega
  · show (r : ℕ) < win0_0.xsize (grid0.coords t) (1 : Fin 3)
    rcases h with h | h
    · omega
    · have := h2 h; omega
  · show (k : ℕ) < win0_0.xsize (grid0.coords t) (2 : Fin 3)
    omega

/-- On the rows inside the token array, what the staging buffer held before does not matter. -/
theorem fill_rows (t : Fin grid0.N) (d d' : Vec F S1x640x1024 .f32) (b) (r : Fin 640) (k : Fin 1024)
    (h : (r : ℕ) < 512 ∨ ((grid0.coords t) 1).val ≠ 12) :
    win0_0.fill (grid0.coords t) d b (ix3 (0 : Fin 1) r k) = win0_0.fill (grid0.coords t) d' b (ix3 (0 : Fin 1) r k) := by
  unfold Pipeline.Window.fill
  rw [dif_pos (moved_rows t r k h), dif_pos (moved_rows t r k h)]

/-- In the last tile the choice takes the front rows, so what it passes over does not matter. -/
theorem select_tile {α : Type} (n : ℕ) (x y y' : α) (h : n ≠ 12 → y = y') :
    Scalar.select (Scalar.cmpi CmpIPredicate.eq (BitVec.ofNat 32 n) 12#32) x y = Scalar.select (Scalar.cmpi CmpIPredicate.eq (BitVec.ofNat 32 n) 12#32) x y' := by
  by_cases hn : n = 12
  · subst hn; rfl
  · rw [h hn]

/-- The extended token tile is the same whatever lay past the end of the token array. -/
theorem tile_filled (t : Fin grid0.N) (d d' : Vec F S1x640x1024 .f32) (b) (a1 : Vec F S16x1024 .f32) (a3 : Vec F S1x16x1024 .f32) (fr : Vec F S128x1024 .f32)
    (a15 : Vec F S1x16x1024 .f32) :
    k0_pay2 (grid0.coords t) a1 a3 (View.ld (win0_0.fill (grid0.coords t) d b) (Rect.unit (s := S1x640x1024) ![0, 0, 0] S1x640x1024.size inb_S1x640x1024_S1x640x1024_0_0_0)) fr a15
      = k0_pay2 (grid0.coords t) a1 a3 (View.ld (win0_0.fill (grid0.coords t) d' b) (Rect.unit (s := S1x640x1024) ![0, 0, 0] S1x640x1024.size inb_S1x640x1024_S1x640x1024_0_0_0)) fr a15 := by
  funext y
  pointwise [k0_pay2]
  split_ifs with h1 h2 h3
  all_goals first
    | with_reducible rfl
    | exact select_tile _ _ _ _ fun ht => fill_rows t d d' b _ _ (Or.inr ht)
    | exact fill_rows t d d' b _ _ (Or.inl (by first | assumption | omega))

variable (i : grid0.Coords) (B : Blocks F) (X : Vec F S1x640x1024 .f32)

/-- The cut of the first three chunks' extended rows depends on the token block only through the extended tile. -/
theorem v27_tile (h : v17 i { B with x0 := X } = v17 i B) : v27 i { B with x0 := X } = v27 i B :=
  by
  show extractStridedSlice S416x1024 ![0, 0] (v17 i { B with x0 := X }) slices_S672x1024_o0_0_S416x1024 = extractStridedSlice S416x1024 ![0, 0] (v17 i B) slices_S672x1024_o0_0_S416x1024
  rw [h]

/-- This value depends on the token block only through the extended tile. -/
theorem v33_tile (h : v17 i { B with x0 := X } = v17 i B) : v33 i { B with x0 := X } = v33 i B := by
  have h' := v27_tile i B X h
  unfold v27 at h'
  unfold v33 k0_pay5
  rw [h']
  try rfl

/-- This value depends on the token block only through the extended tile. -/
theorem v41_tile (h : v17 i { B with x0 := X } = v17 i B) : v41 i { B with x0 := X } = v41 i B := by
  unfold v41; rw [v27_tile i B X h, v33_tile i B X h]; try rfl

/-- This value depends on the token block only through the extended tile. -/
theorem v42_tile (h : v17 i { B with x0 := X } = v17 i B) : v42 i { B with x0 := X } = v42 i B := by
  unfold v42; rw [v27_tile i B X h, v33_tile i B X h]; try rfl

/-- This value depends on the token block only through the extended tile. -/
theorem v59_tile (h : v17 i { B with x0 := X } = v17 i B) : v59 i { B with x0 := X } = v59 i B := by
  unfold v59; rw [v27_tile i B X h, v33_tile i B X h]; try rfl

/-- This value depends on the token block only through the extended tile. -/
theorem v68_tile (h : v17 i { B with x0 := X } = v17 i B) : v68 i { B with x0 := X } = v68 i B := by
  unfold v68; rw [v27_tile i B X h, v33_tile i B X h]; try rfl

/-- This value depends on the token block only through the extended tile. -/
theorem v77_tile (h : v17 i { B with x0 := X } = v17 i B) : v77 i { B with x0 := X } = v77 i B := by
  unfold v77; rw [v27_tile i B X h, v33_tile i B X h]; try rfl

/-- This value depends on the token block only through the extended tile. -/
theorem v84_tile (h : v17 i { B with x0 := X } = v17 i B) : v84 i { B with x0 := X } = v84 i B := by
  unfold v84; rw [v27_tile i B X h, v33_tile i B X h]; try rfl

/-- This value depends on the token block only through the extended tile. -/
theorem v105_tile (h : v17 i { B with x0 := X } = v17 i B) : v105 i { B with x0 := X } = v105 i B := by
  unfold v105; rw [v42_tile i B X h]; try rfl

/-- This value depends on the token block only through the extended tile. -/
theorem v138_tile (h : v17 i { B with x0 := X } = v17 i B) : v138 i { B with x0 := X } = v138 i B := by
  unfold v138; rw [v42_tile i B X h]; try rfl

/-- This value depends on the token block only through the extended tile. -/
theorem v144_tile (h : v17 i { B with x0 := X } = v17 i B) : v144 i { B with x0 := X } = v144 i B := by
  unfold v144; rw [v42_tile i B X h]; try rfl

/-- This value depends on the token block only through the extended tile. -/
theorem v171_tile (h : v17 i { B with x0 := X } = v17 i B) : v171 i { B with x0 := X } = v171 i B := by
  unfold v171; rw [v42_tile i B X h]; try rfl

/-- This value depends on the token block only through the extended tile. -/
theorem v203_tile (h : v17 i { B with x0 := X } = v17 i B) : v203 i { B with x0 := X } = v203 i B := by
  unfold v203; rw [v41_tile i B X h]; try rfl

/-- This value depends on the token block only through the extended tile. -/
theorem v209_tile (h : v17 i { B with x0 := X } = v17 i B) : v209 i { B with x0 := X } = v209 i B := by
  unfold v209; rw [v41_tile i B X h]; try rfl

/-- This value depends on the token block only through the extended tile. -/
theorem v247_tile (h : v17 i { B with x0 := X } = v17 i B) : v247 i { B with x0 := X } = v247 i B := by
  unfold v247; rw [v203_tile i B X h, v209_tile i B X h]; try rfl

/-- This value depends on the token block only through the extended tile. -/
theorem v251_tile (h : v17 i { B with x0 := X } = v17 i B) : v251 i { B with x0 := X } = v251 i B := by
  unfold v251; rw [v203_tile i B X h, v209_tile i B X h]; try rfl

/-- This value depends on the token block only through the extended tile. -/
theorem v253_tile (h : v17 i { B with x0 := X } = v17 i B) : v253 i { B with x0 := X } = v253 i B := by
  unfold v253; rw [v203_tile i B X h, v209_tile i B X h]; try rfl

/-- This value depends on the token block only through the extended tile. -/
theorem v278_tile (h : v17 i { B with x0 := X } = v17 i B) : v278 i { B with x0 := X } = v278 i B := by
  unfold v278; rw [v42_tile i B X h]; try rfl

/-- This value depends on the token block only through the extended tile. -/
theorem v291_tile (h : v17 i { B with x0 := X } = v17 i B) : v291 i { B with x0 := X } = v291 i B := by
  unfold v291; rw [v42_tile i B X h]; try rfl

/-- This value depends on the token block only through the extended tile. -/
theorem v320_tile (h : v17 i { B with x0 := X } = v17 i B) : v320 i { B with x0 := X } = v320 i B := by
  unfold v320; rw [h]; try rfl

/-- This value depends on the token block only through the extended tile. -/
theorem v324_tile (h : v17 i { B with x0 := X } = v17 i B) : v324 i { B with x0 := X } = v324 i B := by
  unfold v324; rw [h]; try rfl

/-- This value depends on the token block only through the extended tile. -/
theorem v334_tile (h : v17 i { B with x0 := X } = v17 i B) : v334 i { B with x0 := X } = v334 i B := by
  unfold v334; rw [v320_tile i B X h, v324_tile i B X h]; try rfl

/-- This value depends on the token block only through the extended tile. -/
theorem v335_tile (h : v17 i { B with x0 := X } = v17 i B) : v335 i { B with x0 := X } = v335 i B := by
  unfold v335; rw [v320_tile i B X h, v324_tile i B X h]; try rfl

/-- This value depends on the token block only through the extended tile. -/
theorem v352_tile (h : v17 i { B with x0 := X } = v17 i B) : v352 i { B with x0 := X } = v352 i B := by
  unfold v352; rw [v320_tile i B X h, v324_tile i B X h]; try rfl

/-- This value depends on the token block only through the extended tile. -/
theorem v361_tile (h : v17 i { B with x0 := X } = v17 i B) : v361 i { B with x0 := X } = v361 i B := by
  unfold v361; rw [v320_tile i B X h, v324_tile i B X h]; try rfl

/-- This value depends on the token block only through the extended tile. -/
theorem v370_tile (h : v17 i { B with x0 := X } = v17 i B) : v370 i { B with x0 := X } = v370 i B := by
  unfold v370; rw [v320_tile i B X h, v324_tile i B X h]; try rfl

/-- This value depends on the token block only through the extended tile. -/
theorem v371_tile (h : v17 i { B with x0 := X } = v17 i B) : v371 i { B with x0 := X } = v371 i B := by
  unfold v371; rw [v320_tile i B X h, v324_tile i B X h]; try rfl

/-- This value depends on the token block only through the extended tile. -/
theorem v372_tile (h : v17 i { B with x0 := X } = v17 i B) : v372 i { B with x0 := X } = v372 i B := by
  unfold v372; rw [v320_tile i B X h, v324_tile i B X h]; try rfl

/-- This value depends on the token block only through the extended tile. -/
theorem v373_tile (h : v17 i { B with x0 := X } = v17 i B) : v373 i { B with x0 := X } = v373 i B := by
  unfold v373; rw [v320_tile i B X h, v324_tile i B X h]; try rfl

/-- This value depends on the token block only through the extended tile. -/
theorem v406_tile (h : v17 i { B with x0 := X } = v17 i B) : v406 i { B with x0 := X } = v406 i B := by
  unfold v406; rw [v335_tile i B X h]; try rfl

/-- This value depends on the token block only through the extended tile. -/
theorem v435_tile (h : v17 i { B with x0 := X } = v17 i B) : v435 i { B with x0 := X } = v435 i B := by
  unfold v435; rw [v335_tile i B X h]; try rfl

/-- This value depends on the token block only through the extended tile. -/
theorem v513_tile (h : v17 i { B with x0 := X } = v17 i B) : v513 i { B with x0 := X } = v513 i B := by
  unfold v513; rw [v334_tile i B X h]; try rfl

/-- This value depends on the token block only through the extended tile. -/
theorem v543_tile (h : v17 i { B with x0 := X } = v17 i B) : v543 i { B with x0 := X } = v543 i B := by
  unfold v543; rw [v335_tile i B X h]; try rfl

/-- This value depends on the token block only through the extended tile. -/
theorem v548_tile (h : v17 i { B with x0 := X } = v17 i B) : v548 i { B with x0 := X } = v548 i B := by
  unfold v548; rw [v335_tile i B X h]; try rfl

/-- This value depends on the token block only through the extended tile. -/
theorem v551_tile (h : v17 i { B with x0 := X } = v17 i B) : v551 i { B with x0 := X } = v551 i B := by
  unfold v551; rw [v335_tile i B X h]; try rfl

/-- This value depends on the token block only through the extended tile. -/
theorem v577_tile (h : v17 i { B with x0 := X } = v17 i B) : v577 i { B with x0 := X } = v577 i B := by
  unfold v577; rw [v543_tile i B X h, v548_tile i B X h, v551_tile i B X h]; try rfl

/-- The pieces of output 14 depend on the token block only through the extended tile. -/
theorem pieces14_tile (h : v17 i { B with x0 := X } = v17 i B) : pieces14 i { B with x0 := X } = pieces14 i B := by
  unfold pieces14
  rw [v59_tile i B X h, v68_tile i B X h, v77_tile i B X h, v84_tile i B X h, v352_tile i B X h, v361_tile i B X h, v370_tile i B X h, v371_tile i B X h, v372_tile i B X h, v373_tile i B X h]
  try rfl

/-- The pieces of output 15 depend on the token block only through the extended tile. -/
theorem pieces15_tile (h : v17 i { B with x0 := X } = v17 i B) : pieces15 i { B with x0 := X } = pieces15 i B := by
  unfold pieces15
  rw [v171_tile i B X h, v335_tile i B X h]
  try rfl

/-- The pieces of output 16 depend on the token block only through the extended tile. -/
theorem pieces16_tile (h : v17 i { B with x0 := X } = v17 i B) : pieces16 i { B with x0 := X } = pieces16 i B := by
  unfold pieces16
  rw [v42_tile i B X h, v105_tile i B X h, v335_tile i B X h]
  try rfl

/-- The pieces of output 17 depend on the token block only through the extended tile. -/
theorem pieces17_tile (h : v17 i { B with x0 := X } = v17 i B) : pieces17 i { B with x0 := X } = pieces17 i B := by
  unfold pieces17
  rw [v42_tile i B X h, v406_tile i B X h]
  try rfl

/-- The pieces of output 18 depend on the token block only through the extended tile. -/
theorem pieces18_tile (h : v17 i { B with x0 := X } = v17 i B) : pieces18 i { B with x0 := X } = pieces18 i B := by
  unfold pieces18
  rw [v251_tile i B X h, v253_tile i B X h, v513_tile i B X h]
  try rfl

/-- The pieces of output 19 depend on the token block only through the extended tile. -/
theorem pieces19_tile (h : v17 i { B with x0 := X } = v17 i B) : pieces19 i { B with x0 := X } = pieces19 i B := by
  unfold pieces19
  rw [v247_tile i B X h, v513_tile i B X h]
  try rfl

/-- The pieces of output 20 depend on the token block only through the extended tile. -/
theorem pieces20_tile (h : v17 i { B with x0 := X } = v17 i B) : pieces20 i { B with x0 := X } = pieces20 i B := by
  unfold pieces20
  rw [v42_tile i B X h, v138_tile i B X h, v144_tile i B X h, v335_tile i B X h]
  try rfl

/-- The pieces of output 21 depend on the token block only through the extended tile. -/
theorem pieces21_tile (h : v17 i { B with x0 := X } = v17 i B) : pieces21 i { B with x0 := X } = pieces21 i B := by
  unfold pieces21
  rw [v42_tile i B X h, v335_tile i B X h, v435_tile i B X h]
  try rfl

/-- The pieces of output 22 depend on the token block only through the extended tile. -/
theorem pieces22_tile (h : v17 i { B with x0 := X } = v17 i B) : pieces22 i { B with x0 := X } = pieces22 i B := by
  unfold pieces22
  rw [v278_tile i B X h, v291_tile i B X h, v543_tile i B X h, v548_tile i B X h, v551_tile i B X h]
  try rfl

/-- The pieces of output 23 depend on the token block only through the extended tile. -/
theorem pieces23_tile (h : v17 i { B with x0 := X } = v17 i B) : pieces23 i { B with x0 := X } = pieces23 i B := by
  unfold pieces23
  rw [v278_tile i B X h, v291_tile i B X h, v543_tile i B X h, v548_tile i B X h, v551_tile i B X h, v577_tile i B X h]
  try rfl

end Cert.Kernel3Ideal.Proj

end
-- ==== Proof.ProjFrame.lean ====
/-
  The launch of `proj` (over any float values): what each window's staging buffer holds around the body, the body's obligation at
  every grid point, the run, and the frame. Window 0, the token tile, overhangs the token array in the last tile; what
  lies there is never read.
-/
module

public import proofs.«01_k».proof.Proof.ProjRunB
public import proofs.«01_k».proof.Proof.ProjTail
public import Idealize.ShloMosaic.Lib.Claim

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The token tile's buffer at a point: the rows the transfer moves, filled out with zeros. -/
def tileBlk (c : Dev nD) (t : Fin cfg0.N) : Vec F S1x640x1024 .f32 :=
  win0_0.fill (grid0.coords t) (fun _ => Scalar.ofBits .f32 0#32) (iblk m c 0 t)

/-- The input blocks at a point. -/
def blks (c : Dev nD) (t : Fin cfg0.N) : Blocks F where
  x0 := tileBlk m c t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t

/-- The pieces stored into output 14 cover its block. -/
theorem cover14 (i : grid0.Coords) (B : Blocks F) (y : S1x5x512x128.Idx) : ∃ pc ∈ pieces14 i B, y ∈ pc.1.set :=
  View.cover_of_tiledBy (pieces14 i B) ![1, 1, 512, 128] (by sl_kernel_rfl) y

/-- The pieces stored into output 15 cover its block. -/
theorem cover15 (i : grid0.Coords) (B : Blocks F) (y : S1x640x512.Idx) : ∃ pc ∈ pieces15 i B, y ∈ pc.1.set :=
  View.cover_of_tiledBy (pieces15 i B) ![1, 128, 512] (by sl_kernel_rfl) y

/-- The pieces stored into output 16 cover its block. -/
theorem cover16 (i : grid0.Coords) (B : Blocks F) (y : S1x5x512x128.Idx) : ∃ pc ∈ pieces16 i B, y ∈ pc.1.set :=
  View.cover_of_tiledBy (pieces16 i B) ![1, 1, 512, 128] (by sl_kernel_rfl) y

/-- The pieces stored into output 17 cover its block. -/
theorem cover17 (i : grid0.Coords) (B : Blocks F) (y : S1x5x512x128.Idx) : ∃ pc ∈ pieces17 i B, y ∈ pc.1.set :=
  View.cover_of_tiledBy (pieces17 i B) ![1, 1, 512, 128] (by sl_kernel_rfl) y

/-- The pieces stored into output 18 cover its block. -/
theorem cover18 (i : grid0.Coords) (B : Blocks F) (y : S1x5x512x128.Idx) : ∃ pc ∈ pieces18 i B, y ∈ pc.1.set :=
  View.cover_of_tiledBy (pieces18 i B) ![1, 1, 512, 128] (by sl_kernel_rfl) y

/-- The pieces stored into output 19 cover its block. -/
theorem cover19 (i : grid0.Coords) (B : Blocks F) (y : S1x640x512.Idx) : ∃ pc ∈ pieces19 i B, y ∈ pc.1.set :=
  View.cover_of_tiledBy (pieces19 i B) ![1, 128, 512] (by sl_kernel_rfl) y

/-- The pieces stored into output 20 cover its block. -/
theorem cover20 (i : grid0.Coords) (B : Blocks F) (y : S1x5x512x128.Idx) : ∃ pc ∈ pieces20 i B, y ∈ pc.1.set :=
  View.cover_of_tiledBy (pieces20 i B) ![1, 1, 512, 128] (by sl_kernel_rfl) y

/-- The pieces stored into output 21 cover its block. -/
theorem cover21 (i : grid0.Coords) (B : Blocks F) (y : S1x5x512x128.Idx) : ∃ pc ∈ pieces21 i B, y ∈ pc.1.set :=
  View.cover_of_tiledBy (pieces21 i B) ![1, 1, 512, 128] (by sl_kernel_rfl) y

/-- The pieces stored into output 22 cover its block. -/
theorem cover22 (i : grid0.Coords) (B : Blocks F) (y : S1x640x128.Idx) : ∃ pc ∈ pieces22 i B, y ∈ pc.1.set :=
  View.cover_of_tiledBy (pieces22 i B) ![1, 128, 128] (by sl_kernel_rfl) y

/-- The pieces stored into output 23 cover its block. -/
theorem cover23 (i : grid0.Coords) (B : Blocks F) (y : S1x5x16x128.Idx) : ∃ pc ∈ pieces23 i B, y ∈ pc.1.set :=
  View.cover_of_tiledBy (pieces23 i B) ![1, 1, 16, 128] (by sl_kernel_rfl) y

/-- The proof data of the pipeline: the arrays as the region finds them; after the body at a point each input's buffer
    at its block, and each output's at what the pieces leave. -/
def dats (_ : Fin 1) (c : Dev nD) : Dat τ (Elt F) Unit ℕ (UR sig nD τ) ℕ cfg0 c where
  A w := V m c (Pipeline.arrRef spec0 w)
  after w t := match w with
    | ⟨0, _⟩ => tileBlk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => View.canon (pieces14 (grid0.coords t) (blks m c t))
    | ⟨15, _⟩ => View.canon (pieces15 (grid0.coords t) (blks m c t))
    | ⟨16, _⟩ => View.canon (pieces16 (grid0.coords t) (blks m c t))
    | ⟨17, _⟩ => View.canon (pieces17 (grid0.coords t) (blks m c t))
    | ⟨18, _⟩ => View.canon (pieces18 (grid0.coords t) (blks m c t))
    | ⟨19, _⟩ => View.canon (pieces19 (grid0.coords t) (blks m c t))
    | ⟨20, _⟩ => View.canon (pieces20 (grid0.coords t) (blks m c t))
    | ⟨21, _⟩ => View.canon (pieces21 (grid0.coords t) (blks m c t))
    | ⟨22, _⟩ => View.canon (pieces22 (grid0.coords t) (blks m c t))
    | ⟨23, _⟩ => View.canon (pieces23 (grid0.coords t) (blks m c t))
    | ⟨_ + 24, h⟩ => absurd h (Nat.not_lt.2 (Nat.le_add_left _ _))
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves in each window's buffer, and what it finds in the inputs'. -/

theorem after_0 (c : Dev nD) (t : Fin cfg0.N) : (dats m 0 c).after 0 t = tileBlk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = View.canon (pieces14 (grid0.coords t) (blks m c t)) := by dsimp only [dats]
theorem after_15 (c : Dev nD) (t : Fin cfg0.N) : (dats m 0 c).after 15 t = View.canon (pieces15 (grid0.coords t) (blks m c t)) := by dsimp only [dats]
theorem after_16 (c : Dev nD) (t : Fin cfg0.N) : (dats m 0 c).after 16 t = View.canon (pieces16 (grid0.coords t) (blks m c t)) := by dsimp only [dats]
theorem after_17 (c : Dev nD) (t : Fin cfg0.N) : (dats m 0 c).after 17 t = View.canon (pieces17 (grid0.coords t) (blks m c t)) := by dsimp only [dats]
theorem after_18 (c : Dev nD) (t : Fin cfg0.N) : (dats m 0 c).after 18 t = View.canon (pieces18 (grid0.coords t) (blks m c t)) := by dsimp only [dats]
theorem after_19 (c : Dev nD) (t : Fin cfg0.N) : (dats m 0 c).after 19 t = View.canon (pieces19 (grid0.coords t) (blks m c t)) := by dsimp only [dats]
theorem after_20 (c : Dev nD) (t : Fin cfg0.N) : (dats m 0 c).after 20 t = View.canon (pieces20 (grid0.coords t) (blks m c t)) := by dsimp only [dats]
theorem after_21 (c : Dev nD) (t : Fin cfg0.N) : (dats m 0 c).after 21 t = View.canon (pieces21 (grid0.coords t) (blks m c t)) := by dsimp only [dats]
theorem after_22 (c : Dev nD) (t : Fin cfg0.N) : (dats m 0 c).after 22 t = View.canon (pieces22 (grid0.coords t) (blks m c t)) := by dsimp only [dats]
theorem after_23 (c : Dev nD) (t : Fin cfg0.N) : (dats m 0 c).after 23 t = View.canon (pieces23 (grid0.coords t) (blks m c t)) := by dsimp only [dats]

theorem before_0 (c : Dev nD) (t : Fin cfg0.N) (d) : (dats m 0 c).before 0 t d = win0_0.fill (grid0.coords t) d (iblk m c 0 t) := by
  unfold Dat.before; rw [if_pos (fetch0_0 t)]; unfold Dat.fetched Dat.blockOf iblk; rw [A_eq m c 0]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-! The body obligation, at a generic point. -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d)))

/-- What it returns: of the token tile only the rows inside the array are stated. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare (win0_0.fill (grid0.coords t) d (win0_0.cut (grid0.coords t) ((dats m 0 c).after 0 t))))
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t))

/-- The blocks with the token tile's buffer filled out with anything: the token tile read from them is the same. -/
theorem tile_any (c : Dev nD) (t : Fin cfg0.N) (d : Vec F S1x640x1024 .f32) :
    v17 (grid0.coords t) { blks m c t with x0 := win0_0.fill (grid0.coords t) d (iblk m c 0 t) } = v17 (grid0.coords t) (blks m c t) :=
  tile_filled t d (fun _ => Scalar.ofBits .f32 0#32) (iblk m c 0 t) _ _ _ _

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  rw [before_0 m c t d0]
  have h14 := pieces14_tile (grid0.coords t) (blks m c t) _ (tile_any m c t d0)
  have h15 := pieces15_tile (grid0.coords t) (blks m c t) _ (tile_any m c t d0)
  have h16 := pieces16_tile (grid0.coords t) (blks m c t) _ (tile_any m c t d0)
  have h17 := pieces17_tile (grid0.coords t) (blks m c t) _ (tile_any m c t d0)
  have h18 := pieces18_tile (grid0.coords t) (blks m c t) _ (tile_any m c t d0)
  have h19 := pieces19_tile (grid0.coords t) (blks m c t) _ (tile_any m c t d0)
  have h20 := pieces20_tile (grid0.coords t) (blks m c t) _ (tile_any m c t d0)
  have h21 := pieces21_tile (grid0.coords t) (blks m c t) _ (tile_any m c t d0)
  have h22 := pieces22_tile (grid0.coords t) (blks m c t) _ (tile_any m c t d0)
  have h23 := pieces23_tile (grid0.coords t) (blks m c t) _ (tile_any m c t d0)
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) { blks m c t with x0 := win0_0.fill (grid0.coords t) d0 (iblk m c 0 t) } Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩⟩
  rw [h14, h15, h16, h17, h18, h19, h20, h21, h22, h23]
  isplitl [HΦ]; · iexact HΦ
  isplitl [Ho]; · iexact Ho
  isplitl [H0]
  · iexists d0
    unfold tileBlk
    rw [win0_0.cut_fill]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr; swap; · iexact H14
    ipureintro
    exact View.read_writes_eq_canon _ _ _ (cover14 (grid0.coords t) (blks m c t))
  isplitl [H15]
  · unfold owns; iexists _; isplitr; swap; · iexact H15
    ipureintro
    exact View.read_writes_eq_canon _ _ _ (cover15 (grid0.coords t) (blks m c t))
  isplitl [H16]
  · unfold owns; iexists _; isplitr; swap; · iexact H16
    ipureintro
    exact View.read_writes_eq_canon _ _ _ (cover16 (grid0.coords t) (blks m c t))
  isplitl [H17]
  · unfold owns; iexists _; isplitr; swap; · iexact H17
    ipureintro
    exact View.read_writes_eq_canon _ _ _ (cover17 (grid0.coords t) (blks m c t))
  isplitl [H18]
  · unfold owns; iexists _; isplitr; swap; · iexact H18
    ipureintro
    exact View.read_writes_eq_canon _ _ _ (cover18 (grid0.coords t) (blks m c t))
  isplitl [H19]
  · unfold owns; iexists _; isplitr; swap; · iexact H19
    ipureintro
    exact View.read_writes_eq_canon _ _ _ (cover19 (grid0.coords t) (blks m c t))
  isplitl [H20]
  · unfold owns; iexists _; isplitr; swap; · iexact H20
    ipureintro
    exact View.read_writes_eq_canon _ _ _ (cover20 (grid0.coords t) (blks m c t))
  isplitl [H21]
  · unfold owns; iexists _; isplitr; swap; · iexact H21
    ipureintro
    exact View.read_writes_eq_canon _ _ _ (cover21 (grid0.coords t) (blks m c t))
  isplitl [H22]
  · unfold owns; iexists _; isplitr; swap; · iexact H22
    ipureintro
    exact View.read_writes_eq_canon _ _ _ (cover22 (grid0.coords t) (blks m c t))
  · unfold owns; iexists _; isplitr; swap; · iexact H23
    ipureintro
    exact View.read_writes_eq_canon _ _ _ (cover23 (grid0.coords t) (blks m c t))

/-- The body called at a point is the printed body at the point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The library's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unification, which takes unfolding plain definitions in a
-- metavariable's type
set_option backward.isDefEq.respectTransparency.types false in
/-- The run: every window's array ends at what the proof data gives it, every other buffer as the region found it, and
    every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

/-- The frame: the arguments end unchanged and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Proj

end
-- ==== Proof.ProjClaims.lean ====
/-
  The claims about `proj`'s runs.
-/
module

public import proofs.«01_k».proof.Defs
public import proofs.«01_k».proof.Proof.ProjFrame
public import proofs.«01_k».proof.Proof.Gen.Kernel3
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem

namespace Cert.Proof.Proj

/-- What is claimed of `proj`'s run, stated of the call whose text is the same. -/
def FrameBits : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

/-- The two calls are one text, so the two statements are one. -/
theorem frame_eq : Cert.quiescent_Kernel3 (hKernel3 := Cert.Kernel3.Gen.facts) = FrameBits := by sl_kernel_rfl

/-- `proj` runs, leaves its arguments as they were and ends with every counter at zero. -/
theorem frame_kernel : Cert.quiescent_Kernel3 (hKernel3 := Cert.Kernel3.Gen.facts) := by
  rw [frame_eq]
  exact fun m ρ _ => Cert.Kernel3Ideal.Proj.frame_main (F := Bits) m ρ

/-- The same of the call read over the extended reals. -/
theorem frame_ideal : Cert.quiescent_Kernel3Ideal (hKernel3Ideal := Cert.Kernel3Ideal.Gen.facts) := fun m ρ _ =>
  Cert.Kernel3Ideal.Proj.frame_main m ρ

/-- The reference runs, leaves its arguments as they were and ends with every counter at zero. -/
theorem frame_reference : Cert.quiescent_Reference3Ideal (hReference3Ideal := Cert.Reference3Ideal.Gen.facts) := fun m ρ _ =>
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m ρ)

end Cert.Proof.Proj

end
-- ==== Proof.ProjSpec.lean ====
/-
  What the mixer's input projection computes, as functions of its arguments over the extended reals: the rows, the
  normalised rows, and their products with the weights. The kernel and the reference are each read against these.
-/
module

public import proofs.«01_k».proof.Proof.MixSpec

@[expose] public section

noncomputable section

open Idealize.ShloMosaic

namespace Cert.Proj

/-- The arguments that the projections read, entry by entry. -/
structure Args where
  x : Fin 4 → Fin 8192 → Fin 1024 → EReal
  head : Fin 16 → Fin 1024 → EReal
  g : Fin 1024 → EReal
  w : Fin 1024 → Fin 4112 → EReal

/-- A row: the sequence, then 112 rows of zeros, then the meta tokens. -/
def Args.tok (A : Args) (b : Fin 4) (R : Fin 8320) (k : Fin 1024) : EReal :=
  if h : R.val < 8192 then A.x b ⟨R.val, h⟩ k
  else if h' : R.val - 8192 < 112 then 0
  else A.head ⟨R.val - 8192 - 112, by omega⟩ k

/-- A row, normalised. -/
def Args.u (A : Args) (b : Fin 4) (R : Fin 8320) (k : Fin 1024) : EReal := Cert.Mix.rms (A.tok b R) A.g k

/-- A row's product with a column of the weights. -/
def Args.proj (A : Args) (b : Fin 4) (R : Fin 8320) (n : Fin 4112) : EReal := ∑ k, A.w k n * A.u b R k

/-- Eight groups of 512 columns: the group `o`, chunk by chunk, a chunk's 128 tokens along the last axis. -/
def Args.chunks (A : Args) (o : Fin 8) (b : Fin 4) (s : Fin 65) (n : Fin 512) (l : Fin 128) : EReal :=
  A.proj b ⟨s.val * 128 + l.val, by omega⟩ ⟨o.val * 512 + n.val, by omega⟩

/-- The column half a head away. -/
def swap (n : Fin 512) : Fin 512 := ⟨n.val / 128 * 128 + (n.val % 128 + 64) % 128, by omega⟩

/-- The table of cosines, doubled. -/
def twice (c : Fin 64 → EReal) (j : Fin 128) : EReal := if h : j.val < 64 then c ⟨j.val, h⟩ else c ⟨j.val - 64, by omega⟩

/-- The table of sines, doubled, the first half negated. -/
def signed (s : Fin 64 → EReal) (j : Fin 128) : EReal := if h : j.val < 64 then -(s ⟨j.val, h⟩) else s ⟨j.val - 64, by omega⟩

/-- A row's columns, each head's pairs turned by the tables' angles. -/
def turn (z : Fin 512 → EReal) (c s : Fin 128 → EReal) (n : Fin 512) : EReal :=
  z n * c ⟨n.val % 128, by omega⟩ + z (swap n) * s ⟨n.val % 128, by omega⟩

/-- A turned column, of its positions. -/
theorem turn_of (z : Fin 512 → EReal) (c s : Fin 128 → EReal) (n a a' : Fin 512) (b : Fin 128) (ha : a.val = n.val) (hb : b.val = n.val % 128)
    (ha' : a'.val = n.val / 128 * 128 + (n.val % 128 + 64) % 128) : z a * c b + z a' * s b = turn z c s n := by
  have e1 : a = n := Fin.ext ha
  have e2 : a' = swap n := Fin.ext ha'
  have e3 : b = ⟨n.val % 128, by omega⟩ := Fin.ext hb
  rw [e1, e2, e3]; rfl

/-- Four heads' columns, each with the half a head away, are turned columns. -/
theorem heads (z : Fin 512 → EReal) (c s : Fin 128 → EReal) (k : EReal) (n : Fin 512) :
    (if h0 : n.val < 128 then ((z n * c ⟨n.val, by omega⟩ + (if h : n.val < 64 then z ⟨64 + n.val, by omega⟩ else z ⟨n.val - 64, by omega⟩) * s ⟨n.val, by omega⟩) * k)
      else if h1 : n.val - 128 < 128 then ((z ⟨128 + (n.val - 128), by omega⟩ * c ⟨n.val - 128, by omega⟩ + (if h : n.val - 128 < 64 then z ⟨128 + (64 + (n.val - 128)), by omega⟩ else z ⟨128 + (n.val - 128 - 64), by omega⟩) * s ⟨n.val - 128, by omega⟩) * k)
      else if h2 : n.val - 128 - 128 < 128 then ((z ⟨256 + (n.val - 128 - 128), by omega⟩ * c ⟨n.val - 128 - 128, by omega⟩ + (if h : n.val - 128 - 128 < 64 then z ⟨256 + (64 + (n.val - 128 - 128)), by omega⟩ else z ⟨256 + (n.val - 128 - 128 - 64), by omega⟩) * s ⟨n.val - 128 - 128, by omega⟩) * k)
      else ((z ⟨384 + (n.val - 128 - 128 - 128), by omega⟩ * c ⟨n.val - 128 - 128 - 128, by omega⟩ + (if h : n.val - 128 - 128 - 128 < 64 then z ⟨384 + (64 + (n.val - 128 - 128 - 128)), by omega⟩ else z ⟨384 + (n.val - 128 - 128 - 128 - 64), by omega⟩) * s ⟨n.val - 128 - 128 - 128, by omega⟩) * k)) = turn z c s n * k := by
  have hn := n.isLt
  split_ifs
  all_goals
    refine congrArg (fun z : EReal => z * k) ?_
    refine turn_of z c s n _ _ _ ?_ ?_ ?_ <;> dsimp only <;> omega

/-- The factor of the retention's queries. -/
def scale : EReal := Ideal.ofBits .f32 0x3DB504F3#32

/-- The retention's queries of a row. -/
def Args.rq (A : Args) (c s : Fin 8320 → Fin 64 → EReal) (b : Fin 4) (R : Fin 8320) (n : Fin 512) : EReal :=
  turn (fun n => A.proj b R ⟨n.val, by omega⟩) (twice (c R)) (signed (s R)) n * scale

/-- The retention's keys of a row. -/
def Args.rk (A : Args) (c s : Fin 8320 → Fin 64 → EReal) (b : Fin 4) (R : Fin 8320) (n : Fin 512) : EReal :=
  turn (fun n => A.proj b R ⟨512 + n.val, by omega⟩) (twice (c R)) (signed (s R)) n

end Cert.Proj

end
-- ==== Proof.ProjVec.lean ====
/-
  The loaded and computed vectors of `proj` entry by entry: the extended tile's rows normalised, and their products with the
  weights, chunk by chunk.
-/
module

public import proofs.«01_k».proof.Proof.ProjBlocks
public import proofs.«01_k».proof.Proof.ProjSpec
public import Idealize.ShloMosaic.Lib.Pipeline.ValueKit

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

/-- Normalised rows of the first three chunks, with 16 rows before and after. -/
def rmsA (h : FVec Ideal S416x1024 .f32) (g : Vec Ideal S1x1024 .f32) : FVec Ideal S384x1024 .bf16 :=
  extractStridedSlice S384x1024 ![16, 0] (truncf .bf16 (mulf (mulf h (broadcastTo S416x1024 (rsqrt (addf (divf (shapeCast S416x1 (multiReduction .add [1] S416 (mulf h h) 0x00000000#32
    reduces_S416x1024_S416 (.inl rfl) rfl) shapeCasts_S416_S416x1) (broadcast S416x1 (Scalar.ofBits .f32 0x44800000#32 : Ideal .f32)))
    (broadcast S416x1 (Scalar.ofBits .f32 0x358637BD#32 : Ideal .f32)))) broadcasts_S416x1_S416x1024))
    (broadcastTo S416x1024 g broadcasts_S1x1024_S416x1024)) bitsLt_bf16_f32 : FVec Ideal S416x1024 .bf16) slices_S416x1024_o16_0_S384x1024

/-- Normalised rows of the last two chunks, with 16 rows before and after. -/
def rmsB (h : FVec Ideal S288x1024 .f32) (g : Vec Ideal S1x1024 .f32) : FVec Ideal S256x1024 .bf16 :=
  extractStridedSlice S256x1024 ![16, 0] (truncf .bf16 (mulf (mulf h (broadcastTo S288x1024 (rsqrt (addf (divf (shapeCast S288x1 (multiReduction .add [1] S288 (mulf h h) 0x00000000#32
    reduces_S288x1024_S288 (.inl rfl) rfl) shapeCasts_S288_S288x1) (broadcast S288x1 (Scalar.ofBits .f32 0x44800000#32 : Ideal .f32)))
    (broadcast S288x1 (Scalar.ofBits .f32 0x358637BD#32 : Ideal .f32)))) broadcasts_S288x1_S288x1024))
    (broadcastTo S288x1024 g broadcasts_S1x1024_S288x1024)) bitsLt_bf16_f32 : FVec Ideal S288x1024 .bf16) slices_S288x1024_o16_0_S256x1024

/-- A normalised row of the first three chunks. -/
theorem rmsA_at (h : FVec Ideal S416x1024 .f32) (g : Vec Ideal S1x1024 .f32) (r : Fin 384) (k : Fin 1024) :
    rmsA h g (ix2 r k) = Cert.Mix.rms (fun x => h (ix2 ⟨16 + r.val, by omega⟩ x)) (fun x => g (ix2 0 x)) k := by
  pointwise [rmsA]
  rfl

/-- A normalised row of the last two chunks. -/
theorem rmsB_at (h : FVec Ideal S288x1024 .f32) (g : Vec Ideal S1x1024 .f32) (r : Fin 256) (k : Fin 1024) :
    rmsB h g (ix2 r k) = Cert.Mix.rms (fun x => h (ix2 ⟨16 + r.val, by omega⟩ x)) (fun x => g (ix2 0 x)) k := by
  pointwise [rmsB]
  rfl

/-- The first group's normalised rows are those of the extended tile. -/
theorem v42_eq (i : grid0.Coords) (B : Blocks Ideal) :
    v42 i B = rmsA (extractStridedSlice S416x1024 ![0, 0] (v17 i B) slices_S672x1024_o0_0_S416x1024) (v28 i B) := rfl

/-- The second group's normalised rows are those of the extended tile. -/
theorem v335_eq (i : grid0.Coords) (B : Blocks Ideal) :
    v335 i B = rmsB (extractStridedSlice S288x1024 ![384, 0] (v17 i B) slices_S672x1024_o384_0_S288x1024) (v321 i B) := rfl

/-- A cut of the extended tile for the first group. -/
theorem cutA_at (h : FVec Ideal S672x1024 .f32) (r : Fin 416) (k : Fin 1024) :
    extractStridedSlice S416x1024 ![0, 0] h slices_S672x1024_o0_0_S416x1024 (ix2 r k) = h (ix2 ⟨r.val, by omega⟩ k) := by
  pointwise

/-- A cut of the extended tile for the second group. -/
theorem cutB_at (h : FVec Ideal S672x1024 .f32) (r : Fin 288) (k : Fin 1024) :
    extractStridedSlice S288x1024 ![384, 0] h slices_S672x1024_o384_0_S288x1024 (ix2 r k) = h (ix2 ⟨384 + r.val, by omega⟩ k) := by
  pointwise

/-- The load `v28` at coordinates. -/
theorem v28_at (i : grid0.Coords) (B : Blocks Ideal) (k : Fin 1024) : v28 i B (ix2 0 k) = B.x4 (ix2 0 k) := by
  pointwise [v28]

/-- The load `v321` at coordinates. -/
theorem v321_at (i : grid0.Coords) (B : Blocks Ideal) (k : Fin 1024) : v321 i B (ix2 0 k) = B.x4 (ix2 0 k) := by
  pointwise [v321]

/-- The load `v103` at coordinates. -/
theorem v103_at (i : grid0.Coords) (B : Blocks Ideal) (n : Fin 512) (k : Fin 1024) : v103 i B (ix2 n k) = B.x6 (ix2 ⟨512 + n.val, by omega⟩ k) := by
  pointwise [v103]

/-- The load `v121` at coordinates. -/
theorem v121_at (i : grid0.Coords) (B : Blocks Ideal) (n : Fin 512) (k : Fin 1024) : v121 i B (ix2 n k) = B.x6 (ix2 ⟨1024 + n.val, by omega⟩ k) := by
  pointwise [v121]

/-- The load `v136` at coordinates. -/
theorem v136_at (i : grid0.Coords) (B : Blocks Ideal) (n : Fin 512) (k : Fin 1024) : v136 i B (ix2 n k) = B.x6 (ix2 ⟨1536 + n.val, by omega⟩ k) := by
  pointwise [v136]

/-- The load `v154` at coordinates. -/
theorem v154_at (i : grid0.Coords) (B : Blocks Ideal) (n : Fin 512) (k : Fin 1024) : v154 i B (ix2 n k) = B.x6 (ix2 ⟨2048 + n.val, by omega⟩ k) := by
  pointwise [v154]

/-- The load `v391` at coordinates. -/
theorem v391_at (i : grid0.Coords) (B : Blocks Ideal) (n : Fin 512) (k : Fin 1024) : v391 i B (ix2 n k) = B.x6 (ix2 ⟨512 + n.val, by omega⟩ k) := by
  pointwise [v391]

/-- The load `v404` at coordinates. -/
theorem v404_at (i : grid0.Coords) (B : Blocks Ideal) (n : Fin 512) (k : Fin 1024) : v404 i B (ix2 n k) = B.x6 (ix2 ⟨1024 + n.val, by omega⟩ k) := by
  pointwise [v404]

/-- The load `v415` at coordinates. -/
theorem v415_at (i : grid0.Coords) (B : Blocks Ideal) (n : Fin 512) (k : Fin 1024) : v415 i B (ix2 n k) = B.x6 (ix2 ⟨1536 + n.val, by omega⟩ k) := by
  pointwise [v415]

/-- The load `v428` at coordinates. -/
theorem v428_at (i : grid0.Coords) (B : Blocks Ideal) (n : Fin 512) (k : Fin 1024) : v428 i B (ix2 n k) = B.x6 (ix2 ⟨2048 + n.val, by omega⟩ k) := by
  pointwise [v428]

/-- Output 16, chunk 0: the products with a row of the weights. -/
theorem out16_0 (u : FVec Ideal S384x1024 .bf16) (w : Vec Ideal S512x1024 .bf16) (n : Fin 512) (l : Fin 128) :
    k0_pay22 u w (ix4 0 0 n l) = ∑ k, w (ix2 n k) * u (ix2 ⟨0 + l.val, by omega⟩ k) := by
  pointwise [k0_pay22, k0_pay21]

/-- Output 16, chunk 1: the products with a row of the weights. -/
theorem out16_1 (u : FVec Ideal S384x1024 .bf16) (w : Vec Ideal S512x1024 .bf16) (n : Fin 512) (l : Fin 128) :
    k0_pay23 u w (ix4 0 0 n l) = ∑ k, w (ix2 n k) * u (ix2 ⟨128 + l.val, by omega⟩ k) := by
  pointwise [k0_pay23, k0_pay21]

/-- Output 16, chunk 2: the products with a row of the weights. -/
theorem out16_2 (u : FVec Ideal S384x1024 .bf16) (w : Vec Ideal S512x1024 .bf16) (n : Fin 512) (l : Fin 128) :
    k0_pay24 (k0_pay21 u w) (ix4 0 0 n l) = ∑ k, w (ix2 n k) * u (ix2 ⟨256 + l.val, by omega⟩ k) := by
  pointwise [k0_pay24, k0_pay21]

/-- Output 16, chunk 3: the products with a row of the weights. -/
theorem out16_3 (u : FVec Ideal S256x1024 .bf16) (w : Vec Ideal S512x1024 .bf16) (n : Fin 512) (l : Fin 128) :
    k0_pay78 u w (ix4 0 0 n l) = ∑ k, w (ix2 n k) * u (ix2 ⟨0 + l.val, by omega⟩ k) := by
  pointwise [k0_pay78, k0_pay77]

/-- Output 16, chunk 4: the products with a row of the weights. -/
theorem out16_4 (u : FVec Ideal S256x1024 .bf16) (w : Vec Ideal S512x1024 .bf16) (n : Fin 512) (l : Fin 128) :
    k0_pay79 u w (ix4 0 0 n l) = ∑ k, w (ix2 n k) * u (ix2 ⟨128 + l.val, by omega⟩ k) := by
  pointwise [k0_pay79, k0_pay77]

/-- Output 17, chunk 0: the products with a row of the weights. -/
theorem out17_0 (u : FVec Ideal S384x1024 .bf16) (w : Vec Ideal S512x1024 .bf16) (n : Fin 512) (l : Fin 128) :
    k0_pay26 u w (ix4 0 0 n l) = ∑ k, w (ix2 n k) * u (ix2 ⟨0 + l.val, by omega⟩ k) := by
  pointwise [k0_pay26, k0_pay25]

/-- Output 17, chunk 1: the products with a row of the weights. -/
theorem out17_1 (u : FVec Ideal S384x1024 .bf16) (w : Vec Ideal S512x1024 .bf16) (n : Fin 512) (l : Fin 128) :
    k0_pay27 u w (ix4 0 0 n l) = ∑ k, w (ix2 n k) * u (ix2 ⟨128 + l.val, by omega⟩ k) := by
  pointwise [k0_pay27, k0_pay25]

/-- Output 17, chunk 2: the products with a row of the weights. -/
theorem out17_2 (u : FVec Ideal S384x1024 .bf16) (w : Vec Ideal S512x1024 .bf16) (n : Fin 512) (l : Fin 128) :
    k0_pay28 u w (ix4 0 0 n l) = ∑ k, w (ix2 n k) * u (ix2 ⟨256 + l.val, by omega⟩ k) := by
  pointwise [k0_pay28, k0_pay25]

/-- Output 17, chunk 3: the products with a row of the weights. -/
theorem out17_3 (u : FVec Ideal S256x1024 .bf16) (w : Vec Ideal S512x1024 .bf16) (n : Fin 512) (l : Fin 128) :
    k0_pay81 (k0_pay80 u w) (ix4 0 0 n l) = ∑ k, w (ix2 n k) * u (ix2 ⟨0 + l.val, by omega⟩ k) := by
  pointwise [k0_pay81, k0_pay80]

/-- Output 17, chunk 4: the products with a row of the weights. -/
theorem out17_4 (u : FVec Ideal S256x1024 .bf16) (w : Vec Ideal S512x1024 .bf16) (n : Fin 512) (l : Fin 128) :
    k0_pay82 (k0_pay80 u w) (ix4 0 0 n l) = ∑ k, w (ix2 n k) * u (ix2 ⟨128 + l.val, by omega⟩ k) := by
  pointwise [k0_pay82, k0_pay80]

/-- Output 20, chunk 0: the products with a row of the weights. -/
theorem out20_0 (u : FVec Ideal S384x1024 .bf16) (w : Vec Ideal S512x1024 .bf16) (n : Fin 512) (l : Fin 128) :
    k0_pay30 u w (ix4 0 0 n l) = ∑ k, w (ix2 n k) * u (ix2 ⟨0 + l.val, by omega⟩ k) := by
  pointwise [k0_pay30, k0_pay29]

/-- Output 20, chunk 1: the products with a row of the weights. -/
theorem out20_1 (u : FVec Ideal S384x1024 .bf16) (w : Vec Ideal S512x1024 .bf16) (n : Fin 512) (l : Fin 128) :
    k0_pay32 (k0_pay31 u w) (ix4 0 0 n l) = ∑ k, w (ix2 n k) * u (ix2 ⟨128 + l.val, by omega⟩ k) := by
  pointwise [k0_pay32, k0_pay31, k0_pay29]

/-- Output 20, chunk 2: the products with a row of the weights. -/
theorem out20_2 (u : FVec Ideal S384x1024 .bf16) (w : Vec Ideal S512x1024 .bf16) (n : Fin 512) (l : Fin 128) :
    k0_pay33 (k0_pay29 u w) (ix4 0 0 n l) = ∑ k, w (ix2 n k) * u (ix2 ⟨256 + l.val, by omega⟩ k) := by
  pointwise [k0_pay33, k0_pay29]

/-- Output 20, chunk 3: the products with a row of the weights. -/
theorem out20_3 (u : FVec Ideal S256x1024 .bf16) (w : Vec Ideal S512x1024 .bf16) (n : Fin 512) (l : Fin 128) :
    k0_pay84 u w (ix4 0 0 n l) = ∑ k, w (ix2 n k) * u (ix2 ⟨0 + l.val, by omega⟩ k) := by
  pointwise [k0_pay84, k0_pay83]

/-- Output 20, chunk 4: the products with a row of the weights. -/
theorem out20_4 (u : FVec Ideal S256x1024 .bf16) (w : Vec Ideal S512x1024 .bf16) (n : Fin 512) (l : Fin 128) :
    k0_pay85 u w (ix4 0 0 n l) = ∑ k, w (ix2 n k) * u (ix2 ⟨128 + l.val, by omega⟩ k) := by
  pointwise [k0_pay85, k0_pay83]

/-- Output 21, chunk 0: the products with a row of the weights. -/
theorem out21_0 (u : FVec Ideal S384x1024 .bf16) (w : Vec Ideal S512x1024 .bf16) (n : Fin 512) (l : Fin 128) :
    k0_pay35 u w (ix4 0 0 n l) = ∑ k, w (ix2 n k) * u (ix2 ⟨0 + l.val, by omega⟩ k) := by
  pointwise [k0_pay35, k0_pay34]

/-- Output 21, chunk 1: the products with a row of the weights. -/
theorem out21_1 (u : FVec Ideal S384x1024 .bf16) (w : Vec Ideal S512x1024 .bf16) (n : Fin 512) (l : Fin 128) :
    k0_pay36 u w (ix4 0 0 n l) = ∑ k, w (ix2 n k) * u (ix2 ⟨128 + l.val, by omega⟩ k) := by
  pointwise [k0_pay36, k0_pay34]

/-- Output 21, chunk 2: the products with a row of the weights. -/
theorem out21_2 (u : FVec Ideal S384x1024 .bf16) (w : Vec Ideal S512x1024 .bf16) (n : Fin 512) (l : Fin 128) :
    k0_pay37 u w (ix4 0 0 n l) = ∑ k, w (ix2 n k) * u (ix2 ⟨256 + l.val, by omega⟩ k) := by
  pointwise [k0_pay37, k0_pay34]

/-- Output 21, chunk 3: the products with a row of the weights. -/
theorem out21_3 (u : FVec Ideal S256x1024 .bf16) (w : Vec Ideal S512x1024 .bf16) (n : Fin 512) (l : Fin 128) :
    k0_pay87 u w (ix4 0 0 n l) = ∑ k, w (ix2 n k) * u (ix2 ⟨0 + l.val, by omega⟩ k) := by
  pointwise [k0_pay87, k0_pay86]

/-- Output 21, chunk 4: the products with a row of the weights. -/
theorem out21_4 (u : FVec Ideal S256x1024 .bf16) (w : Vec Ideal S512x1024 .bf16) (n : Fin 512) (l : Fin 128) :
    k0_pay89 (k0_pay88 u w) (ix4 0 0 n l) = ∑ k, w (ix2 n k) * u (ix2 ⟨128 + l.val, by omega⟩ k) := by
  pointwise [k0_pay89, k0_pay88, k0_pay86]

end Cert.Kernel3Ideal.Proj

end
-- ==== Proof.ProjIn.lean ====
/-
  What each input window of `proj` that the projections read holds at a grid point, entry by entry, of the arguments.
-/
module

public import proofs.«01_k».proof.Proof.ProjFrame
public import proofs.«01_k».proof.Proof.ProjVec

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The argument arrays that the projections read. -/
abbrev A0 : FVec Ideal S4x8192x1024 .f32 := m ((c : Thread nD τ).loc main_arg0)
abbrev A1 : FVec Ideal S16x1024 .f32 := m ((c : Thread nD τ).loc main_arg1)
abbrev A2 : FVec Ideal S1x1024 .f32 := m ((c : Thread nD τ).loc main_arg2)
abbrev A3 : FVec Ideal S1x1024x4112 .f32 := m ((c : Thread nD τ).loc main_arg3)

/-- The arguments, entry by entry. -/
def args : Cert.Proj.Args where
  x b n k := A0 m c (ix3 b n k)
  head n k := A1 m c (ix2 n k)
  g k := A2 m c (ix2 0 k)
  w k n := A3 m c (ix3 0 k n)

/-- Where the windows' blocks lie at a point: batch entry `t / 13`, tile `t % 13`. -/
theorem idx : ∀ t : Fin cfg0.N, win0_0.index t = ![t.val / 13, t.val % 13, 0] ∧ win0_3.index t = ![0, 0]
    ∧ win0_4.index t = ![0, 0] ∧ win0_6.index t = ![0, 0]
    ∧ win0_16.index t = ![t.val / 13, t.val % 13, 0, 0] ∧ win0_17.index t = ![t.val / 13, t.val % 13, 0, 0]
    ∧ win0_20.index t = ![t.val / 13, t.val % 13, 0, 0] ∧ win0_21.index t = ![t.val / 13, t.val % 13, 0, 0]
    ∧ (grid0.coords t 1).val = t.val % 13 :=
  (by decide +kernel : ∀ t : Fin grid0.N, _)

/-- The front rows: 112 of zeros, then the meta tokens. -/
theorem b3_at (t : Fin cfg0.N) (r : Fin 128) (k : Fin 1024) :
    (iblk m c 3 t : Vec Ideal S128x1024 .f32) (ix2 r k) = if h : r.val < 112 then 0 else (args m c).head ⟨r.val - 112, by omega⟩ k := by
  have he : ((View.whole main_v1).slice (win0_3.rect t)).emb (ix2 r k) = ix2 r k := by blk_ext [idx t]
  blk_simp [iblk]; entry_read; pointwise
  simp only [he]
  rfl

/-- The norm's gain at coordinates. -/
theorem b4_at (t : Fin cfg0.N) (k : Fin 1024) :
    (iblk m c 4 t : Vec Ideal S1x1024 .f32) (ix2 0 k) = (args m c).g k := by
  blk_ext [iblk, V, idx t]

/-- The weights as the call is given them: five groups of 512 columns, transposed. -/
def weightRows (w : FVec Ideal S1x1024x4112 .f32) : FVec Ideal S2560x1024 .bf16 :=
  have v2 : FVec Ideal S1024x4112 .f32 := shapeCast _ w shapeCasts_S1x1024x4112_S1024x4112
  truncf .bf16 (transpose S2560x1024 [1, 0] (concatenate S1024x2560 1 [
    ⟨S1024x512, extractStridedSlice S1024x512 ![0, 0] v2 slices_S1024x4112_S1024x512_0_0⟩,
    ⟨S1024x512, extractStridedSlice S1024x512 ![0, 1024] v2 slices_S1024x4112_S1024x512_0_1024⟩,
    ⟨S1024x512, extractStridedSlice S1024x512 ![0, 1536] v2 slices_S1024x4112_S1024x512_0_1536⟩,
    ⟨S1024x512, extractStridedSlice S1024x512 ![0, 3072] v2 slices_S1024x4112_S1024x512_0_3072⟩,
    ⟨S1024x512, extractStridedSlice S1024x512 ![0, 3584] v2 slices_S1024x4112_S1024x512_0_3584⟩]
    concatenates_S1024x512_S1024x512_S1024x512_S1024x512_S1024x512_S1024x2560_d1) transposes_S1024x2560_S2560x1024_1_0 : FVec Ideal S2560x1024 .f32) bitsLt_bf16_f32

/-- A row of the weights as the call is given them. -/
theorem weightRows_at (w : FVec Ideal S1x1024x4112 .f32) (n : Fin 2560) (k : Fin 1024) :
    weightRows w (ix2 n k) = if h : n.val < 512 then w (ix3 0 k ⟨n.val, by omega⟩)
      else if h : n.val - 512 < 512 then w (ix3 0 k ⟨1024 + (n.val - 512), by omega⟩)
      else if h : n.val - 512 - 512 < 512 then w (ix3 0 k ⟨1536 + (n.val - 512 - 512), by omega⟩)
      else if h : n.val - 512 - 512 - 512 < 512 then w (ix3 0 k ⟨3072 + (n.val - 512 - 512 - 512), by omega⟩)
      else w (ix3 0 k ⟨3584 + (n.val - 512 - 512 - 512 - 512), by omega⟩) := by
  pointwise [weightRows]

set_option maxHeartbeats 1000000 in
set_option maxRecDepth 100000 in
/-- The weights as launched. -/
theorem v17w_eq : (V m c main_v17 : FVec Ideal S2560x1024 .bf16) = weightRows (A3 m c) := by
  show StableHlo.after hostOps0 _ _ = _
  simp only [Idealize.ShloMosaic.StableHlo.after_cons, Idealize.ShloMosaic.StableHlo.after_nil]
  after_results_steps
  rfl

/-- The weights' block is the whole array. -/
theorem b6_eq (t : Fin cfg0.N) : (iblk m c 6 t : FVec Ideal S2560x1024 .bf16) = weightRows (A3 m c) := by
  rw [← v17w_eq]
  funext j
  blk_ext [iblk, idx t]

/-- A group's row of the weights' block. -/
theorem b6_at (t : Fin cfg0.N) (o : ℕ) (n : Fin 512) (k : Fin 1024) (q : Fin 4112) (ho : o + n.val < 2560)
    (h : o = 0 ∧ q.val = n.val ∨ o = 512 ∧ q.val = 1024 + n.val ∨ o = 1024 ∧ q.val = 1536 + n.val ∨ o = 1536 ∧ q.val = 3072 + n.val
      ∨ o = 2048 ∧ q.val = 3584 + n.val) :
    (iblk m c 6 t : Vec Ideal S2560x1024 .bf16) (ix2 ⟨o + n.val, ho⟩ k) = (args m c).w k q := by
  have hn := n.isLt
  rw [b6_eq, weightRows_at]
  have e : ∀ (p : ℕ) (hp : p < 4112), p = q.val → A3 m c (ix3 0 k ⟨p, hp⟩) = (args m c).w k q := fun p hp h =>
    congrArg (fun z => A3 m c (ix3 0 k z)) (Fin.ext h)
  rcases h with ⟨h1, h2⟩ | ⟨h1, h2⟩ | ⟨h1, h2⟩ | ⟨h1, h2⟩ | ⟨h1, h2⟩ <;> subst h1
  · rw [dif_pos (show 0 + n.val < 512 by omega)]; exact e _ _ (by dsimp only; omega)
  · rw [dif_neg (show ¬ 512 + n.val < 512 by omega), dif_pos (show 512 + n.val - 512 < 512 by omega)]; exact e _ _ (by dsimp only; omega)
  · rw [dif_neg (show ¬ 1024 + n.val < 512 by omega), dif_neg (show ¬ 1024 + n.val - 512 < 512 by omega),
      dif_pos (show 1024 + n.val - 512 - 512 < 512 by omega)]; exact e _ _ (by dsimp only; omega)
  · rw [dif_neg (show ¬ 1536 + n.val < 512 by omega), dif_neg (show ¬ 1536 + n.val - 512 < 512 by omega),
      dif_neg (show ¬ 1536 + n.val - 512 - 512 < 512 by omega), dif_pos (show 1536 + n.val - 512 - 512 - 512 < 512 by omega)]
    exact e _ _ (by dsimp only; omega)
  · rw [dif_neg (show ¬ 2048 + n.val < 512 by omega), dif_neg (show ¬ 2048 + n.val - 512 < 512 by omega),
      dif_neg (show ¬ 2048 + n.val - 512 - 512 < 512 by omega), dif_neg (show ¬ 2048 + n.val - 512 - 512 - 512 < 512 by omega)]
    exact e _ _ (by dsimp only; omega)

/-- What the transfer of the token window moves. -/
theorem xsize0 : ∀ t : Fin cfg0.N, win0_0.xsize (grid0.coords t) = ![1, if t.val % 13 = 12 then 512 else 640, 1024] :=
  (by decide +kernel : ∀ t : Fin grid0.N, _)

/-- A token row of the tile. -/
theorem b0_at (t : Fin cfg0.N) (r : Fin 640) (k : Fin 1024) (b : Fin 4) (n : Fin 8192) (hb : b.val = t.val / 13) (hn : n.val = t.val % 13 * 640 + r.val) :
    tileBlk m c t (ix3 0 r k) = (args m c).x b n k := by
  unfold tileBlk Pipeline.Window.fill
  have hm : win0_0.moved (grid0.coords t) (ix3 0 r k) = true := by
    refine (win0_0.moved_iff _ _).mpr fun a => ?_
    rw [xsize0 t]
    match a with
    | 0 => exact Nat.one_pos
    | 1 =>
      show r.val < if t.val % 13 = 12 then 512 else 640
      split <;> omega
    | 2 => exact k.isLt
  rw [dif_pos hm]
  blk_ext [iblk, V, idx t]

/-- The block 0 of a point. -/
theorem bx0 (t : Fin cfg0.N) : (blks m c t).x0 = tileBlk m c t := rfl
/-- The block 3 of a point. -/
theorem bx3 (t : Fin cfg0.N) : (blks m c t).x3 = (iblk m c 3 t : Vec Ideal S128x1024 .f32) := rfl
/-- The block 4 of a point. -/
theorem bx4 (t : Fin cfg0.N) : (blks m c t).x4 = (iblk m c 4 t : Vec Ideal S1x1024 .f32) := rfl
/-- The block 6 of a point. -/
theorem bx6 (t : Fin cfg0.N) : (blks m c t).x6 = (iblk m c 6 t : Vec Ideal S2560x1024 .bf16) := rfl

/-- Row `16 + r` of an extended tile: the tile's own row, the front rows in the last tile's last chunk. -/
theorem tile_at (i : grid0.Coords) (a1 : Vec Ideal S16x1024 .f32) (a3 : Vec Ideal S1x16x1024 .f32) (x : Vec Ideal S1x640x1024 .f32)
    (f : Vec Ideal S128x1024 .f32) (a15 : Vec Ideal S1x16x1024 .f32) (r : Fin 640) (k : Fin 1024) :
    k0_pay2 i a1 a3 x f a15 (ix2 ⟨16 + r.val, by omega⟩ k)
      = if h : r.val < 512 then x (ix3 0 r k) else if (i 1).val = 12 then f (ix2 ⟨r.val - 512, by omega⟩ k) else x (ix3 0 r k) := by
  have e : ∀ x y : EReal, Scalar.select (Scalar.cmpi CmpIPredicate.eq (BitVec.ofNat 32 (i 1).val) 12#32) x y = if (i 1).val = 12 then x else y := by
    have : ∀ z : Fin 13, Scalar.cmpi CmpIPredicate.eq (BitVec.ofNat 32 z.val) 12#32 = 1#1 ↔ z.val = 12 := by decide +kernel
    exact fun x y => if_congr (this (i 1)) rfl rfl
  pointwise [k0_pay2]
  split
  · rfl
  · refine (e _ _).trans ?_
    have hr : (⟨512 + (r.val - 512), by omega⟩ : Fin 640) = r := Fin.ext (by dsimp only; omega)
    rw [hr]

/-- Row `16 + r` of a point's extended tile. -/
theorem tok_at (t : Fin cfg0.N) (b : Fin 4) (R : Fin 8320) (r : Fin 640) (k : Fin 1024) (hb : b.val = t.val / 13) (hR : R.val = t.val % 13 * 640 + r.val) :
    v17 (grid0.coords t) (blks m c t) (ix2 ⟨16 + r.val, by omega⟩ k) = (args m c).tok b R k := by
  have hi : (grid0.coords t 1).val = t.val % 13 := (idx t).2.2.2.2.2.2.2.2
  have h6 : ∀ r' : Fin 640, v6 (grid0.coords t) (blks m c t) (ix3 0 r' k) = tileBlk m c t (ix3 0 r' k) := fun r' => by
    rw [← bx0]; pointwise [v6]
  have h9 : ∀ r' : Fin 128, v9 (grid0.coords t) (blks m c t) (ix2 r' k) = (iblk m c 3 t : Vec Ideal S128x1024 .f32) (ix2 r' k) := fun r' => by
    rw [← bx3]; pointwise [v9]
  unfold v17
  rw [tile_at]
  unfold Cert.Proj.Args.tok
  by_cases h1 : r.val < 512
  · rw [dif_pos h1, dif_pos (show R.val < 8192 by omega), h6]
    exact b0_at m c t r k b _ hb hR
  · rw [dif_neg h1]
    by_cases h2 : t.val % 13 = 12
    · rw [if_pos (hi.trans h2), dif_neg (show ¬ R.val < 8192 by omega), h9, b3_at]
      by_cases h3 : r.val - 512 < 112
      · rw [dif_pos h3, dif_pos (show R.val - 8192 < 112 by omega)]
      · rw [dif_neg h3, dif_neg (show ¬ R.val - 8192 < 112 by omega)]
        exact congrArg (fun z => (args m c).head z k) (Fin.ext (by dsimp only; omega))
    · rw [if_neg (fun h => h2 (hi.symm.trans h)), dif_pos (show R.val < 8192 by omega), h6]
      exact b0_at m c t r k b _ hb hR

/-- A normalised row of the first group. -/
theorem uA_at (t : Fin cfg0.N) (b : Fin 4) (R : Fin 8320) (r : Fin 384) (k : Fin 1024) (hb : b.val = t.val / 13) (hR : R.val = t.val % 13 * 640 + r.val) :
    v42 (grid0.coords t) (blks m c t) (ix2 r k) = (args m c).u b R k := by
  rw [v42_eq]
  refine (rmsA_at _ _ r k).trans ?_
  unfold Cert.Proj.Args.u
  refine congrArg₂ (fun p q => Cert.Mix.rms p q k) (funext fun x => ?_) (funext fun x => ?_)
  · rw [cutA_at]
    exact tok_at m c t b R ⟨r.val, by omega⟩ x hb hR
  · rw [v28_at, bx4, b4_at]

/-- A normalised row of the second group. -/
theorem uB_at (t : Fin cfg0.N) (b : Fin 4) (R : Fin 8320) (r : Fin 256) (k : Fin 1024) (hb : b.val = t.val / 13) (hR : R.val = t.val % 13 * 640 + (384 + r.val)) :
    v335 (grid0.coords t) (blks m c t) (ix2 r k) = (args m c).u b R k := by
  rw [v335_eq]
  refine (rmsB_at _ _ r k).trans ?_
  unfold Cert.Proj.Args.u
  refine congrArg₂ (fun p q => Cert.Mix.rms p q k) (funext fun x => ?_) (funext fun x => ?_)
  · rw [cutB_at]
    refine Eq.trans ?_ (tok_at m c t b R ⟨384 + r.val, by omega⟩ x hb hR)
    exact congrArg (fun z => v17 (grid0.coords t) (blks m c t) (ix2 z x)) (Fin.ext (by dsimp only; omega))
  · rw [v321_at, bx4, b4_at]

end Cert.Kernel3Ideal.Proj

end
-- ==== Proof.ProjPt.lean ====
/-
  What a grid point of `proj` leaves in the outputs that are projections alone, and their arrays at the end of its run.
-/
module

public import proofs.«01_k».proof.Proof.ProjIn

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic Idealize.SL.Sem
open Idealize.ShloMosaic.Pipeline (Dat)

/-- One group's projections, chunk by chunk. -/
def G (A : Cert.Proj.Args) (o : Fin 8) : S4x65x512x128.Idx → EReal := fun i => A.chunks o (i 0) (i 1) (i 2) (i 3)

variable (m : (ℓ : Loc nD τ sig) → Buf (Elt Ideal) ℓ) (c : Dev nD)

/-- A chunk of the first group times a group's row of the weights. -/
theorem chunkA (t : Fin cfg0.N) (b : Fin 4) (s : Fin 65) (o : Fin 8) (n : Fin 512) (l : Fin 128) (j off f : ℕ) (w : Vec Ideal S512x1024 .bf16)
    (hf : ∀ n : Fin 512, f + n.val < 2560) (hw : ∀ (n : Fin 512) (k : Fin 1024), w (ix2 n k) = (blks m c t).x6 (ix2 ⟨f + n.val, hf n⟩ k))
    (hof : f = 0 ∧ o = 0 ∨ f = 512 ∧ o = 2 ∨ f = 1024 ∧ o = 3 ∨ f = 1536 ∧ o = 6 ∨ f = 2048 ∧ o = 7)
    (hl : off + l.val < 384) (hoff : off = j * 128) (hb : b.val = t.val / 13) (hs : s.val = t.val % 13 * 5 + j) :
    (∑ k, w (ix2 n k) * v42 (grid0.coords t) (blks m c t) (ix2 ⟨off + l.val, hl⟩ k)) = (args m c).chunks o b s n l := by
  unfold Cert.Proj.Args.chunks Cert.Proj.Args.proj
  refine Finset.sum_congr rfl fun k _ => congrArg₂ (fun p q : EReal => p * q) ?_ ?_
  · rw [hw, bx6]
    refine b6_at m c t f n k _ (hf n) ?_
    dsimp only
    rcases hof with ⟨h1, h2⟩ | ⟨h1, h2⟩ | ⟨h1, h2⟩ | ⟨h1, h2⟩ | ⟨h1, h2⟩ <;> subst h1 h2 <;> simp
  · exact uA_at m c t b _ _ k hb (by dsimp only; omega)

/-- A chunk of the second group times a group's row of the weights. -/
theorem chunkB (t : Fin cfg0.N) (b : Fin 4) (s : Fin 65) (o : Fin 8) (n : Fin 512) (l : Fin 128) (j off f : ℕ) (w : Vec Ideal S512x1024 .bf16)
    (hf : ∀ n : Fin 512, f + n.val < 2560) (hw : ∀ (n : Fin 512) (k : Fin 1024), w (ix2 n k) = (blks m c t).x6 (ix2 ⟨f + n.val, hf n⟩ k))
    (hof : f = 0 ∧ o = 0 ∨ f = 512 ∧ o = 2 ∨ f = 1024 ∧ o = 3 ∨ f = 1536 ∧ o = 6 ∨ f = 2048 ∧ o = 7)
    (hl : off + l.val < 256) (hoff : 384 + off = j * 128) (hb : b.val = t.val / 13) (hs : s.val = t.val % 13 * 5 + j) :
    (∑ k, w (ix2 n k) * v335 (grid0.coords t) (blks m c t) (ix2 ⟨off + l.val, hl⟩ k)) = (args m c).chunks o b s n l := by
  unfold Cert.Proj.Args.chunks Cert.Proj.Args.proj
  refine Finset.sum_congr rfl fun k _ => congrArg₂ (fun p q : EReal => p * q) ?_ ?_
  · rw [hw, bx6]
    refine b6_at m c t f n k _ (hf n) ?_
    dsimp only
    rcases hof with ⟨h1, h2⟩ | ⟨h1, h2⟩ | ⟨h1, h2⟩ | ⟨h1, h2⟩ | ⟨h1, h2⟩ <;> subst h1 h2 <;> simp
  · exact uB_at m c t b _ _ k hb (by dsimp only; omega)

/-- An index of a stored chunk, of its two moving coordinates. -/
theorem ix_eq (x : S1x1x512x128.Idx) (n : Fin 512) (l : Fin 128) (hn : (x 2).val = n.val) (hl : (x 3).val = l.val) : x = ix4 0 0 n l := by
  funext a
  match a with
  | 0 => exact Fin.ext (by have h : (x 0).val < 1 := (x 0).isLt; show (x 0).val = 0; omega)
  | 1 => exact Fin.ext (by have h : (x 1).val < 1 := (x 1).isLt; show (x 1).val = 0; omega)
  | 2 => exact Fin.ext hn
  | 3 => exact Fin.ext hl

/-- The batch entry, chunk, channel and token of an entry of a point's block. -/
theorem coords (t : Fin cfg0.N) (y : S1x5x512x128.Idx) : ∃ (b : Fin 4) (s : Fin 65) (n : Fin 512) (l : Fin 128),
    (b : ℕ) = t.val / 13 ∧ (s : ℕ) = t.val % 13 * 5 + (y 1 : ℕ) ∧ (n : ℕ) = (y 2 : ℕ) ∧ (l : ℕ) = (y 3 : ℕ) := by
  have ht : t.val < 52 := lt_of_lt_of_eq t.isLt N_0
  have hy : (y 1).val < 5 := (y 1).isLt
  exact ⟨⟨_, by omega⟩, ⟨_, by omega⟩, ⟨_, (y 2).isLt⟩, ⟨_, (y 3).isLt⟩, rfl, rfl, rfl, rfl⟩

/-- What a point leaves in output 16. -/
theorem point16 (t : Fin cfg0.N) (y : S1x5x512x128.Idx) :
    View.canon (pieces16 (grid0.coords t) (blks m c t)) y = G (args m c) 2 (((cfg0.win 16).blk t).view.emb y) := by
  have hy : (y 1).val < 5 := (y 1).isLt
  obtain ⟨b, s, n, l, hb, hs, hn, hl⟩ := coords t y
  have ei : (((cfg0.win 16).blk t).view.emb y) = ix4 b s n l := by blk_ext [idx t]
  refine Eq.trans ?_ (congrArg (G (args m c) 2) ei).symm
  show _ = (args m c).chunks 2 b s n l
  have hc := cover16 (grid0.coords t) (blks m c t) y
  unfold pieces16 at hc ⊢
  canon_tiles x hx using hc
  · rw [ix_eq x n l (by omega) (by omega)]
    rw [out16_4]
    exact chunkB m c t b s 2 n l 4 128 512 _ (fun n => by omega) (fun n k => v391_at _ _ n k) (by simp) (by omega) (by omega) hb (by omega)
  · rw [ix_eq x n l (by omega) (by omega)]
    rw [out16_3]
    exact chunkB m c t b s 2 n l 3 0 512 _ (fun n => by omega) (fun n k => v391_at _ _ n k) (by simp) (by omega) (by omega) hb (by omega)
  · rw [ix_eq x n l (by omega) (by omega)]
    unfold v105
    rw [out16_2]
    exact chunkA m c t b s 2 n l 2 256 512 _ (fun n => by omega) (fun n k => v103_at _ _ n k) (by simp) (by omega) (by omega) hb (by omega)
  · rw [ix_eq x n l (by omega) (by omega)]
    rw [out16_1]
    exact chunkA m c t b s 2 n l 1 128 512 _ (fun n => by omega) (fun n k => v103_at _ _ n k) (by simp) (by omega) (by omega) hb (by omega)
  · rw [ix_eq x n l (by omega) (by omega)]
    rw [out16_0]
    exact chunkA m c t b s 2 n l 0 0 512 _ (fun n => by omega) (fun n k => v103_at _ _ n k) (by simp) (by omega) (by omega) hb (by omega)

/-- Output 16's array at the end. -/
theorem final16 : (dats m 0 c).arrAt 16 (cfgs 0).N = G (args m c) 2 := by
  refine (dats m 0 c).arrAt_eq_of_covers 16 _ (by decide +kernel) fun t hf y => ?_
  blk_simp
  rw [after_16]
  exact point16 m c t y

/-- What a point leaves in output 17. -/
theorem point17 (t : Fin cfg0.N) (y : S1x5x512x128.Idx) :
    View.canon (pieces17 (grid0.coords t) (blks m c t)) y = G (args m c) 3 (((cfg0.win 17).blk t).view.emb y) := by
  have hy : (y 1).val < 5 := (y 1).isLt
  obtain ⟨b, s, n, l, hb, hs, hn, hl⟩ := coords t y
  have ei : (((cfg0.win 17).blk t).view.emb y) = ix4 b s n l := by blk_ext [idx t]
  refine Eq.trans ?_ (congrArg (G (args m c) 3) ei).symm
  show _ = (args m c).chunks 3 b s n l
  have hc := cover17 (grid0.coords t) (blks m c t) y
  unfold pieces17 at hc ⊢
  canon_tiles x hx using hc
  · rw [ix_eq x n l (by omega) (by omega)]
    unfold v406
    rw [out17_4]
    exact chunkB m c t b s 3 n l 4 128 1024 _ (fun n => by omega) (fun n k => v404_at _ _ n k) (by simp) (by omega) (by omega) hb (by omega)
  · rw [ix_eq x n l (by omega) (by omega)]
    unfold v406
    rw [out17_3]
    exact chunkB m c t b s 3 n l 3 0 1024 _ (fun n => by omega) (fun n k => v404_at _ _ n k) (by simp) (by omega) (by omega) hb (by omega)
  · rw [ix_eq x n l (by omega) (by omega)]
    rw [out17_2]
    exact chunkA m c t b s 3 n l 2 256 1024 _ (fun n => by omega) (fun n k => v121_at _ _ n k) (by simp) (by omega) (by omega) hb (by omega)
  · rw [ix_eq x n l (by omega) (by omega)]
    rw [out17_1]
    exact chunkA m c t b s 3 n l 1 128 1024 _ (fun n => by omega) (fun n k => v121_at _ _ n k) (by simp) (by omega) (by omega) hb (by omega)
  · rw [ix_eq x n l (by omega) (by omega)]
    rw [out17_0]
    exact chunkA m c t b s 3 n l 0 0 1024 _ (fun n => by omega) (fun n k => v121_at _ _ n k) (by simp) (by omega) (by omega) hb (by omega)

/-- Output 17's array at the end. -/
theorem final17 : (dats m 0 c).arrAt 17 (cfgs 0).N = G (args m c) 3 := by
  refine (dats m 0 c).arrAt_eq_of_covers 17 _ (by decide +kernel) fun t hf y => ?_
  blk_simp
  rw [after_17]
  exact point17 m c t y

/-- What a point leaves in output 20. -/
theorem point20 (t : Fin cfg0.N) (y : S1x5x512x128.Idx) :
    View.canon (pieces20 (grid0.coords t) (blks m c t)) y = G (args m c) 6 (((cfg0.win 20).blk t).view.emb y) := by
  have hy : (y 1).val < 5 := (y 1).isLt
  obtain ⟨b, s, n, l, hb, hs, hn, hl⟩ := coords t y
  have ei : (((cfg0.win 20).blk t).view.emb y) = ix4 b s n l := by blk_ext [idx t]
  refine Eq.trans ?_ (congrArg (G (args m c) 6) ei).symm
  show _ = (args m c).chunks 6 b s n l
  have hc := cover20 (grid0.coords t) (blks m c t) y
  unfold pieces20 at hc ⊢
  canon_tiles x hx using hc
  · rw [ix_eq x n l (by omega) (by omega)]
    rw [out20_4]
    exact chunkB m c t b s 6 n l 4 128 1536 _ (fun n => by omega) (fun n k => v415_at _ _ n k) (by simp) (by omega) (by omega) hb (by omega)
  · rw [ix_eq x n l (by omega) (by omega)]
    rw [out20_3]
    exact chunkB m c t b s 6 n l 3 0 1536 _ (fun n => by omega) (fun n k => v415_at _ _ n k) (by simp) (by omega) (by omega) hb (by omega)
  · rw [ix_eq x n l (by omega) (by omega)]
    unfold v138
    rw [out20_2]
    exact chunkA m c t b s 6 n l 2 256 1536 _ (fun n => by omega) (fun n k => v136_at _ _ n k) (by simp) (by omega) (by omega) hb (by omega)
  · rw [ix_eq x n l (by omega) (by omega)]
    unfold v144
    rw [out20_1]
    exact chunkA m c t b s 6 n l 1 128 1536 _ (fun n => by omega) (fun n k => v136_at _ _ n k) (by simp) (by omega) (by omega) hb (by omega)
  · rw [ix_eq x n l (by omega) (by omega)]
    rw [out20_0]
    exact chunkA m c t b s 6 n l 0 0 1536 _ (fun n => by omega) (fun n k => v136_at _ _ n k) (by simp) (by omega) (by omega) hb (by omega)

/-- Output 20's array at the end. -/
theorem final20 : (dats m 0 c).arrAt 20 (cfgs 0).N = G (args m c) 6 := by
  refine (dats m 0 c).arrAt_eq_of_covers 20 _ (by decide +kernel) fun t hf y => ?_
  blk_simp
  rw [after_20]
  exact point20 m c t y

/-- What a point leaves in output 21. -/
theorem point21 (t : Fin cfg0.N) (y : S1x5x512x128.Idx) :
    View.canon (pieces21 (grid0.coords t) (blks m c t)) y = G (args m c) 7 (((cfg0.win 21).blk t).view.emb y) := by
  have hy : (y 1).val < 5 := (y 1).isLt
  obtain ⟨b, s, n, l, hb, hs, hn, hl⟩ := coords t y
  have ei : (((cfg0.win 21).blk t).view.emb y) = ix4 b s n l := by blk_ext [idx t]
  refine Eq.trans ?_ (congrArg (G (args m c) 7) ei).symm
  show _ = (args m c).chunks 7 b s n l
  have hc := cover21 (grid0.coords t) (blks m c t) y
  unfold pieces21 at hc ⊢
  canon_tiles x hx using hc
  · rw [ix_eq x n l (by omega) (by omega)]
    unfold v435
    rw [out21_4]
    exact chunkB m c t b s 7 n l 4 128 2048 _ (fun n => by omega) (fun n k => v428_at _ _ n k) (by simp) (by omega) (by omega) hb (by omega)
  · rw [ix_eq x n l (by omega) (by omega)]
    rw [out21_3]
    exact chunkB m c t b s 7 n l 3 0 2048 _ (fun n => by omega) (fun n k => v428_at _ _ n k) (by simp) (by omega) (by omega) hb (by omega)
  · rw [ix_eq x n l (by omega) (by omega)]
    rw [out21_2]
    exact chunkA m c t b s 7 n l 2 256 2048 _ (fun n => by omega) (fun n k => v154_at _ _ n k) (by simp) (by omega) (by omega) hb (by omega)
  · rw [ix_eq x n l (by omega) (by omega)]
    rw [out21_1]
    exact chunkA m c t b s 7 n l 1 128 2048 _ (fun n => by omega) (fun n k => v154_at _ _ n k) (by simp) (by omega) (by omega) hb (by omega)
  · rw [ix_eq x n l (by omega) (by omega)]
    rw [out21_0]
    exact chunkA m c t b s 7 n l 0 0 2048 _ (fun n => by omega) (fun n k => v154_at _ _ n k) (by simp) (by omega) (by omega) hb (by omega)

/-- Output 21's array at the end. -/
theorem final21 : (dats m 0 c).arrAt 21 (cfgs 0).N = G (args m c) 7 := by
  refine (dats m 0 c).arrAt_eq_of_covers 21 _ (by decide +kernel) fun t hf y => ?_
  blk_simp
  rw [after_21]
  exact point21 m c t y

end Cert.Kernel3Ideal.Proj

end
-- ==== Proof.ProjRot.lean ====
/-
  What a grid point of `proj` leaves of the retention's queries and keys, and their arrays at the end of its run.
-/
module

public import proofs.«01_k».proof.Proof.ProjPt

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic Idealize.SL.Sem
open Cert.Proj (turn turn_of scale twice signed)

/-- The first group's products for the queries. -/
theorem p10_at (i : grid0.Coords) (B : Blocks Ideal) (n : Fin 512) (l : Fin 384) :
    k0_pay10 (v27 i B) (v28 i B) (v33 i B) (v34 i B) (v44 i B) (ix2 n l) = ∑ k, v44 i B (ix2 n k) * v42 i B (ix2 l k) := by
  unfold v42
  pointwise [k0_pay10]

/-- The second group's products for the queries. -/
theorem p65_at (i : grid0.Coords) (B : Blocks Ideal) (n : Fin 512) (l : Fin 256) :
    k0_pay65 (v320 i B) (v321 i B) (v324 i B) (cst_165 i B) (v337 i B) (ix2 n l) = ∑ k, v337 i B (ix2 n k) * v335 i B (ix2 l k) := by
  unfold v335
  pointwise [k0_pay65]

/-- The first group's queries. -/
theorem p17_at (i : grid0.Coords) (B : Blocks Ideal) (n : Fin 512) (l : Fin 384) :
    k0_pay17 (v59 i B) (v68 i B) (v77 i B) (v84 i B) (ix2 n l)
      = turn (fun n => ∑ k, v44 i B (ix2 n k) * v42 i B (ix2 l k)) (fun j => v47 i B (ix2 j l)) (fun j => v49 i B (ix2 j l)) n * scale := by
  unfold v59 v68 v77 v84
  have e : ∀ n, k0_pay10 (v27 i B) (v28 i B) (v33 i B) (v34 i B) (v44 i B) (ix2 n l) = ∑ k, v44 i B (ix2 n k) * v42 i B (ix2 l k) :=
    fun n => p10_at i B n l
  simp only [← e]
  pointwise [k0_pay17, k0_pay13, k0_pay14, k0_pay15, k0_pay16, k0_pay11, k0_pay12]
  exact Cert.Proj.heads (fun n => k0_pay10 (v27 i B) (v28 i B) (v33 i B) (v34 i B) (v44 i B) (ix2 n l)) (fun j => v47 i B (ix2 j l)) (fun j => v49 i B (ix2 j l)) scale n

/-- The second group's queries. -/
theorem p74_at (i : grid0.Coords) (B : Blocks Ideal) (n : Fin 512) (l : Fin 256) :
    k0_pay74 (v341 i B) (v343 i B) (v352 i B) (v361 i B) (v370 i B) (v371 i B) (v372 i B) (v373 i B) (ix2 n l)
      = turn (fun n => ∑ k, v337 i B (ix2 n k) * v335 i B (ix2 l k)) (fun j => v340 i B (ix2 j l)) (fun j => v342 i B (ix2 j l)) n * scale := by
  unfold v341 v343 v352 v361 v370 v371 v372 v373
  have e : ∀ n, k0_pay65 (v320 i B) (v321 i B) (v324 i B) (cst_165 i B) (v337 i B) (ix2 n l) = ∑ k, v337 i B (ix2 n k) * v335 i B (ix2 l k) :=
    fun n => p65_at i B n l
  simp only [← e]
  pointwise [k0_pay74, k0_pay66, k0_pay67, k0_pay68, k0_pay69, k0_pay70, k0_pay71, k0_pay72, k0_pay73]
  exact Cert.Proj.heads (fun n => k0_pay65 (v320 i B) (v321 i B) (v324 i B) (cst_165 i B) (v337 i B) (ix2 n l)) (fun j => v340 i B (ix2 j l)) (fun j => v342 i B (ix2 j l)) scale n

/-- The first group's keys. -/
theorem p39_at (i : grid0.Coords) (B : Blocks Ideal) (r : Fin 384) (n : Fin 512) :
    k0_pay39 (v171 i B) (v172 i B) (v174 i B) (ix3 0 r n)
      = turn (fun n => ∑ k, v42 i B (ix2 r k) * v169 i B (ix2 k n)) (fun j => v172 i B (ix2 r j)) (fun j => v174 i B (ix2 r j)) n := by
  have e : ∀ n, v171 i B (ix2 r n) = ∑ k, v42 i B (ix2 r k) * v169 i B (ix2 k n) := fun n => by
    unfold v171; pointwise [k0_pay38]
  simp only [← e]
  pointwise [k0_pay39]
  split_ifs
  all_goals
    refine turn_of (fun n => v171 i B (ix2 r n)) (fun j => v172 i B (ix2 r j)) (fun j => v174 i B (ix2 r j)) n _ _ _ ?_ ?_ ?_ <;> dsimp only <;> omega

/-- The second group's keys. -/
theorem p90_at (i : grid0.Coords) (B : Blocks Ideal) (r : Fin 256) (n : Fin 512) :
    k0_pay90 (v335 i B) (v439 i B) (v442 i B) (v444 i B) (ix3 0 r n)
      = turn (fun n => ∑ k, v335 i B (ix2 r k) * v439 i B (ix2 k n)) (fun j => v442 i B (ix2 r j)) (fun j => v444 i B (ix2 r j)) n := by
  pointwise [k0_pay90]
  split_ifs
  all_goals
    refine turn_of (fun n => ∑ k, v335 i B (ix2 r k) * v439 i B (ix2 k n)) (fun j => v442 i B (ix2 r j)) (fun j => v444 i B (ix2 r j)) n _ _ _ ?_ ?_ ?_ <;> dsimp only <;> omega

variable (m : (ℓ : Loc nD τ sig) → Buf (Elt Ideal) ℓ) (c : Dev nD)

/-- The tables of cosines and sines. -/
abbrev A7 : FVec Ideal S8320x64 .f32 := m ((c : Thread nD τ).loc main_arg7)
abbrev A8 : FVec Ideal S8320x64 .f32 := m ((c : Thread nD τ).loc main_arg8)

/-- A row of the cosines. -/
def cosr (R : Fin 8320) (j : Fin 64) : EReal := A7 m c (ix2 R j)
/-- A row of the sines. -/
def sinr (R : Fin 8320) (j : Fin 64) : EReal := A8 m c (ix2 R j)

/-- Where the blocks of the tables, the weights, the queries and the keys lie at a point. -/
theorem idxR : ∀ t : Fin cfg0.N, win0_5.index t = ![0, 0] ∧ win0_7.index t = ![t.val % 13, 0] ∧ win0_8.index t = ![t.val % 13, 0]
    ∧ win0_9.index t = ![0, t.val % 13] ∧ win0_10.index t = ![0, t.val % 13]
    ∧ win0_14.index t = ![t.val / 13, t.val % 13, 0, 0] ∧ win0_15.index t = ![t.val / 13, t.val % 13, 0] :=
  (by decide +kernel : ∀ t : Fin grid0.N, _)

/-- The table of cosines by rows. -/
theorem b7_at (t : Fin cfg0.N) (r : Fin 640) (j : Fin 128) (R : Fin 8320) (hR : R.val = t.val % 13 * 640 + r.val) :
    (iblk m c 7 t : Vec Ideal S640x128 .f32) (ix2 r j) = twice (cosr m c R) j := by
  have he : ((View.whole main_v22).slice (win0_7.rect t)).emb (ix2 r j) = ix2 R j := by blk_ext [idxR t]
  blk_simp [iblk]; entry_read; pointwise
  simp only [he]
  rfl

/-- The table of sines by rows. -/
theorem b8_at (t : Fin cfg0.N) (r : Fin 640) (j : Fin 128) (R : Fin 8320) (hR : R.val = t.val % 13 * 640 + r.val) :
    (iblk m c 8 t : Vec Ideal S640x128 .f32) (ix2 r j) = signed (sinr m c R) j := by
  have he : ((View.whole main_v24).slice (win0_8.rect t)).emb (ix2 r j) = ix2 R j := by blk_ext [idxR t]
  blk_simp [iblk]; entry_read; pointwise
  simp only [he]
  rfl

/-- The table of cosines by columns. -/
theorem b9_at (t : Fin cfg0.N) (r : Fin 640) (j : Fin 128) (R : Fin 8320) (hR : R.val = t.val % 13 * 640 + r.val) :
    (iblk m c 9 t : Vec Ideal S128x640 .f32) (ix2 j r) = twice (cosr m c R) j := by
  have he : ((View.whole main_v25).slice (win0_9.rect t)).emb (ix2 j r) = ix2 j R := by blk_ext [idxR t]
  blk_simp [iblk]; entry_read; pointwise
  simp only [he]
  rfl

/-- The table of sines by columns. -/
theorem b10_at (t : Fin cfg0.N) (r : Fin 640) (j : Fin 128) (R : Fin 8320) (hR : R.val = t.val % 13 * 640 + r.val) :
    (iblk m c 10 t : Vec Ideal S128x640 .f32) (ix2 j r) = signed (sinr m c R) j := by
  have he : ((View.whole main_v26).slice (win0_10.rect t)).emb (ix2 j r) = ix2 j R := by blk_ext [idxR t]
  blk_simp [iblk]; entry_read; pointwise
  simp only [he]
  rfl

/-- The weights of the keys and of the convolutions as the call is given them, with the gates' columns. -/
def keyCols (w : FVec Ideal S1x1024x4112 .f32) : FVec Ideal S1024x1664 .bf16 :=
  have v2 : FVec Ideal S1024x4112 .f32 := shapeCast _ w shapeCasts_S1x1024x4112_S1024x4112
  truncf .bf16 (concatenate S1024x1664 1 [
    ⟨S1024x512, extractStridedSlice S1024x512 ![0, 512] v2 slices_S1024x4112_S1024x512_0_512⟩,
    ⟨S1024x512, extractStridedSlice S1024x512 ![0, 2048] v2 slices_S1024x4112_S1024x512_0_2048⟩,
    ⟨S1024x512, extractStridedSlice S1024x512 ![0, 2560] v2 slices_S1024x4112_S1024x512_0_2560⟩,
    ⟨S1024x16, extractStridedSlice S1024x16 ![0, 4096] v2 slices_S1024x4112_S1024x16_0_4096⟩,
    ⟨S1024x112, broadcastInDim S1024x112 ![] bcast_S_S1024x112 (constant S_ .f32 0x00000000#32 : FVec Ideal S_ .f32)⟩]
    concatenates_S1024x512_S1024x512_S1024x512_S1024x16_S1024x112_S1024x1664_d1 : FVec Ideal S1024x1664 .f32) bitsLt_bf16_f32

/-- A column of the keys' weights as the call is given them. -/
theorem keyCols_at (w : FVec Ideal S1x1024x4112 .f32) (k : Fin 1024) (n : Fin 512) :
    keyCols w (ix2 k ⟨n.val, by omega⟩) = w (ix3 0 k ⟨512 + n.val, by omega⟩) := by
  pointwise [keyCols]

set_option maxHeartbeats 1000000 in
set_option maxRecDepth 100000 in
/-- The weights as launched. -/
theorem v9_eq : (V m c main_v9 : FVec Ideal S1024x1664 .bf16) = keyCols (A3 m c) := by
  show StableHlo.after hostOps0 _ _ = _
  simp only [Idealize.ShloMosaic.StableHlo.after_cons, Idealize.ShloMosaic.StableHlo.after_nil]
  after_results_steps
  rfl

/-- The keys' columns of the weights' block. -/
theorem b5_at (t : Fin cfg0.N) (k : Fin 1024) (n : Fin 512) :
    (iblk m c 5 t : Vec Ideal S1024x1664 .bf16) (ix2 k ⟨n.val, by omega⟩) = (args m c).w k ⟨512 + n.val, by omega⟩ := by
  have e : (iblk m c 5 t : FVec Ideal S1024x1664 .bf16) = keyCols (A3 m c) := by
    rw [← v9_eq]
    funext j
    blk_ext [iblk, idxR t]
  rw [e, keyCols_at]
  rfl

/-- Turned columns agree where the columns and the tables do. -/
theorem turn_congr {z z' : Fin 512 → EReal} {c c' s s' : Fin 128 → EReal} (hz : ∀ n, z n = z' n) (hc : ∀ j, c j = c' j) (hs : ∀ j, s j = s' j)
    (n : Fin 512) : turn z c s n = turn z' c' s' n := by
  rw [funext hz, funext hc, funext hs]

/-- The load `v44` at coordinates. -/
theorem v44_at (i : grid0.Coords) (B : Blocks Ideal) (n : Fin 512) (k : Fin 1024) : v44 i B (ix2 n k) = B.x6 (ix2 ⟨0 + n.val, by omega⟩ k) := by
  pointwise [v44]

/-- The load `v337` at coordinates. -/
theorem v337_at (i : grid0.Coords) (B : Blocks Ideal) (n : Fin 512) (k : Fin 1024) : v337 i B (ix2 n k) = B.x6 (ix2 ⟨0 + n.val, by omega⟩ k) := by
  pointwise [v337]

/-- The load `v169` at coordinates. -/
theorem v169_at (i : grid0.Coords) (B : Blocks Ideal) (k : Fin 1024) (n : Fin 512) : v169 i B (ix2 k n) = B.x5 (ix2 k ⟨n.val, by omega⟩) := by
  pointwise [v169]

/-- The load `v439` at coordinates. -/
theorem v439_at (i : grid0.Coords) (B : Blocks Ideal) (k : Fin 1024) (n : Fin 512) : v439 i B (ix2 k n) = B.x5 (ix2 k ⟨n.val, by omega⟩) := by
  pointwise [v439]

/-- The queries stored in chunk 0. -/
theorem q0_at (i : grid0.Coords) (B : Blocks Ideal) (n : Fin 512) (l : Fin 128) :
    k0_pay18 (v59 i B) (v68 i B) (v77 i B) (v84 i B) (ix4 0 0 n l) = k0_pay17 (v59 i B) (v68 i B) (v77 i B) (v84 i B) (ix2 n ⟨0 + l.val, by omega⟩) := by
  pointwise [k0_pay18]

/-- The queries stored in chunk 1. -/
theorem q1_at (i : grid0.Coords) (B : Blocks Ideal) (n : Fin 512) (l : Fin 128) :
    k0_pay19 (v59 i B) (v68 i B) (v77 i B) (v84 i B) (ix4 0 0 n l) = k0_pay17 (v59 i B) (v68 i B) (v77 i B) (v84 i B) (ix2 n ⟨128 + l.val, by omega⟩) := by
  pointwise [k0_pay19]

/-- The queries stored in chunk 2. -/
theorem q2_at (i : grid0.Coords) (B : Blocks Ideal) (n : Fin 512) (l : Fin 128) :
    k0_pay20 (v59 i B) (v68 i B) (v77 i B) (v84 i B) (ix4 0 0 n l) = k0_pay17 (v59 i B) (v68 i B) (v77 i B) (v84 i B) (ix2 n ⟨256 + l.val, by omega⟩) := by
  pointwise [k0_pay20]

/-- The queries stored in chunk 3. -/
theorem q3_at (i : grid0.Coords) (B : Blocks Ideal) (n : Fin 512) (l : Fin 128) :
    k0_pay75 (v341 i B) (v343 i B) (v352 i B) (v361 i B) (v370 i B) (v371 i B) (v372 i B) (v373 i B) (ix4 0 0 n l) = k0_pay74 (v341 i B) (v343 i B) (v352 i B) (v361 i B) (v370 i B) (v371 i B) (v372 i B) (v373 i B) (ix2 n ⟨0 + l.val, by omega⟩) := by
  pointwise [k0_pay75]

/-- The queries stored in chunk 4. -/
theorem q4_at (i : grid0.Coords) (B : Blocks Ideal) (n : Fin 512) (l : Fin 128) :
    k0_pay76 (v341 i B) (v343 i B) (v352 i B) (v361 i B) (v370 i B) (v371 i B) (v372 i B) (v373 i B) (ix4 0 0 n l) = k0_pay74 (v341 i B) (v343 i B) (v352 i B) (v361 i B) (v370 i B) (v371 i B) (v372 i B) (v373 i B) (ix2 n ⟨128 + l.val, by omega⟩) := by
  pointwise [k0_pay76]

/-- A row of the first group's queries. -/
theorem turnQA (t : Fin cfg0.N) (b : Fin 4) (R : Fin 8320) (r : Fin 384) (n : Fin 512) (hb : b.val = t.val / 13) (hR : R.val = t.val % 13 * 640 + r.val) :
    turn (fun n => ∑ k, v44 (grid0.coords t) (blks m c t) (ix2 n k) * v42 (grid0.coords t) (blks m c t) (ix2 r k)) (fun j => v47 (grid0.coords t) (blks m c t) (ix2 j r))
      (fun j => v49 (grid0.coords t) (blks m c t) (ix2 j r)) n * scale = (args m c).rq (cosr m c) (sinr m c) b R n := by
  refine congrArg (fun z : EReal => z * scale) (turn_congr (fun n => Finset.sum_congr rfl fun k _ => congrArg₂ (fun p q : EReal => p * q) ?_ ?_) (fun j => ?_) (fun j => ?_) n)
  · exact (v44_at _ _ n k).trans (b6_at m c t 0 n k _ _ (.inl ⟨rfl, rfl⟩))
  · exact uA_at m c t b R r k hb hR
  · refine Eq.trans ?_ (b9_at m c t ⟨r.val, by omega⟩ j R hR); pointwise [v47]; rfl
  · refine Eq.trans ?_ (b10_at m c t ⟨r.val, by omega⟩ j R hR); pointwise [v49]; rfl

/-- A row of the first group's keys. -/
theorem turnKA (t : Fin cfg0.N) (b : Fin 4) (R : Fin 8320) (r : Fin 384) (n : Fin 512) (hb : b.val = t.val / 13) (hR : R.val = t.val % 13 * 640 + r.val) :
    turn (fun n => ∑ k, v42 (grid0.coords t) (blks m c t) (ix2 r k) * v169 (grid0.coords t) (blks m c t) (ix2 k n)) (fun j => v172 (grid0.coords t) (blks m c t) (ix2 r j))
      (fun j => v174 (grid0.coords t) (blks m c t) (ix2 r j)) n = (args m c).rk (cosr m c) (sinr m c) b R n := by
  refine turn_congr (fun n => Finset.sum_congr rfl fun k _ => (mul_comm _ _).trans (congrArg₂ (fun p q : EReal => p * q) ?_ ?_)) (fun j => ?_) (fun j => ?_) n
  · exact (v169_at _ _ k n).trans (b5_at m c t k n)
  · exact uA_at m c t b R r k hb hR
  · refine Eq.trans ?_ (b7_at m c t ⟨r.val, by omega⟩ j R hR); pointwise [v172]; rfl
  · refine Eq.trans ?_ (b8_at m c t ⟨r.val, by omega⟩ j R hR); pointwise [v174]; rfl

/-- A row of the second group's queries. -/
theorem turnQB (t : Fin cfg0.N) (b : Fin 4) (R : Fin 8320) (r : Fin 256) (n : Fin 512) (hb : b.val = t.val / 13) (hR : R.val = t.val % 13 * 640 + (384 + r.val)) :
    turn (fun n => ∑ k, v337 (grid0.coords t) (blks m c t) (ix2 n k) * v335 (grid0.coords t) (blks m c t) (ix2 r k)) (fun j => v340 (grid0.coords t) (blks m c t) (ix2 j r))
      (fun j => v342 (grid0.coords t) (blks m c t) (ix2 j r)) n * scale = (args m c).rq (cosr m c) (sinr m c) b R n := by
  refine congrArg (fun z : EReal => z * scale) (turn_congr (fun n => Finset.sum_congr rfl fun k _ => congrArg₂ (fun p q : EReal => p * q) ?_ ?_) (fun j => ?_) (fun j => ?_) n)
  · exact (v337_at _ _ n k).trans (b6_at m c t 0 n k _ _ (.inl ⟨rfl, rfl⟩))
  · exact uB_at m c t b R r k hb hR
  · refine Eq.trans ?_ (b9_at m c t ⟨384 + r.val, by omega⟩ j R hR); pointwise [v340]; rfl
  · refine Eq.trans ?_ (b10_at m c t ⟨384 + r.val, by omega⟩ j R hR); pointwise [v342]; rfl

/-- A row of the second group's keys. -/
theorem turnKB (t : Fin cfg0.N) (b : Fin 4) (R : Fin 8320) (r : Fin 256) (n : Fin 512) (hb : b.val = t.val / 13) (hR : R.val = t.val % 13 * 640 + (384 + r.val)) :
    turn (fun n => ∑ k, v335 (grid0.coords t) (blks m c t) (ix2 r k) * v439 (grid0.coords t) (blks m c t) (ix2 k n)) (fun j => v442 (grid0.coords t) (blks m c t) (ix2 r j))
      (fun j => v444 (grid0.coords t) (blks m c t) (ix2 r j)) n = (args m c).rk (cosr m c) (sinr m c) b R n := by
  refine turn_congr (fun n => Finset.sum_congr rfl fun k _ => (mul_comm _ _).trans (congrArg₂ (fun p q : EReal => p * q) ?_ ?_)) (fun j => ?_) (fun j => ?_) n
  · exact (v439_at _ _ k n).trans (b5_at m c t k n)
  · exact uB_at m c t b R r k hb hR
  · refine Eq.trans ?_ (b7_at m c t ⟨384 + r.val, by omega⟩ j R hR); pointwise [v442]; rfl
  · refine Eq.trans ?_ (b8_at m c t ⟨384 + r.val, by omega⟩ j R hR); pointwise [v444]; rfl

/-- The queries' array, chunk by chunk. -/
def GQ : S4x65x512x128.Idx → EReal := fun i =>
  (args m c).rq (cosr m c) (sinr m c) (i 0) ⟨(i 1).val * 128 + (i 3).val, by have h1 : (i 1).val < 65 := (i 1).isLt; have h3 : (i 3).val < 128 := (i 3).isLt; omega⟩ (i 2)

/-- The keys' array. -/
def GK : S4x8320x512.Idx → EReal := fun i => (args m c).rk (cosr m c) (sinr m c) (i 0) (i 1) (i 2)

/-- What a point leaves in output 14. -/
theorem point14 (t : Fin cfg0.N) (y : S1x5x512x128.Idx) :
    View.canon (pieces14 (grid0.coords t) (blks m c t)) y = GQ m c (((cfg0.win 14).blk t).view.emb y) := by
  have hy : (y 1).val < 5 := (y 1).isLt
  obtain ⟨b, s, n, l, hb, hs, hn, hl⟩ := coords t y
  have ei : (((cfg0.win 14).blk t).view.emb y) = ix4 b s n l := by blk_ext [idxR t]
  refine Eq.trans ?_ (congrArg (GQ m c) ei).symm
  show _ = (args m c).rq (cosr m c) (sinr m c) b ⟨s.val * 128 + l.val, by omega⟩ n
  have hc := cover14 (grid0.coords t) (blks m c t) y
  unfold pieces14 at hc ⊢
  canon_tiles x hx using hc
  · rw [ix_eq x n l (by omega) (by omega)]
    exact (q4_at _ _ n l).trans ((p74_at _ _ n _).trans (turnQB m c t b _ _ n hb (by dsimp only; omega)))
  · rw [ix_eq x n l (by omega) (by omega)]
    exact (q3_at _ _ n l).trans ((p74_at _ _ n _).trans (turnQB m c t b _ _ n hb (by dsimp only; omega)))
  · rw [ix_eq x n l (by omega) (by omega)]
    exact (q2_at _ _ n l).trans ((p17_at _ _ n _).trans (turnQA m c t b _ _ n hb (by dsimp only; omega)))
  · rw [ix_eq x n l (by omega) (by omega)]
    exact (q1_at _ _ n l).trans ((p17_at _ _ n _).trans (turnQA m c t b _ _ n hb (by dsimp only; omega)))
  · rw [ix_eq x n l (by omega) (by omega)]
    exact (q0_at _ _ n l).trans ((p17_at _ _ n _).trans (turnQA m c t b _ _ n hb (by dsimp only; omega)))

/-- Output 14's array at the end. -/
theorem final14 : (dats m 0 c).arrAt 14 (cfgs 0).N = GQ m c := by
  refine (dats m 0 c).arrAt_eq_of_covers 14 _ (by decide +kernel) fun t hf y => ?_
  blk_simp
  rw [after_14]
  exact point14 m c t y

/-- An index of a stored block of keys, of its two moving coordinates. -/
theorem ix3_eq {w : ℕ} (x : Shape.Idx ⟨3, ![1, w, 512]⟩) (r : Fin w) (n : Fin 512) (hr : (x 1).val = r.val) (hn : (x 2).val = n.val) : x = ix3 0 r n := by
  funext a
  match a with
  | 0 => exact Fin.ext (by have h : (x 0).val < 1 := (x 0).isLt; show (x 0).val = 0; omega)
  | 1 => exact Fin.ext hr
  | 2 => exact Fin.ext hn

/-- What a point leaves in output 15. -/
theorem point15 (t : Fin cfg0.N) (y : S1x640x512.Idx) :
    View.canon (pieces15 (grid0.coords t) (blks m c t)) y = GK m c (((cfg0.win 15).blk t).view.emb y) := by
  have ht : t.val < 52 := lt_of_lt_of_eq t.isLt N_0
  have hy : (y 1).val < 640 := (y 1).isLt
  obtain ⟨b, hb⟩ : ∃ b : Fin 4, (b : ℕ) = t.val / 13 := ⟨⟨_, by omega⟩, rfl⟩
  obtain ⟨R, hR⟩ : ∃ R : Fin 8320, (R : ℕ) = t.val % 13 * 640 + (y 1 : ℕ) := ⟨⟨_, by omega⟩, rfl⟩
  obtain ⟨n, hn⟩ : ∃ n : Fin 512, (n : ℕ) = (y 2 : ℕ) := ⟨⟨_, by idx_bounds; omega⟩, rfl⟩
  have ei : (((cfg0.win 15).blk t).view.emb y) = ix3 b R n := by blk_ext [idxR t]
  refine Eq.trans ?_ (congrArg (GK m c) ei).symm
  show _ = (args m c).rk (cosr m c) (sinr m c) b R n
  have hc := cover15 (grid0.coords t) (blks m c t) y
  unfold pieces15 at hc ⊢
  canon_tiles x hx using hc
  · obtain ⟨r, hr⟩ : ∃ r : Fin 256, (r : ℕ) = (x 1 : ℕ) := ⟨⟨_, (x 1).isLt⟩, rfl⟩
    rw [ix3_eq x r n hr.symm (by omega)]
    exact (p90_at _ _ r n).trans (turnKB m c t b R r n hb (by omega))
  · obtain ⟨r, hr⟩ : ∃ r : Fin 384, (r : ℕ) = (x 1 : ℕ) := ⟨⟨_, (x 1).isLt⟩, rfl⟩
    rw [ix3_eq x r n hr.symm (by omega)]
    exact (p39_at _ _ r n).trans (turnKA m c t b R r n hb (by omega))

/-- Output 15's array at the end. -/
theorem final15 : (dats m 0 c).arrAt 15 (cfgs 0).N = GK m c := by
  refine (dats m 0 c).arrAt_eq_of_covers 15 _ (by decide +kernel) fun t hf y => ?_
  blk_simp
  rw [after_15]
  exact point15 m c t y

end Cert.Kernel3Ideal.Proj

end
-- ==== Proof.ProjRef.lean ====
/-
  The reference of `proj`, read entry by entry.
-/
module

public import proofs.«01_k».proof.Proof.ProjSpec
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem

namespace Cert.Reference3Ideal.Proj

open Cert.Reference3Ideal Cert.Reference3Ideal.Gen

/-- The reference's term for the rows. -/
def rows (a0 : FVec Ideal S4x8192x1024 .f32) (a1 : FVec Ideal S16x1024 .f32) : FVec Ideal S4x8320x1024 .f32 :=
  concatenate S4x8320x1024 1 [⟨S4x8192x1024, a0⟩, ⟨S4x112x1024, ((broadcastInDim S4x112x1024 ![] bcast_S_S4x112x1024 (constant (F := Ideal) S_ .f32 0x00000000#32)) : (⟨S4x112x1024, .f32⟩ : BufTy).Contents (Elt Ideal))⟩, ⟨S4x16x1024, ((broadcastInDim S4x16x1024 ![0, 1, 2] bcast_S1x16x1024_S4x16x1024_0_1_2 (broadcastInDim S1x16x1024 ![1, 2] bcast_S16x1024_S1x16x1024_1_2 a1)) : (⟨S4x16x1024, .f32⟩ : BufTy).Contents (Elt Ideal))⟩] concatenates_S4x8192x1024_S4x112x1024_S4x16x1024_S4x8320x1024_d1

/-- The reference's term for the normalised rows. -/
def normed (a2 : FVec Ideal S1x1024 .f32) (h : FVec Ideal S4x8320x1024 .f32) : FVec Ideal S4x8320x1024 .f32 :=
  mulf (mulf h (broadcastInDim S4x8320x1024 ![0, 1, 2] bcast_S4x8320x1_S4x8320x1024_0_1_2 (Host.rsqrt (addf (Host.divf (broadcastInDim S4x8320x1 ![0, 1] bcast_S4x8320_S4x8320x1_0_1 (Host.reduceAdd (mulf h h) (constant S_ .f32 0x00000000#32) reducesTo_S4x8320x1024_S4x8320_d2 h_S_)) (broadcastInDim S4x8320x1 ![] bcast_S_S4x8320x1 (constant S_ .f32 0x44800000#32))) (broadcastInDim S4x8320x1 ![] bcast_S_S4x8320x1 (constant S_ .f32 0x358637BD#32)))))) (broadcastInDim S4x8320x1024 ![0, 1, 2] bcast_S1x1x1024_S4x8320x1024_0_1_2 (broadcastInDim S1x1x1024 ![2] bcast_S1024_S1x1x1024_2 (shapeCast _ a2 shapeCasts_S1x1024_S1024)))

/-- The reference's term for the projections. -/
def prods (a3 : FVec Ideal S1x1024x4112 .f32) (u : FVec Ideal S4x8320x1024 .f32) : FVec Ideal S4x8320x4112 .f32 :=
  Host.dotGeneral dot_S4x8320x1024_S1024x4112_S4x8320x4112_2_0_01_1_n_n none u (shapeCast _ a3 shapeCasts_S1x1024x4112_S1024x4112)

/-- The arguments, entry by entry. -/
def args (a0 : FVec Ideal S4x8192x1024 .f32) (a1 : FVec Ideal S16x1024 .f32) (a2 : FVec Ideal S1x1024 .f32) (a3 : FVec Ideal S1x1024x4112 .f32) : Cert.Proj.Args where
  x b n k := a0 (ix3 b n k)
  head n k := a1 (ix2 n k)
  g k := a2 (ix2 0 k)
  w k n := a3 (ix3 0 k n)

variable (a0 : FVec Ideal S4x8192x1024 .f32) (a1 : FVec Ideal S16x1024 .f32) (a2 : FVec Ideal S1x1024 .f32) (a3 : FVec Ideal S1x1024x4112 .f32)

/-- The rows, entry by entry. -/
theorem rows_at (b : Fin 4) (R : Fin 8320) (k : Fin 1024) : rows a0 a1 (ix3 b R k) = (args a0 a1 a2 a3).tok b R k := by
  pointwise [rows]
  rfl

/-- The normalised rows, entry by entry. -/
theorem normed_at (h : FVec Ideal S4x8320x1024 .f32) (b : Fin 4) (R : Fin 8320) (k : Fin 1024) :
    normed a2 h (ix3 b R k) = Cert.Mix.rms (fun x => h (ix3 b R x)) (fun x => a2 (ix2 0 x)) k := by
  pointwise [normed]
  rfl

/-- The projections, entry by entry. -/
theorem prods_at (b : Fin 4) (R : Fin 8320) (n : Fin 4112) :
    prods a3 (normed a2 (rows a0 a1)) (ix3 b R n) = (args a0 a1 a2 a3).proj b R n := by
  have e : ∀ u : FVec Ideal S4x8320x1024 .f32, prods a3 u (ix3 b R n) = ∑ k, u (ix3 b R k) * a3 (ix3 0 k n) := fun u => by
    pointwise [prods]
  rw [e]
  unfold Cert.Proj.Args.proj Cert.Proj.Args.u
  refine Finset.sum_congr rfl fun k _ => ?_
  rw [normed_at, mul_comm]
  refine congrArg₂ (fun p q : EReal => p * q) rfl ?_
  exact congrArg (fun p => Cert.Mix.rms p _ k) (funext fun x => rows_at a0 a1 a2 a3 b R x)

/-- The reference's term for a group of columns, chunk by chunk. -/
def cut (o : ℕ) (h : S4x8320x4112.Slices ![0, 0, o] S4x8320x512) (p : FVec Ideal S4x8320x4112 .f32) : FVec Ideal S4x65x512x128 .f32 :=
  transpose S4x65x512x128 [0, 1, 3, 2] (shapeCast _ (extractStridedSlice S4x8320x512 ![0, 0, o] p h) shapeCasts_S4x8320x512_S4x65x128x512) transposes_S4x65x128x512_S4x65x512x128_0_1_3_2

/-- The reference's term for a group of columns, chunk by chunk and rounded. -/
def cutr (o : ℕ) (h : S4x8320x4112.Slices ![0, 0, o] S4x8320x512) (p : FVec Ideal S4x8320x4112 .f32) : FVec Ideal S4x65x512x128 .bf16 :=
  truncf .bf16 (transpose S4x65x512x128 [0, 1, 3, 2] (shapeCast _ (extractStridedSlice S4x8320x512 ![0, 0, o] p h) shapeCasts_S4x8320x512_S4x65x128x512) transposes_S4x65x128x512_S4x65x512x128_0_1_3_2) bitsLt_bf16_f32

/-- A group of columns, entry by entry. -/
theorem cut_at (o : ℕ) (h : S4x8320x4112.Slices ![0, 0, o] S4x8320x512) (ho : o + 512 ≤ 4112) (p : FVec Ideal S4x8320x4112 .f32) (b : Fin 4) (s : Fin 65) (n : Fin 512) (l : Fin 128) :
    cut o h p (ix4 b s n l) = p (ix3 b ⟨s.val * 128 + l.val, by omega⟩ ⟨o + n.val, by omega⟩) := by
  pointwise [cut]

/-- A group of columns rounded, entry by entry. -/
theorem cutr_at (o : ℕ) (h : S4x8320x4112.Slices ![0, 0, o] S4x8320x512) (ho : o + 512 ≤ 4112) (p : FVec Ideal S4x8320x4112 .f32) (b : Fin 4) (s : Fin 65) (n : Fin 512) (l : Fin 128) :
    cutr o h p (ix4 b s n l) = p (ix3 b ⟨s.val * 128 + l.val, by omega⟩ ⟨o + n.val, by omega⟩) := by
  pointwise [cutr]

/-- The reference's result of a group. -/
theorem res (o : Fin 8) (h : S4x8320x4112.Slices ![0, 0, o.val * 512] S4x8320x512) : cut (o.val * 512) h (prods a3 (normed a2 (rows a0 a1)))
    = fun i : S4x65x512x128.Idx => (args a0 a1 a2 a3).chunks o (i 0) (i 1) (i 2) (i 3) := by
  funext i
  refine (congrArg _ (eq_ix4 i)).trans ?_
  exact (cut_at _ _ (by omega) _ _ _ _ _).trans (prods_at a0 a1 a2 a3 _ _ _)

/-- The reference's result of a group that it rounds. -/
theorem resr (o : Fin 8) (h : S4x8320x4112.Slices ![0, 0, o.val * 512] S4x8320x512) : cutr (o.val * 512) h (prods a3 (normed a2 (rows a0 a1)))
    = fun i : S4x65x512x128.Idx => (args a0 a1 a2 a3).chunks o (i 0) (i 1) (i 2) (i 3) := by
  funext i
  refine (congrArg _ (eq_ix4 i)).trans ?_
  exact (cutr_at _ _ (by omega) _ _ _ _ _).trans (prods_at a0 a1 a2 a3 _ _ _)

end Cert.Reference3Ideal.Proj

end
-- ==== Proof.ProjRotRef.lean ====
/-
  The reference's queries and keys of the retention, read entry by entry.
-/
module

public import proofs.«01_k».proof.Proof.ProjRef

@[expose] public section

set_option maxRecDepth 16384

noncomputable section

open Idealize.ShloMosaic Idealize.ShloMosaic.TcCoe Idealize.SL.Sem

namespace Cert.Reference3Ideal.Proj

open Cert.Reference3Ideal Cert.Reference3Ideal.Gen
open Cert.Proj (turn turn_of scale twice signed swap)

/-- The reference's term for a table, one row for all batch entries and heads. -/
def table (a : FVec Ideal S8320x64 .f32) : FVec Ideal S4x8320x4x64 .f32 :=
  broadcastInDim S4x8320x4x64 ![0, 1, 2, 3] bcast_S1x8320x1x64_S4x8320x4x64_0_1_2_3 (broadcastInDim S1x8320x1x64 ![1, 3] bcast_S8320x64_S1x8320x1x64_1_3 a)

/-- The heads' first halves. -/
def lo (p : FVec Ideal S4x8320x512 .f32) : FVec Ideal S4x8320x4x64 .f32 :=
  extractStridedSlice S4x8320x4x64 ![0, 0, 0, 0] (shapeCast _ p shapeCasts_S4x8320x512_S4x8320x4x128 : FVec Ideal S4x8320x4x128 .f32) slices_S4x8320x4x128_S4x8320x4x64_0_0_0_0

/-- The heads' second halves. -/
def hi (p : FVec Ideal S4x8320x512 .f32) : FVec Ideal S4x8320x4x64 .f32 :=
  extractStridedSlice S4x8320x4x64 ![0, 0, 0, 64] (shapeCast _ p shapeCasts_S4x8320x512_S4x8320x4x128 : FVec Ideal S4x8320x4x128 .f32) slices_S4x8320x4x128_S4x8320x4x64_0_0_0_64

/-- Turned columns. -/
def turned (c s : FVec Ideal S8320x64 .f32) (p : FVec Ideal S4x8320x512 .f32) : FVec Ideal S4x8320x512 .f32 :=
  shapeCast _ (concatenate S4x8320x4x128 3 [⟨S4x8320x4x64, (subf (mulf (lo p) (table c)) (mulf (hi p) (table s)))⟩,
    ⟨S4x8320x4x64, (addf (mulf (hi p) (table c)) (mulf (lo p) (table s)))⟩] concatenates_S4x8320x4x64_S4x8320x4x64_S4x8320x4x128_d3 : FVec Ideal S4x8320x4x128 .f32) shapeCasts_S4x8320x4x128_S4x8320x512

/-- Turned columns, entry by entry. -/
theorem turned_at (c s : FVec Ideal S8320x64 .f32) (p : FVec Ideal S4x8320x512 .f32) (b : Fin 4) (R : Fin 8320) (n : Fin 512) :
    turned c s p (ix3 b R n) = turn (fun n => p (ix3 b R n)) (twice fun j => c (ix2 R j)) (signed fun j => s (ix2 R j)) n := by
  have hn := n.isLt
  pointwise [turned, lo, hi, table]
  unfold turn twice signed
  by_cases h : n.val % 128 < 64
  · simp only [dif_pos h]
    rw [mul_neg, ← sub_eq_add_neg]
    exact congrArg (fun z => p (ix3 b R n) * c (ix2 R ⟨n.val % 128, h⟩) - p (ix3 b R z) * s (ix2 R ⟨n.val % 128, h⟩)) (Fin.ext (by unfold swap; dsimp only; omega))
  · simp only [dif_neg h]
    refine congrArg₂ (fun y z => p (ix3 b R y) * c (ix2 R _) + p (ix3 b R z) * s (ix2 R _)) (Fin.ext ?_) (Fin.ext ?_) <;> (try unfold swap) <;> dsimp only <;> omega

/-- The reference's term for the queries, of the turned columns. -/
def scaled (q : FVec Ideal S4x8320x512 .f32) : FVec Ideal S4x65x512x128 .bf16 :=
  truncf .bf16 (transpose S4x65x512x128 [0, 1, 3, 2] (shapeCast _ (mulf q (broadcastInDim S4x8320x512 ![] bcast_S_S4x8320x512 (constant S_ .f32 0x3DB504F3#32))) shapeCasts_S4x8320x512_S4x65x128x512) transposes_S4x65x128x512_S4x65x512x128_0_1_3_2) bitsLt_bf16_f32

/-- The queries of the turned columns, entry by entry. -/
theorem scaled_at (q : FVec Ideal S4x8320x512 .f32) (b : Fin 4) (S : Fin 65) (n : Fin 512) (l : Fin 128) :
    scaled q (ix4 b S n l) = q (ix3 b ⟨S.val * 128 + l.val, by omega⟩ n) * scale := by
  pointwise [scaled]
  rfl

/-- The reference's term for the keys, of the turned columns. -/
def rounded (q : FVec Ideal S4x8320x512 .f32) : FVec Ideal S4x8320x512 .bf16 := truncf .bf16 q bitsLt_bf16_f32

/-- The keys of the turned columns, entry by entry. -/
theorem rounded_at (q : FVec Ideal S4x8320x512 .f32) (b : Fin 4) (R : Fin 8320) (n : Fin 512) : rounded q (ix3 b R n) = q (ix3 b R n) := by
  pointwise [rounded]

/-- The queries' columns. -/
def cols0 (p : FVec Ideal S4x8320x4112 .f32) : FVec Ideal S4x8320x512 .f32 := extractStridedSlice S4x8320x512 ![0, 0, 0] p slices_S4x8320x4112_S4x8320x512_0_0_0

/-- The keys' columns. -/
def cols1 (p : FVec Ideal S4x8320x4112 .f32) : FVec Ideal S4x8320x512 .f32 := extractStridedSlice S4x8320x512 ![0, 0, 512] p slices_S4x8320x4112_S4x8320x512_0_0_512

/-- The columns of the queries, entry by entry. -/
theorem cols0_at (p : FVec Ideal S4x8320x4112 .f32) (b : Fin 4) (R : Fin 8320) (n : Fin 512) : cols0 p (ix3 b R n) = p (ix3 b R ⟨n.val, by omega⟩) := by
  pointwise [cols0]

/-- The columns of the keys, entry by entry. -/
theorem cols1_at (p : FVec Ideal S4x8320x4112 .f32) (b : Fin 4) (R : Fin 8320) (n : Fin 512) : cols1 p (ix3 b R n) = p (ix3 b R ⟨512 + n.val, by omega⟩) := by
  pointwise [cols1]

variable (a0 : FVec Ideal S4x8192x1024 .f32) (a1 : FVec Ideal S16x1024 .f32) (a2 : FVec Ideal S1x1024 .f32) (a3 : FVec Ideal S1x1024x4112 .f32) (a7 a8 : FVec Ideal S8320x64 .f32)

/-- The reference's queries. -/
theorem resQ : scaled (turned a7 a8 (cols0 (prods a3 (normed a2 (rows a0 a1))))) = fun i : S4x65x512x128.Idx =>
    (args a0 a1 a2 a3).rq (fun R j => a7 (ix2 R j)) (fun R j => a8 (ix2 R j)) (i 0)
      ⟨(i 1).val * 128 + (i 3).val, by have h1 : (i 1).val < 65 := (i 1).isLt; have h3 : (i 3).val < 128 := (i 3).isLt; omega⟩ (i 2) := by
  funext i
  refine (congrArg _ (eq_ix4 i)).trans ((scaled_at _ _ _ _ _).trans ?_)
  refine congrArg (fun z : EReal => z * scale) ((turned_at _ _ _ _ _ _).trans ?_)
  exact congrArg (fun z => turn z _ _ _) (funext fun n => (cols0_at _ _ _ _).trans (prods_at a0 a1 a2 a3 _ _ _))

/-- The reference's keys. -/
theorem resK : rounded (turned a7 a8 (cols1 (prods a3 (normed a2 (rows a0 a1))))) = fun i : S4x8320x512.Idx =>
    (args a0 a1 a2 a3).rk (fun R j => a7 (ix2 R j)) (fun R j => a8 (ix2 R j)) (i 0) (i 1) (i 2) := by
  funext i
  refine (congrArg _ (eq_ix3 i)).trans ((rounded_at _ _ _ _).trans ((turned_at _ _ _ _ _ _).trans ?_))
  exact congrArg (fun z => turn z _ _ _) (funext fun n => (cols1_at _ _ _ _).trans (prods_at a0 a1 a2 a3 _ _ _))

/-- The reference's first result, of the arguments. -/
theorem out0_eq (m : (ℓ : Loc nD τ sig) → Buf (Elt Ideal) ℓ) (c : Dev nD) : Value.res_out0 m c = scaled (turned (m ((c.tc : Thread nD τ).loc main_arg7)) (m ((c.tc : Thread nD τ).loc main_arg8))
    (cols0 (prods (m ((c.tc : Thread nD τ).loc main_arg3)) (normed (m ((c.tc : Thread nD τ).loc main_arg2)) (rows (m ((c.tc : Thread nD τ).loc main_arg0)) (m ((c.tc : Thread nD τ).loc main_arg1))))))) := rfl

/-- The reference's second result, of the arguments. -/
theorem out1_eq (m : (ℓ : Loc nD τ sig) → Buf (Elt Ideal) ℓ) (c : Dev nD) : Value.res_out1 m c = rounded (turned (m ((c.tc : Thread nD τ).loc main_arg7)) (m ((c.tc : Thread nD τ).loc main_arg8))
    (cols1 (prods (m ((c.tc : Thread nD τ).loc main_arg3)) (normed (m ((c.tc : Thread nD τ).loc main_arg2)) (rows (m ((c.tc : Thread nD τ).loc main_arg0)) (m ((c.tc : Thread nD τ).loc main_arg1))))))) := rfl

end Cert.Reference3Ideal.Proj

end
-- ==== Proof.ProjValue.lean ====
/-
  The value claim about `proj`: over the extended reals the call and its reference leave equal arrays.
-/
module

public import proofs.«01_k».proof.Defs
public import proofs.«01_k».proof.Proof.ProjClaims
public import proofs.«01_k».proof.Proof.ProjRot
public import proofs.«01_k».proof.Proof.ProjRotRef

@[expose] public section

set_option maxRecDepth 16384

noncomputable section

open Idealize.ShloMosaic Idealize.ShloMosaic.TcCoe Idealize.SL.Sem

namespace Cert.Proof.Proj

set_option maxHeartbeats 2000000 in
/-- `proj` and its reference end with equal result arrays over the extended reals, from equal arguments. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Proj.GQ m c, fun c => Cert.Kernel3Ideal.Proj.GK m c,
    fun c => Cert.Kernel3Ideal.Proj.G (Cert.Kernel3Ideal.Proj.args m c) 2, fun c => Cert.Kernel3Ideal.Proj.G (Cert.Kernel3Ideal.Proj.args m c) 3,
    fun c => Cert.Kernel3Ideal.Proj.G (Cert.Kernel3Ideal.Proj.args m c) 6, fun c => Cert.Kernel3Ideal.Proj.G (Cert.Kernel3Ideal.Proj.args m c) 7, ?_, ?_⟩
  · exact (θ_run Cert.Kernel3Ideal.defs _ _).mono (fun r h c => ⟨((h.1.1 c).1 14).trans (Cert.Kernel3Ideal.Proj.final14 m c),
        ((h.1.1 c).1 15).trans (Cert.Kernel3Ideal.Proj.final15 m c), ((h.1.1 c).1 16).trans (Cert.Kernel3Ideal.Proj.final16 m c),
        ((h.1.1 c).1 17).trans (Cert.Kernel3Ideal.Proj.final17 m c), ((h.1.1 c).1 20).trans (Cert.Kernel3Ideal.Proj.final20 m c),
        ((h.1.1 c).1 21).trans (Cert.Kernel3Ideal.Proj.final21 m c), h.2.1 c⟩)
      (θ_run_and (Cert.Kernel3Ideal.Proj.run_main m ρ) (Cert.Kernel3Ideal.Proj.frame_main m ρ))
  · refine (θ_run Cert.Reference3Ideal.defs _ _).mono (fun r h c => ⟨(h c).1.trans ?_, (h c).2.1.trans ?_, (h c).2.2.1.trans ?_, (h c).2.2.2.1.trans ?_,
        (h c).2.2.2.2.1.trans ?_, (h c).2.2.2.2.2.1.trans ?_, (h c).2.2.2.2.2.2⟩)
      (Cert.Reference3Ideal.Value.run (F := Ideal) m' ρ')
    all_goals
      obtain ⟨h0, h1, h2, h3, -, -, -, h7, h8⟩ := hag c
    · refine (Cert.Reference3Ideal.Proj.out0_eq m' c).trans ?_
      rw [h0, h1, h2, h3, h7, h8]
      exact Cert.Reference3Ideal.Proj.resQ _ _ _ _ _ _
    · refine (Cert.Reference3Ideal.Proj.out1_eq m' c).trans ?_
      rw [h0, h1, h2, h3, h7, h8]
      exact Cert.Reference3Ideal.Proj.resK _ _ _ _ _ _
    all_goals rw [h0, h1, h2, h3]
    · exact Cert.Reference3Ideal.Proj.resr _ _ _ _ 2 Cert.Reference3Ideal.Gen.slices_S4x8320x4112_S4x8320x512_0_0_1024
    · exact Cert.Reference3Ideal.Proj.res _ _ _ _ 3 Cert.Reference3Ideal.Gen.slices_S4x8320x4112_S4x8320x512_0_0_1536
    · exact Cert.Reference3Ideal.Proj.resr _ _ _ _ 6 Cert.Reference3Ideal.Gen.slices_S4x8320x4112_S4x8320x512_0_0_3072
    · exact Cert.Reference3Ideal.Proj.res _ _ _ _ 7 Cert.Reference3Ideal.Gen.slices_S4x8320x4112_S4x8320x512_0_0_3584

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Kernel3.Points
public import proofs.«01_k».proof.Proof.Gen.Kernel3Ideal.Points
public import proofs.«01_k».proof.Proof.Gen.Kernel3.Frame
public import proofs.«01_k».proof.Proof.Gen.Kernel3Ideal.Frame
public import proofs.«01_k».proof.Proof.Gen.Reference2Ideal.Run
public import proofs.«01_k».proof.Proof.Gen.ReferenceIdeal.Run
public import proofs.«01_k».proof.Proof.FfnClaims
public import proofs.«01_k».proof.Proof.MixClaims
public import proofs.«01_k».proof.Proof.Gen.Pre_finite_norm_and_router
public import proofs.«01_k».proof.Proof.MixValue
public import proofs.«01_k».proof.Proof.ProjValue
public import Idealize.ShloMosaic.Adequacy
public import Idealize.ShloMosaic.Init

@[expose] public section

noncomputable section

namespace Cert.Proof

open Idealize.ShloMosaic Idealize.SL.Sem Cert.Kernel

/-- The claims about `mix_out`, about the experts' call `ffn` and about the input projection's call `proj`: the frames, the named constant, the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_norm_and_router.Gen.facts,
  Mix.frame_kernel, Mix.frame_ideal, Mix.frame_ideal_pre, Mix.frame_reference, Mix.frame_reference_pre, Ffn.frame_kernel, Ffn.frame_ideal, Ffn.frame_reference,
  Proj.frame_kernel, Proj.frame_ideal, Proj.frame_reference,
  Mix.preserves, Mix.algebraic, trivial, Ffn.algebraic, trivial, Proj.algebraic⟩

end Cert.Proof

end
